-- ==== Defs.lean ====
def Pre_Kernel [hPre_positions_in_range : Cert.Pre_positions_in_range.Facts] (m : (ℓ : Loc Cert.Kernel.nD Cert.Kernel.τ Cert.Kernel.sig) → Buf (Elt Bits) ℓ) : Prop :=
  ∀ c : Dev Cert.Kernel.nD,
    (Cert.Pre_positions_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_positions_in_range : Cert.Pre_positions_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_positions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_positions_in_range : Cert.Pre_positions_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_positions_in_range : Cert.Pre_positions_in_range.Facts] (m : (ℓ : Loc Cert.Reference.nD Cert.Reference.τ Cert.Reference.sig) → Buf (Elt Bits) ℓ) : Prop :=
  ∀ c : Dev Cert.Reference.nD,
    (Cert.Pre_positions_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] [hPre_positions_in_range : Cert.Pre_positions_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_positions_in_range : Cert.Pre_positions_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_positions_in_range : Cert.Pre_positions_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_positions_in_range : Cert.Pre_positions_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_positions_in_range : Cert.Pre_positions_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_positions_in_range : Cert.Pre_positions_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v120) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v38) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v245) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_positions_in_range : Cert.Pre_positions_in_range.Facts) (hPre_experts_in_range : Cert.Pre_experts_in_range.Facts),
    quiescent_Kernel (hKernel := hKernel) (hPre_positions_in_range := hPre_positions_in_range)
    ∧ quiescent_KernelIdeal (hKernelIdeal := hKernelIdeal) (hPre_positions_in_range := hPre_positions_in_range)
    ∧ quiescent_ReferenceIdeal (hReferenceIdeal := hReferenceIdeal) (hPre_positions_in_range := hPre_positions_in_range)
    ∧ quiescent_Reference (hReference := hReference) (hPre_positions_in_range := hPre_positions_in_range)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal) (hPre_positions_in_range := hPre_positions_in_range)
    ∧ bitexact_Kernel_Reference (hKernel := hKernel) (hReference := hReference) (hPre_positions_in_range := hPre_positions_in_range)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_experts_in_range.lean ====
abbrev S589824x128 : Shape := ⟨2, ![589824, 128]⟩
abbrev S8x2048x7168 : Shape := ⟨3, ![8, 2048, 7168]⟩
abbrev S8x7168x2048 : Shape := ⟨3, ![8, 7168, 2048]⟩
abbrev S72 : Shape := ⟨1, ![72]⟩
abbrev S_ : Shape := ⟨0, ![]⟩

class Facts : Prop where
  bcast_S_S72 : S_.BroadcastsInDim S72 (![] : Fin 0 → Fin S72.rank)

variable [Facts]

def fn {F : FTy → Type} [FloatOps F] (main_arg0 : FVec F S589824x128 .f32) (main_arg1 : FVec F S8x2048x7168 .f32) (main_arg2 : FVec F S8x2048x7168 .f32) (main_arg3 : FVec F S8x7168x2048 .f32) (main_arg4 : IVec S72 32) (main_arg5 : IVec S72 32) : IVec S72 1 :=
  let main_c : IVec S_ 32 := constantI S_ 32 0#32
  let main_v0 : IVec S72 32 := broadcastInDim S72 ![] bcast_S_S72 main_c
  let main_v1 : IVec S72 1 := cmpi .sge main_arg4 main_v0
  let main_c_0 : IVec S_ 32 := constantI S_ 32 8#32
  let main_v2 : IVec S72 32 := broadcastInDim S72 ![] bcast_S_S72 main_c_0
  let main_v3 : IVec S72 1 := cmpi .slt main_arg4 main_v2
  let main_v4 : IVec S72 1 := andi main_v1 main_v3
  main_v4
-- ==== Pre_positions_in_range.lean ====
abbrev S589824x128 : Shape := ⟨2, ![589824, 128]⟩
abbrev S32768 : Shape := ⟨1, ![32768]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : FVec F S589824x128 .f32) (main_arg1 : IVec S32768 32) : IVec S32768 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 36864#32
  let main_v2 : IVec S32768 32 := broadcastInDim S32768 ![] bcast_S_S32768 main_c_0
  let main_v3 : IVec S32768 1 := cmpi .slt main_arg1 main_v2
  let main_v4 : IVec S32768 1 := andi main_v1 main_v3
  main_v4
-- ==== Kernel.lean ====
abbrev S589824x128 : Shape := ⟨2, ![589824, 128]⟩
abbrev S32768 : Shape := ⟨1, ![32768]⟩
abbrev S524288x128 : Shape := ⟨2, ![524288, 128]⟩
abbrev S1024 : Shape := ⟨1, ![1024]⟩
abbrev S_ : Shape := ⟨0, ![]⟩
abbrev S1 : Shape := ⟨1, ![1]⟩
abbrev S16x128 : Shape := ⟨2, ![16, 128]⟩

abbrev nBuf : Space → Nat
  | .hbm => 4
  | .vmem => 0
  | .smem => 4
  | _ => 0

abbrev bufTy : (tb : Table) → Fin (tcTables nBuf tb) → BufTy
  | .hbm, ⟨0, _⟩ => ⟨S589824x128, .f32⟩
  | .hbm, ⟨1, _⟩ => ⟨S32768, .i32⟩
  | .hbm, ⟨2, _⟩ => ⟨S32768, .i32⟩
  | .hbm, ⟨3, _⟩ => ⟨S524288x128, .f32⟩
  | .local _ .smem, ⟨0, _⟩ => ⟨S1024, .i32⟩
  | .local _ .smem, ⟨1, _⟩ => ⟨S1024, .i32⟩
  | .local _ .smem, ⟨2, _⟩ => ⟨S1024, .i32⟩
  | .local _ .smem, ⟨3, _⟩ => ⟨S1024, .i32⟩
  | _, _ => ⟨S589824x128, .f32⟩

abbrev bufScoped : (cs : CoreSpace) → Fin (nBuf (.core cs)) → Bool
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c1024_i32 : BitVec 32 := 1024#32
  let v0 : BitVec 32 := Scalar.addi c0_i32 c1024_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg6 : BitVec 32 := Scf.iv c0_i32 c1_i32 k0_t1
  let v2 : Index := Scalar.indexCast arg6
  ![v2.toNat]
def k0_mult1 (v3 : BitVec 32) : BitVec 32 :=
  let c16_i32 : BitVec 32 := 16#32
  let v4 : BitVec 32 := Scalar.muli v3 c16_i32
  v4

def k0_off2 (k0_t1 : Fin k0_t1_loop.trips) : Fin 1 → Nat :=
  let c0_i32 : BitVec 32 := 0#32
  let c1_i32 : BitVec 32 := 1#32
  let arg6 : BitVec 32 := Scf.iv c0_i32 c1_i32 k0_t1
  let v6 : Index := Scalar.indexCast arg6
  ![v6.toNat]
def k0_mult2 (v7 : BitVec 32) : BitVec 32 :=
  let c16_i32_5 : BitVec 32 := 16#32
  let v8 : BitVec 32 := Scalar.muli v7 c16_i32_5
  v8

def k0_off3 (v7 : BitVec 32) : Fin 2 → Nat :=
  let c16_i32_5 : BitVec 32 := 16#32
  let v8 : BitVec 32 := Scalar.muli v7 c16_i32_5
  let v9 : BitVec 32 := v8
  let c0_i32_6 : BitVec 32 := 0#32
  ![v9.toNat, 0]

def k0_chk2 (v7 : BitVec 32) : Prop :=
  (16 ∣ (k0_mult2 v7).toNat) ∧
  (∀ a, (k0_off3 v7) a + S16x128.size a ≤ S524288x128.size a)
theorem k0_mult2_dvd : ∀ (v7 : BitVec 32) (k0_hw2 : k0_chk2 v7), 16 ∣ (k0_mult2 v7).toNat := fun v7 k0_hw2 => k0_hw2.1
theorem k0_off3_inb : ∀ (v7 : BitVec 32) (k0_hw2 : k0_chk2 v7), ∀ a, (k0_off3 v7) a + S16x128.size a ≤ S524288x128.size a := fun v7 k0_hw2 => k0_hw2.2

def k0_off4 (v3 : BitVec 32) : Fin 2 → Nat :=
  let c16_i32 : BitVec 32 := 16#32
  let v4 : BitVec 32 := Scalar.muli v3 c16_i32
  let v5 : BitVec 32 := v4
  let c0_i32_7 : BitVec 32 := 0#32
  ![v5.toNat, 0]

def k0_chk1 (v3 : BitVec 32) : Prop :=
  (16 ∣ (k0_mult1 v3).toNat) ∧
  (∀ a, (k0_off4 v3) a + S16x128.size a ≤ S589824x128.size a)
theorem k0_mult1_dvd : ∀ (v3 : BitVec 32) (k0_hw1 : k0_chk1 v3), 16 ∣ (k0_mult1 v3).toNat := fun v3 k0_hw1 => k0_hw1.1
theorem k0_off4_inb : ∀ (v3 : BitVec 32) (k0_hw1 : k0_chk1 v3), ∀ a, (k0_off4 v3) a + S16x128.size a ≤ S589824x128.size a := fun v3 k0_hw1 => k0_hw1.2

@[reducible] def k0_t2_loop : Scf.Loop 32 :=
  let c0_i32_1 : BitVec 32 := 0#32
  let c1024_i32_2 : BitVec 32 := 1024#32
  let v1 : BitVec 32 := Scalar.addi c0_i32_1 c1024_i32_2
  let c1_i32_3 : BitVec 32 := 1#32
  ⟨c0_i32_1, v1, c1_i32_3⟩
def k0_off5 (k0_t2 : Fin k0_t2_loop.trips) : Fin 1 → Nat :=
  let c0_i32_1 : BitVec 32 := 0#32
  let c1_i32_3 : BitVec 32 := 1#32
  let arg6 : BitVec 32 := Scf.iv c0_i32_1 c1_i32_3 k0_t2
  let v2 : Index := Scalar.indexCast arg6
  ![v2.toNat]
def k0_mult3 (v3 : BitVec 32) : BitVec 32 :=
  let c16_i32 : BitVec 32 := 16#32
  let v4 : BitVec 32 := Scalar.muli v3 c16_i32
  v4

def k0_off6 (k0_t2 : Fin k0_t2_loop.trips) : Fin 1 → Nat :=
  let c0_i32_1 : BitVec 32 := 0#32
  let c1_i32_3 : BitVec 32 := 1#32
  let arg6 : BitVec 32 := Scf.iv c0_i32_1 c1_i32_3 k0_t2
  let v6 : Index := Scalar.indexCast arg6
  ![v6.toNat]
def k0_mult4 (v7 : BitVec 32) : BitVec 32 :=
  let c16_i32_5 : BitVec 32 := 16#32
  let v8 : BitVec 32 := Scalar.muli v7 c16_i32_5
  v8

def k0_off7 (v7 : BitVec 32) : Fin 2 → Nat :=
  let c16_i32_5 : BitVec 32 := 16#32
  let v8 : BitVec 32 := Scalar.muli v7 c16_i32_5
  let v9 : BitVec 32 := v8
  let c0_i32_6 : BitVec 32 := 0#32
  ![v9.toNat, 0]

def k0_chk4 (v7 : BitVec 32) : Prop :=
  (16 ∣ (k0_mult4 v7).toNat) ∧
  (∀ a, (k0_off7 v7) a + S16x128.size a ≤ S524288x128.size a)
theorem k0_mult4_dvd : ∀ (v7 : BitVec 32) (k0_hw4 : k0_chk4 v7), 16 ∣ (k0_mult4 v7).toNat := fun v7 k0_hw4 => k0_hw4.1
theorem k0_off7_inb : ∀ (v7 : BitVec 32) (k0_hw4 : k0_chk4 v7), ∀ a, (k0_off7 v7) a + S16x128.size a ≤ S524288x128.size a := fun v7 k0_hw4 => k0_hw4.2

def k0_off8 (v3 : BitVec 32) : Fin 2 → Nat :=
  let c16_i32 : BitVec 32 := 16#32
  let v4 : BitVec 32 := Scalar.muli v3 c16_i32
  let v5 : BitVec 32 := v4
  let c0_i32_7 : BitVec 32 := 0#32
  ![v5.toNat, 0]

def k0_chk3 (v3 : BitVec 32) : Prop :=
  (16 ∣ (k0_mult3 v3).toNat) ∧
  (∀ a, (k0_off8 v3) a + S16x128.size a ≤ S589824x128.size a)
theorem k0_mult3_dvd : ∀ (v3 : BitVec 32) (k0_hw3 : k0_chk3 v3), 16 ∣ (k0_mult3 v3).toNat := fun v3 k0_hw3 => k0_hw3.1
theorem k0_off8_inb : ∀ (v3 : BitVec 32) (k0_hw3 : k0_chk3 v3), ∀ a, (k0_off8 v3) a + S16x128.size a ≤ S589824x128.size a := fun v3 k0_hw3 => k0_hw3.2

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .smem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S589824x128 : Shape := ⟨2, ![589824, 128]⟩
abbrev S32768 : Shape := ⟨1, ![32768]⟩
abbrev S36864x2048 : Shape := ⟨2, ![36864, 2048]⟩
abbrev S_ : Shape := ⟨0, ![]⟩
abbrev S32768x1 : Shape := ⟨2, ![32768, 1]⟩
abbrev S32768x2048 : Shape := ⟨2, ![32768, 2048]⟩
abbrev S524288x128 : Shape := ⟨2, ![524288, 128]⟩

abbrev nBuf : Space → Nat
  | .hbm => 13
  | .vmem => 0
  | .smem => 0
  | _ => 0

abbrev bufTy : (tb : Table) → Fin (tcTables nBuf tb) → BufTy
  | .hbm, ⟨0, _⟩ => ⟨S589824x128, .f32⟩
  | .hbm, ⟨1, _⟩ => ⟨S32768, .i32⟩
  | .hbm, ⟨2, _⟩ => ⟨S36864x2048, .f32⟩
  | .hbm, ⟨3, _⟩ => ⟨S_, .i32⟩
  | .hbm, ⟨4, _⟩ => ⟨S32768, .i32⟩
  | .hbm, ⟨5, _⟩ => ⟨S32768, .i1⟩
  | .hbm, ⟨6, _⟩ => ⟨S_, .i32⟩
  | .hbm, ⟨7, _⟩ => ⟨S32768, .i32⟩
  | .hbm, ⟨8, _⟩ => ⟨S32768, .i32⟩
  | .hbm, ⟨9, _⟩ => ⟨S32768, .i32⟩
  | .hbm, ⟨10, _⟩ => ⟨S32768x1, .i32⟩
  | .hbm, ⟨11, _⟩ => ⟨S32768x2048, .f32⟩
  | .hbm, ⟨12, _⟩ => ⟨S524288x128, .f32⟩
  | _, _ => ⟨S589824x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel2.lean ====
abbrev S589824x128 : Shape := ⟨2, ![589824, 128]⟩
abbrev S8x2048x7168 : Shape := ⟨3, ![8, 2048, 7168]⟩
abbrev S8x7168x2048 : Shape := ⟨3, ![8, 7168, 2048]⟩
abbrev S72 : Shape := ⟨1, ![72]⟩
abbrev S8192x128 : Shape := ⟨2, ![8192, 128]⟩
abbrev S1x2048x512 : Shape := ⟨3, ![1, 2048, 512]⟩
abbrev S1 : Shape := ⟨1, ![1]⟩
abbrev S1x512x2048 : Shape := ⟨3, ![1, 512, 2048]⟩
abbrev S512x2048 : Shape := ⟨2, ![512, 2048]⟩
abbrev S512x128 : Shape := ⟨2, ![512, 128]⟩
abbrev S2048x512 : Shape := ⟨2, ![2048, 512]⟩
abbrev S512x512 : Shape := ⟨2, ![512, 512]⟩

abbrev nBuf : Space → Nat
  | .hbm => 8
  | .vmem => 12
  | .smem => 2
  | _ => 0

abbrev bufTy : (tb : Table) → Fin (tcTables nBuf tb) → BufTy
  | .hbm, ⟨0, _⟩ => ⟨S589824x128, .f32⟩
  | .hbm, ⟨1, _⟩ => ⟨S8x2048x7168, .f32⟩
  | .hbm, ⟨2, _⟩ => ⟨S8x2048x7168, .f32⟩
  | .hbm, ⟨3, _⟩ => ⟨S8x7168x2048, .f32⟩
  | .hbm, ⟨4, _⟩ => ⟨S8x2048x7168, .bf16⟩
  | .hbm, ⟨5, _⟩ => ⟨S8x2048x7168, .bf16⟩
  | .hbm, ⟨6, _⟩ => ⟨S8x7168x2048, .bf16⟩
  | .hbm, ⟨7, _⟩ => ⟨S589824x128, .f32⟩
  | .local _ .vmem, ⟨0, _⟩ => ⟨S8192x128, .f32⟩
  | .local _ .vmem, ⟨1, _⟩ => ⟨S8192x128, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S8192x128, .f32⟩
  | .local _ .vmem, ⟨9, _⟩ => ⟨S8192x128, .f32⟩
  | .local _ .vmem, ⟨10, _⟩ => ⟨S512x2048, .bf16⟩
  | .local _ .vmem, ⟨11, _⟩ => ⟨S512x2048, .f32⟩
  | .local _ .smem, ⟨0, _⟩ => ⟨S72, .i32⟩
  | .local _ .smem, ⟨1, _⟩ => ⟨S72, .i32⟩
  | _, _ => ⟨S589824x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 14], ![false, false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v7 : Index := Scalar.indexCast arg0
  ![v7.toNat]
def k0_cond1 (i : grid0.Coords) (v1 : BitVec 32) : BitVec 1 :=
  let c0_i32 : BitVec 32 := 0#32
  let v2 : BitVec 1 := Scalar.cmpi .eq v1 c0_i32
  let arg1 : BitVec 32 := BitVec.ofNat 32 (i 1).val
  let c0_i32_0 : BitVec 32 := 0#32
  let v3 : BitVec 1 := Scalar.cmpi .eq arg1 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def k0_cond2 (v8 : BitVec 32) : BitVec 1 :=
  let c0_i32_2 : BitVec 32 := 0#32
  let v9 : BitVec 1 := Scalar.cmpi .ne v8 c0_i32_2
  let v10 : BitVec 32 := Scalar.extui v9
  let c0_i32_3 : BitVec 32 := 0#32
  let v11 : BitVec 1 := Scalar.cmpi .ne v10 c0_i32_3
  v11

def k0_cond6 (i : grid0.Coords) : BitVec 1 :=
  let arg1 : BitVec 32 := BitVec.ofNat 32 (i 1).val
  let c13_i32_22 : BitVec 32 := 13#32
  let v37 : BitVec 1 := Scalar.cmpi .eq arg1 c13_i32_22
  let v38 : BitVec 32 := Scalar.extui v37
  let c0_i32_23 : BitVec 32 := 0#32
  let v39 : BitVec 1 := Scalar.cmpi .ne v38 c0_i32_23
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .ne v3 c0_i32
  let c13_i32 : BitVec 32 := 13#32
  let v5 : BitVec 32 := Scalar.select v4 arg1 c13_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .ne v3 c0_i32
  let c13_i32 : BitVec 32 := 13#32
  let v5 : BitVec 32 := Scalar.select v4 arg1 c13_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .ne v3 c0_i32
  let c13_i32 : BitVec 32 := 13#32
  let v5 : BitVec 32 := Scalar.select v4 arg1 c13_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S589824x128 : Shape := ⟨2, ![589824, 128]⟩
abbrev S8x2048x7168 : Shape := ⟨3, ![8, 2048, 7168]⟩
abbrev S8x7168x2048 : Shape := ⟨3, ![8, 7168, 2048]⟩
abbrev S72 : Shape := ⟨1, ![72]⟩
abbrev S36864x2048 : Shape := ⟨2, ![36864, 2048]⟩
abbrev S_ : Shape := ⟨0, ![]⟩
abbrev S72x1 : Shape := ⟨2, ![72, 1]⟩
abbrev S72x512 : Shape := ⟨2, ![72, 512]⟩
abbrev S36864x1 : Shape := ⟨2, ![36864, 1]⟩
abbrev S1x2048x7168 : Shape := ⟨3, ![1, 2048, 7168]⟩
abbrev S2048x7168 : Shape := ⟨2, ![2048, 7168]⟩
abbrev S1x7168x2048 : Shape := ⟨3, ![1, 7168, 2048]⟩
abbrev S7168x2048 : Shape := ⟨2, ![7168, 2048]⟩
abbrev S36864x7168 : Shape := ⟨2, ![36864, 7168]⟩

abbrev nBuf : Space → Nat
  | .hbm => 212
  | .vmem => 0
  | .smem => 0
  | _ => 0

abbrev hbmTy0_0 (i : Nat) : BufTy := match i % 128 with
  | 0 => ⟨S589824x128, .f32⟩
  | 1 => ⟨S8x2048x7168, .f32⟩
  | 2 => ⟨S8x2048x7168, .f32⟩
  | 3 => ⟨S8x7168x2048, .f32⟩
  | 4 => ⟨S72, .i32⟩
  | 5 => ⟨S72, .i32⟩
  | 6 => ⟨S36864x2048, .f32⟩
  | 7 => ⟨S_, .i32⟩
  | 8 => ⟨S72, .i32⟩
  | 9 => ⟨S72, .i1⟩
  | 10 => ⟨S_, .i32⟩
  | 11 => ⟨S_, .i32⟩
  | 12 => ⟨S72, .i32⟩
  | 13 => ⟨S72, .i32⟩
  | 14 => ⟨S72x1, .i32⟩
  | 15 => ⟨S72x512, .i32⟩
  | 16 => ⟨S36864x1, .i32⟩
  | 17 => ⟨S_, .f32⟩
  | 18 => ⟨S36864x2048, .f32⟩
  | 19 => ⟨S_, .i32⟩
  | 20 => ⟨S36864x1, .i32⟩
  | 21 => ⟨S36864x1, .i1⟩
  | 22 => ⟨S1x2048x7168, .f32⟩
  | 23 => ⟨S2048x7168, .f32⟩
  | 24 => ⟨S1x2048x7168, .f32⟩
  | 25 => ⟨S2048x7168, .f32⟩
  | 26 => ⟨S1x7168x2048, .f32⟩
  | 27 => ⟨S7168x2048, .f32⟩
  | 28 => ⟨S36864x7168, .f32⟩
  | 29 => ⟨S36864x7168, .f32⟩
  | 30 => ⟨S36864x7168, .f32⟩
  | 31 => ⟨S_, .f32⟩
  | 32 => ⟨S36864x7168, .f32⟩
  | 33 => ⟨S36864x7168, .f32⟩
  | 34 => ⟨S_, .f32⟩
  | 35 => ⟨S36864x7168, .f32⟩
  | 36 => ⟨S36864x7168, .f32⟩
  | 37 => ⟨S36864x7168, .f32⟩
  | 38 => ⟨S36864x7168, .f32⟩
  | 39 => ⟨S36864x7168, .f32⟩
  | 40 => ⟨S36864x2048, .f32⟩
  | 41 => ⟨S36864x2048, .i1⟩
  | 42 => ⟨S36864x2048, .f32⟩
  | 43 => ⟨S_, .i32⟩
  | 44 => ⟨S36864x1, .i32⟩
  | 45 => ⟨S36864x1, .i1⟩
  | 46 => ⟨S1x2048x7168, .f32⟩
  | 47 => ⟨S2048x7168, .f32⟩
  | 48 => ⟨S1x2048x7168, .f32⟩
  | 49 => ⟨S2048x7168, .f32⟩
  | 50 => ⟨S1x7168x2048, .f32⟩
  | 51 => ⟨S7168x2048, .f32⟩
  | 52 => ⟨S36864x7168, .f32⟩
  | 53 => ⟨S36864x7168, .f32⟩
  | 54 => ⟨S36864x7168, .f32⟩
  | 55 => ⟨S_, .f32⟩
  | 56 => ⟨S36864x7168, .f32⟩
  | 57 => ⟨S36864x7168, .f32⟩
  | 58 => ⟨S_, .f32⟩
  | 59 => ⟨S36864x7168, .f32⟩
  | 60 => ⟨S36864x7168, .f32⟩
  | 61 => ⟨S36864x7168, .f32⟩
  | 62 => ⟨S36864x7168, .f32⟩
  | 63 => ⟨S36864x7168, .f32⟩
  | 64 => ⟨S36864x2048, .f32⟩
  | 65 => ⟨S36864x2048, .i1⟩
  | 66 => ⟨S36864x2048, .f32⟩
  | 67 => ⟨S_, .i32⟩
  | 68 => ⟨S36864x1, .i32⟩
  | 69 => ⟨S36864x1, .i1⟩
  | 70 => ⟨S1x2048x7168, .f32⟩
  | 71 => ⟨S2048x7168, .f32⟩
  | 72 => ⟨S1x2048x7168, .f32⟩
  | 73 => ⟨S2048x7168, .f32⟩
  | 74 => ⟨S1x7168x2048, .f32⟩
  | 75 => ⟨S7168x2048, .f32⟩
  | 76 => ⟨S36864x7168, .f32⟩
  | 77 => ⟨S36864x7168, .f32⟩
  | 78 => ⟨S36864x7168, .f32⟩
  | 79 => ⟨S_, .f32⟩
  | 80 => ⟨S36864x7168, .f32⟩
  | 81 => ⟨S36864x7168, .f32⟩
  | 82 => ⟨S_, .f32⟩
  | 83 => ⟨S36864x7168, .f32⟩
  | 84 => ⟨S36864x7168, .f32⟩
  | 85 => ⟨S36864x7168, .f32⟩
  | 86 => ⟨S36864x7168, .f32⟩
  | 87 => ⟨S36864x7168, .f32⟩
  | 88 => ⟨S36864x2048, .f32⟩
  | 89 => ⟨S36864x2048, .i1⟩
  | 90 => ⟨S36864x2048, .f32⟩
  | 91 => ⟨S_, .i32⟩
  | 92 => ⟨S36864x1, .i32⟩
  | 93 => ⟨S36864x1, .i1⟩
  | 94 => ⟨S1x2048x7168, .f32⟩
  | 95 => ⟨S2048x7168, .f32⟩
  | 96 => ⟨S1x2048x7168, .f32⟩
  | 97 => ⟨S2048x7168, .f32⟩
  | 98 => ⟨S1x7168x2048, .f32⟩
  | 99 => ⟨S7168x2048, .f32⟩
  | 100 => ⟨S36864x7168, .f32⟩
  | 101 => ⟨S36864x7168, .f32⟩
  | 102 => ⟨S36864x7168, .f32⟩
  | 103 => ⟨S_, .f32⟩
  | 104 => ⟨S36864x7168, .f32⟩
  | 105 => ⟨S36864x7168, .f32⟩
  | 106 => ⟨S_, .f32⟩
  | 107 => ⟨S36864x7168, .f32⟩
  | 108 => ⟨S36864x7168, .f32⟩
  | 109 => ⟨S36864x7168, .f32⟩
  | 110 => ⟨S36864x7168, .f32⟩
  | 111 => ⟨S36864x7168, .f32⟩
  | 112 => ⟨S36864x2048, .f32⟩
  | 113 => ⟨S36864x2048, .i1⟩
  | 114 => ⟨S36864x2048, .f32⟩
  | 115 => ⟨S_, .i32⟩
  | 116 => ⟨S36864x1, .i32⟩
  | 117 => ⟨S36864x1, .i1⟩
  | 118 => ⟨S1x2048x7168, .f32⟩
  | 119 => ⟨S2048x7168, .f32⟩
  | 120 => ⟨S1x2048x7168, .f32⟩
  | 121 => ⟨S2048x7168, .f32⟩
  | 122 => ⟨S1x7168x2048, .f32⟩
  | 123 => ⟨S7168x2048, .f32⟩
  | 124 => ⟨S36864x7168, .f32⟩
  | 125 => ⟨S36864x7168, .f32⟩
  | 126 => ⟨S36864x7168, .f32⟩
  | 127 => ⟨S_, .f32⟩
  | _ => ⟨S589824x128, .f32⟩

abbrev hbmTy0_1 (i : Nat) : BufTy := match i % 128 with
  | 0 => ⟨S36864x7168, .f32⟩
  | 1 => ⟨S36864x7168, .f32⟩
  | 2 => ⟨S_, .f32⟩
  | 3 => ⟨S36864x7168, .f32⟩
  | 4 => ⟨S36864x7168, .f32⟩
  | 5 => ⟨S36864x7168, .f32⟩
  | 6 => ⟨S36864x7168, .f32⟩
  | 7 => ⟨S36864x7168, .f32⟩
  | 8 => ⟨S36864x2048, .f32⟩
  | 9 => ⟨S36864x2048, .i1⟩
  | 10 => ⟨S36864x2048, .f32⟩
  | 11 => ⟨S_, .i32⟩
  | 12 => ⟨S36864x1, .i32⟩
  | 13 => ⟨S36864x1, .i1⟩
  | 14 => ⟨S1x2048x7168, .f32⟩
  | 15 => ⟨S2048x7168, .f32⟩
  | 16 => ⟨S1x2048x7168, .f32⟩
  | 17 => ⟨S2048x7168, .f32⟩
  | 18 => ⟨S1x7168x2048, .f32⟩
  | 19 => ⟨S7168x2048, .f32⟩
  | 20 => ⟨S36864x7168, .f32⟩
  | 21 => ⟨S36864x7168, .f32⟩
  | 22 => ⟨S36864x7168, .f32⟩
  | 23 => ⟨S_, .f32⟩
  | 24 => ⟨S36864x7168, .f32⟩
  | 25 => ⟨S36864x7168, .f32⟩
  | 26 => ⟨S_, .f32⟩
  | 27 => ⟨S36864x7168, .f32⟩
  | 28 => ⟨S36864x7168, .f32⟩
  | 29 => ⟨S36864x7168, .f32⟩
  | 30 => ⟨S36864x7168, .f32⟩
  | 31 => ⟨S36864x7168, .f32⟩
  | 32 => ⟨S36864x2048, .f32⟩
  | 33 => ⟨S36864x2048, .i1⟩
  | 34 => ⟨S36864x2048, .f32⟩
  | 35 => ⟨S_, .i32⟩
  | 36 => ⟨S36864x1, .i32⟩
  | 37 => ⟨S36864x1, .i1⟩
  | 38 => ⟨S1x2048x7168, .f32⟩
  | 39 => ⟨S2048x7168, .f32⟩
  | 40 => ⟨S1x2048x7168, .f32⟩
  | 41 => ⟨S2048x7168, .f32⟩
  | 42 => ⟨S1x7168x2048, .f32⟩
  | 43 => ⟨S7168x2048, .f32⟩
  | 44 => ⟨S36864x7168, .f32⟩
  | 45 => ⟨S36864x7168, .f32⟩
  | 46 => ⟨S36864x7168, .f32⟩
  | 47 => ⟨S_, .f32⟩
  | 48 => ⟨S36864x7168, .f32⟩
  | 49 => ⟨S36864x7168, .f32⟩
  | 50 => ⟨S_, .f32⟩
  | 51 => ⟨S36864x7168, .f32⟩
  | 52 => ⟨S36864x7168, .f32⟩
  | 53 => ⟨S36864x7168, .f32⟩
  | 54 => ⟨S36864x7168, .f32⟩
  | 55 => ⟨S36864x7168, .f32⟩
  | 56 => ⟨S36864x2048, .f32⟩
  | 57 => ⟨S36864x2048, .i1⟩
  | 58 => ⟨S36864x2048, .f32⟩
  | 59 => ⟨S_, .i32⟩
  | 60 => ⟨S36864x1, .i32⟩
  | 61 => ⟨S36864x1, .i1⟩
  | 62 => ⟨S1x2048x7168, .f32⟩
  | 63 => ⟨S2048x7168, .f32⟩
  | 64 => ⟨S1x2048x7168, .f32⟩
  | 65 => ⟨S2048x7168, .f32⟩
  | 66 => ⟨S1x7168x2048, .f32⟩
  | 67 => ⟨S7168x2048, .f32⟩
  | 68 => ⟨S36864x7168, .f32⟩
  | 69 => ⟨S36864x7168, .f32⟩
  | 70 => ⟨S36864x7168, .f32⟩
  | 71 => ⟨S_, .f32⟩
  | 72 => ⟨S36864x7168, .f32⟩
  | 73 => ⟨S36864x7168, .f32⟩
  | 74 => ⟨S_, .f32⟩
  | 75 => ⟨S36864x7168, .f32⟩
  | 76 => ⟨S36864x7168, .f32⟩
  | 77 => ⟨S36864x7168, .f32⟩
  | 78 => ⟨S36864x7168, .f32⟩
  | 79 => ⟨S36864x7168, .f32⟩
  | 80 => ⟨S36864x2048, .f32⟩
  | 81 => ⟨S36864x2048, .i1⟩
  | 82 => ⟨S36864x2048, .f32⟩
  | 83 => ⟨S589824x128, .f32⟩
  | _ => ⟨S589824x128, .f32⟩

abbrev hbmTy (i : Nat) : BufTy := match i / 128 with
  | 0 => hbmTy0_0 i
  | 1 => hbmTy0_1 i
  | _ => ⟨S589824x128, .f32⟩

abbrev bufTy : (tb : Table) → Fin (tcTables nBuf tb) → BufTy
  | .hbm, ⟨i, _⟩ => hbmTy i
  | _, _ => ⟨S589824x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_v0 : Ref sig .tc := ⟨.hbm, 41, rfl⟩
abbrev main_v21 : Ref sig .tc := ⟨.hbm, 42, rfl⟩
abbrev main_c_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call3_v0 : Ref sig .tc := ⟨.hbm, 53, rfl⟩
abbrev main_call3_v1 : Ref sig .tc := ⟨.hbm, 54, rfl⟩
abbrev main_call3_cst : Ref sig .tc := ⟨.hbm, 55, rfl⟩
abbrev main_call3_v2 : Ref sig .tc := ⟨.hbm, 56, rfl⟩
abbrev main_call3_v3 : Ref sig .tc := ⟨.hbm, 57, rfl⟩
abbrev main_call3_cst_0 : Ref sig .tc := ⟨.hbm, 58, rfl⟩
abbrev main_call3_v4 : Ref sig .tc := ⟨.hbm, 59, rfl⟩
abbrev main_call3_v5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_call4_v0 : Ref sig .tc := ⟨.hbm, 65, rfl⟩
abbrev main_v35 : Ref sig .tc := ⟨.hbm, 66, rfl⟩
abbrev main_c_3 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_call5_v0 : Ref sig .tc := ⟨.hbm, 77, rfl⟩
abbrev main_call5_v1 : Ref sig .tc := ⟨.hbm, 78, rfl⟩
abbrev main_call5_cst : Ref sig .tc := ⟨.hbm, 79, rfl⟩
abbrev main_call5_v2 : Ref sig .tc := ⟨.hbm, 80, rfl⟩
abbrev main_call5_v3 : Ref sig .tc := ⟨.hbm, 81, rfl⟩
abbrev main_call5_cst_0 : Ref sig .tc := ⟨.hbm, 82, rfl⟩
abbrev main_call5_v4 : Ref sig .tc := ⟨.hbm, 83, rfl⟩
abbrev main_call5_v5 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_call6_v0 : Ref sig .tc := ⟨.hbm, 89, rfl⟩
abbrev main_v49 : Ref sig .tc := ⟨.hbm, 90, rfl⟩
abbrev main_c_4 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_call7_v0 : Ref sig .tc := ⟨.hbm, 101, rfl⟩
abbrev main_call7_v1 : Ref sig .tc := ⟨.hbm, 102, rfl⟩
abbrev main_call7_cst : Ref sig .tc := ⟨.hbm, 103, rfl⟩
abbrev main_call7_v2 : Ref sig .tc := ⟨.hbm, 104, rfl⟩
abbrev main_call7_v3 : Ref sig .tc := ⟨.hbm, 105, rfl⟩
abbrev main_call7_cst_0 : Ref sig .tc := ⟨.hbm, 106, rfl⟩
abbrev main_call7_v4 : Ref sig .tc := ⟨.hbm, 107, rfl⟩
abbrev main_call7_v5 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_call8_v0 : Ref sig .tc := ⟨.hbm, 113, rfl⟩
abbrev main_v63 : Ref sig .tc := ⟨.hbm, 114, rfl⟩
abbrev main_c_5 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_call9_v0 : Ref sig .tc := ⟨.hbm, 125, rfl⟩
abbrev main_call9_v1 : Ref sig .tc := ⟨.hbm, 126, rfl⟩
abbrev main_call9_cst : Ref sig .tc := ⟨.hbm, 127, rfl⟩
abbrev main_call9_v2 : Ref sig .tc := ⟨.hbm, 128, rfl⟩
abbrev main_call9_v3 : Ref sig .tc := ⟨.hbm, 129, rfl⟩
abbrev main_call9_cst_0 : Ref sig .tc := ⟨.hbm, 130, rfl⟩
abbrev main_call9_v4 : Ref sig .tc := ⟨.hbm, 131, rfl⟩
abbrev main_call9_v5 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_call10_v0 : Ref sig .tc := ⟨.hbm, 137, rfl⟩
abbrev main_v77 : Ref sig .tc := ⟨.hbm, 138, rfl⟩
abbrev main_c_6 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_call11_v0 : Ref sig .tc := ⟨.hbm, 149, rfl⟩
abbrev main_call11_v1 : Ref sig .tc := ⟨.hbm, 150, rfl⟩
abbrev main_call11_cst : Ref sig .tc := ⟨.hbm, 151, rfl⟩
abbrev main_call11_v2 : Ref sig .tc := ⟨.hbm, 152, rfl⟩
abbrev main_call11_v3 : Ref sig .tc := ⟨.hbm, 153, rfl⟩
abbrev main_call11_cst_0 : Ref sig .tc := ⟨.hbm, 154, rfl⟩
abbrev main_call11_v4 : Ref sig .tc := ⟨.hbm, 155, rfl⟩
abbrev main_call11_v5 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_call12_v0 : Ref sig .tc := ⟨.hbm, 161, rfl⟩
abbrev main_v91 : Ref sig .tc := ⟨.hbm, 162, rfl⟩
abbrev main_c_7 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_call13_v0 : Ref sig .tc := ⟨.hbm, 173, rfl⟩
abbrev main_call13_v1 : Ref sig .tc := ⟨.hbm, 174, rfl⟩
abbrev main_call13_cst : Ref sig .tc := ⟨.hbm, 175, rfl⟩
abbrev main_call13_v2 : Ref sig .tc := ⟨.hbm, 176, rfl⟩
abbrev main_call13_v3 : Ref sig .tc := ⟨.hbm, 177, rfl⟩
abbrev main_call13_cst_0 : Ref sig .tc := ⟨.hbm, 178, rfl⟩
abbrev main_call13_v4 : Ref sig .tc := ⟨.hbm, 179, rfl⟩
abbrev main_call13_v5 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_call14_v0 : Ref sig .tc := ⟨.hbm, 185, rfl⟩
abbrev main_v105 : Ref sig .tc := ⟨.hbm, 186, rfl⟩
abbrev main_c_8 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_call15_v0 : Ref sig .tc := ⟨.hbm, 197, rfl⟩
abbrev main_call15_v1 : Ref sig .tc := ⟨.hbm, 198, rfl⟩
abbrev main_call15_cst : Ref sig .tc := ⟨.hbm, 199, rfl⟩
abbrev main_call15_v2 : Ref sig .tc := ⟨.hbm, 200, rfl⟩
abbrev main_call15_v3 : Ref sig .tc := ⟨.hbm, 201, rfl⟩
abbrev main_call15_cst_0 : Ref sig .tc := ⟨.hbm, 202, rfl⟩
abbrev main_call15_v4 : Ref sig .tc := ⟨.hbm, 203, rfl⟩
abbrev main_call15_v5 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_call16_v0 : Ref sig .tc := ⟨.hbm, 209, rfl⟩
abbrev main_v119 : Ref sig .tc := ⟨.hbm, 210, rfl⟩
abbrev main_v120 : Ref sig .tc := ⟨.hbm, 211, rfl⟩

abbrev nD : Nat := 1
abbrev τ : Topo := Topo.v7x

variable {F : FTy → Type} [FloatOps F]
-- ==== Kernel3.lean ====
abbrev S4x4096x2048 : Shape := ⟨3, ![4, 4096, 2048]⟩
abbrev S524288x128 : Shape := ⟨2, ![524288, 128]⟩
abbrev S16384x128 : Shape := ⟨2, ![16384, 128]⟩
abbrev S2048 : Shape := ⟨1, ![2048]⟩
abbrev S16384x2048 : Shape := ⟨2, ![16384, 2048]⟩
abbrev S1x2048 : Shape := ⟨2, ![1, 2048]⟩
abbrev S256x2048 : Shape := ⟨2, ![256, 2048]⟩
abbrev S4096x128 : Shape := ⟨2, ![4096, 128]⟩
abbrev S256x128 : Shape := ⟨2, ![256, 128]⟩
abbrev S256x1 : Shape := ⟨2, ![256, 1]⟩
abbrev S256 : Shape := ⟨1, ![256]⟩

abbrev nBuf : Space → Nat
  | .hbm => 8
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S524288x128, .f32⟩
  | .hbm, ⟨2, _⟩ => ⟨S16384x128, .f32⟩
  | .hbm, ⟨3, _⟩ => ⟨S2048, .f32⟩
  | .hbm, ⟨4, _⟩ => ⟨S16384x2048, .f32⟩
  | .hbm, ⟨5, _⟩ => ⟨S1x2048, .f32⟩
  | .hbm, ⟨6, _⟩ => ⟨S16384x2048, .f32⟩
  | .hbm, ⟨7, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S256x128, .f32⟩
  | .local _ .vmem, ⟨7, _⟩ => ⟨S256x128, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x4096x2048 : Shape := ⟨3, ![4, 4096, 2048]⟩
abbrev S524288x128 : Shape := ⟨2, ![524288, 128]⟩
abbrev S16384x128 : Shape := ⟨2, ![16384, 128]⟩
abbrev S2048 : Shape := ⟨1, ![2048]⟩
abbrev S2x4x4096x2048 : Shape := ⟨4, ![2, 4, 4096, 2048]⟩
abbrev S1x4x4096x2048 : Shape := ⟨4, ![1, 4, 4096, 2048]⟩
abbrev S4x4096x128 : Shape := ⟨3, ![4, 4096, 128]⟩
abbrev S4x4096x1 : Shape := ⟨3, ![4, 4096, 1]⟩
abbrev S_ : Shape := ⟨0, ![]⟩
abbrev S4x4096 : Shape := ⟨2, ![4, 4096]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S524288x128, .f32⟩
  | .hbm, ⟨2, _⟩ => ⟨S16384x128, .f32⟩
  | .hbm, ⟨3, _⟩ => ⟨S2048, .f32⟩
  | .hbm, ⟨4, _⟩ => ⟨S2x4x4096x2048, .f32⟩
  | .hbm, ⟨5, _⟩ => ⟨S1x4x4096x2048, .f32⟩
  | .hbm, ⟨6, _⟩ => ⟨S4x4096x2048, .f32⟩
  | .hbm, ⟨7, _⟩ => ⟨S1x4x4096x2048, .f32⟩
  | .hbm, ⟨8, _⟩ => ⟨S4x4096x2048, .f32⟩
  | .hbm, ⟨9, _⟩ => ⟨S4x4096x128, .f32⟩
  | .hbm, ⟨10, _⟩ => ⟨S4x4096x1, .f32⟩
  | .hbm, ⟨11, _⟩ => ⟨S4x4096x2048, .f32⟩
  | .hbm, ⟨12, _⟩ => ⟨S4x4096x2048, .f32⟩
  | .hbm, ⟨13, _⟩ => ⟨S4x4096x1, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x2048, .f32⟩
  | .hbm, ⟨30, _⟩ => ⟨S4x4096x2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel4.lean ====
abbrev S16384x2048 : Shape := ⟨2, ![16384, 2048]⟩
abbrev S2048x7168 : Shape := ⟨2, ![2048, 7168]⟩
abbrev S7168x2048 : Shape := ⟨2, ![7168, 2048]⟩
abbrev S1x2048x7168 : Shape := ⟨3, ![1, 2048, 7168]⟩
abbrev S1x7168x2048 : Shape := ⟨3, ![1, 7168, 2048]⟩
abbrev S_ : Shape := ⟨0, ![]⟩
abbrev S16 : Shape := ⟨1, ![16]⟩
abbrev S1024x2048 : Shape := ⟨2, ![1024, 2048]⟩
abbrev S1x2048x512 : Shape := ⟨3, ![1, 2048, 512]⟩
abbrev S1 : Shape := ⟨1, ![1]⟩
abbrev S1x512x2048 : Shape := ⟨3, ![1, 512, 2048]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 14
  | .vmem => 10
  | .smem => 2
  | _ => 0

abbrev bufTy : (tb : Table) → Fin (tcTables nBuf tb) → BufTy
  | .hbm, ⟨0, _⟩ => ⟨S16384x2048, .f32⟩
  | .hbm, ⟨1, _⟩ => ⟨S2048x7168, .f32⟩
  | .hbm, ⟨2, _⟩ => ⟨S2048x7168, .f32⟩
  | .hbm, ⟨3, _⟩ => ⟨S7168x2048, .f32⟩
  | .hbm, ⟨4, _⟩ => ⟨S16384x2048, .bf16⟩
  | .hbm, ⟨5, _⟩ => ⟨S1x2048x7168, .f32⟩
  | .hbm, ⟨6, _⟩ => ⟨S1x2048x7168, .bf16⟩
  | .hbm, ⟨7, _⟩ => ⟨S1x2048x7168, .f32⟩
  | .hbm, ⟨8, _⟩ => ⟨S1x2048x7168, .bf16⟩
  | .hbm, ⟨9, _⟩ => ⟨S1x7168x2048, .f32⟩
  | .hbm, ⟨10, _⟩ => ⟨S1x7168x2048, .bf16⟩
  | .hbm, ⟨11, _⟩ => ⟨S_, .i32⟩
  | .hbm, ⟨12, _⟩ => ⟨S_, .i32⟩
  | .hbm, ⟨13, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1024x2048, .f32⟩
  | .local _ .vmem, ⟨9, _⟩ => ⟨S1024x2048, .f32⟩
  | .local _ .smem, ⟨0, _⟩ => ⟨S16, .i32⟩
  | .local _ .smem, ⟨1, _⟩ => ⟨S16, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_v9 : Ref sig .tc := ⟨.hbm, 13, rfl⟩
abbrev main_v7 : Ref sig .tc := ⟨.smem, 0, rfl⟩
abbrev main_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 14], ![false, false]⟩

abbrev pre0 : Pipeline.Prefetch sig := ⟨2, ![main_v7.idx, main_v8.idx], fun | 0 => main_v7.names | 1 => main_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_12 : BitVec 32 := 0#32
  let v17 : BitVec 1 := Scalar.cmpi .ne v16 c0_i32_12
  v17

def k0_cond2 (i : grid0.Coords) : BitVec 1 :=
  let arg1 : BitVec 32 := BitVec.ofNat 32 (i 1).val
  let c0_i32_13 : BitVec 32 := 0#32
  let v18 : BitVec 1 := Scalar.cmpi .sgt arg1 c0_i32_13
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let v2 : Index := Scalar.indexCast arg0
  let v3 : BitVec 32 := pf.at 1 (Rect.unit (s := S16) ![v2.toNat] S1.size (k0_off1_inb i)) numel1_S1
  let c0_i32 : BitVec 32 := 0#32
  let v4 : BitVec 1 := Scalar.cmpi .ne v3 c0_i32
  let c13_i32 : BitVec 32 := 13#32
  let v5 : BitVec 32 := Scalar.select v4 arg1 c13_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let v2 : Index := Scalar.indexCast arg0
  let v3 : BitVec 32 := pf.at 1 (Rect.unit (s := S16) ![v2.toNat] S1.size (k0_off1_inb i)) numel1_S1
  let c0_i32 : BitVec 32 := 0#32
  let v4 : BitVec 1 := Scalar.cmpi .ne v3 c0_i32
  let c13_i32 : BitVec 32 := 13#32
  let v5 : BitVec 32 := Scalar.select v4 arg1 c13_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let v2 : Index := Scalar.indexCast arg0
  let v3 : BitVec 32 := pf.at 1 (Rect.unit (s := S16) ![v2.toNat] S1.size (k0_off1_inb i)) numel1_S1
  let c0_i32 : BitVec 32 := 0#32
  let v4 : BitVec 1 := Scalar.cmpi .ne v3 c0_i32
  let c13_i32 : BitVec 32 := 13#32
  let v5 : BitVec 32 := Scalar.select v4 arg1 c13_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S16384x2048 : Shape := ⟨2, ![16384, 2048]⟩
abbrev S2048x7168 : Shape := ⟨2, ![2048, 7168]⟩
abbrev S7168x2048 : Shape := ⟨2, ![7168, 2048]⟩
abbrev S16384x7168 : Shape := ⟨2, ![16384, 7168]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x7168, .f32⟩
  | .hbm, ⟨2, _⟩ => ⟨S2048x7168, .f32⟩
  | .hbm, ⟨3, _⟩ => ⟨S7168x2048, .f32⟩
  | .hbm, ⟨4, _⟩ => ⟨S16384x7168, .f32⟩
  | .hbm, ⟨5, _⟩ => ⟨S16384x7168, .f32⟩
  | .hbm, ⟨6, _⟩ => ⟨S16384x7168, .f32⟩
  | .hbm, ⟨7, _⟩ => ⟨S_, .f32⟩
  | .hbm, ⟨8, _⟩ => ⟨S16384x7168, .f32⟩
  | .hbm, ⟨9, _⟩ => ⟨S16384x7168, .f32⟩
  | .hbm, ⟨10, _⟩ => ⟨S_, .f32⟩
  | .hbm, ⟨11, _⟩ => ⟨S16384x7168, .f32⟩
  | .hbm, ⟨12, _⟩ => ⟨S16384x7168, .f32⟩
  | .hbm, ⟨13, _⟩ => ⟨S16384x7168, .f32⟩
  | .hbm, ⟨14, _⟩ => ⟨S16384x7168, .f32⟩
  | .hbm, ⟨15, _⟩ => ⟨S16384x7168, .f32⟩
  | .hbm, ⟨16, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]
-- ==== Kernel5.lean ====
abbrev S16384x2048 : Shape := ⟨2, ![16384, 2048]⟩
abbrev S2048x12352 : Shape := ⟨2, ![2048, 12352]⟩
abbrev S2048x12288 : Shape := ⟨2, ![2048, 12288]⟩
abbrev S16384x12288 : Shape := ⟨2, ![16384, 12288]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x12352, .f32⟩
  | .hbm, ⟨2, _⟩ => ⟨S16384x2048, .bf16⟩
  | .hbm, ⟨3, _⟩ => ⟨S2048x12288, .f32⟩
  | .hbm, ⟨4, _⟩ => ⟨S2048x12288, .bf16⟩
  | .hbm, ⟨5, _⟩ => ⟨S16384x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x2048 : Shape := ⟨2, ![16384, 2048]⟩
abbrev S2048x12352 : Shape := ⟨2, ![2048, 12352]⟩
abbrev S16384x12352 : Shape := ⟨2, ![16384, 12352]⟩
abbrev S16384x12288 : Shape := ⟨2, ![16384, 12288]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x12352, .f32⟩
  | .hbm, ⟨2, _⟩ => ⟨S16384x12352, .f32⟩
  | .hbm, ⟨3, _⟩ => ⟨S16384x12288, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S16384x2048 : Shape := ⟨2, ![16384, 2048]⟩
abbrev S2048x4096 : Shape := ⟨2, ![2048, 4096]⟩
abbrev S4096 : Shape := ⟨1, ![4096]⟩
abbrev S1x4096 : Shape := ⟨2, ![1, 4096]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048x4096, .f32⟩
  | .hbm, ⟨2, _⟩ => ⟨S4096, .f32⟩
  | .hbm, ⟨3, _⟩ => ⟨S16384x2048, .bf16⟩
  | .hbm, ⟨4, _⟩ => ⟨S2048x4096, .bf16⟩
  | .hbm, ⟨5, _⟩ => ⟨S1x4096, .f32⟩
  | .hbm, ⟨6, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16384x2048 : Shape := ⟨2, ![16384, 2048]⟩
abbrev S2048x4096 : Shape := ⟨2, ![2048, 4096]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S16384x4096, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S16384x2048 : Shape := ⟨2, ![16384, 2048]⟩
abbrev S16384x4096 : Shape := ⟨2, ![16384, 4096]⟩
abbrev S4096x2048 : Shape := ⟨2, ![4096, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S16384x4096, .f32⟩
  | .hbm, ⟨2, _⟩ => ⟨S4096x2048, .f32⟩
  | .hbm, ⟨3, _⟩ => ⟨S16384x4096, .bf16⟩
  | .hbm, ⟨4, _⟩ => ⟨S4096x2048, .bf16⟩
  | .hbm, ⟨5, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S16384x2048 : Shape := ⟨2, ![16384, 2048]⟩
abbrev S16384x4096 : Shape := ⟨2, ![16384, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x4096, .f32⟩
  | .hbm, ⟨2, _⟩ => ⟨S4096x2048, .f32⟩
  | .hbm, ⟨3, _⟩ => ⟨S16384x2048, .f32⟩
  | .hbm, ⟨4, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S16384x2048 : Shape := ⟨2, ![16384, 2048]⟩
abbrev S2048x8192 : Shape := ⟨2, ![2048, 8192]⟩
abbrev S8192 : Shape := ⟨1, ![8192]⟩
abbrev S1x8192 : Shape := ⟨2, ![1, 8192]⟩
abbrev S16384x8192 : Shape := ⟨2, ![16384, 8192]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x8192, .f32⟩
  | .hbm, ⟨2, _⟩ => ⟨S8192, .f32⟩
  | .hbm, ⟨3, _⟩ => ⟨S16384x2048, .bf16⟩
  | .hbm, ⟨4, _⟩ => ⟨S2048x8192, .bf16⟩
  | .hbm, ⟨5, _⟩ => ⟨S1x8192, .f32⟩
  | .hbm, ⟨6, _⟩ => ⟨S16384x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S16384x2048 : Shape := ⟨2, ![16384, 2048]⟩
abbrev S2048x8192 : Shape := ⟨2, ![2048, 8192]⟩
abbrev S8192 : Shape := ⟨1, ![8192]⟩
abbrev S16384x8192 : Shape := ⟨2, ![16384, 8192]⟩
abbrev S1x8192 : Shape := ⟨2, ![1, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x8192, .f32⟩
  | .hbm, ⟨2, _⟩ => ⟨S8192, .f32⟩
  | .hbm, ⟨3, _⟩ => ⟨S16384x8192, .f32⟩
  | .hbm, ⟨4, _⟩ => ⟨S1x8192, .f32⟩
  | .hbm, ⟨5, _⟩ => ⟨S16384x8192, .f32⟩
  | .hbm, ⟨6, _⟩ => ⟨S16384x8192, .f32⟩
  | .hbm, ⟨7, _⟩ => ⟨S_, .f32⟩
  | .hbm, ⟨8, _⟩ => ⟨S16384x8192, .f32⟩
  | .hbm, ⟨9, _⟩ => ⟨S16384x8192, .f32⟩
  | .hbm, ⟨10, _⟩ => ⟨S16384x8192, .f32⟩
  | .hbm, ⟨11, _⟩ => ⟨S_, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S16384x8192, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel9.lean ====
abbrev S16384x2048 : Shape := ⟨2, ![16384, 2048]⟩
abbrev S16384x4096 : Shape := ⟨2, ![16384, 4096]⟩
abbrev S4096x2048 : Shape := ⟨2, ![4096, 2048]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 8
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x4096, .f32⟩
  | .hbm, ⟨2, _⟩ => ⟨S4096x2048, .f32⟩
  | .hbm, ⟨3, _⟩ => ⟨S2048, .f32⟩
  | .hbm, ⟨4, _⟩ => ⟨S16384x4096, .bf16⟩
  | .hbm, ⟨5, _⟩ => ⟨S4096x2048, .bf16⟩
  | .hbm, ⟨6, _⟩ => ⟨S1x2048, .f32⟩
  | .hbm, ⟨7, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference9Ideal.lean ====
abbrev S16384x2048 : Shape := ⟨2, ![16384, 2048]⟩
abbrev S16384x4096 : Shape := ⟨2, ![16384, 4096]⟩
abbrev S4096x2048 : Shape := ⟨2, ![4096, 2048]⟩
abbrev S2048 : Shape := ⟨1, ![2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x4096, .f32⟩
  | .hbm, ⟨2, _⟩ => ⟨S4096x2048, .f32⟩
  | .hbm, ⟨3, _⟩ => ⟨S2048, .f32⟩
  | .hbm, ⟨4, _⟩ => ⟨S16384x2048, .f32⟩
  | .hbm, ⟨5, _⟩ => ⟨S1x2048, .f32⟩
  | .hbm, ⟨6, _⟩ => ⟨S16384x2048, .f32⟩
  | .hbm, ⟨7, _⟩ => ⟨S16384x2048, .f32⟩
  | .hbm, ⟨8, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel10.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x2048, .f32⟩
  | .hbm, ⟨3, _⟩ => ⟨S2048, .f32⟩
  | .hbm, ⟨4, _⟩ => ⟨S16384x2048, .bf16⟩
  | .hbm, ⟨5, _⟩ => ⟨S2048x2048, .bf16⟩
  | .hbm, ⟨6, _⟩ => ⟨S1x2048, .f32⟩
  | .hbm, ⟨7, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference10Ideal.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x2048, .f32⟩
  | .hbm, ⟨3, _⟩ => ⟨S2048, .f32⟩
  | .hbm, ⟨4, _⟩ => ⟨S16384x2048, .f32⟩
  | .hbm, ⟨5, _⟩ => ⟨S1x2048, .f32⟩
  | .hbm, ⟨6, _⟩ => ⟨S16384x2048, .f32⟩
  | .hbm, ⟨7, _⟩ => ⟨S16384x2048, .f32⟩
  | .hbm, ⟨8, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel11.lean ====
abbrev S16384x8192 : Shape := ⟨2, ![16384, 8192]⟩
abbrev S4096 : Shape := ⟨1, ![4096]⟩
abbrev S16x128x128 : Shape := ⟨3, ![16, 128, 128]⟩
abbrev S16x128 : Shape := ⟨2, ![16, 128]⟩
abbrev S1x4096 : Shape := ⟨2, ![1, 4096]⟩
abbrev S128x16 : Shape := ⟨2, ![128, 16]⟩
abbrev S16384x4096 : Shape := ⟨2, ![16384, 4096]⟩
abbrev S256x4096 : Shape := ⟨2, ![256, 4096]⟩
abbrev S128x128 : Shape := ⟨2, ![128, 128]⟩
abbrev S128x4096 : Shape := ⟨2, ![128, 4096]⟩
abbrev S128 : Shape := ⟨1, ![128]⟩
abbrev S128x1 : Shape := ⟨2, ![128, 1]⟩
abbrev S1x128x128 : Shape := ⟨3, ![1, 128, 128]⟩
abbrev S128x256 : Shape := ⟨2, ![128, 256]⟩

abbrev nBuf : Space → Nat
  | .hbm => 9
  | .vmem => 10
  | .smem => 0
  | _ => 0

abbrev bufTy : (tb : Table) → Fin (tcTables nBuf tb) → BufTy
  | .hbm, ⟨0, _⟩ => ⟨S16384x8192, .f32⟩
  | .hbm, ⟨1, _⟩ => ⟨S4096, .f32⟩
  | .hbm, ⟨2, _⟩ => ⟨S4096, .f32⟩
  | .hbm, ⟨3, _⟩ => ⟨S16x128x128, .f32⟩
  | .hbm, ⟨4, _⟩ => ⟨S16x128, .f32⟩
  | .hbm, ⟨5, _⟩ => ⟨S1x4096, .f32⟩
  | .hbm, ⟨6, _⟩ => ⟨S1x4096, .f32⟩
  | .hbm, ⟨7, _⟩ => ⟨S128x16, .f32⟩
  | .hbm, ⟨8, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S16x128x128, .f32⟩
  | .local _ .vmem, ⟨7, _⟩ => ⟨S128x16, .f32⟩
  | .local _ .vmem, ⟨8, _⟩ => ⟨S256x4096, .bf16⟩
  | .local _ .vmem, ⟨9, _⟩ => ⟨S256x4096, .bf16⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S16384x8192 : Shape := ⟨2, ![16384, 8192]⟩
abbrev S4096 : Shape := ⟨1, ![4096]⟩
abbrev S16x128x128 : Shape := ⟨3, ![16, 128, 128]⟩
abbrev S16x128 : Shape := ⟨2, ![16, 128]⟩
abbrev S4x4096x8192 : Shape := ⟨3, ![4, 4096, 8192]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S4x32x128x16x256 : Shape := ⟨5, ![4, 32, 128, 16, 256]⟩
abbrev S128x128 : Shape := ⟨2, ![128, 128]⟩
abbrev S16x4x32x256x128 : Shape := ⟨5, ![16, 4, 32, 256, 128]⟩
abbrev S128x16 : Shape := ⟨2, ![128, 16]⟩
abbrev S1x1x128x16x1 : Shape := ⟨5, ![1, 1, 128, 16, 1]⟩
abbrev S16384x4096 : Shape := ⟨2, ![16384, 4096]⟩

abbrev nBuf : Space → Nat
  | .hbm => 62
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S4096, .f32⟩
  | .hbm, ⟨2, _⟩ => ⟨S4096, .f32⟩
  | .hbm, ⟨3, _⟩ => ⟨S16x128x128, .f32⟩
  | .hbm, ⟨4, _⟩ => ⟨S16x128, .f32⟩
  | .hbm, ⟨5, _⟩ => ⟨S4x4096x8192, .f32⟩
  | .hbm, ⟨6, _⟩ => ⟨S4x4096x4096, .f32⟩
  | .hbm, ⟨7, _⟩ => ⟨S4x4096x4096, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x4096, .f32⟩
  | .hbm, ⟨28, _⟩ => ⟨S4x4096x4096, .f32⟩
  | .hbm, ⟨29, _⟩ => ⟨S1x1x4096, .f32⟩
  | .hbm, ⟨30, _⟩ => ⟨S4x4096x4096, .f32⟩
  | .hbm, ⟨31, _⟩ => ⟨S4x4096x4096, .f32⟩
  | .hbm, ⟨32, _⟩ => ⟨S1x1x4096, .f32⟩
  | .hbm, ⟨33, _⟩ => ⟨S4x4096x4096, .f32⟩
  | .hbm, ⟨34, _⟩ => ⟨S4x4096x4096, .f32⟩
  | .hbm, ⟨35, _⟩ => ⟨S4x32x128x16x256, .f32⟩
  | .hbm, ⟨36, _⟩ => ⟨S_, .i1⟩
  | .hbm, ⟨37, _⟩ => ⟨S128x128, .i1⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128, .i32⟩
  | .hbm, ⟨43, _⟩ => ⟨S128x128, .i1⟩
  | .hbm, ⟨44, _⟩ => ⟨S_, .i1⟩
  | .hbm, ⟨45, _⟩ => ⟨S128x128, .i1⟩
  | .hbm, ⟨46, _⟩ => ⟨S128x128, .i1⟩
  | .hbm, ⟨47, _⟩ => ⟨S_, .f32⟩
  | .hbm, ⟨48, _⟩ => ⟨S_, .f32⟩
  | .hbm, ⟨49, _⟩ => ⟨S16x128x128, .i1⟩
  | .hbm, ⟨50, _⟩ => ⟨S16x128x128, .f32⟩
  | .hbm, ⟨51, _⟩ => ⟨S16x128x128, .f32⟩
  | .hbm, ⟨52, _⟩ => ⟨S16x4x32x256x128, .f32⟩
  | .hbm, ⟨53, _⟩ => ⟨S4x32x128x16x256, .f32⟩
  | .hbm, ⟨54, _⟩ => ⟨S128x16, .f32⟩
  | .hbm, ⟨55, _⟩ => ⟨S1x1x128x16x1, .f32⟩
  | .hbm, ⟨56, _⟩ => ⟨S4x32x128x16x256, .f32⟩
  | .hbm, ⟨57, _⟩ => ⟨S4x32x128x16x256, .f32⟩
  | .hbm, ⟨58, _⟩ => ⟨S4x4096x4096, .f32⟩
  | .hbm, ⟨59, _⟩ => ⟨S4x4096x4096, .f32⟩
  | .hbm, ⟨60, _⟩ => ⟨S16384x4096, .f32⟩
  | .hbm, ⟨61, _⟩ => ⟨S16384x4096, .bf16⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_0 : Ref sig .tc := ⟨.hbm, 44, rfl⟩
abbrev main_call0_v5 : Ref sig .tc := ⟨.hbm, 45, rfl⟩
abbrev main_v27 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== Kernel12.lean ====
abbrev S16384x2048 : Shape := ⟨2, ![16384, 2048]⟩
abbrev S31x2048 : Shape := ⟨2, ![31, 2048]⟩
abbrev S2048 : Shape := ⟨1, ![2048]⟩
abbrev S1x2048 : Shape := ⟨2, ![1, 2048]⟩
abbrev S32x2048 : Shape := ⟨2, ![32, 2048]⟩
abbrev S128x2048 : Shape := ⟨2, ![128, 2048]⟩
abbrev S160x2048 : Shape := ⟨2, ![160, 2048]⟩
abbrev S31x256 : Shape := ⟨2, ![31, 256]⟩
abbrev S1x256 : Shape := ⟨2, ![1, 256]⟩
abbrev S128x256 : Shape := ⟨2, ![128, 256]⟩
abbrev S128 : Shape := ⟨1, ![128]⟩
abbrev S128x1 : Shape := ⟨2, ![128, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S31x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S16384x2048, .bf16⟩
  | .local _ .vmem, ⟨0, _⟩ => ⟨S32x2048, .f32⟩
  | .local _ .vmem, ⟨1, _⟩ => ⟨S32x2048, .f32⟩
  | .local _ .vmem, ⟨2, _⟩ => ⟨S128x2048, .f32⟩
  | .local _ .vmem, ⟨3, _⟩ => ⟨S128x2048, .f32⟩
  | .local _ .vmem, ⟨4, _⟩ => ⟨S31x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S128x2048, .bf16⟩
  | .local _ .vmem, ⟨9, _⟩ => ⟨S128x2048, .bf16⟩
  | .local _ .vmem, ⟨10, _⟩ => ⟨S160x2048, .f32⟩
  | .local _ .vmem, ⟨11, _⟩ => ⟨S128x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference12Ideal.lean ====
abbrev S16384x2048 : Shape := ⟨2, ![16384, 2048]⟩
abbrev S31x2048 : Shape := ⟨2, ![31, 2048]⟩
abbrev S2048 : Shape := ⟨1, ![2048]⟩
abbrev S4x4096x2048 : Shape := ⟨3, ![4, 4096, 2048]⟩
abbrev S_ : Shape := ⟨0, ![]⟩
abbrev S4x4126x2048 : Shape := ⟨3, ![4, 4126, 2048]⟩
abbrev S1x2048 : Shape := ⟨2, ![1, 2048]⟩
abbrev S1x1x2048 : Shape := ⟨3, ![1, 1, 2048]⟩
abbrev S4x4096 : Shape := ⟨2, ![4, 4096]⟩
abbrev S4x4096x1 : Shape := ⟨3, ![4, 4096, 1]⟩

abbrev nBuf : Space → Nat
  | .hbm => 266
  | .vmem => 0
  | .smem => 0
  | _ => 0

abbrev hbmTy0_0 (i : Nat) : BufTy := match i % 128 with
  | 0 => ⟨S16384x2048, .f32⟩
  | 1 => ⟨S31x2048, .f32⟩
  | 2 => ⟨S2048, .f32⟩
  | 3 => ⟨S2048, .f32⟩
  | 4 => ⟨S2048, .f32⟩
  | 5 => ⟨S4x4096x2048, .f32⟩
  | 6 => ⟨S_, .i32⟩
  | 7 => ⟨S_, .f32⟩
  | 8 => ⟨S4x4126x2048, .f32⟩
  | 9 => ⟨S1x2048, .f32⟩
  | 10 => ⟨S2048, .f32⟩
  | 11 => ⟨S4x4096x2048, .f32⟩
  | 12 => ⟨S1x1x2048, .f32⟩
  | 13 => ⟨S4x4096x2048, .f32⟩
  | 14 => ⟨S4x4096x2048, .f32⟩
  | 15 => ⟨S1x2048, .f32⟩
  | 16 => ⟨S2048, .f32⟩
  | 17 => ⟨S4x4096x2048, .f32⟩
  | 18 => ⟨S1x1x2048, .f32⟩
  | 19 => ⟨S4x4096x2048, .f32⟩
  | 20 => ⟨S4x4096x2048, .f32⟩
  | 21 => ⟨S1x2048, .f32⟩
  | 22 => ⟨S2048, .f32⟩
  | 23 => ⟨S4x4096x2048, .f32⟩
  | 24 => ⟨S1x1x2048, .f32⟩
  | 25 => ⟨S4x4096x2048, .f32⟩
  | 26 => ⟨S4x4096x2048, .f32⟩
  | 27 => ⟨S1x2048, .f32⟩
  | 28 => ⟨S2048, .f32⟩
  | 29 => ⟨S4x4096x2048, .f32⟩
  | 30 => ⟨S1x1x2048, .f32⟩
  | 31 => ⟨S4x4096x2048, .f32⟩
  | 32 => ⟨S4x4096x2048, .f32⟩
  | 33 => ⟨S1x2048, .f32⟩
  | 34 => ⟨S2048, .f32⟩
  | 35 => ⟨S4x4096x2048, .f32⟩
  | 36 => ⟨S1x1x2048, .f32⟩
  | 37 => ⟨S4x4096x2048, .f32⟩
  | 38 => ⟨S4x4096x2048, .f32⟩
  | 39 => ⟨S1x2048, .f32⟩
  | 40 => ⟨S2048, .f32⟩
  | 41 => ⟨S4x4096x2048, .f32⟩
  | 42 => ⟨S1x1x2048, .f32⟩
  | 43 => ⟨S4x4096x2048, .f32⟩
  | 44 => ⟨S4x4096x2048, .f32⟩
  | 45 => ⟨S1x2048, .f32⟩
  | 46 => ⟨S2048, .f32⟩
  | 47 => ⟨S4x4096x2048, .f32⟩
  | 48 => ⟨S1x1x2048, .f32⟩
  | 49 => ⟨S4x4096x2048, .f32⟩
  | 50 => ⟨S4x4096x2048, .f32⟩
  | 51 => ⟨S1x2048, .f32⟩
  | 52 => ⟨S2048, .f32⟩
  | 53 => ⟨S4x4096x2048, .f32⟩
  | 54 => ⟨S1x1x2048, .f32⟩
  | 55 => ⟨S4x4096x2048, .f32⟩
  | 56 => ⟨S4x4096x2048, .f32⟩
  | 57 => ⟨S1x2048, .f32⟩
  | 58 => ⟨S2048, .f32⟩
  | 59 => ⟨S4x4096x2048, .f32⟩
  | 60 => ⟨S1x1x2048, .f32⟩
  | 61 => ⟨S4x4096x2048, .f32⟩
  | 62 => ⟨S4x4096x2048, .f32⟩
  | 63 => ⟨S1x2048, .f32⟩
  | 64 => ⟨S2048, .f32⟩
  | 65 => ⟨S4x4096x2048, .f32⟩
  | 66 => ⟨S1x1x2048, .f32⟩
  | 67 => ⟨S4x4096x2048, .f32⟩
  | 68 => ⟨S4x4096x2048, .f32⟩
  | 69 => ⟨S1x2048, .f32⟩
  | 70 => ⟨S2048, .f32⟩
  | 71 => ⟨S4x4096x2048, .f32⟩
  | 72 => ⟨S1x1x2048, .f32⟩
  | 73 => ⟨S4x4096x2048, .f32⟩
  | 74 => ⟨S4x4096x2048, .f32⟩
  | 75 => ⟨S1x2048, .f32⟩
  | 76 => ⟨S2048, .f32⟩
  | 77 => ⟨S4x4096x2048, .f32⟩
  | 78 => ⟨S1x1x2048, .f32⟩
  | 79 => ⟨S4x4096x2048, .f32⟩
  | 80 => ⟨S4x4096x2048, .f32⟩
  | 81 => ⟨S1x2048, .f32⟩
  | 82 => ⟨S2048, .f32⟩
  | 83 => ⟨S4x4096x2048, .f32⟩
  | 84 => ⟨S1x1x2048, .f32⟩
  | 85 => ⟨S4x4096x2048, .f32⟩
  | 86 => ⟨S4x4096x2048, .f32⟩
  | 87 => ⟨S1x2048, .f32⟩
  | 88 => ⟨S2048, .f32⟩
  | 89 => ⟨S4x4096x2048, .f32⟩
  | 90 => ⟨S1x1x2048, .f32⟩
  | 91 => ⟨S4x4096x2048, .f32⟩
  | 92 => ⟨S4x4096x2048, .f32⟩
  | 93 => ⟨S1x2048, .f32⟩
  | 94 => ⟨S2048, .f32⟩
  | 95 => ⟨S4x4096x2048, .f32⟩
  | 96 => ⟨S1x1x2048, .f32⟩
  | 97 => ⟨S4x4096x2048, .f32⟩
  | 98 => ⟨S4x4096x2048, .f32⟩
  | 99 => ⟨S1x2048, .f32⟩
  | 100 => ⟨S2048, .f32⟩
  | 101 => ⟨S4x4096x2048, .f32⟩
  | 102 => ⟨S1x1x2048, .f32⟩
  | 103 => ⟨S4x4096x2048, .f32⟩
  | 104 => ⟨S4x4096x2048, .f32⟩
  | 105 => ⟨S1x2048, .f32⟩
  | 106 => ⟨S2048, .f32⟩
  | 107 => ⟨S4x4096x2048, .f32⟩
  | 108 => ⟨S1x1x2048, .f32⟩
  | 109 => ⟨S4x4096x2048, .f32⟩
  | 110 => ⟨S4x4096x2048, .f32⟩
  | 111 => ⟨S1x2048, .f32⟩
  | 112 => ⟨S2048, .f32⟩
  | 113 => ⟨S4x4096x2048, .f32⟩
  | 114 => ⟨S1x1x2048, .f32⟩
  | 115 => ⟨S4x4096x2048, .f32⟩
  | 116 => ⟨S4x4096x2048, .f32⟩
  | 117 => ⟨S1x2048, .f32⟩
  | 118 => ⟨S2048, .f32⟩
  | 119 => ⟨S4x4096x2048, .f32⟩
  | 120 => ⟨S1x1x2048, .f32⟩
  | 121 => ⟨S4x4096x2048, .f32⟩
  | 122 => ⟨S4x4096x2048, .f32⟩
  | 123 => ⟨S1x2048, .f32⟩
  | 124 => ⟨S2048, .f32⟩
  | 125 => ⟨S4x4096x2048, .f32⟩
  | 126 => ⟨S1x1x2048, .f32⟩
  | 127 => ⟨S4x4096x2048, .f32⟩
  | _ => ⟨S16384x2048, .f32⟩

abbrev hbmTy0_1 (i : Nat) : BufTy := match i % 128 with
  | 0 => ⟨S4x4096x2048, .f32⟩
  | 1 => ⟨S1x2048, .f32⟩
  | 2 => ⟨S2048, .f32⟩
  | 3 => ⟨S4x4096x2048, .f32⟩
  | 4 => ⟨S1x1x2048, .f32⟩
  | 5 => ⟨S4x4096x2048, .f32⟩
  | 6 => ⟨S4x4096x2048, .f32⟩
  | 7 => ⟨S1x2048, .f32⟩
  | 8 => ⟨S2048, .f32⟩
  | 9 => ⟨S4x4096x2048, .f32⟩
  | 10 => ⟨S1x1x2048, .f32⟩
  | 11 => ⟨S4x4096x2048, .f32⟩
  | 12 => ⟨S4x4096x2048, .f32⟩
  | 13 => ⟨S1x2048, .f32⟩
  | 14 => ⟨S2048, .f32⟩
  | 15 => ⟨S4x4096x2048, .f32⟩
  | 16 => ⟨S1x1x2048, .f32⟩
  | 17 => ⟨S4x4096x2048, .f32⟩
  | 18 => ⟨S4x4096x2048, .f32⟩
  | 19 => ⟨S1x2048, .f32⟩
  | 20 => ⟨S2048, .f32⟩
  | 21 => ⟨S4x4096x2048, .f32⟩
  | 22 => ⟨S1x1x2048, .f32⟩
  | 23 => ⟨S4x4096x2048, .f32⟩
  | 24 => ⟨S4x4096x2048, .f32⟩
  | 25 => ⟨S1x2048, .f32⟩
  | 26 => ⟨S2048, .f32⟩
  | 27 => ⟨S4x4096x2048, .f32⟩
  | 28 => ⟨S1x1x2048, .f32⟩
  | 29 => ⟨S4x4096x2048, .f32⟩
  | 30 => ⟨S4x4096x2048, .f32⟩
  | 31 => ⟨S1x2048, .f32⟩
  | 32 => ⟨S2048, .f32⟩
  | 33 => ⟨S4x4096x2048, .f32⟩
  | 34 => ⟨S1x1x2048, .f32⟩
  | 35 => ⟨S4x4096x2048, .f32⟩
  | 36 => ⟨S4x4096x2048, .f32⟩
  | 37 => ⟨S1x2048, .f32⟩
  | 38 => ⟨S2048, .f32⟩
  | 39 => ⟨S4x4096x2048, .f32⟩
  | 40 => ⟨S1x1x2048, .f32⟩
  | 41 => ⟨S4x4096x2048, .f32⟩
  | 42 => ⟨S4x4096x2048, .f32⟩
  | 43 => ⟨S1x2048, .f32⟩
  | 44 => ⟨S2048, .f32⟩
  | 45 => ⟨S4x4096x2048, .f32⟩
  | 46 => ⟨S1x1x2048, .f32⟩
  | 47 => ⟨S4x4096x2048, .f32⟩
  | 48 => ⟨S4x4096x2048, .f32⟩
  | 49 => ⟨S1x2048, .f32⟩
  | 50 => ⟨S2048, .f32⟩
  | 51 => ⟨S4x4096x2048, .f32⟩
  | 52 => ⟨S1x1x2048, .f32⟩
  | 53 => ⟨S4x4096x2048, .f32⟩
  | 54 => ⟨S4x4096x2048, .f32⟩
  | 55 => ⟨S1x2048, .f32⟩
  | 56 => ⟨S2048, .f32⟩
  | 57 => ⟨S4x4096x2048, .f32⟩
  | 58 => ⟨S1x1x2048, .f32⟩
  | 59 => ⟨S4x4096x2048, .f32⟩
  | 60 => ⟨S4x4096x2048, .f32⟩
  | 61 => ⟨S1x2048, .f32⟩
  | 62 => ⟨S2048, .f32⟩
  | 63 => ⟨S4x4096x2048, .f32⟩
  | 64 => ⟨S1x1x2048, .f32⟩
  | 65 => ⟨S4x4096x2048, .f32⟩
  | 66 => ⟨S4x4096x2048, .f32⟩
  | 67 => ⟨S4x4096x2048, .f32⟩
  | 68 => ⟨S4x4096x2048, .f32⟩
  | 69 => ⟨S4x4096x2048, .f32⟩
  | 70 => ⟨S4x4096x2048, .f32⟩
  | 71 => ⟨S4x4096x2048, .f32⟩
  | 72 => ⟨S4x4096x2048, .f32⟩
  | 73 => ⟨S4x4096x2048, .f32⟩
  | 74 => ⟨S4x4096x2048, .f32⟩
  | 75 => ⟨S4x4096x2048, .f32⟩
  | 76 => ⟨S4x4096x2048, .f32⟩
  | 77 => ⟨S4x4096x2048, .f32⟩
  | 78 => ⟨S4x4096x2048, .f32⟩
  | 79 => ⟨S4x4096x2048, .f32⟩
  | 80 => ⟨S4x4096x2048, .f32⟩
  | 81 => ⟨S4x4096x2048, .f32⟩
  | 82 => ⟨S4x4096x2048, .f32⟩
  | 83 => ⟨S4x4096x2048, .f32⟩
  | 84 => ⟨S4x4096x2048, .f32⟩
  | 85 => ⟨S4x4096x2048, .f32⟩
  | 86 => ⟨S4x4096x2048, .f32⟩
  | 87 => ⟨S4x4096x2048, .f32⟩
  | 88 => ⟨S4x4096x2048, .f32⟩
  | 89 => ⟨S4x4096x2048, .f32⟩
  | 90 => ⟨S4x4096x2048, .f32⟩
  | 91 => ⟨S4x4096x2048, .f32⟩
  | 92 => ⟨S4x4096x2048, .f32⟩
  | 93 => ⟨S4x4096x2048, .f32⟩
  | 94 => ⟨S4x4096x2048, .f32⟩
  | 95 => ⟨S4x4096x2048, .f32⟩
  | 96 => ⟨S4x4096x2048, .f32⟩
  | 97 => ⟨S1x1x2048, .f32⟩
  | 98 => ⟨S4x4096x2048, .f32⟩
  | 99 => ⟨S4x4096x2048, .f32⟩
  | 100 => ⟨S_, .f32⟩
  | 101 => ⟨S4x4096, .f32⟩
  | 102 => ⟨S4x4096x1, .f32⟩
  | 103 => ⟨S_, .f32⟩
  | 104 => ⟨S4x4096x1, .f32⟩
  | 105 => ⟨S4x4096x1, .f32⟩
  | 106 => ⟨S4x4096x2048, .f32⟩
  | 107 => ⟨S4x4096x2048, .f32⟩
  | 108 => ⟨S4x4096x2048, .f32⟩
  | 109 => ⟨S_, .f32⟩
  | 110 => ⟨S4x4096, .f32⟩
  | 111 => ⟨S4x4096x1, .f32⟩
  | 112 => ⟨S_, .f32⟩
  | 113 => ⟨S4x4096x1, .f32⟩
  | 114 => ⟨S4x4096x1, .f32⟩
  | 115 => ⟨S_, .f32⟩
  | 116 => ⟨S4x4096x1, .f32⟩
  | 117 => ⟨S4x4096x1, .f32⟩
  | 118 => ⟨S4x4096x1, .f32⟩
  | 119 => ⟨S4x4096x2048, .f32⟩
  | 120 => ⟨S4x4096x2048, .f32⟩
  | 121 => ⟨S1x1x2048, .f32⟩
  | 122 => ⟨S4x4096x2048, .f32⟩
  | 123 => ⟨S4x4096x2048, .f32⟩
  | 124 => ⟨S1x1x2048, .f32⟩
  | 125 => ⟨S4x4096x2048, .f32⟩
  | 126 => ⟨S4x4096x2048, .f32⟩
  | 127 => ⟨S4x4096x2048, .f32⟩
  | _ => ⟨S16384x2048, .f32⟩

abbrev hbmTy0_2 (i : Nat) : BufTy := match i % 128 with
  | 0 => ⟨S4x4096x2048, .f32⟩
  | 1 => ⟨S_, .f32⟩
  | 2 => ⟨S4x4096x2048, .f32⟩
  | 3 => ⟨S4x4096x2048, .f32⟩
  | 4 => ⟨S_, .f32⟩
  | 5 => ⟨S4x4096x2048, .f32⟩
  | 6 => ⟨S4x4096x2048, .f32⟩
  | 7 => ⟨S4x4096x2048, .f32⟩
  | 8 => ⟨S16384x2048, .f32⟩
  | 9 => ⟨S16384x2048, .bf16⟩
  | _ => ⟨S16384x2048, .f32⟩

abbrev hbmTy (i : Nat) : BufTy := match i / 128 with
  | 0 => hbmTy0_0 i
  | 1 => hbmTy0_1 i
  | 2 => hbmTy0_2 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_cst : Ref sig .tc := ⟨.hbm, 228, rfl⟩
abbrev main_v221 : Ref sig .tc := ⟨.hbm, 229, rfl⟩
abbrev main_v222 : Ref sig .tc := ⟨.hbm, 230, rfl⟩
abbrev main_cst_0 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_cst_1 : Ref sig .tc := ⟨.hbm, 237, rfl⟩
abbrev main_v228 : Ref sig .tc := ⟨.hbm, 238, rfl⟩
abbrev main_v229 : Ref sig .tc := ⟨.hbm, 239, rfl⟩
abbrev main_cst_2 : Ref sig .tc := ⟨.hbm, 240, rfl⟩
abbrev main_v230 : Ref sig .tc := ⟨.hbm, 241, rfl⟩
abbrev main_v231 : Ref sig .tc := ⟨.hbm, 242, rfl⟩
abbrev main_cst_3 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_call1_v0 : Ref sig .tc := ⟨.hbm, 255, rfl⟩
abbrev main_call1_v1 : Ref sig .tc := ⟨.hbm, 256, rfl⟩
abbrev main_call1_cst : Ref sig .tc := ⟨.hbm, 257, rfl⟩
abbrev main_call1_v2 : Ref sig .tc := ⟨.hbm, 258, rfl⟩
abbrev main_call1_v3 : Ref sig .tc := ⟨.hbm, 259, rfl⟩
abbrev main_call1_cst_0 : Ref sig .tc := ⟨.hbm, 260, rfl⟩
abbrev main_call1_v4 : Ref sig .tc := ⟨.hbm, 261, rfl⟩
abbrev main_call1_v5 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩

abbrev nD : Nat := 1
abbrev τ : Topo := Topo.v7x

variable {F : FTy → Type} [FloatOps F]
-- ==== Proof.Row.Body.lean ====
/-
  The row copy's body: two counted loops over a point's 1024 rows, the first starting one transfer a row on one semaphore,
  the second waiting for each.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Batch
public import Idealize.ShloMosaic.Lib.Ring
public import Idealize.ShloMosaic.Lib.Tactic
public import Idealize.ShloMosaic.Lib.Pipeline.Routed

@[expose] public section

noncomputable section

namespace Cert.KernelIdeal.Row

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Rows as rectangles -/

/-- The point's row number `k`, as an index of its 1024 words. -/
abbrev wx (k : Fin 1024) : S1024.Idx := fun a => ⟨k.val, by obtain rfl : a = 0 := Subsingleton.elim _ _; exact k.isLt⟩

theorem toNat_mul16 (v : BitVec 32) (h : v.toNat < 36864) : (v * 16#32).toNat = 16 * v.toNat := by
  rw [BitVec.toNat_mul]; show v.toNat * 16 % 4294967296 = _; omega

theorem chk1_of (v : BitVec 32) (h : v.toNat < 36864) : k0_chk1 v := by
  have hm := toNat_mul16 v h
  refine ⟨?_, fun a => ?_⟩
  · show 16 ∣ (v * 16#32).toNat; omega
  · match a with
    | 0 => show (v * 16#32).toNat + 16 ≤ 589824; omega
    | 1 => show 0 + 128 ≤ 128; omega
theorem chk2_of (v : BitVec 32) (h : v.toNat < 32768) : k0_chk2 v := by
  have hm := toNat_mul16 v (by omega)
  refine ⟨?_, fun a => ?_⟩
  · show 16 ∣ (v * 16#32).toNat; omega
  · match a with
    | 0 => show (v * 16#32).toNat + 16 ≤ 524288; omega
    | 1 => show 0 + 128 ≤ 128; omega
theorem chk3_of (v : BitVec 32) (h : v.toNat < 36864) : k0_chk3 v := chk1_of v h
theorem chk4_of (v : BitVec 32) (h : v.toNat < 32768) : k0_chk4 v := chk2_of v h

abbrev srcM : Memref sig .tc .hbm S589824x128 .f32 := Memref.whole main_arg0
abbrev dstM : Memref sig .tc .hbm S524288x128 .f32 := Memref.whole main_v1

/-- The source row a word names, and the destination row. -/
def sB (v : BitVec 32) (h : k0_chk1 v) : Memref sig .tc .hbm S16x128 .f32 :=
  srcM.slice (Rect.unit (s := S589824x128) (k0_off4 v) S16x128.size (k0_off4_inb v h)) (fun _ => rfl)
def dB (v : BitVec 32) (h : k0_chk2 v) : Memref sig .tc .hbm S16x128 .f32 :=
  dstM.slice (Rect.unit (s := S524288x128) (k0_off3 v) S16x128.size (k0_off3_inb v h)) (fun _ => rfl)

theorem trips1 : k0_t1_loop.trips = 1024 := by decide
theorem trips2 : k0_t2_loop.trips = 1024 := by decide

theorem word_at (c : Dev nD) (arg : Memref sig .tc .smem S1024 .i32) (f : Buf (Elt F) (arg.view.loc (c : Thread nD τ)))
    (W : S1024.Idx → BitVec 32) (h : arg.view.read (Elt F) f = W) (k : Fin 1024) (off : Fin 1 → Nat) (ho : off 0 = k.val)
    (inb : ∀ a, off a + S1.size a ≤ S1024.size a) (x : S1.Idx) :
    (arg.access (Rect.unit (s := S1024) off S1.size inb)).read (Elt F) f x = W (wx k) := by
  subst h
  show arg.view.read (Elt F) f ((Rect.unit (s := S1024) off S1.size inb).emb x) = arg.view.read (Elt F) f (wx k)
  congr 1
  funext a
  obtain rfl : a = 0 := Subsingleton.elim _ _
  apply Fin.ext
  have hx : (x 0).val = 0 := by have : (x 0).val < 1 := (x 0).isLt; omega
  show off 0 + 1 * (x 0).val = k.val
  omega

theorem ret_then {E : Type → Type} {α β : Type} (a : α) (k : α → Prog E β) : (Prog.ret a).bind k = k a := rfl

theorem iv_toNat (n : Nat) (h : n < 1024) : (Scalar.indexCast (Scf.iv 0#32 1#32 n)).toNat = n := by
  simp [Scalar.indexCast, Scf.iv]
  omega

section Row

variable (c : Dev nD) (i : grid0.Coords) (arg1 : Memref sig .tc .smem S1024 .i32) (harg1 : arg1.IsWhole)
    (arg2 : Memref sig .tc .smem S1024 .i32) (harg2 : arg2.IsWhole)
    (f1 : Buf (Elt F) (arg1.view.loc (c : Thread nD τ))) (f2 : Buf (Elt F) (arg2.view.loc (c : Thread nD τ)))
    (sW dW : S1024.Idx → BitVec 32) (hs : ∀ x, (sW x).toNat < 36864) (hd : ∀ x, (dW x).toNat < 32768)
    (fs : Buf (Elt F) (srcM.view.loc (c : Thread nD τ))) (f G : Buf (Elt F) (dstM.view.loc (c : Thread nD τ)))

/-- The point's row `k`: its source and its destination. -/
abbrev sR (k : Fin 1024) : Memref sig .tc .hbm S16x128 .f32 := sB (sW (wx k)) (chk1_of _ (hs _))
abbrev dR (k : Fin 1024) : Memref sig .tc .hbm S16x128 .f32 := dB (dW (wx k)) (chk2_of _ (hd _))

/-- What a transfer adds to the semaphore: the row's bytes in granules. -/
abbrev NN : ℕ := (Memref.whole main_v1).view.ref.dmaCredit S16x128 .f32

abbrev srcAt (k : Fin 1024) : sProp 𝕄 := (sR sW hs k).view.loc (c : Thread nD τ) ↦[(sR sW hs k).view.set]{Transfers.shareTokN fullShare k.val} fs
abbrev dstAt (g : Buf (Elt F) (dstM.view.loc (c : Thread nD τ))) (k : Fin 1024) : sProp 𝕄 := (dR dW hd k).view.loc (c : Thread nD τ) ↦[(dR dW hd k).view.set]{fullShare} g
abbrev delivery (k : Fin 1024) : sProp 𝕄 := iprop(dstAt c dW hd G k ∗ srcAt c sW hs fs k)
abbrev sem0 : SemLoc sig := .dma cc0_scratch0.sem
abbrev batch (j u : ℕ) : sProp 𝕄 :=
  Transfers.Batch (countersEmb (U := Pipeline.UD sig nD τ)) (c : Thread nD τ) sem0 () NN (delivery c sW dW hs hd fs G) j u

abbrev words : sProp 𝕄 :=
  iprop((arg1.view.loc (c : Thread nD τ) ↦[arg1.view.set]{fullShare} f1) ∗ (arg2.view.loc (c : Thread nD τ) ↦[arg2.view.set]{fullShare} f2))

def issueInv (k : ℕ) (_ : Unit) : sProp 𝕄 :=
  iprop(words c arg1 arg2 f1 f2 ∗ batch c sW dW hs hd fs G k 0 ∗ bigSep (Ring.rangeSet 1024 k 1024) (dstAt c dW hd f)
    ∗ bigSep (Ring.rangeSet 1024 k 1024) (srcAt c sW hs fs))

theorem issue_step (h1 : arg1.view.read (Elt F) f1 = sW) (h2 : arg2.view.read (Elt F) f2 = dW)
    (hG : ∀ k, ∀ x ∈ (dR dW hd k).view.set, (dR dW hd k).view.write (Elt F) f ((sR sW hs k).view.read (Elt F) fs) Finset.univ x = G x)
    (k : Fin k0_t1_loop.trips) (acc : Unit) :
    issueInv c arg1 arg2 f1 f2 sW dW hs hd fs f G k acc
      ⊢ wp frame (wpE (defs₀ (F := F)) Variants.none (c : Thread nD τ) none) Set.univ
        (k0_t1_body i arg1 harg1 arg2 harg2 srcM (Memref.isWhole_whole _) dstM (Memref.isWhole_whole _) cc0_scratch0 k acc)
        (issueInv c arg1 arg2 f1 f2 sW dW hs hd fs f G (k.val + 1)) := by
  have hk : k.val < 1024 := trips1 ▸ k.isLt
  unfold issueInv words
  rw [Ring.bigSep_rangeSet_head (Φ := dstAt c dW hd f) (lo := k.val) (by omega) (by omega),
    Ring.bigSep_rangeSet_head (Φ := srcAt c sW hs fs) (lo := k.val) (by omega) (by omega)]
  iintro ⟨⟨H1, H2⟩, HB, ⟨HD, HDs⟩, HS, HSs⟩
  unfold k0_t1_body
  sl_exec
  have e1 : issue_step.sl.r c arg1 f1 k = sW (wx ⟨k.val, hk⟩) :=
    word_at c arg1 f1 sW h1 ⟨k.val, hk⟩ (k0_off1 k) (iv_toNat k.val hk) (k0_off1_inb k) _
  generalize issue_step.sl.r c arg1 f1 k = v at e1
  subst e1
  iapply (wp_assume _ _ _ _ (chk1_of _ (hs _)))
  sl_exec
  have e2 : issue_step.sl.r_1 c arg2 f2 k = dW (wx ⟨k.val, hk⟩) :=
    word_at c arg2 f2 dW h2 ⟨k.val, hk⟩ (k0_off2 k) (iv_toNat k.val hk) (k0_off2_inb k) _
  generalize issue_step.sl.r_1 c arg2 f2 k = v at e2
  subst e2
  iapply (wp_assume _ _ _ _ (chk2_of _ (hd _)))
  dsimp only
  have hD : iprop(((dR dW hd ⟨k.val, hk⟩).view.loc (c : Thread nD τ) ↦[(dR dW hd ⟨k.val, hk⟩).view.set]{fullShare}
        ((dR dW hd ⟨k.val, hk⟩).view.write (Elt F) f ((ReadAs.same : ReadAs (Elt F) S16x128 .f32 S16x128 .f32).apply ((sR sW hs ⟨k.val, hk⟩).view.read (Elt F) fs)) Finset.univ))
      ∗ srcAt c sW hs fs ⟨k.val, hk⟩) ⊢ (delivery c sW dW hs hd fs G ⟨k.val, hk⟩ : sProp 𝕄) := by
    unfold delivery
    exact BI.Laws.sep_mono (Entails.of_eq (pointsTo_congr (hG ⟨k.val, hk⟩))) .rfl
  iapply (Transfers.wp_dmaBatch (countersEmb (U := Pipeline.UD sig nD τ)) Variants.none (c : Thread nD τ) none
    (src := sR sW hs ⟨k.val, hk⟩) (dst := dR dW hd ⟨k.val, hk⟩) (q := Transfers.shareTokN fullShare k.val) (fs := fs) (fd := f)
    (j := k.val) (u := 0) () NN rfl (Finset.Subset.refl _) hk (Nat.zero_le _) hD) $$ [HS HD HB]
  · isplitl [HS]; · iexact HS
    isplitl [HD]; · iexact HD
    iexact HB
  iintro HB
  rw [ret_then]
  sl_step
  isplitl [H1 H2]
  · isplitl [H1]; · iexact H1
    iexact H2
  isplitl [HB]; · iexact HB
  isplitl [HDs]; · iexact HDs
  iexact HSs

def drainInv (k : ℕ) (_ : Unit) : sProp 𝕄 :=
  iprop(words c arg1 arg2 f1 f2 ∗ (∃ W, owes (c : Thread nD τ) 0 W)
    ∗ (if k < 1024 then batch c sW dW hs hd fs G 1024 (k * NN)
       else iprop(semVal ((c : Thread nD τ), sem0) 0 ∗ bigSep Finset.univ (delivery c sW dW hs hd fs G))))

theorem drain_step (h1 : arg1.view.read (Elt F) f1 = sW) (h2 : arg2.view.read (Elt F) f2 = dW)
    (k : Fin k0_t2_loop.trips) (acc : Unit) :
    drainInv c arg1 arg2 f1 f2 sW dW hs hd fs G k acc
      ⊢ wp frame (wpE (defs₀ (F := F)) Variants.none (c : Thread nD τ) none) Set.univ
        (k0_t2_body i arg1 harg1 arg2 harg2 srcM (Memref.isWhole_whole _) dstM (Memref.isWhole_whole _) cc0_scratch0 k acc)
        (drainInv c arg1 arg2 f1 f2 sW dW hs hd fs G (k.val + 1)) := by
  have hk : k.val < 1024 := trips2 ▸ k.isLt
  unfold drainInv words
  rw [if_pos hk]
  iintro ⟨⟨H1, H2⟩, ⟨%W, HO⟩, HB⟩
  unfold k0_t2_body
  sl_exec
  have e1 : drain_step.sl.r c arg1 f1 k = sW (wx ⟨k.val, hk⟩) :=
    word_at c arg1 f1 sW h1 ⟨k.val, hk⟩ (k0_off5 k) (iv_toNat k.val hk) (k0_off5_inb k) _
  generalize drain_step.sl.r c arg1 f1 k = v at e1
  subst e1
  iapply (wp_assume _ _ _ _ (chk3_of _ (hs _)))
  sl_exec
  have e2 : drain_step.sl.r_1 c arg2 f2 k = dW (wx ⟨k.val, hk⟩) :=
    word_at c arg2 f2 dW h2 ⟨k.val, hk⟩ (k0_off6 k) (iv_toNat k.val hk) (k0_off6_inb k) _
  generalize drain_step.sl.r_1 c arg2 f2 k = v at e2
  subst e2
  iapply (wp_assume _ _ _ _ (chk4_of _ (hd _)))
  dsimp only
  have hN0 : 0 < NN := by decide
  rcases Nat.lt_or_ge (k.val + 1) 1024 with h | h
  · rw [if_pos h]
    iapply (Transfers.wp_waitBatch (countersEmb (U := Pipeline.UD sig nD τ)) Variants.none (c : Thread nD τ) none
      (dstw := dR dW hd ⟨k.val, hk⟩) () (N := NN) rfl (D := delivery c sW dW hs hd fs G) (u := k.val * NN)
      (by rw [Nat.mul_comm NN, ← Nat.succ_mul]; exact Nat.mul_lt_mul_of_pos_right h hN0)) $$ [HB HO]
    · isplitl [HB]; · iexact HB
      iexact HO
    iintro ⟨HB, HO⟩
    rw [ret_then]
    sl_step
    isplitl [H1 H2]
    · isplitl [H1]; · iexact H1
      iexact H2
    isplitl [HO]; · iexists _; iexact HO
    rw [Nat.succ_mul]
    iexact HB
  · rw [if_neg (Nat.not_lt.mpr h)]
    iapply (Transfers.wp_waitBatchLast (countersEmb (U := Pipeline.UD sig nD τ)) Variants.none (c : Thread nD τ) none
      (dstw := dR dW hd ⟨k.val, hk⟩) () (N := NN) rfl hN0 (D := delivery c sW dW hs hd fs G) (u := k.val * NN)
      (by rw [Nat.mul_comm NN, ← Nat.succ_mul, show k.val.succ = 1024 by omega])) $$ [HB HO]
    · isplitl [HB]; · iexact HB
      iexact HO
    iintro ⟨HD, Hc, HO⟩
    rw [ret_then]
    sl_step
    isplitl [H1 H2]
    · isplitl [H1]; · iexact H1
      iexact H2
    isplitl [HO]; · iexists _; iexact HO
    isplitl [Hc]; · iexact Hc
    iexact HD

/-! ## The two arrays split by rows -/

/-- The elements of destination row `k`, and of source row `k`. -/
def dSet (k : Fin 1024) : Finset S524288x128.Idx :=
  (Rect.unit (s := S524288x128) (k0_off3 (dW (wx k))) S16x128.size (k0_off3_inb _ (chk2_of _ (hd _)))).set
def sSet (k : Fin 1024) : Finset S589824x128.Idx :=
  (Rect.unit (s := S589824x128) (k0_off4 (sW (wx k))) S16x128.size (k0_off4_inb _ (chk1_of _ (hs _)))).set

theorem dR_set (k : Fin 1024) : ((dR dW hd k).view.set : Finset S524288x128.Idx) = dSet dW hd k := View.set_slice_whole _ _

theorem dstAt_eq (g : Buf (Elt F) (dstM.view.loc (c : Thread nD τ))) (k : Fin 1024) :
    dstAt c dW hd g k = (dstM.view.loc (c : Thread nD τ) ↦[dSet dW hd k]{fullShare} g : sProp 𝕄) :=
  congrArg (fun S : Finset S524288x128.Idx => (dstM.view.loc (c : Thread nD τ) ↦[S]{fullShare} g : sProp 𝕄)) (dR_set dW hd k)
theorem srcAt_eq (k : Fin 1024) :
    srcAt c sW hs fs k = (srcM.view.loc (c : Thread nD τ) ↦[sSet sW hs k]{Transfers.shareTokN fullShare k.val} fs : sProp 𝕄) :=
  congrArg (fun S : Finset S589824x128.Idx => (srcM.view.loc (c : Thread nD τ) ↦[S]{Transfers.shareTokN fullShare k.val} fs : sProp 𝕄))
    (View.set_slice_whole _ _)

instance delivery_storable (k : Fin 1024) : BI.Storable (upEmb : UEmb _ 𝕄) (delivery c sW dW hs hd fs G k) := by
  unfold delivery; rw [dstAt_eq, srcAt_eq]; infer_instance

theorem mem_dSet (k : Fin 1024) (x : S524288x128.Idx) : x ∈ dSet dW hd k ↔ (x 0).val / 16 = (dW (wx k)).toNat := by
  unfold dSet
  rw [Rect.mem_set_unit]
  have hm : (k0_off3 (dW (wx k)) 0) = 16 * (dW (wx k)).toNat := toNat_mul16 _ (lt_trans (hd _) (by decide))
  have h1 : (x 1).val < 128 := (x 1).isLt
  constructor
  · intro H
    have a0 : k0_off3 (dW (wx k)) 0 ≤ (x 0).val ∧ (x 0).val < k0_off3 (dW (wx k)) 0 + 16 := H 0
    omega
  · intro H a
    match a with
    | 0 => show k0_off3 (dW (wx k)) 0 ≤ (x 0).val ∧ (x 0).val < k0_off3 (dW (wx k)) 0 + 16; omega
    | 1 => show 0 ≤ (x 1).val ∧ (x 1).val < 0 + 128; omega

/-- The element of the source that lands at element `x` of a destination row, the source row named by `v`. -/
def srcIx (v : BitVec 32) (h : v.toNat < 36864) (x : S524288x128.Idx) : S589824x128.Idx
  | 0 => ⟨16 * v.toNat + (x 0).val % 16, by show _ < 589824; omega⟩
  | 1 => ⟨(x 1).val, (x 1).isLt⟩

theorem row_written (k : Fin 1024) (x : S524288x128.Idx) (hx : x ∈ dSet dW hd k) :
    (dR dW hd k).view.write (Elt F) f ((sR sW hs k).view.read (Elt F) fs) Finset.univ x = fs (srcIx (sW (wx k)) (hs _) x) := by
  have hx' := hx
  rw [← dR_set] at hx'
  obtain ⟨y, -, hy⟩ := Finset.mem_map.mp hx'
  subst hy
  have hm : k0_off3 (dW (wx k)) 0 = 16 * (dW (wx k)).toNat := toNat_mul16 _ (lt_trans (hd _) (by decide))
  have hm' : k0_off4 (sW (wx k)) 0 = 16 * (sW (wx k)).toNat := toNat_mul16 _ (hs _)
  have hy0 : (y 0).val < 16 := (y 0).isLt
  refine (View.write_emb_of_mem _ _ (Finset.mem_univ _)).trans ?_
  show fs ((Rect.unit (s := S589824x128) (k0_off4 (sW (wx k))) S16x128.size (k0_off4_inb _ (chk1_of _ (hs _)))).emb y)
    = fs (srcIx (sW (wx k)) (hs _) ((Rect.unit (s := S524288x128) (k0_off3 (dW (wx k))) S16x128.size (k0_off3_inb _ (chk2_of _ (hd _)))).emb y))
  congr 1
  funext a
  apply Fin.ext
  match a with
  | 0 =>
    show k0_off4 (sW (wx k)) 0 + 1 * (y 0).val = 16 * (sW (wx k)).toNat + (k0_off3 (dW (wx k)) 0 + 1 * (y 0).val) % 16
    omega
  | 1 => show 0 + 1 * (y 1).val = 0 + 1 * (y 1).val; rfl

/-- Every row written, together. -/
def rowsSet : Finset S524288x128.Idx := Finset.univ.biUnion (dSet dW hd)
/-- and every element no row of the point covers. -/
def restSet : Finset S524288x128.Idx := Finset.univ \ rowsSet dW hd

theorem mem_restSet (x : S524288x128.Idx) : x ∈ restSet dW hd ↔ ∀ k, (x 0).val / 16 ≠ (dW (wx k)).toNat := by
  unfold restSet rowsSet
  rw [Finset.mem_sdiff, Finset.mem_biUnion]
  constructor
  · intro h k e; exact h.2 ⟨k, Finset.mem_univ _, (mem_dSet dW hd k x).mpr e⟩
  · exact fun h => ⟨Finset.mem_univ _, fun ⟨k, _, hk⟩ => h k ((mem_dSet dW hd k x).mp hk)⟩

theorem dst_split (hinj : ∀ k k' : Fin 1024, dW (wx k) = dW (wx k') → k = k') (g : Buf (Elt F) (dstM.view.loc (c : Thread nD τ))) :
    (dstM.view.loc (c : Thread nD τ) ↦{fullShare} g : sProp 𝕄)
      ⊣⊢ iprop(bigSep Finset.univ (dstAt c dW hd g) ∗ (dstM.view.loc (c : Thread nD τ) ↦[restSet dW hd]{fullShare} g)) := by
  have hdis : ∀ t ∈ (Finset.univ : Finset (Fin 1024)), ∀ t' ∈ (Finset.univ : Finset (Fin 1024)), t ≠ t' →
      Disjoint (dSet dW hd t) (dSet dW hd t') := fun t _ t' _ hne => by
    rw [Finset.disjoint_left]; intro y hy hy'
    rw [mem_dSet] at hy hy'
    exact hne (hinj t t' (BitVec.eq_of_toNat_eq (hy.symm.trans hy')))
  rw [BI.bigSep_congr (fun k _ => dstAt_eq c dW hd g k),
    ← pointsTo_biUnion (ℓ := dstM.view.loc (c : Thread nD τ)) Finset.univ (dSet dW hd) hdis]
  exact pointsTo_split_subset (Finset.subset_univ (rowsSet dW hd))

abbrev srcRest (k : Fin 1024) : sProp 𝕄 :=
  srcM.view.loc (c : Thread nD τ) ↦[Finset.univ \ sSet sW hs k]{Transfers.shareTokN fullShare k.val} fs

theorem src_split :
    (srcM.view.loc (c : Thread nD τ) ↦{fullShare} fs : sProp 𝕄)
      ⊣⊢ iprop((srcM.view.loc (c : Thread nD τ) ↦{Transfers.shareDrop fullShare 1024} fs)
          ∗ bigSep Finset.univ (srcAt c sW hs fs) ∗ bigSep Finset.univ (srcRest c sW hs fs)) := by
  have h := Transfers.pointsTo_toks (ℓ := srcM.view.loc (c : Thread nD τ)) (S := Finset.univ) (f := fs) (Lvl := ℕ) (Ix := Unit) (Name := ℕ) (U := Pipeline.UD sig nD τ) fullShare 1024
  rw [BI.bigSep_congr (Ψ := fun k : Fin 1024 => iprop(srcAt c sW hs fs k ∗ srcRest c sW hs fs k)) (fun k _ => by
    rw [srcAt_eq]
    exact Entails.antisymm (pointsTo_split_subset (Finset.subset_univ (sSet sW hs k))).1
      (pointsTo_split_subset (Finset.subset_univ (sSet sW hs k))).2)] at h
  have e : (bigSep Finset.univ (fun k : Fin 1024 => iprop(srcAt c sW hs fs k ∗ srcRest c sW hs fs k)) : sProp 𝕄)
      = iprop(bigSep Finset.univ (srcAt c sW hs fs) ∗ bigSep Finset.univ (srcRest c sW hs fs)) := BI.bigSep_sep _ _ _
  rw [e] at h
  exact h

/-! ## The body -/

theorem run_body (h1 : arg1.view.read (Elt F) f1 = sW) (h2 : arg2.view.read (Elt F) f2 = dW)
    (hinj : ∀ k k' : Fin 1024, dW (wx k) = dW (wx k') → k = k')
    (hG : ∀ k, ∀ x ∈ (dR dW hd k).view.set, (dR dW hd k).view.write (Elt F) f ((sR sW hs k).view.read (Elt F) fs) Finset.univ x = G x)
    (hG' : ∀ x ∈ restSet dW hd, f x = G x) (W : Waits sig Unit) (K : PUnit → sProp 𝕄) :
    iprop(words c arg1 arg2 f1 f2 ∗ (srcM.view.loc (c : Thread nD τ) ↦{fullShare} fs) ∗ (dstM.view.loc (c : Thread nD τ) ↦{fullShare} f)
        ∗ semVal ((c : Thread nD τ), sem0) 0 ∗ owes (c : Thread nD τ) 0 W
        ∗ (iprop(words c arg1 arg2 f1 f2 ∗ (srcM.view.loc (c : Thread nD τ) ↦{fullShare} fs) ∗ (dstM.view.loc (c : Thread nD τ) ↦{fullShare} G)
            ∗ semVal ((c : Thread nD τ), sem0) 0 ∗ ∃ W, owes (c : Thread nD τ) 0 W) -∗ K ⟨⟩))
      ⊢ wp frame (wpE (defs₀ (F := F)) Variants.none (c : Thread nD τ) none) Set.univ
        (cc0_row_copy i arg1 harg1 arg2 harg2 srcM (Memref.isWhole_whole _) dstM (Memref.isWhole_whole _) cc0_scratch0) K := by
  have hG'' : (dstM.view.loc (c : Thread nD τ) ↦[restSet dW hd]{fullShare} f : sProp 𝕄)
      = (dstM.view.loc (c : Thread nD τ) ↦[restSet dW hd]{fullShare} G) :=
    pointsTo_congr hG'
  iintro ⟨Hw, HS, HD, Hc, HO, Hk⟩
  ihave HS' := (src_split c sW hs fs).1 $$ HS
  icases HS' with ⟨HS0, HSs, HSr⟩
  ihave HD' := (dst_split c dW hd hinj f).1 $$ HD
  icases HD' with ⟨HDs, HDr⟩
  imod (Transfers.batch_alloc' (Lvl := ℕ) (countersEmb (U := Pipeline.UD sig nD τ)) (c : Thread nD τ) () NN (delivery c sW dW hs hd fs G) (sm := sem0) (E := Set.univ)) $$ Hc with HB
  rw [cc0_row_copy_eq_skeleton]
  sl_unfold [cc0_row_copy_skel]
  sl_for (issueInv c arg1 arg2 f1 f2 sW dW hs hd fs f G) $$ [Hw HB HDs HSs]
  · intro k acc; exact issue_step c i arg1 harg1 arg2 harg2 f1 f2 sW dW hs hd fs f G h1 h2 hG k acc
  · unfold issueInv
    rw [Ring.rangeSet_univ]
    isplitl [Hw]; · iexact Hw
    isplitl [HB]; · iexact HB
    isplitl [HDs]; · iexact HDs
    iexact HSs
  iintro %acc HL
  ihave HL' := (show issueInv c arg1 arg2 f1 f2 sW dW hs hd fs f G (Scf.trips k0_t1_loop.lb k0_t1_loop.ub k0_t1_loop.st) acc
      ⊢ iprop(words c arg1 arg2 f1 f2 ∗ batch c sW dW hs hd fs G 1024 0) from by
    rw [show Scf.trips k0_t1_loop.lb k0_t1_loop.ub k0_t1_loop.st = 1024 from trips1]
    unfold issueInv; iintro ⟨Hw, HB, -, -⟩
    isplitl [Hw] <;> iassumption) $$ HL
  icases HL' with ⟨Hw, HB⟩
  sl_unfold [run_body.sl.prog.cont_1]
  sl_for (drainInv c arg1 arg2 f1 f2 sW dW hs hd fs G) $$ [Hw HB HO]
  · intro k acc; exact drain_step c i arg1 harg1 arg2 harg2 f1 f2 sW dW hs hd fs G h1 h2 k acc
  · unfold drainInv
    rw [if_pos (by decide), Nat.zero_mul]
    isplitl [Hw]; · iexact Hw
    isplitl [HO]; · iexists _; iexact HO
    iexact HB
  iintro %acc' HL
  ihave HL' := (show drainInv c arg1 arg2 f1 f2 sW dW hs hd fs G (Scf.trips k0_t2_loop.lb k0_t2_loop.ub k0_t2_loop.st) acc'
      ⊢ iprop(words c arg1 arg2 f1 f2 ∗ (∃ W, owes (c : Thread nD τ) 0 W) ∗ semVal ((c : Thread nD τ), sem0) 0
          ∗ bigSep Finset.univ (delivery c sW dW hs hd fs G)) from by
    rw [show Scf.trips k0_t2_loop.lb k0_t2_loop.ub k0_t2_loop.st = 1024 from trips2]
    unfold drainInv; rw [if_neg (by decide)]) $$ HL
  icases HL' with ⟨Hw, HO, Hc, Hall⟩
  ihave Hall' := (show bigSep Finset.univ (delivery c sW dW hs hd fs G)
      ⊢ iprop(bigSep Finset.univ (dstAt c dW hd G) ∗ bigSep Finset.univ (srcAt c sW hs fs))
    from Entails.of_eq (BI.bigSep_sep _ _ _)) $$ Hall
  icases Hall' with ⟨HDs, HSs⟩
  sl_unfold [run_body.sl.prog.cont_2]
  sl_step
  ihave HDr := (Entails.of_eq hG'') $$ HDr
  iapply Hk
  isplitl [Hw]; · iexact Hw
  isplitl [HS0 HSr HSs]
  · iapply (src_split c sW hs fs).2
    isplitl [HS0]; · iexact HS0
    isplitl [HSs]; · iexact HSs
    iexact HSr
  isplitl [HDs HDr]
  · iapply (dst_split c dW hd hinj G).2
    isplitl [HDs]; · iexact HDs
    iexact HDr
  isplitl [Hc]; · iexact Hc
  iexact HO

end Row

end Cert.KernelIdeal.Row
end
-- ==== Proof.Row.Launch.lean ====
/-
  The row copy's launch: what each point's words are, the result as the points fill it, and the run of the whole program.
-/
module

public import proofs.«01_k».proof.Proof.Row.Body
public import Idealize.ShloMosaic.Lib.Pipeline.FrameBody

@[expose] public section

set_option maxRecDepth 16384

noncomputable section

namespace Cert.KernelIdeal.Row

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every position names a row of the source. -/
def InRange : Prop := ∀ (c : Dev nD) (x : S32768.Idx), (show BitVec 32 from m ((c : Thread nD τ).loc main_arg1) x).toNat < 36864

variable {m}
variable (hm : InRange m)

/-- The position of the row that holds element `x` of the result. -/
def rowIx (x : S524288x128.Idx) : S32768.Idx := fun a =>
  ⟨(x 0).val / 16, by obtain rfl : a = 0 := Subsingleton.elim _ _; show _ < 32768; have : (x 0).val < 524288 := (x 0).isLt; omega⟩

/-- The gathered array: row `k` is the source's row `pos k`. -/
def gath (fs : S589824x128.Idx → Elt F .f32) (pos : S32768.Idx → BitVec 32) (hp : ∀ x, (pos x).toNat < 36864) (x : S524288x128.Idx) : Elt F .f32 :=
  fs (srcIx (pos (rowIx x)) (hp _) x)

/-- The result when the points below `t` have run. -/
def part (c : Dev nD) (t : ℕ) : S524288x128.Idx → Elt F .f32 := fun x =>
  if (x 0).val < 16384 * t then gath (m ((c : Thread nD τ).loc main_arg0)) (m ((c : Thread nD τ).loc main_arg1)) (hm c) x
  else V m c main_v1 x

/-! ## The words of a point -/

theorem idx_facts : ∀ t : Fin cfg0.N, win0_0.index t (0 : Fin 1) = t.val ∧ win0_1.index t (0 : Fin 1) = t.val :=
  (by decide +kernel : ∀ t : Fin grid0.N, _)

/-- Word `k` of point `t`, as an index of the positions. -/
def posIx (t : Fin cfg0.N) (k : ℕ) (hk : k < 1024) : S32768.Idx := fun a =>
  ⟨1024 * t.val + k, by obtain rfl : a = 0 := Subsingleton.elim _ _; show _ < 32768; have h : t.val < 32 := t.isLt; omega⟩

theorem iota_val (c : Dev nD) : V m c main_v0 = iotaInDim S32768 32 0 := rfl

theorem pos_word (c : Dev nD) (t : Fin cfg0.N) (x : S1024.Idx) :
    iblk m c 0 t x = m ((c : Thread nD τ).loc main_arg1) (posIx t (x 0).val (x 0).isLt) := by
  rw [← V_main_arg1 m c]
  show V m c main_arg1 (((cfg0.win 0).blk t).view.emb x) = _
  congr 1
  refine funext fun (a : Fin 1) => ?_
  obtain rfl : a = 0 := Subsingleton.elim _ _
  apply Fin.ext
  have e := (idx_facts t).1
  show win0_0.index t (0 : Fin 1) * 1024 + 1 * (x 0).val = 1024 * t.val + (x 0).val
  omega

theorem iota_word (c : Dev nD) (t : Fin cfg0.N) (x : S1024.Idx) :
    iblk m c 1 t x = BitVec.ofNat 32 (1024 * t.val + (x 0).val) := by
  show V m c main_v0 (((cfg0.win 1).blk t).view.emb x) = _
  rw [iota_val]
  show BitVec.ofNat 32 _ = _
  congr 1
  have e := (idx_facts t).2
  show win0_1.index t (0 : Fin 1) * 1024 + 1 * (x 0).val = 1024 * t.val + (x 0).val
  omega

theorem iota_toNat (c : Dev nD) (t : Fin cfg0.N) (x : S1024.Idx) :
    (show BitVec 32 from iblk m c 1 t x).toNat = 1024 * t.val + (x 0).val := by
  have h : t.val < 32 := t.isLt
  have h' : (x 0).val < 1024 := (x 0).isLt
  rw [iota_word]
  show (BitVec.ofNat 32 (1024 * t.val + (x 0).val)).toNat = _
  rw [BitVec.toNat_ofNat]
  omega

include hm in
theorem pos_lt (c : Dev nD) (t : Fin cfg0.N) (x : S1024.Idx) : (show BitVec 32 from iblk m c 0 t x).toNat < 36864 := by
  rw [pos_word]; exact hm c _

theorem dst_lt (c : Dev nD) (t : Fin cfg0.N) (x : S1024.Idx) : (show BitVec 32 from iblk m c 1 t x).toNat < 32768 := by
  have h : t.val < 32 := t.isLt
  have h' : (x 0).val < 1024 := (x 0).isLt
  rw [iota_toNat]; omega

theorem dst_inj (c : Dev nD) (t : Fin cfg0.N) (k k' : Fin 1024)
    (h : (show BitVec 32 from iblk m c 1 t (wx k)) = (show BitVec 32 from iblk m c 1 t (wx k'))) : k = k' := by
  have h' := congrArg BitVec.toNat h
  rw [iota_toNat, iota_toNat] at h'
  have e : 1024 * t.val + k.val = 1024 * t.val + k'.val := h'
  exact Fin.ext (by omega)

/-- Every element under a row of the point is gathered after it. -/
theorem step_in (c : Dev nD) (t : Fin cfg0.N) (k : Fin 1024) (x : S524288x128.Idx)
    (hx : x ∈ (dR (iblk m c 1 t) (dst_lt c t) k).view.set) :
    (dR (iblk m c 1 t) (dst_lt c t) k).view.write (Elt F) (part hm c t.val)
      ((sR (iblk m c 0 t) (pos_lt hm c t) k).view.read (Elt F) (m ((c : Thread nD τ).loc main_arg0))) Finset.univ x
      = part hm c (t.val + 1) x := by
  rw [dR_set] at hx
  rw [row_written c _ _ (pos_lt hm c t) (dst_lt c t) _ _ k x hx]
  have e := (mem_dSet _ _ k x).mp hx
  rw [iota_toNat] at e
  have e' : (x 0).val / 16 = 1024 * t.val + k.val := e
  unfold part
  rw [if_pos (by omega)]
  unfold gath
  have hw : iblk m c 0 t (wx k) = m ((c : Thread nD τ).loc main_arg1) (rowIx x) := by
    rw [pos_word]
    congr 1
    funext a
    obtain rfl : a = 0 := Subsingleton.elim _ _
    exact Fin.ext e'.symm
  congr 1
  have key : ∀ (v w : BitVec 32) (hv : v.toNat < 36864) (hw : w.toNat < 36864), v = w → srcIx v hv x = srcIx w hw x := by
    intro v w hv hw e; subst e; rfl
  exact key _ _ _ _ hw

/-- Every other element stays. -/
theorem step_out (c : Dev nD) (t : Fin cfg0.N) (x : S524288x128.Idx) (hx : x ∈ restSet (iblk m c 1 t) (dst_lt c t)) :
    part hm c t.val x = part hm c (t.val + 1) x := by
  have e := (mem_restSet (iblk m c 1 t) (dst_lt c t) x).mp hx
  have e' : ¬ (1024 * t.val ≤ (x 0).val / 16 ∧ (x 0).val / 16 < 1024 * t.val + 1024) := fun ⟨h1, h2⟩ => by
    refine e ⟨(x 0).val / 16 - 1024 * t.val, by omega⟩ ?_
    rw [iota_toNat]
    show _ = 1024 * t.val + ((x 0).val / 16 - 1024 * t.val)
    omega
  unfold part
  by_cases h : (x 0).val < 16384 * t.val
  · rw [if_pos h, if_pos (by omega)]
  · rw [if_neg h, if_neg (by omega)]

/-! ## The proof data -/

/-- The copy's one semaphore. -/
abbrev osem0 : Fin 1 → SemLoc sig := fun j => (![SemLoc.dma 4] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), sem0) 0 := by
  rw [Pipeline.ownSems0_eq_of_list c osem0 [0] (by decide) (by decide)]; rfl

/-- The two arrays the copy reaches by itself. -/
def R0 : Finset (Ref sig .tc) := {main_arg0, main_v1}
theorem R0_sub : R0 ⊆ Pipeline.restRefs sig spec0 := by decide
theorem routed_R0 (c : Dev nD) (W : (b : Ref sig .tc) → Buf (Elt F) ((c : Thread nD τ).loc b)) :
    (Pipeline.routed R0 c W : sProp 𝕄)
      = iprop((((c : Thread nD τ).loc main_arg0) ↦{fullShare} W main_arg0) ∗ (((c : Thread nD τ).loc main_v1) ↦{fullShare} W main_v1)) := by
  unfold Pipeline.routed
  rw [BI.bigSep_eq_bigSepL_of_eq [main_arg0, main_v1] (by decide) (by decide)]; rfl

/-- The arrays after the run. -/
def Yend (c : Dev nD) (b : Ref sig .tc) : Buf (Elt F) ((c : Thread nD τ).loc b) :=
  Function.update (V m c) main_v1 (part hm c 32) b
theorem Yend_v1 (c : Dev nD) : Yend hm c main_v1 = part hm c 32 := Function.update_self ..
theorem Yend_arg0 (c : Dev nD) : Yend hm c main_arg0 = m ((c : Thread nD τ).loc main_arg0) :=
  (Function.update_of_ne (by decide) _ _).trans (V_main_arg0 m c)

/-- Between points: the source as launched, the result so far, the semaphore at zero. -/
def Inv (c : Dev nD) (t : ℕ) : sProp 𝕄 :=
  iprop((srcM.view.loc (c : Thread nD τ) ↦{fullShare} (m ((c : Thread nD τ).loc main_arg0)))
    ∗ (dstM.view.loc (c : Thread nD τ) ↦{fullShare} part hm c t)
    ∗ semVal ((c : Thread nD τ), sem0) 0 ∗ ∃ r, prngReg c r)

def dats (_ : Fin 1) (c : Dev nD) : Dat τ (Elt F) Unit ℕ (Pipeline.UD sig nD τ) ℕ cfg0 c where
  A w := V m c (Pipeline.arrRef spec0 w)
  after := fun | 0 => fun t => iblk m c 0 t | 1 => fun t => iblk m c 1 t | ⟨_ + 2, h⟩ => absurd h (Nat.not_lt.2 (Nat.le_add_left _ _))
  Φ t := Inv hm c t.val
  q _ := fullShare
  owed _ := 0

theorem A_eq (c : Dev nD) (w : Fin cfg0.W) : (dats hm 0 c).A w = V m c (Pipeline.arrRef spec0 w) := by dsimp only [dats]

theorem before_0 (c : Dev nD) (t : Fin cfg0.N) (d) : (dats hm 0 c).before 0 t d = iblk m c 0 t :=
  ((dats hm 0 c).before_in_eq_fetched 0 rfl (fun _ => rfl) (fun _ _ _ => rfl)
    (fun t => by rw [show (dats hm 0 c).after 0 t = iblk m c 0 t from rfl]; unfold Dat.blockOf iblk; rw [A_eq]) t d).trans
    (by unfold Dat.fetched Dat.blockOf iblk; rw [A_eq]; rfl)
theorem before_1 (c : Dev nD) (t : Fin cfg0.N) (d) : (dats hm 0 c).before 1 t d = iblk m c 1 t :=
  ((dats hm 0 c).before_in_eq_fetched 1 rfl (fun _ => rfl) (fun _ _ _ => rfl)
    (fun t => by rw [show (dats hm 0 c).after 1 t = iblk m c 1 t from rfl]; unfold Dat.blockOf iblk; rw [A_eq]) t d).trans
    (by unfold Dat.fetched Dat.blockOf iblk; rw [A_eq]; rfl)

abbrev ms0_0 (t : Fin cfg0.N) : Memref sig .tc .smem S1024 .i32 := win0_0.stage (cfg0.slots t 0)
abbrev ms0_1 (t : Fin cfg0.N) : Memref sig .tc .smem S1024 .i32 := win0_1.stage (cfg0.slots t 1)

def bodyPre (c : Dev nD) (t : Fin cfg0.N) : sProp 𝕄 :=
  iprop((dats hm 0 c).Φ t.castSucc ∗ (dats hm 0 c).owesAt () t.castSucc
    ∗ (∃ d, owns (c : Thread nD τ) (ms0_0 t) fullShare ((dats hm 0 c).before 0 t d))
    ∗ (∃ d, owns (c : Thread nD τ) (ms0_1 t) fullShare ((dats hm 0 c).before 1 t d)))
def bodyPost (c : Dev nD) (t : Fin cfg0.N) : sProp 𝕄 :=
  iprop((dats hm 0 c).Φ t.succ ∗ (dats hm 0 c).owesAt () t.succ
    ∗ owns (c : Thread nD τ) (ms0_0 t) fullShare (iblk m c 0 t)
    ∗ owns (c : Thread nD τ) (ms0_1 t) fullShare (iblk m c 1 t))

theorem sound_body (c : Dev nD) (t : Fin cfg0.N) :
    bodyPre hm c t ⊢ wp frame (wpE (defs₀ (F := F)) Variants.none (c : Thread nD τ) none) Set.univ (bodyAt0 t) (fun _ => bodyPost hm c t) := by
  unfold bodyPre bodyPost bodyAt0
  rw [show (dats hm 0 c).Φ t.succ = Inv hm c (t.val + 1) from rfl,
    show (dats hm 0 c).owesAt () t.succ = (dats hm 0 c).owesAt () t.castSucc from rfl,
    show (dats hm 0 c).Φ t.castSucc = Inv hm c t.val from rfl]
  unfold Dat.owesAt Pipeline.owesWithin Inv
  rw [show (dats hm 0 c).owed t.castSucc = 0 from rfl]
  simp only [before_0, before_1]
  unfold owns
  iintro ⟨⟨HS, HD, Hc, Hg⟩, ⟨%W, %hW, HO⟩, ⟨%d0, %f0, %e0, H0⟩, ⟨%d1, %f1, %e1, H1⟩⟩
  iapply (run_body c (grid0.coords t) (ms0_0 t) (hstage0_0 ((cfg0.slots t 0).cast nbuf0_0)) (ms0_1 t) (hstage0_1 ((cfg0.slots t 1).cast nbuf0_1)) f0 f1
    (iblk m c 0 t) (iblk m c 1 t) (pos_lt hm c t) (dst_lt c t) (m ((c : Thread nD τ).loc main_arg0)) (part hm c t.val) (part hm c (t.val + 1))
    e0 e1 (dst_inj c t) (fun k x hx => step_in hm c t k x hx) (fun x hx => step_out hm c t x hx) W _)
  unfold words
  isplitl [H0 H1]
  · isplitl [H0]; · iexact H0
    iexact H1
  isplitl [HS]; · iexact HS
  isplitl [HD]; · iexact HD
  isplitl [Hc]; · iexact Hc
  isplitl [HO]; · iexact HO
  iintro ⟨⟨H0, H1⟩, HS, HD, Hc, ⟨%W', HO⟩⟩
  isplitl [HS HD Hc Hg]
  · isplitl [HS]; · iexact HS
    isplitl [HD]; · iexact HD
    isplitl [Hc]; · iexact Hc
    iexact Hg
  isplitl [HO]
  · iexists W'; isplitr; · ipureintro; exact fun _ _ => Or.inl trivial
    iexact HO
  isplitl [H0]
  · iexists f0; isplitr; · ipureintro; exact e0
    iexact H0
  iexists f1; isplitr; · ipureintro; exact e1
  iexact H1

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationLoose (dats (F := F) hm 0 c) (defs₀ (F := F)) Variants.none () Set.univ :=
  (show Pipeline.BodyObligation (dats (F := F) hm 0 c) (defs₀ (F := F)) Variants.none () Set.univ from fun t => by
    rw [bigSep_W0, bigSep_W0, defs₀_row]
    exact triple_restated (sound_body hm c t) rfl .rfl fun _ => .rfl).loose

/-! ## The run -/

theorem enter (c : Dev nD) : Pipeline.Ends spec0 osem0 R0 c (V m c) ⊢ (Inv hm c 0 : sProp 𝕄) := by
  have e : part hm c 0 = V m c main_v1 := by funext x; unfold part; rw [if_neg (by omega)]
  unfold Pipeline.Ends Inv
  rw [routed_R0, ownSems00_eq, scopedRest0_eq, V_main_arg0, e]
  iintro ⟨⟨HS, HD⟩, Hc, -, Hg⟩
  isplitl [HS]; · iexact HS
  isplitl [HD]; · iexact HD
  isplitl [Hc]; · iexact Hc
  iexact Hg

theorem leave (c : Dev nD) : (Inv hm c 32 : sProp 𝕄) ⊢ Pipeline.Ends spec0 osem0 R0 c (Yend hm c) := by
  unfold Pipeline.Ends Inv
  rw [routed_R0, ownSems00_eq, scopedRest0_eq, Yend_arg0, Yend_v1]
  iintro ⟨HS, HD, Hc, Hg⟩
  isplitl [HS HD]
  · isplitl [HS]; · iexact HS
    iexact HD
  isplitl [Hc]; · iexact Hc
  isplitr [Hg]; · iempintro
  iexact Hg

theorem gath_all (c : Dev nD) :
    part hm c 32 = gath (m ((c : Thread nD τ).loc main_arg0)) (m ((c : Thread nD τ).loc main_arg1)) (hm c) := by
  funext x
  have h : (x 0).val < 524288 := (x 0).isLt
  unfold part
  rw [if_pos (by omega)]

set_option backward.isDefEq.respectTransparency.types false in
/-- The run: the result is the gathered array, the arguments are as launched and every semaphore is at zero. -/
theorem run_main :
    θ_run defs (onTc (τ := τ) (main (F := F))) (s₀ m ρ) (fun r => (∀ c : Dev nD,
      r.2.mem ((c : Thread nD τ).loc main_v1)
        = gath (m ((c : Thread nD τ).loc main_arg0)) (m ((c : Thread nD τ).loc main_arg1)) (hm c)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_frame_routed (Q' := _) cfgs (dats hm) (0 : Fin 1) launch0 (osem := osem0) ownSemFacts0 defs₀ Variants.none m ρ main
    (hbody := body_obligation hm) (hshare := fun c => (dats hm 0 c).share_full fun _ => rfl)
    (howed := fun _ _ => rfl) (V := V m)
    (hmain := Pipeline.hmain_prefix cfgs 0 defs₀ Variants.none m main hostOps0 hostOps0_sub hostOps0_fresh main_chain)
    (hA := A_eq hm) (R := R0) (hR := R0_sub) (Y := Yend hm) (hin := enter hm) (hout := leave hm)
    (hQ' := fun r h => ⟨fun c => ⟨((h.1 c).2.1 main_v1 (by decide)).trans ((Yend_v1 hm c).trans (gath_all hm c)),
      ((h.1 c).2.1 main_arg0 (by decide)).trans (Yend_arg0 hm c),
      ((h.1 c).1 0).trans (((dats hm 0 c).arrAt_in 0 rfl _).trans ((A_eq hm c 0).trans (V_main_arg1 m c)))⟩, h.2⟩)

end Cert.KernelIdeal.Row
end
-- ==== Proof.Row.Bits.lean ====
/-
  The printed row copy is the idealized one's text: its run is that run, at any float values.
-/
module

public import proofs.«01_k».proof.Kernel
public import proofs.«01_k».proof.Proof.Gen.Kernel
public import proofs.«01_k».proof.Proof.Row.Launch

@[expose] public section

set_option maxRecDepth 16384

noncomputable section

namespace Cert.Row

open Idealize.ShloMosaic Idealize.ShloMosaic.TcCoe Idealize.SL.Sem

variable {F : FTy → Type} [FloatOps F]

theorem cfg0_eq : Cert.Kernel.cfg0 = Cert.KernelIdeal.cfg0 := rfl
theorem body_eq (i : Cert.Kernel.grid0.Coords) : Cert.Kernel.cc0_row_copy (F := F) i = Cert.KernelIdeal.cc0_row_copy (F := F) i := by
  funext a1 h1 a2 h2 a3 h3 a4 h4 a5
  unfold Cert.Kernel.cc0_row_copy Cert.KernelIdeal.cc0_row_copy
  rfl
theorem defs₀_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => exact congrFun (congrFun (congrFun (congrFun (congrFun (congrFun (congrFun (congrFun (congrFun (body_eq (F := F) (Cert.Kernel.grid0.coords t)) _) _) _) _) _) _) _) _) _
  | ⟨n + 1, h⟩, _ => exact absurd h (by omega)
theorem defs_eq : Cert.Kernel.defs (F := F) = Cert.KernelIdeal.defs (F := F) := congrArg (Pipeline.defs _) defs₀_eq
theorem main_eq : Cert.Kernel.main (F := F) = Cert.KernelIdeal.main (F := F) := rfl

theorem run_iff (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop)
    (h : θ_run Cert.KernelIdeal.defs (onTc (τ := Cert.KernelIdeal.τ) (Cert.KernelIdeal.main (F := F))) ⟨m, fun _ => 0, ρ⟩ Q) :
    θ_run Cert.Kernel.defs (onTc (τ := Cert.Kernel.τ) (Cert.Kernel.main (F := F))) ⟨m, fun _ => 0, ρ⟩ Q := by
  rw [defs_eq, main_eq]; exact h

end Cert.Row
end
-- ==== Proof.Row.Ref.lean ====
/-
  The reference's rows: what its gather reads, and what the precondition says of the positions.
-/
module

public import proofs.«01_k».proof.Proof.Gen.ReferenceIdeal.Run
public import proofs.«01_k».proof.Proof.Gen.ReferenceIdeal.Read
public import proofs.«01_k».proof.Proof.Gen.Reference.Run
public import proofs.«01_k».proof.Proof.Gen.Reference.Read
public import proofs.«01_k».proof.Pre_positions_in_range
public import proofs.«01_k».proof.Proof.Row.Launch
public import Idealize.ShloMosaic.Lib.Routing.Ops

@[expose] public section

set_option maxRecDepth 16384

noncomputable section

namespace Cert.Row

open Idealize.ShloMosaic Idealize.ShloMosaic.TcCoe Idealize.ShloMosaic.ValueIdx
open Cert.KernelIdeal.Row (gath srcIx rowIx)

variable {F : FTy → Type} [FloatOps F]

theorem pre_facts : Cert.Pre_positions_in_range.Facts := ⟨by decide⟩

/-- The precondition, read at a position. -/
theorem in_range [Cert.Pre_positions_in_range.Facts] (x0 : FVec F Cert.Pre_positions_in_range.S589824x128 .f32) (pos : IVec Cert.Pre_positions_in_range.S32768 32)
    (h : Cert.Pre_positions_in_range.fn (F := F) x0 pos = fun _ => 1#1) (k : Cert.Pre_positions_in_range.S32768.Idx) : (pos k).toNat < 36864 := by
  have andi_one (a b : BitVec 1) : IntOp.andi a b = 1#1 ↔ a = 1#1 ∧ b = 1#1 := by revert a b; decide
  have hk := congrFun h k
  simp only [Cert.Pre_positions_in_range.fn, constantI, broadcastInDim, cmpi, andi, andi_one] at hk
  obtain ⟨h1, h2⟩ := hk
  have one (b : Bool) (h : BitVec.ofBool b = 1#1) : b = true := by revert h; cases b <;> decide
  have g1 : (0#32).sle (pos k) = true := one _ h1
  have g2 : (pos k).slt 36864#32 = true := one _ h2
  rw [BitVec.sle, decide_eq_true_eq] at g1
  rw [BitVec.slt, decide_eq_true_eq] at g2
  have e0 : (0#32).toInt = 0 := by decide
  have e1 : (36864#32).toInt = 36864 := by decide
  rw [e0] at g1
  rw [e1] at g2
  have hc := BitVec.toInt_eq_toNat_cond (pos k)
  split at hc <;> omega

open Cert.Reference Cert.Reference.Gen Cert.Reference.Read in
/-- The reference's result is the gathered array. -/
theorem ref_value (x0 : S589824x128.Idx → Elt F .f32) (pos : S32768.Idx → BitVec 32) (hp : ∀ k, (pos k).toNat < 36864) :
    val_main_v8 (F := F) x0 pos = gath x0 pos hp := by
  funext x
  have hx0 : (x 0).val < 524288 := (x 0).isLt
  have hx1 : (x 1).val < 128 := (x 1).isLt
  rw [val_main_v8_apply]
  unfold val_main_v7
  have hr : ((x 0).val * 128 + (x 1).val) / 2048 = (x 0).val / 16 := by omega
  let b : Fin 36864 := ⟨(pos (rowIx x)).toNat, hp _⟩
  have hj : idx_main_v8 x = ix2 (n0 := 32768) (n1 := 2048) ⟨(x 0).val / 16, by omega⟩ ⟨((x 0).val * 128 + (x 1).val) % 2048, by omega⟩ := by
    funext a
    match a with
    | ⟨0, _⟩ => exact Fin.ext hr
    | ⟨1, _⟩ => rfl
  rw [hj]
  refine (Routing.gather_row (nb := 36864) (B := 2048) (n := 32768) gather_S36864x2048_S32768x1_S32768x2048_1_0_n_n_0_1_12048 rfl rfl rfl rfl rfl
    (val_main_v0 (F := F) x0) (val_main_v6 (F := F) pos) _ _ b ?_ (by decide)).trans ?_
  · rw [val_main_v6_apply, val_main_v5_apply, val_main_v2_apply]
    have e : idx_main_v6 (ix2 (n0 := 32768) (n1 := 1) ⟨(x 0).val / 16, by omega⟩ 0) = rowIx x := by
      funext a
      match a with
      | ⟨0, _⟩ => rfl
    rw [e, val_main_v1_apply]
    have hlt := hp (rowIx x)
    have hc : IntOp.cmpi .slt (pos (rowIx x)) (val_main_c (F := F) (idx_main_v1 (rowIx x))) = 0#1 := by
      show BitVec.ofBool ((pos (rowIx x)).slt 0#32) = 0#1
      have hn : (pos (rowIx x)).slt 0#32 = false := by
        rw [BitVec.slt, decide_eq_false_iff_not]
        have e0 : (0#32).toInt = 0 := by decide
        have hc := BitVec.toInt_eq_toNat_cond (pos (rowIx x))
        split at hc <;> omega
      rw [hn]; rfl
    rw [hc]
    show (if (0#1 : BitVec 1) = 1#1 then _ else pos (rowIx x)) = _
    rw [if_neg (by decide)]
    exact BitVec.eq_of_toNat_eq (by show (pos (rowIx x)).toNat = (BitVec.ofNat 32 (pos (rowIx x)).toNat).toNat; rw [BitVec.toNat_ofNat]; omega)
  · rw [val_main_v0_apply]
    unfold gath
    congr 1
    funext a
    match a with
    | ⟨0, _⟩ =>
      apply Fin.ext
      show (b.val * 2048 + ((x 0).val * 128 + (x 1).val) % 2048) / 128 = 16 * b.val + (x 0).val % 16
      omega
    | ⟨1, _⟩ =>
      apply Fin.ext
      show (b.val * 2048 + ((x 0).val * 128 + (x 1).val) % 2048) % 128 = (x 1).val
      omega

open Cert.ReferenceIdeal Cert.ReferenceIdeal.Gen Cert.ReferenceIdeal.Read in
theorem refIdeal_value (x0 : S589824x128.Idx → Elt F .f32) (pos : S32768.Idx → BitVec 32) (hp : ∀ k, (pos k).toNat < 36864) :
    val_main_v8 (F := F) x0 pos = gath x0 pos hp :=
  (show val_main_v8 (F := F) x0 pos = Cert.Reference.Read.val_main_v8 (F := F) x0 pos from rfl).trans (ref_value x0 pos hp)

end Cert.Row
end
-- ==== Proof.Ffn.Setup.lean ====
/-
  The expert feed-forward's region: the memory it is entered at, its two tables, its windows' blocks, and where its branches
  go and its output is left alone.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The memory the region finds -/

/-- The buffers after the three casts of the weights. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_arg0 (c : Dev nD) : V m c main_arg0 = m ((c : Thread nD τ).loc main_arg0) := by
  refine StableHlo.after_of_forall_not_mem (b := Proc.devRef .tc main_arg0) _ _ (List.forall_iff_forall_mem.mp ?_)
  simp only [hostOps0, List.Forall, StableHlo.unary_writes, Finset.mem_singleton]
  refine ⟨?_, ?_, ?_⟩ <;> exact StableHlo.devRef_ne_of_ne (by decide)
theorem V_arg1 (c : Dev nD) : V m c main_arg1 = m ((c : Thread nD τ).loc main_arg1) := by
  refine StableHlo.after_of_forall_not_mem (b := Proc.devRef .tc main_arg1) _ _ (List.forall_iff_forall_mem.mp ?_)
  simp only [hostOps0, List.Forall, StableHlo.unary_writes, Finset.mem_singleton]
  refine ⟨?_, ?_, ?_⟩ <;> exact StableHlo.devRef_ne_of_ne (by decide)
theorem V_arg2 (c : Dev nD) : V m c main_arg2 = m ((c : Thread nD τ).loc main_arg2) := by
  refine StableHlo.after_of_forall_not_mem (b := Proc.devRef .tc main_arg2) _ _ (List.forall_iff_forall_mem.mp ?_)
  simp only [hostOps0, List.Forall, StableHlo.unary_writes, Finset.mem_singleton]
  refine ⟨?_, ?_, ?_⟩ <;> exact StableHlo.devRef_ne_of_ne (by decide)
theorem V_arg3 (c : Dev nD) : V m c main_arg3 = m ((c : Thread nD τ).loc main_arg3) := by
  refine StableHlo.after_of_forall_not_mem (b := Proc.devRef .tc main_arg3) _ _ (List.forall_iff_forall_mem.mp ?_)
  simp only [hostOps0, List.Forall, StableHlo.unary_writes, Finset.mem_singleton]
  refine ⟨?_, ?_, ?_⟩ <;> exact StableHlo.devRef_ne_of_ne (by decide)
theorem V_arg4 (c : Dev nD) : V m c main_arg4 = m ((c : Thread nD τ).loc main_arg4) := by
  refine StableHlo.after_of_forall_not_mem (b := Proc.devRef .tc main_arg4) _ _ (List.forall_iff_forall_mem.mp ?_)
  simp only [hostOps0, List.Forall, StableHlo.unary_writes, Finset.mem_singleton]
  refine ⟨?_, ?_, ?_⟩ <;> exact StableHlo.devRef_ne_of_ne (by decide)
theorem V_arg5 (c : Dev nD) : V m c main_arg5 = m ((c : Thread nD τ).loc main_arg5) := by
  refine StableHlo.after_of_forall_not_mem (b := Proc.devRef .tc main_arg5) _ _ (List.forall_iff_forall_mem.mp ?_)
  simp only [hostOps0, List.Forall, StableHlo.unary_writes, Finset.mem_singleton]
  refine ⟨?_, ?_, ?_⟩ <;> exact StableHlo.devRef_ne_of_ne (by decide)

/-! ## The tables -/

/-- The tables' words: the tiles' experts and their flags. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every window's block lies in its array, at these words. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tE : Memref sig .tc .smem S72 .i32 := Memref.whole main_arg4
abbrev tF : Memref sig .tc .smem S72 .i32 := Memref.whole main_arg5

/-- A table's buffer, and half of it held. -/
abbrev TBuf (c : Dev nD) {S : Shape} {e : EltTy} (M : Memref sig .tc .smem S e) : Type := Buf (Elt F) (M.view.loc (c : Thread nD τ))
abbrev tHeld (c : Dev nD) {S : Shape} {e : EltTy} (M : Memref sig .tc .smem S e) (f : TBuf (F := F) c M) : sProp 𝕄 :=
  M.view.loc (c : Thread nD τ) ↦{fullShare.right} f

theorem PhiT_eq (c : Dev nD) : (Pipeline.ΦT pre0 (tbl m) c : sProp 𝕄) = iprop(tHeld c tE (tbl m 0) ∗ tHeld c tF (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0 (hO : Ok m) {c : Dev nD} (dat : Dat τ (Elt F) Unit ℕ (UR sig nD τ) ℕ (cfgM m hO) c)
    (hA : dat.A 0 = V m c (Pipeline.arrRef spec0 0)) (hafter : ∀ t, dat.after 0 t = iblk m hO c 0 t)
    (t : Fin (cfgM m hO).N) (d) : dat.before 0 t d = iblk m hO c 0 t := by
  refine (dat.before_in_eq_fetched 0 rfl (fun _ => rfl) (fun _ _ _ => rfl) (fun t => ?_) t d).trans ?_
  · rw [hafter]; unfold Dat.blockOf iblk; rw [hA]; try rfl
  · unfold Dat.fetched Dat.blockOf iblk; rw [hA]; try rfl
theorem before1 (hO : Ok m) {c : Dev nD} (dat : Dat τ (Elt F) Unit ℕ (UR sig nD τ) ℕ (cfgM m hO) c)
    (hA : dat.A 1 = V m c (Pipeline.arrRef spec0 1)) (hafter : ∀ t, dat.after 1 t = iblk m hO c 1 t)
    (t : Fin (cfgM m hO).N) (d) : dat.before 1 t d = iblk m hO c 1 t := by
  refine (dat.before_in_eq_fetched 1 rfl (fun _ => rfl) (fun _ _ _ => rfl) (fun t => ?_) t d).trans ?_
  · rw [hafter]; unfold Dat.blockOf iblk; rw [hA]; try rfl
  · unfold Dat.fetched Dat.blockOf iblk; rw [hA]; try rfl
theorem before2 (hO : Ok m) {c : Dev nD} (dat : Dat τ (Elt F) Unit ℕ (UR sig nD τ) ℕ (cfgM m hO) c)
    (hA : dat.A 2 = V m c (Pipeline.arrRef spec0 2)) (hafter : ∀ t, dat.after 2 t = iblk m hO c 2 t)
    (t : Fin (cfgM m hO).N) (d) : dat.before 2 t d = iblk m hO c 2 t := by
  refine (dat.before_in_eq_fetched 2 rfl (fun _ => rfl) (fun _ _ _ => rfl) (fun t => ?_) t d).trans ?_
  · rw [hafter]; unfold Dat.blockOf iblk; rw [hA]; try rfl
  · unfold Dat.fetched Dat.blockOf iblk; rw [hA]; try rfl
theorem before3 (hO : Ok m) {c : Dev nD} (dat : Dat τ (Elt F) Unit ℕ (UR sig nD τ) ℕ (cfgM m hO) c)
    (hA : dat.A 3 = V m c (Pipeline.arrRef spec0 3)) (hafter : ∀ t, dat.after 3 t = iblk m hO c 3 t)
    (t : Fin (cfgM m hO).N) (d) : dat.before 3 t d = iblk m hO c 3 t := by
  refine (dat.before_in_eq_fetched 3 rfl (fun _ => rfl) (fun _ _ _ => rfl) (fun t => ?_) t d).trans ?_
  · rw [hafter]; unfold Dat.blockOf iblk; rw [hA]; try rfl
  · unfold Dat.fetched Dat.blockOf iblk; rw [hA]; try rfl

/-! ## The grid's coordinates and the branches -/

theorem tile_of (t : Fin grid0.N) : (grid0.coords t 0).val = t.val / 14 := by
  have ht : t.val < 1008 := Nat.lt_of_lt_of_eq t.isLt N_0
  have e : (grid0.coords t 0).val = t.val / 14 % 72 := Pipeline.Grid.coords_val t 0 (by decide) rfl
  omega
theorem part_of (t : Fin grid0.N) : (grid0.coords t 1).val = t.val % 14 := by
  have e : (grid0.coords t 1).val = t.val / 1 % 14 := Pipeline.Grid.coords_val t 1 (by decide) rfl
  omega

abbrev isFirst (i : grid0.Coords) : Prop := (Scalar.cmpi .ne (Scalar.extui (Scalar.cmpi .eq (BitVec.ofNat 32 (i 1).val) 0#32)) 0#32) = 1#1
abbrev isMid (i : grid0.Coords) : Prop := (Scalar.cmpi .ne (Scalar.extui (Scalar.andi (Scalar.cmpi .sgt (BitVec.ofNat 32 (i 1).val) 0#32) (Scalar.cmpi .slt (BitVec.ofNat 32 (i 1).val) 13#32))) 0#32) = 1#1
abbrev isLast (i : grid0.Coords) : Prop := k0_cond6 i = 1#1

theorem isFirst_iff (i : grid0.Coords) : isFirst i ↔ (i 1).val = 0 := by
  have hi : (i 1).val < 14 := (i 1).isLt
  simp only [isFirst]
  generalize (i 1).val = n at hi ⊢
  word_cmp
theorem isLast_iff (i : grid0.Coords) : isLast i ↔ (i 1).val = 13 := by
  have hi : (i 1).val < 14 := (i 1).isLt
  simp only [isLast, k0_cond6]
  generalize (i 1).val = n at hi ⊢
  word_cmp
theorem isMid_iff (i : grid0.Coords) : isMid i ↔ 0 < (i 1).val ∧ (i 1).val < 13 := by
  have hi : (i 1).val < 14 := (i 1).isLt
  simp only [isMid]
  generalize (i 1).val = n at hi ⊢
  exact (by decide +kernel : ∀ k : Fin 14, ((Scalar.cmpi .ne (Scalar.extui (Scalar.andi (Scalar.cmpi .sgt (BitVec.ofNat 32 k.val) 0#32) (Scalar.cmpi .slt (BitVec.ofNat 32 k.val) 13#32))) 0#32) = 1#1) ↔ 0 < k.val ∧ k.val < 13) ⟨n, hi⟩
/-- The tile is computed: its flag is not zero. -/
theorem live_iff (v : BitVec 32) : k0_cond2 v = 1#1 ↔ v ≠ 0#32 := by
  simp only [k0_cond2]
  by_cases h : v = 0#32
  · subst h; decide
  · have : Scalar.cmpi .ne v 0#32 = 1#1 := by simp [Scalar.cmpi, IntOp.cmpi]; first | (rw [bne_iff_ne.mpr h]; rfl) | (rw [beq_eq_false_iff_ne.mpr h]; rfl)
    rw [this]; simp only [ne_eq, h, not_false_eq_true, iff_true]; decide
/-- The tile is filled with zeros: its flag is zero and the point its first. -/
theorem fill_iff (i : grid0.Coords) (v : BitVec 32) : k0_cond1 i v = 1#1 ↔ v = 0#32 ∧ (i 1).val = 0 := by
  have hf := isFirst_iff i
  simp only [isFirst] at hf
  have hb : Scalar.cmpi .eq (BitVec.ofNat 32 (i 1).val) 0#32 = 1#1 ↔ (i 1).val = 0 := by
    rw [← hf]
    generalize Scalar.cmpi .eq (BitVec.ofNat 32 (i 1).val) 0#32 = b
    revert b; decide
  simp only [k0_cond1]
  rw [← hb]
  generalize Scalar.cmpi .eq (BitVec.ofNat 32 (i 1).val) 0#32 = b
  by_cases h : v = 0#32
  · subst h
    simp only [_root_.true_and]
    revert b; decide
  · have : Scalar.cmpi .eq v 0#32 = 0#1 := by simp [Scalar.cmpi, IntOp.cmpi]; first | (rw [bne_iff_ne.mpr h]; rfl) | (rw [beq_eq_false_iff_ne.mpr h]; rfl)
    rw [this]; simp only [h, _root_.false_and, iff_false]
    revert b; decide

/-! ## The flag a point reads -/

/-- Tile `n`'s index in a table. -/
abbrev tx (n : Fin 72) : S72.Idx := fun a => ⟨n.val, by obtain rfl : a = 0 := Subsingleton.elim _ _; exact n.isLt⟩
/-- Tile `i`'s flag and expert. -/
abbrev flagAt (pf : pre0.Contents (Elt F)) (i : grid0.Coords) : BitVec 32 := pf 1 (tx ⟨(i 0).val, (i 0).isLt⟩)
abbrev expAt (pf : pre0.Contents (Elt F)) (i : grid0.Coords) : BitVec 32 := pf 0 (tx ⟨(i 0).val, (i 0).isLt⟩)

theorem atD_flag (pf : pre0.Contents (Elt F)) (i : grid0.Coords) : pf.atD 1 (k0_off1 i) = flagAt pf i := by
  rw [k0_off1_eq]
  unfold Pipeline.Prefetch.Contents.atD
  rw [dif_pos]
  · refine congrArg (pf 1) (funext fun (a : Fin 1) => ?_)
    obtain rfl : a = 0 := Subsingleton.elim _ _; rfl
  · intro (a : Fin 1); obtain rfl : a = 0 := Subsingleton.elim _ _
    have hi : (i 0).val < 72 := (i 0).isLt
    exact hi
theorem off12 (i : grid0.Coords) : k0_off2 i = k0_off1 i := rfl

/-- The output is left alone except where a tile is filled or finished. -/
theorem idle4_iff (pf : pre0.Contents (Elt F)) (i : grid0.Coords) : idle0 pf 4 i = true ↔
    ¬ (flagAt pf i = 0#32 ∧ (i 1).val = 0) ∧ ¬ (flagAt pf i ≠ 0#32 ∧ (i 1).val = 13) := by
  show (!(k0_cond1 i (pf.atD 1 (k0_off1 i)) == 1#1) && !(k0_cond2 (pf.atD 1 (k0_off2 i)) == 1#1 && k0_cond6 i == 1#1)) = true ↔ _
  rw [off12, atD_flag, ← fill_iff, ← live_iff, ← isLast_iff]
  rw [Bool.and_eq_true, Bool.not_eq_true', Bool.not_eq_true', Bool.and_eq_false_iff, beq_eq_false_iff_ne, beq_eq_false_iff_ne, beq_eq_false_iff_ne]
  constructor
  · rintro ⟨a, b⟩; exact ⟨a, fun ⟨x, y⟩ => b.elim (fun h => h x) (fun h => h y)⟩
  · rintro ⟨a, b⟩; exact ⟨a, (Classical.em (k0_cond2 (flagAt pf i) = 1#1)).elim (fun h => .inr fun h' => b ⟨h, h'⟩) .inl⟩

theorem flush4 (hO : Ok m) : ∀ t : Fin (cfgM m hO).N, ((cfgM m hO).win 4).flush t = true ↔ t.val % 14 = 13 :=
  (fun t => Pipeline.Window.flushOf_reads cc0_transform_4 reads0_4 hreads0_4 0 (by decide) (by decide) (Pipeline.Window.sep_of_coord cc0_transform_4 0 0 (fun _ => rfl) (by decide)) (P := 14) (m := 13) (by decide) rfl t
    : ∀ t : Fin grid0.N, Pipeline.Window.flushOf grid0 true cc0_transform_4 t = true ↔ t.val % 14 = 13)

/-! ## The memrefs the body is handed -/

abbrev ms0 (hO : Ok m) (t : Fin (cfgM m hO).N) : Memref sig .tc .vmem S8192x128 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x2048x512 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x2048x512 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x512x2048 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S8192x128 .f32 := spec0_4.stage ((cfgM m hO).slots t 4)
abbrev hs4 (hO : Ok m) (t : Fin (cfgM m hO).N) : (ms4 m hO t).IsWhole := hstage0_4 (((cfgM m hO).slots t 4).cast nbuf0_4)
abbrev sx : Memref sig .tc .vmem S512x2048 .bf16 := Memref.whole cc0_scratch0
abbrev sa : Memref sig .tc .vmem S512x2048 .f32 := Memref.whole cc0_scratch1

/-- The body at point `t`. -/
abbrev bodyAt (hO : Ok m) (t : Fin (cfgM m hO).N) : Prog (TpuEff nD τ sig (Elt F) Λ₀ .tc) PUnit :=
  cc0_grouped_ffn (grid0.coords t) tE (Memref.isWhole_whole _) tF (Memref.isWhole_whole _)
    (ms0 m hO t) (hs0 m hO t) (ms1 m hO t) (hs1 m hO t) (ms2 m hO t) (hs2 m hO t) (ms3 m hO t) (hs3 m hO t) (ms4 m hO t) (hs4 m hO t)
    sx (Memref.isWhole_whole _) sa (Memref.isWhole_whole _)

theorem PhiA_eq (c : Dev nD) :
    (Pipeline.ΦA spec0 c : sProp 𝕄)
      = iprop(iprop((∃ d, owns (c : Thread nD τ) sx fullShare d) ∗ (∃ d, owns (c : Thread nD τ) sa fullShare d)) ∗ (∃ r, prngReg c r)) := by
  unfold Pipeline.ΦA; rw [scopedRest0_eq]; simp only [sx, sa, owns_whole]; try rfl

end Cert.Kernel2Ideal.Ffn

end
-- ==== Proof.Ffn.Pieces.lean ====
/-
  What the expert feed-forward's body loads and stores, piece by piece, and what a point holds.
-/
module

public import proofs.«01_k».proof.Proof.Ffn.Setup
public import Idealize.ShloMosaic.Lib.Pipeline.Value

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A tile's rows out of its chunk rows: 16 chunk rows of 128 make a row of 2048. -/
def rowsOf (x : Vec F S8192x128 .f32) : Vec F S512x2048 .f32 := fun y =>
  x (fun a => match a with
    | 0 => ⟨16 * (y 0).val + (y 1).val / 128, by have h0 : (y 0).val < 512 := (y 0).isLt; have h1 : (y 1).val < 2048 := (y 1).isLt; show _ < 8192; omega⟩
    | 1 => ⟨(y 1).val % 128, Nat.mod_lt _ (by decide)⟩)
/-- and back. -/
def chunksOf (o : Vec F S512x2048 .f32) : Vec F S8192x128 .f32 := fun r =>
  o (fun a => match a with
    | 0 => ⟨(r 0).val / 16, by have h0 : (r 0).val < 8192 := (r 0).isLt; show _ < 512; omega⟩
    | 1 => ⟨128 * ((r 0).val % 16) + (r 1).val, by have h1 : (r 1).val < 128 := (r 1).isLt; show _ < 2048; omega⟩)
/-- The rows as the products take them. -/
def xbOf (x : Vec F S8192x128 .f32) : Vec F S512x2048 .bf16 := truncf .bf16 (rowsOf x) bitsLt_bf16_f32

/-! ## Stores that fill a block piece by piece -/

theorem cov_here {S : Shape} {e : EltTy} {a : View.Piece (Elt F) S e} {L : List (View.Piece (Elt F) S e)} {y : S.Idx} (h : y ∈ a.1.set) :
    ∃ p ∈ a :: L, y ∈ p.1.set := ⟨a, List.mem_cons_self, h⟩
theorem cov_there {S : Shape} {e : EltTy} {a : View.Piece (Elt F) S e} {L : List (View.Piece (Elt F) S e)} {y : S.Idx} (h : ∃ p ∈ L, y ∈ p.1.set) :
    ∃ p ∈ a :: L, y ∈ p.1.set := let ⟨p, hp, hy⟩ := h; ⟨p, List.mem_cons_of_mem _ hp, hy⟩

theorem read_pieces {S : Shape} {e : EltTy} {sp : Space} (M : Memref sig .tc sp S e) (f : M.view.ty.Contents (Elt F)) (L : List (View.Piece (Elt F) S e))
    (G : S.Idx → Elt F e) (hL : ∀ p ∈ L, ∀ x : p.1.shape.Idx, p.2 x = G (p.1.emb x)) (hc : ∀ y, ∃ p ∈ L, y ∈ p.1.set) :
    M.view.read (Elt F) (M.view.writes (Elt F) f L) = G :=
  (View.read_writes_eq_canon M.view f L hc).trans (funext fun y => View.canon_apply_of_pieces G L hL y (hc y))
theorem cov_pieces {S : Shape} {e : EltTy} {sp : Space} (M : Memref sig .tc sp S e) (L : List (View.Piece (Elt F) S e))
    (G : S.Idx → Elt F e) (hL : ∀ p ∈ L, ∀ x : p.1.shape.Idx, p.2 x = G (p.1.emb x)) (hc : ∀ y, ∃ p ∈ L, y ∈ p.1.set)
    {off : Fin S.rank → Nat} (h : off = fun _ => 0) (inb : ∀ a, off a + S.size a ≤ S.size a) :
    M.view.readCov L (Rect.unit off S.size inb).toLoadRect = G := by
  rw [View.readCov_eq_canon_ld _ _ _ hc, View.ld_unit_zero h]
  exact funext fun y => View.canon_apply_of_pieces G L hL y (hc y)
theorem load_whole {S : Shape} {e : EltTy} {sp : Space} (M : Memref sig .tc sp S e) (hM : M.IsWhole) (X : S.Idx → Elt F e)
    {off : Fin S.rank → Nat} (h : off = fun _ => 0) (inb : ∀ a, off a + S.size a ≤ S.size a) :
    M.view.readAt (Elt F) (Rect.unit off S.size inb).toLoadRect (hM.unread X) = X := by
  rw [View.readAt_eq_ld, hM.read_unread, View.ld_unit_zero h]

theorem zero2 : (![0, 0] : Fin 2 → Nat) = fun _ => 0 := by decide
theorem zero3 : (![0, 0, 0] : Fin 3 → Nat) = fun _ => 0 := by decide

theorem mem_col (n : Nat) (inb : ∀ a, (![0, 128 * n] : Fin 2 → Nat) a + (![512, 128] : Fin 2 → Nat) a ≤ S512x2048.size a) (y : S512x2048.Idx)
    (h : (y 1).val / 128 = n) : y ∈ (Rect.unit (s := S512x2048) ![0, 128 * n] ![512, 128] inb).set := by
  rw [LoadRect.mem_set]
  intro (a : Fin 2)
  match a with
  | 0 => exact ⟨(y 0).val, (y 0).isLt, show (y 0).val = 0 + 1 * (y 0).val by omega⟩
  | 1 => exact ⟨(y 1).val % 128, Nat.mod_lt _ (by decide), show (y 1).val = 128 * n + 1 * ((y 1).val % 128) by omega⟩
theorem mem_row (n : Nat) (inb) (pos) (y : S8192x128.Idx) (h : (y 0).val % 16 = n) :
    y ∈ (⟨⟨![n, 0], ![512, 128], ![16, 1], inb⟩, pos⟩ : Rect S8192x128).set := by
  rw [LoadRect.mem_set]
  intro (a : Fin 2)
  have h0 : (y 0).val < 8192 := (y 0).isLt
  match a with
  | 0 => exact ⟨(y 0).val / 16, show (y 0).val / 16 < 512 by omega, show (y 0).val = n + 16 * ((y 0).val / 16) by omega⟩
  | 1 => exact ⟨(y 1).val, (y 1).isLt, show (y 1).val = 0 + 1 * (y 1).val by omega⟩

theorem idx2 {p q : Nat} (f g : (a : Fin 2) → Fin ((![p, q] : Fin 2 → Nat) a)) (h0 : (f 0).val = (g 0).val) (h1 : (f 1).val = (g 1).val) : f = g := by
  funext a
  match a with
  | 0 => exact Fin.ext h0
  | 1 => exact Fin.ext h1

/-- Chunk column `n` of the rows is every 16th chunk row, from row `n`. -/
theorem xb_piece (arg4 : Memref sig .tc .vmem S8192x128 .f32) (harg4 : arg4.IsWhole) (x : Vec F S8192x128 .f32) (n : Nat) (hn : n < 16) (inb4) (inb)
    (hb) (hs) (y : S512x128.Idx) :
    shapeCast S512x128 (truncf (F := F) .bf16 (arg4.view.readAt (Elt F) (⟨![n, 0], ![512, 128], ![16, 1], inb4⟩ : LoadRect S8192x128) (harg4.unread x)) hb) hs y
      = xbOf x ((Rect.unit (s := S512x2048) ![0, 128 * n] ![512, 128] inb).emb y) := by
  rw [shapeCast_self]
  have h0 : (y 0).val < 512 := (y 0).isLt
  have h1 : (y 1).val < 128 := (y 1).isLt
  have e : arg4.view.readAt (Elt F) (⟨![n, 0], ![512, 128], ![16, 1], inb4⟩ : LoadRect S8192x128) (harg4.unread x) y
      = rowsOf x ((Rect.unit (s := S512x2048) ![0, 128 * n] ![512, 128] inb).emb y) := by
    show arg4.view.read (Elt F) (harg4.unread x) ((⟨![n, 0], ![512, 128], ![16, 1], inb4⟩ : LoadRect S8192x128).idx y) = _
    rw [harg4.read_unread]
    refine congrArg x (idx2 _ _ ?_ ?_)
    · show n + 16 * (y 0).val = 16 * (0 + 1 * (y 0).val) + (128 * n + 1 * (y 1).val) / 128; omega
    · show 0 + 1 * (y 1).val = (128 * n + 1 * (y 1).val) % 128; omega
  exact congrArg (FloatOps.truncf .bf16 bitsLt_bf16_f32) e

/-- and back, of a sum. -/
theorem out_piece (arg10 : Memref sig .tc .vmem S512x2048 .f32) (harg10 : arg10.IsWhole) (a p : Vec F S512x2048 .f32) (n : Nat) (hn : n < 16) (inb) (inb8) (pos)
    (hs) (y : S512x128.Idx) :
    addf (F := F) (arg10.view.readAt (Elt F) (Rect.unit (s := S512x2048) ![0, 128 * n] ![512, 128] inb).toLoadRect (harg10.unread a))
        (extractStridedSlice S512x128 ![0, 128 * n] p hs) y
      = chunksOf (addf a p) ((⟨⟨![n, 0], ![512, 128], ![16, 1], inb8⟩, pos⟩ : Rect S8192x128).emb y) := by
  have h0 : (y 0).val < 512 := (y 0).isLt
  have h1 : (y 1).val < 128 := (y 1).isLt
  let k : S512x2048.Idx := (Rect.unit (s := S512x2048) ![0, 128 * n] ![512, 128] inb).emb y
  have ea : arg10.view.readAt (Elt F) (Rect.unit (s := S512x2048) ![0, 128 * n] ![512, 128] inb).toLoadRect (harg10.unread a) y = a k := by
    show arg10.view.read (Elt F) (harg10.unread a) k = a k
    rw [harg10.read_unread]
  have ep : extractStridedSlice S512x128 ![0, 128 * n] p hs y = p k := by
    refine extractStridedSlice_apply _ _ _ y k fun (b : Fin 2) => ?_
    match b with
    | 0 => show 0 + 1 * (y 0).val = 0 + (y 0).val; omega
    | 1 => show 128 * n + 1 * (y 1).val = 128 * n + (y 1).val; omega
  have ek : chunksOf (addf a p) ((⟨⟨![n, 0], ![512, 128], ![16, 1], inb8⟩, pos⟩ : Rect S8192x128).emb y) = addf a p k := by
    refine congrArg (addf a p) (idx2 _ _ ?_ ?_)
    · show (n + 16 * (y 0).val) / 16 = 0 + 1 * (y 0).val; omega
    · show 128 * ((n + 16 * (y 0).val) % 16) + (0 + 1 * (y 1).val) = 128 * n + 1 * (y 1).val; omega
  rw [ek]
  show FloatOps.addf _ _ = FloatOps.addf _ _
  rw [ea, ep]

section Run

variable (c : Dev nD) (i : grid0.Coords)
  (arg4 : Memref sig .tc .vmem S8192x128 .f32) (harg4 : arg4.IsWhole) (arg5 : Memref sig .tc .vmem S1x2048x512 .bf16) (harg5 : arg5.IsWhole)
  (arg6 : Memref sig .tc .vmem S1x2048x512 .bf16) (harg6 : arg6.IsWhole) (arg7 : Memref sig .tc .vmem S1x512x2048 .bf16) (harg7 : arg7.IsWhole)
  (arg8 : Memref sig .tc .vmem S8192x128 .f32) (harg8 : arg8.IsWhole) (arg9 : Memref sig .tc .vmem S512x2048 .bf16) (harg9 : arg9.IsWhole)
  (arg10 : Memref sig .tc .vmem S512x2048 .f32) (harg10 : arg10.IsWhole)

/-- What a point holds: its five windows, its two scratch buffers, its flags. -/
abbrev held (x : Vec F S8192x128 .f32) (g u : Vec F S1x2048x512 .bf16) (d : Vec F S1x512x2048 .bf16) (o : Vec F S8192x128 .f32)
    (b : Vec F S512x2048 .bf16) (a : Vec F S512x2048 .f32) (t : TBuf (F := F) c tF) : sProp 𝕄 :=
  iprop(owns (c : Thread nD τ) arg4 fullShare x ∗ owns (c : Thread nD τ) arg5 fullShare g ∗ owns (c : Thread nD τ) arg6 fullShare u
    ∗ owns (c : Thread nD τ) arg7 fullShare d ∗ owns (c : Thread nD τ) arg8 fullShare o ∗ owns (c : Thread nD τ) arg9 fullShare b
    ∗ owns (c : Thread nD τ) arg10 fullShare a ∗ tHeld c tF t)

/-- The body at the point. -/
abbrev bodyOn : Prog (TpuEff nD τ sig (Elt F) Λ₀ .tc) PUnit :=
  cc0_grouped_ffn i tE (Memref.isWhole_whole _) tF (Memref.isWhole_whole _) arg4 harg4 arg5 harg5 arg6 harg6 arg7 harg7 arg8 harg8 arg9 harg9 arg10 harg10

variable (x : Vec F S8192x128 .f32) (g u : Vec F S1x2048x512 .bf16) (d : Vec F S1x512x2048 .bf16) (o : Vec F S8192x128 .f32)
    (b : Vec F S512x2048 .bf16) (a : Vec F S512x2048 .f32) (t : TBuf (F := F) c tF)

/-- The word the body reads for the tile's flag. -/
abbrev word : BitVec 32 := tF.view.readAt (Elt F) (Rect.unit (s := S72) (k0_off1 i) S1.size (k0_off1_inb i)).toLoadRect t (Shape.Idx.first (show 0 < S1.numel by decide))
abbrev word2 : BitVec 32 := tF.view.readAt (Elt F) (Rect.unit (s := S72) (k0_off2 i) S1.size (k0_off2_inb i)).toLoadRect t (Shape.Idx.first (show 0 < S1.numel by decide))
theorem flag_read : word c i t = t (tx ⟨(i 0).val, (i 0).isLt⟩) := by
  refine congrArg t (funext fun (a : Fin 1) => ?_)
  obtain rfl : a = 0 := Subsingleton.elim _ _
  apply Fin.ext
  have e : k0_off1 i 0 = (i 0).val := by rw [k0_off1_eq]; rfl
  exact e
theorem flag_read2 : word2 c i t = t (tx ⟨(i 0).val, (i 0).isLt⟩) := flag_read c i t

end Run

end Cert.Kernel2Ideal.Ffn

end
-- ==== Proof.Ffn.RunFirst.lean ====
/-
  The expert feed-forward's body, at the first point of a computed tile.
-/
module

public import proofs.«01_k».proof.Proof.Ffn.Pieces

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (c : Dev nD) (i : grid0.Coords)
  (arg4 : Memref sig .tc .vmem S8192x128 .f32) (harg4 : arg4.IsWhole) (arg5 : Memref sig .tc .vmem S1x2048x512 .bf16) (harg5 : arg5.IsWhole)
  (arg6 : Memref sig .tc .vmem S1x2048x512 .bf16) (harg6 : arg6.IsWhole) (arg7 : Memref sig .tc .vmem S1x512x2048 .bf16) (harg7 : arg7.IsWhole)
  (arg8 : Memref sig .tc .vmem S8192x128 .f32) (harg8 : arg8.IsWhole) (arg9 : Memref sig .tc .vmem S512x2048 .bf16) (harg9 : arg9.IsWhole)
  (arg10 : Memref sig .tc .vmem S512x2048 .f32) (harg10 : arg10.IsWhole)

variable (x : Vec F S8192x128 .f32) (g u : Vec F S1x2048x512 .bf16) (d : Vec F S1x512x2048 .bf16) (o : Vec F S8192x128 .f32)
    (b : Vec F S512x2048 .bf16) (a : Vec F S512x2048 .f32) (t : TBuf (F := F) c tF)

set_option maxHeartbeats 1000000 in
/-- The first point of a computed tile: the rows kept in their narrow type, and the first part. -/
theorem run_first (hf : t (tx ⟨(i 0).val, (i 0).isLt⟩) ≠ 0#32) (h0 : (i 1).val = 0) (E : Set ℕ) (K : PUnit → sProp 𝕄) :
    iprop(held c arg4 arg5 arg6 arg7 arg8 arg9 arg10 x g u d o b a t
        ∗ (held c arg4 arg5 arg6 arg7 arg8 arg9 arg10 x g u d o (xbOf x) (k0_pay6 (xbOf x) g u d) t -∗ K ⟨⟩))
      ⊢ wp frame (wpE (defs₀ (F := F)) Variants.none c none) E
        (bodyOn i arg4 harg4 arg5 harg5 arg6 harg6 arg7 harg7 arg8 harg8 arg9 harg9 arg10 harg10) K := by
  have hc0 : isFirst i := (isFirst_iff i).mpr h0
  have hc1 : ¬ isMid i := fun h => by have := (isMid_iff i).mp h; omega
  have hc2 : ¬ isLast i := fun h => by have := (isLast_iff i).mp h; omega
  have hc3 : k0_cond2 (word2 c i t) = 1#1 := (live_iff _).mpr fun e => hf ((flag_read2 c i t).symm.trans e)
  have hc4 : ¬ k0_cond1 i (word c i t) = 1#1 := fun h => hf ((flag_read c i t).symm.trans ((fill_iff _ _).mp h).1)
  unfold bodyOn
  simp only [cc0_grouped_ffn_eq_skeleton]; unfold cc0_grouped_ffn_skel
  simp only [k0_part1_eq_skeleton, k0_part2_eq_skeleton, k0_part3_eq_skeleton, k0_part4_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT⟩, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hf5; obtain rfl := harg10.eq_unread hf6
  sl_exec (disch := first | sl_exact hc0 | sl_exact hc1 | sl_exact hc2 | sl_exact hc3 | sl_exact hc4)
  have hL : ∀ p ∈ run_first.sl.H5_16 c arg4 harg4 x, ∀ y : p.1.shape.Idx, p.2 y = xbOf x (p.1.emb y) := by
    unfold run_first.sl.H5_16
    refine List.forall_mem_cons.mpr ⟨fun y => xb_piece arg4 harg4 x 15 (by decide) _ inb_S512x2048_S512x128_0_1920 _ _ y, ?_⟩
    refine List.forall_mem_cons.mpr ⟨fun y => xb_piece arg4 harg4 x 14 (by decide) _ inb_S512x2048_S512x128_0_1792 _ _ y, ?_⟩
    refine List.forall_mem_cons.mpr ⟨fun y => xb_piece arg4 harg4 x 13 (by decide) _ inb_S512x2048_S512x128_0_1664 _ _ y, ?_⟩
    refine List.forall_mem_cons.mpr ⟨fun y => xb_piece arg4 harg4 x 12 (by decide) _ inb_S512x2048_S512x128_0_1536 _ _ y, ?_⟩
    refine List.forall_mem_cons.mpr ⟨fun y => xb_piece arg4 harg4 x 11 (by decide) _ inb_S512x2048_S512x128_0_1408 _ _ y, ?_⟩
    refine List.forall_mem_cons.mpr ⟨fun y => xb_piece arg4 harg4 x 10 (by decide) _ inb_S512x2048_S512x128_0_1280 _ _ y, ?_⟩
    refine List.forall_mem_cons.mpr ⟨fun y => xb_piece arg4 harg4 x 9 (by decide) _ inb_S512x2048_S512x128_0_1152 _ _ y, ?_⟩
    refine List.forall_mem_cons.mpr ⟨fun y => xb_piece arg4 harg4 x 8 (by decide) _ inb_S512x2048_S512x128_0_1024 _ _ y, ?_⟩
    refine List.forall_mem_cons.mpr ⟨fun y => xb_piece arg4 harg4 x 7 (by decide) _ inb_S512x2048_S512x128_0_896 _ _ y, ?_⟩
    refine List.forall_mem_cons.mpr ⟨fun y => xb_piece arg4 harg4 x 6 (by decide) _ inb_S512x2048_S512x128_0_768 _ _ y, ?_⟩
    refine List.forall_mem_cons.mpr ⟨fun y => xb_piece arg4 harg4 x 5 (by decide) _ inb_S512x2048_S512x128_0_640 _ _ y, ?_⟩
    refine List.forall_mem_cons.mpr ⟨fun y => xb_piece arg4 harg4 x 4 (by decide) _ inb_S512x2048_S512x128_0_512 _ _ y, ?_⟩
    refine List.forall_mem_cons.mpr ⟨fun y => xb_piece arg4 harg4 x 3 (by decide) _ inb_S512x2048_S512x128_0_384 _ _ y, ?_⟩
    refine List.forall_mem_cons.mpr ⟨fun y => xb_piece arg4 harg4 x 2 (by decide) _ inb_S512x2048_S512x128_0_256 _ _ y, ?_⟩
    refine List.forall_mem_cons.mpr ⟨fun y => xb_piece arg4 harg4 x 1 (by decide) _ inb_S512x2048_S512x128_0_128 _ _ y, ?_⟩
    refine List.forall_mem_cons.mpr ⟨fun y => xb_piece arg4 harg4 x 0 (by decide) _ inb_S512x2048_S512x128_0_0 _ _ y, ?_⟩
    exact fun _ h => absurd h List.not_mem_nil
  have hC : ∀ y, ∃ p ∈ run_first.sl.H5_16 c arg4 harg4 x, y ∈ p.1.set := by
    intro y
    unfold run_first.sl.H5_16
    have hn : (y 1).val / 128 < 16 := by have h1 : (y 1).val < 2048 := (y 1).isLt; omega
    have ho : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 ∨ (y 1).val / 128 = 8 ∨ (y 1).val / 128 = 9 ∨ (y 1).val / 128 = 10 ∨ (y 1).val / 128 = 11
        ∨ (y 1).val / 128 = 12 ∨ (y 1).val / 128 = 13 ∨ (y 1).val / 128 = 14 ∨ (y 1).val / 128 = 15 := by omega
    rcases ho with hk | hk | hk | hk | hk | hk | hk | hk | hk | hk | hk | hk | hk | hk | hk | hk
    · exact cov_there (cov_there (cov_there (cov_there (cov_there (cov_there (cov_there (cov_there (cov_there (cov_there (cov_there (cov_there (cov_there (cov_there (cov_there (cov_here (mem_col 0 inb_S512x2048_S512x128_0_0 y hk))))))))))))))))
    · exact cov_there (cov_there (cov_there (cov_there (cov_there (cov_there (cov_there (cov_there (cov_there (cov_there (cov_there (cov_there (cov_there (cov_there (cov_here (mem_col 1 inb_S512x2048_S512x128_0_128 y hk)))))))))))))))
    · exact cov_there (cov_there (cov_there (cov_there (cov_there (cov_there (cov_there (cov_there (cov_there (cov_there (cov_there (cov_there (cov_there (cov_here (mem_col 2 inb_S512x2048_S512x128_0_256 y hk))))))))))))))
    · exact cov_there (cov_there (cov_there (cov_there (cov_there (cov_there (cov_there (cov_there (cov_there (cov_there (cov_there (cov_there (cov_here (mem_col 3 inb_S512x2048_S512x128_0_384 y hk)))))))))))))
    · exact cov_there (cov_there (cov_there (cov_there (cov_there (cov_there (cov_there (cov_there (cov_there (cov_there (cov_there (cov_here (mem_col 4 inb_S512x2048_S512x128_0_512 y hk))))))))))))
    · exact cov_there (cov_there (cov_there (cov_there (cov_there (cov_there (cov_there (cov_there (cov_there (cov_there (cov_here (mem_col 5 inb_S512x2048_S512x128_0_640 y hk)))))))))))
    · exact cov_there (cov_there (cov_there (cov_there (cov_there (cov_there (cov_there (cov_there (cov_there (cov_here (mem_col 6 inb_S512x2048_S512x128_0_768 y hk))))))))))
    · exact cov_there (cov_there (cov_there (cov_there (cov_there (cov_there (cov_there (cov_there (cov_here (mem_col 7 inb_S512x2048_S512x128_0_896 y hk)))))))))
    · exact cov_there (cov_there (cov_there (cov_there (cov_there (cov_there (cov_there (cov_here (mem_col 8 inb_S512x2048_S512x128_0_1024 y hk))))))))
    · exact cov_there (cov_there (cov_there (cov_there (cov_there (cov_there (cov_here (mem_col 9 inb_S512x2048_S512x128_0_1152 y hk)))))))
    · exact cov_there (cov_there (cov_there (cov_there (cov_there (cov_here (mem_col 10 inb_S512x2048_S512x128_0_1280 y hk))))))
    · exact cov_there (cov_there (cov_there (cov_there (cov_here (mem_col 11 inb_S512x2048_S512x128_0_1408 y hk)))))
    · exact cov_there (cov_there (cov_there (cov_here (mem_col 12 inb_S512x2048_S512x128_0_1536 y hk))))
    · exact cov_there (cov_there (cov_here (mem_col 13 inb_S512x2048_S512x128_0_1664 y hk)))
    · exact cov_there (cov_here (mem_col 14 inb_S512x2048_S512x128_0_1792 y hk))
    · exact cov_here (mem_col 15 inb_S512x2048_S512x128_0_1920 y hk)
  have hb : run_first.sl.v15 c arg4 harg4 arg9 x = xbOf x := cov_pieces arg9 _ _ hL hC zero2 inb_S512x2048_S512x2048_0_0
  rw [hb]
  sl_step
  iapply Hk
  isplitl [H0]
  · iexists _; isplitr
    rotate_left
    · iexact H0
    ipureintro
    exact harg4.read_unread _
  isplitl [H1]
  · iexists _; isplitr
    rotate_left
    · iexact H1
    ipureintro
    exact harg5.read_unread _
  isplitl [H2]
  · iexists _; isplitr
    rotate_left
    · iexact H2
    ipureintro
    exact harg6.read_unread _
  isplitl [H3]
  · iexists _; isplitr
    rotate_left
    · iexact H3
    ipureintro
    exact harg7.read_unread _
  isplitl [H4]
  · iexists _; isplitr
    rotate_left
    · iexact H4
    ipureintro
    exact harg8.read_unread _
  isplitl [H5]
  · iexists _; isplitr
    rotate_left
    · iexact H5
    ipureintro
    exact read_pieces arg9 _ _ _ hL hC
  isplitl [H6]
  · iexists _; isplitr
    rotate_left
    · iexact H6
    ipureintro
    exact (View.read_writes_eq_canon _ _ _ fun y => ⟨_, List.mem_singleton_self _, View.mem_set_unit_zero zero2 inb_S512x2048_S512x2048_0_0 y⟩).trans ((View.canon_unit_zero zero2 inb_S512x2048_S512x2048_0_0 _).trans ((shapeCast_self _ _).trans (congr (congr (congrArg (k0_pay6 (xbOf x)) (load_whole arg5 harg5 g zero3 inb_S1x2048x512_S1x2048x512_0_0_0)) (load_whole arg6 harg6 u zero3 inb_S1x2048x512_S1x2048x512_0_0_0)) (load_whole arg7 harg7 d zero3 inb_S1x512x2048_S1x512x2048_0_0_0))))
  iexact HT

end Run

end Cert.Kernel2Ideal.Ffn

end
-- ==== Proof.Ffn.RunMid.lean ====
/-
  The expert feed-forward's body, at a middle point of a computed tile.
-/
module

public import proofs.«01_k».proof.Proof.Ffn.Pieces

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (c : Dev nD) (i : grid0.Coords)
  (arg4 : Memref sig .tc .vmem S8192x128 .f32) (harg4 : arg4.IsWhole) (arg5 : Memref sig .tc .vmem S1x2048x512 .bf16) (harg5 : arg5.IsWhole)
  (arg6 : Memref sig .tc .vmem S1x2048x512 .bf16) (harg6 : arg6.IsWhole) (arg7 : Memref sig .tc .vmem S1x512x2048 .bf16) (harg7 : arg7.IsWhole)
  (arg8 : Memref sig .tc .vmem S8192x128 .f32) (harg8 : arg8.IsWhole) (arg9 : Memref sig .tc .vmem S512x2048 .bf16) (harg9 : arg9.IsWhole)
  (arg10 : Memref sig .tc .vmem S512x2048 .f32) (harg10 : arg10.IsWhole)

variable (x : Vec F S8192x128 .f32) (g u : Vec F S1x2048x512 .bf16) (d : Vec F S1x512x2048 .bf16) (o : Vec F S8192x128 .f32)
    (b : Vec F S512x2048 .bf16) (a : Vec F S512x2048 .f32) (t : TBuf (F := F) c tF)

set_option maxHeartbeats 1000000 in
/-- A middle point: its part added. -/
theorem run_mid (hf : t (tx ⟨(i 0).val, (i 0).isLt⟩) ≠ 0#32) (h0 : 0 < (i 1).val) (h1 : (i 1).val < 13) (E : Set ℕ) (K : PUnit → sProp 𝕄) :
    iprop(held c arg4 arg5 arg6 arg7 arg8 arg9 arg10 x g u d o b a t
        ∗ (held c arg4 arg5 arg6 arg7 arg8 arg9 arg10 x g u d o b (addf a (k0_pay6 b g u d)) t -∗ K ⟨⟩))
      ⊢ wp frame (wpE (defs₀ (F := F)) Variants.none c none) E
        (bodyOn i arg4 harg4 arg5 harg5 arg6 harg6 arg7 harg7 arg8 harg8 arg9 harg9 arg10 harg10) K := by
  have hc0 : ¬ isFirst i := fun h => by have := (isFirst_iff i).mp h; omega
  have hc1 : isMid i := (isMid_iff i).mpr ⟨by omega, by omega⟩
  have hc2 : ¬ isLast i := fun h => by have := (isLast_iff i).mp h; omega
  have hc3 : k0_cond2 (word2 c i t) = 1#1 := (live_iff _).mpr fun e => hf ((flag_read2 c i t).symm.trans e)
  have hc4 : ¬ k0_cond1 i (word c i t) = 1#1 := fun h => hf ((flag_read c i t).symm.trans ((fill_iff _ _).mp h).1)
  unfold bodyOn
  simp only [cc0_grouped_ffn_eq_skeleton]; unfold cc0_grouped_ffn_skel
  simp only [k0_part1_eq_skeleton, k0_part2_eq_skeleton, k0_part3_eq_skeleton, k0_part4_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT⟩, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hf5; obtain rfl := harg10.eq_unread hf6
  sl_exec (disch := first | sl_exact hc0 | sl_exact hc1 | sl_exact hc2 | sl_exact hc3 | sl_exact hc4)
  sl_step
  iapply Hk
  isplitl [H0]
  · iexists _; isplitr
    rotate_left
    · iexact H0
    ipureintro
    exact harg4.read_unread _
  isplitl [H1]
  · iexists _; isplitr
    rotate_left
    · iexact H1
    ipureintro
    exact harg5.read_unread _
  isplitl [H2]
  · iexists _; isplitr
    rotate_left
    · iexact H2
    ipureintro
    exact harg6.read_unread _
  isplitl [H3]
  · iexists _; isplitr
    rotate_left
    · iexact H3
    ipureintro
    exact harg7.read_unread _
  isplitl [H4]
  · iexists _; isplitr
    rotate_left
    · iexact H4
    ipureintro
    exact harg8.read_unread _
  isplitl [H5]
  · iexists _; isplitr
    rotate_left
    · iexact H5
    ipureintro
    exact harg9.read_unread _
  isplitl [H6]
  · iexists _; isplitr
    rotate_left
    · iexact H6
    ipureintro
    exact (View.read_writes_eq_canon _ _ _ fun y => ⟨_, List.mem_singleton_self _, View.mem_set_unit_zero zero2 inb_S512x2048_S512x2048_0_0 y⟩).trans ((View.canon_unit_zero zero2 inb_S512x2048_S512x2048_0_0 _).trans ((shapeCast_self _ _).trans (congr (congrArg addf (load_whole arg10 harg10 a zero2 inb_S512x2048_S512x2048_0_0)) (congr (congr (congr (congrArg k0_pay6 (load_whole arg9 harg9 b zero2 inb_S512x2048_S512x2048_0_0)) (load_whole arg5 harg5 g zero3 inb_S1x2048x512_S1x2048x512_0_0_0)) (load_whole arg6 harg6 u zero3 inb_S1x2048x512_S1x2048x512_0_0_0)) (load_whole arg7 harg7 d zero3 inb_S1x512x2048_S1x512x2048_0_0_0)))))
  iexact HT

end Run

end Cert.Kernel2Ideal.Ffn

end
-- ==== Proof.Ffn.RunLast.lean ====
/-
  The expert feed-forward's body, at the last point of a computed tile.
-/
module

public import proofs.«01_k».proof.Proof.Ffn.Pieces

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (c : Dev nD) (i : grid0.Coords)
  (arg4 : Memref sig .tc .vmem S8192x128 .f32) (harg4 : arg4.IsWhole) (arg5 : Memref sig .tc .vmem S1x2048x512 .bf16) (harg5 : arg5.IsWhole)
  (arg6 : Memref sig .tc .vmem S1x2048x512 .bf16) (harg6 : arg6.IsWhole) (arg7 : Memref sig .tc .vmem S1x512x2048 .bf16) (harg7 : arg7.IsWhole)
  (arg8 : Memref sig .tc .vmem S8192x128 .f32) (harg8 : arg8.IsWhole) (arg9 : Memref sig .tc .vmem S512x2048 .bf16) (harg9 : arg9.IsWhole)
  (arg10 : Memref sig .tc .vmem S512x2048 .f32) (harg10 : arg10.IsWhole)

variable (x : Vec F S8192x128 .f32) (g u : Vec F S1x2048x512 .bf16) (d : Vec F S1x512x2048 .bf16) (o : Vec F S8192x128 .f32)
    (b : Vec F S512x2048 .bf16) (a : Vec F S512x2048 .f32) (t : TBuf (F := F) c tF)

set_option maxHeartbeats 1000000 in
/-- The last point: the sum stored, in chunk rows. -/
theorem run_last (hf : t (tx ⟨(i 0).val, (i 0).isLt⟩) ≠ 0#32) (h0 : (i 1).val = 13) (E : Set ℕ) (K : PUnit → sProp 𝕄) :
    iprop(held c arg4 arg5 arg6 arg7 arg8 arg9 arg10 x g u d o b a t
        ∗ (held c arg4 arg5 arg6 arg7 arg8 arg9 arg10 x g u d (chunksOf (addf a (k0_pay6 b g u d))) b a t -∗ K ⟨⟩))
      ⊢ wp frame (wpE (defs₀ (F := F)) Variants.none c none) E
        (bodyOn i arg4 harg4 arg5 harg5 arg6 harg6 arg7 harg7 arg8 harg8 arg9 harg9 arg10 harg10) K := by
  have hc0 : ¬ isFirst i := fun h => by have := (isFirst_iff i).mp h; omega
  have hc1 : ¬ isMid i := fun h => by have := (isMid_iff i).mp h; omega
  have hc2 : isLast i := (isLast_iff i).mpr h0
  have hc3 : k0_cond2 (word2 c i t) = 1#1 := (live_iff _).mpr fun e => hf ((flag_read2 c i t).symm.trans e)
  have hc4 : ¬ k0_cond1 i (word c i t) = 1#1 := fun h => hf ((flag_read c i t).symm.trans ((fill_iff _ _).mp h).1)
  unfold bodyOn
  simp only [cc0_grouped_ffn_eq_skeleton]; unfold cc0_grouped_ffn_skel
  simp only [k0_part1_eq_skeleton, k0_part2_eq_skeleton, k0_part3_eq_skeleton, k0_part4_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT⟩, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hf5; obtain rfl := harg10.eq_unread hf6
  sl_exec (disch := first | sl_exact hc0 | sl_exact hc1 | sl_exact hc2 | sl_exact hc3 | sl_exact hc4)
  sl_step
  iapply Hk
  isplitl [H0]
  · iexists _; isplitr
    rotate_left
    · iexact H0
    ipureintro
    exact harg4.read_unread _
  isplitl [H1]
  · iexists _; isplitr
    rotate_left
    · iexact H1
    ipureintro
    exact harg5.read_unread _
  isplitl [H2]
  · iexists _; isplitr
    rotate_left
    · iexact H2
    ipureintro
    exact harg6.read_unread _
  isplitl [H3]
  · iexists _; isplitr
    rotate_left
    · iexact H3
    ipureintro
    exact harg7.read_unread _
  isplitl [H4]
  · iexists _; isplitr
    rotate_left
    · iexact H4
    ipureintro
    refine (read_pieces arg8 _ _ (chunksOf (addf a (k0_pay6 (arg9.view.readAt (Elt F) (Rect.unit (s := S512x2048) ![0, 0] ![512, 2048] inb_S512x2048_S512x2048_0_0).toLoadRect (harg9.unread b))
        (arg5.view.readAt (Elt F) (Rect.unit (s := S1x2048x512) ![0, 0, 0] ![1, 2048, 512] inb_S1x2048x512_S1x2048x512_0_0_0).toLoadRect (harg5.unread g))
        (arg6.view.readAt (Elt F) (Rect.unit (s := S1x2048x512) ![0, 0, 0] ![1, 2048, 512] inb_S1x2048x512_S1x2048x512_0_0_0).toLoadRect (harg6.unread u))
        (arg7.view.readAt (Elt F) (Rect.unit (s := S1x512x2048) ![0, 0, 0] ![1, 512, 2048] inb_S1x512x2048_S1x512x2048_0_0_0).toLoadRect (harg7.unread d))))) ?_ ?_).trans
        (congrArg (fun p => chunksOf (addf a p)) (congr (congr (congr (congrArg k0_pay6 (load_whole arg9 harg9 b zero2 inb_S512x2048_S512x2048_0_0)) (load_whole arg5 harg5 g zero3 inb_S1x2048x512_S1x2048x512_0_0_0)) (load_whole arg6 harg6 u zero3 inb_S1x2048x512_S1x2048x512_0_0_0)) (load_whole arg7 harg7 d zero3 inb_S1x512x2048_S1x512x2048_0_0_0)))
    · skip
      refine List.forall_mem_cons.mpr ⟨fun y => out_piece arg10 harg10 a _ 15 (by decide) inb_S512x2048_S512x128_0_1920 inb_S8192x128_S512x128_15_0_s_16_1 spos_16_1 _ y, ?_⟩
      refine List.forall_mem_cons.mpr ⟨fun y => out_piece arg10 harg10 a _ 14 (by decide) inb_S512x2048_S512x128_0_1792 inb_S8192x128_S512x128_14_0_s_16_1 spos_16_1 _ y, ?_⟩
      refine List.forall_mem_cons.mpr ⟨fun y => out_piece arg10 harg10 a _ 13 (by decide) inb_S512x2048_S512x128_0_1664 inb_S8192x128_S512x128_13_0_s_16_1 spos_16_1 _ y, ?_⟩
      refine List.forall_mem_cons.mpr ⟨fun y => out_piece arg10 harg10 a _ 12 (by decide) inb_S512x2048_S512x128_0_1536 inb_S8192x128_S512x128_12_0_s_16_1 spos_16_1 _ y, ?_⟩
      refine List.forall_mem_cons.mpr ⟨fun y => out_piece arg10 harg10 a _ 11 (by decide) inb_S512x2048_S512x128_0_1408 inb_S8192x128_S512x128_11_0_s_16_1 spos_16_1 _ y, ?_⟩
      refine List.forall_mem_cons.mpr ⟨fun y => out_piece arg10 harg10 a _ 10 (by decide) inb_S512x2048_S512x128_0_1280 inb_S8192x128_S512x128_10_0_s_16_1 spos_16_1 _ y, ?_⟩
      refine List.forall_mem_cons.mpr ⟨fun y => out_piece arg10 harg10 a _ 9 (by decide) inb_S512x2048_S512x128_0_1152 inb_S8192x128_S512x128_9_0_s_16_1 spos_16_1 _ y, ?_⟩
      refine List.forall_mem_cons.mpr ⟨fun y => out_piece arg10 harg10 a _ 8 (by decide) inb_S512x2048_S512x128_0_1024 inb_S8192x128_S512x128_8_0_s_16_1 spos_16_1 _ y, ?_⟩
      refine List.forall_mem_cons.mpr ⟨fun y => out_piece arg10 harg10 a _ 7 (by decide) inb_S512x2048_S512x128_0_896 inb_S8192x128_S512x128_7_0_s_16_1 spos_16_1 _ y, ?_⟩
      refine List.forall_mem_cons.mpr ⟨fun y => out_piece arg10 harg10 a _ 6 (by decide) inb_S512x2048_S512x128_0_768 inb_S8192x128_S512x128_6_0_s_16_1 spos_16_1 _ y, ?_⟩
      refine List.forall_mem_cons.mpr ⟨fun y => out_piece arg10 harg10 a _ 5 (by decide) inb_S512x2048_S512x128_0_640 inb_S8192x128_S512x128_5_0_s_16_1 spos_16_1 _ y, ?_⟩
      refine List.forall_mem_cons.mpr ⟨fun y => out_piece arg10 harg10 a _ 4 (by decide) inb_S512x2048_S512x128_0_512 inb_S8192x128_S512x128_4_0_s_16_1 spos_16_1 _ y, ?_⟩
      refine List.forall_mem_cons.mpr ⟨fun y => out_piece arg10 harg10 a _ 3 (by decide) inb_S512x2048_S512x128_0_384 inb_S8192x128_S512x128_3_0_s_16_1 spos_16_1 _ y, ?_⟩
      refine List.forall_mem_cons.mpr ⟨fun y => out_piece arg10 harg10 a _ 2 (by decide) inb_S512x2048_S512x128_0_256 inb_S8192x128_S512x128_2_0_s_16_1 spos_16_1 _ y, ?_⟩
      refine List.forall_mem_cons.mpr ⟨fun y => out_piece arg10 harg10 a _ 1 (by decide) inb_S512x2048_S512x128_0_128 inb_S8192x128_S512x128_1_0_s_16_1 spos_16_1 _ y, ?_⟩
      refine List.forall_mem_cons.mpr ⟨fun y => out_piece arg10 harg10 a _ 0 (by decide) inb_S512x2048_S512x128_0_0 inb_S8192x128_S512x128_0_0_s_16_1 spos_16_1 _ y, ?_⟩
      exact fun _ h => absurd h List.not_mem_nil
    · intro y
      have ho : (y 0).val % 16 = 0 ∨ (y 0).val % 16 = 1 ∨ (y 0).val % 16 = 2 ∨ (y 0).val % 16 = 3 ∨ (y 0).val % 16 = 4 ∨ (y 0).val % 16 = 5 ∨ (y 0).val % 16 = 6 ∨ (y 0).val % 16 = 7 ∨ (y 0).val % 16 = 8 ∨ (y 0).val % 16 = 9 ∨ (y 0).val % 16 = 10 ∨ (y 0).val % 16 = 11 ∨ (y 0).val % 16 = 12 ∨ (y 0).val % 16 = 13 ∨ (y 0).val % 16 = 14 ∨ (y 0).val % 16 = 15 := by omega
      rcases ho with hk | hk | hk | hk | hk | hk | hk | hk | hk | hk | hk | hk | hk | hk | hk | hk
      · exact cov_there (cov_there (cov_there (cov_there (cov_there (cov_there (cov_there (cov_there (cov_there (cov_there (cov_there (cov_there (cov_there (cov_there (cov_there (cov_here (mem_row 0 inb_S8192x128_S512x128_0_0_s_16_1 spos_16_1 y hk))))))))))))))))
      · exact cov_there (cov_there (cov_there (cov_there (cov_there (cov_there (cov_there (cov_there (cov_there (cov_there (cov_there (cov_there (cov_there (cov_there (cov_here (mem_row 1 inb_S8192x128_S512x128_1_0_s_16_1 spos_16_1 y hk)))))))))))))))
      · exact cov_there (cov_there (cov_there (cov_there (cov_there (cov_there (cov_there (cov_there (cov_there (cov_there (cov_there (cov_there (cov_there (cov_here (mem_row 2 inb_S8192x128_S512x128_2_0_s_16_1 spos_16_1 y hk))))))))))))))
      · exact cov_there (cov_there (cov_there (cov_there (cov_there (cov_there (cov_there (cov_there (cov_there (cov_there (cov_there (cov_there (cov_here (mem_row 3 inb_S8192x128_S512x128_3_0_s_16_1 spos_16_1 y hk)))))))))))))
      · exact cov_there (cov_there (cov_there (cov_there (cov_there (cov_there (cov_there (cov_there (cov_there (cov_there (cov_there (cov_here (mem_row 4 inb_S8192x128_S512x128_4_0_s_16_1 spos_16_1 y hk))))))))))))
      · exact cov_there (cov_there (cov_there (cov_there (cov_there (cov_there (cov_there (cov_there (cov_there (cov_there (cov_here (mem_row 5 inb_S8192x128_S512x128_5_0_s_16_1 spos_16_1 y hk)))))))))))
      · exact cov_there (cov_there (cov_there (cov_there (cov_there (cov_there (cov_there (cov_there (cov_there (cov_here (mem_row 6 inb_S8192x128_S512x128_6_0_s_16_1 spos_16_1 y hk))))))))))
      · exact cov_there (cov_there (cov_there (cov_there (cov_there (cov_there (cov_there (cov_there (cov_here (mem_row 7 inb_S8192x128_S512x128_7_0_s_16_1 spos_16_1 y hk)))))))))
      · exact cov_there (cov_there (cov_there (cov_there (cov_there (cov_there (cov_there (cov_here (mem_row 8 inb_S8192x128_S512x128_8_0_s_16_1 spos_16_1 y hk))))))))
      · exact cov_there (cov_there (cov_there (cov_there (cov_there (cov_there (cov_here (mem_row 9 inb_S8192x128_S512x128_9_0_s_16_1 spos_16_1 y hk)))))))
      · exact cov_there (cov_there (cov_there (cov_there (cov_there (cov_here (mem_row 10 inb_S8192x128_S512x128_10_0_s_16_1 spos_16_1 y hk))))))
      · exact cov_there (cov_there (cov_there (cov_there (cov_here (mem_row 11 inb_S8192x128_S512x128_11_0_s_16_1 spos_16_1 y hk)))))
      · exact cov_there (cov_there (cov_there (cov_here (mem_row 12 inb_S8192x128_S512x128_12_0_s_16_1 spos_16_1 y hk))))
      · exact cov_there (cov_there (cov_here (mem_row 13 inb_S8192x128_S512x128_13_0_s_16_1 spos_16_1 y hk)))
      · exact cov_there (cov_here (mem_row 14 inb_S8192x128_S512x128_14_0_s_16_1 spos_16_1 y hk))
      · exact cov_here (mem_row 15 inb_S8192x128_S512x128_15_0_s_16_1 spos_16_1 y hk)
  isplitl [H5]
  · iexists _; isplitr
    rotate_left
    · iexact H5
    ipureintro
    exact harg9.read_unread _
  isplitl [H6]
  · iexists _; isplitr
    rotate_left
    · iexact H6
    ipureintro
    exact harg10.read_unread _
  iexact HT

end Run

end Cert.Kernel2Ideal.Ffn

end
-- ==== Proof.Ffn.RunZero.lean ====
/-
  The expert feed-forward's body, at the points of a tile left out.
-/
module

public import proofs.«01_k».proof.Proof.Ffn.Pieces

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (c : Dev nD) (i : grid0.Coords)
  (arg4 : Memref sig .tc .vmem S8192x128 .f32) (harg4 : arg4.IsWhole) (arg5 : Memref sig .tc .vmem S1x2048x512 .bf16) (harg5 : arg5.IsWhole)
  (arg6 : Memref sig .tc .vmem S1x2048x512 .bf16) (harg6 : arg6.IsWhole) (arg7 : Memref sig .tc .vmem S1x512x2048 .bf16) (harg7 : arg7.IsWhole)
  (arg8 : Memref sig .tc .vmem S8192x128 .f32) (harg8 : arg8.IsWhole) (arg9 : Memref sig .tc .vmem S512x2048 .bf16) (harg9 : arg9.IsWhole)
  (arg10 : Memref sig .tc .vmem S512x2048 .f32) (harg10 : arg10.IsWhole)

variable (x : Vec F S8192x128 .f32) (g u : Vec F S1x2048x512 .bf16) (d : Vec F S1x512x2048 .bf16) (o : Vec F S8192x128 .f32)
    (b : Vec F S512x2048 .bf16) (a : Vec F S512x2048 .f32) (t : TBuf (F := F) c tF)

set_option maxHeartbeats 1000000 in
/-- The first point of a tile left out: zeros. -/
theorem run_zero (hf : t (tx ⟨(i 0).val, (i 0).isLt⟩) = 0#32) (h0 : (i 1).val = 0) (E : Set ℕ) (K : PUnit → sProp 𝕄) :
    iprop(held c arg4 arg5 arg6 arg7 arg8 arg9 arg10 x g u d o b a t
        ∗ (held c arg4 arg5 arg6 arg7 arg8 arg9 arg10 x g u d k0_pay1 b a t -∗ K ⟨⟩))
      ⊢ wp frame (wpE (defs₀ (F := F)) Variants.none c none) E
        (bodyOn i arg4 harg4 arg5 harg5 arg6 harg6 arg7 harg7 arg8 harg8 arg9 harg9 arg10 harg10) K := by
  have hc0 : isFirst i := (isFirst_iff i).mpr h0
  have hc1 : ¬ isMid i := fun h => by have := (isMid_iff i).mp h; omega
  have hc2 : ¬ isLast i := fun h => by have := (isLast_iff i).mp h; omega
  have hc3 : ¬ k0_cond2 (word2 c i t) = 1#1 := fun h => (live_iff _).mp h ((flag_read2 c i t).trans hf)
  have hc4 : k0_cond1 i (word c i t) = 1#1 := (fill_iff _ _).mpr ⟨(flag_read c i t).trans hf, h0⟩
  unfold bodyOn
  simp only [cc0_grouped_ffn_eq_skeleton]; unfold cc0_grouped_ffn_skel
  simp only [k0_part1_eq_skeleton, k0_part2_eq_skeleton, k0_part3_eq_skeleton, k0_part4_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT⟩, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hf5; obtain rfl := harg10.eq_unread hf6
  sl_exec (disch := first | sl_exact hc0 | sl_exact hc1 | sl_exact hc2 | sl_exact hc3 | sl_exact hc4)
  sl_step
  iapply Hk
  isplitl [H0]
  · iexists _; isplitr
    rotate_left
    · iexact H0
    ipureintro
    exact harg4.read_unread _
  isplitl [H1]
  · iexists _; isplitr
    rotate_left
    · iexact H1
    ipureintro
    exact harg5.read_unread _
  isplitl [H2]
  · iexists _; isplitr
    rotate_left
    · iexact H2
    ipureintro
    exact harg6.read_unread _
  isplitl [H3]
  · iexists _; isplitr
    rotate_left
    · iexact H3
    ipureintro
    exact harg7.read_unread _
  isplitl [H4]
  · iexists _; isplitr
    rotate_left
    · iexact H4
    ipureintro
    exact (View.read_writes_eq_canon _ _ _ fun y => ⟨_, List.mem_singleton_self _, View.mem_set_unit_zero zero2 inb_S8192x128_S8192x128_0_0 y⟩).trans (View.canon_unit_zero zero2 inb_S8192x128_S8192x128_0_0 _)
  isplitl [H5]
  · iexists _; isplitr
    rotate_left
    · iexact H5
    ipureintro
    exact harg9.read_unread _
  isplitl [H6]
  · iexists _; isplitr
    rotate_left
    · iexact H6
    ipureintro
    exact harg10.read_unread _
  iexact HT

set_option maxHeartbeats 1000000 in
/-- Its other points: nothing. -/
theorem run_none (hf : t (tx ⟨(i 0).val, (i 0).isLt⟩) = 0#32) (h0 : (i 1).val ≠ 0) (E : Set ℕ) (K : PUnit → sProp 𝕄) :
    iprop(held c arg4 arg5 arg6 arg7 arg8 arg9 arg10 x g u d o b a t
        ∗ (held c arg4 arg5 arg6 arg7 arg8 arg9 arg10 x g u d o b a t -∗ K ⟨⟩))
      ⊢ wp frame (wpE (defs₀ (F := F)) Variants.none c none) E
        (bodyOn i arg4 harg4 arg5 harg5 arg6 harg6 arg7 harg7 arg8 harg8 arg9 harg9 arg10 harg10) K := by
  have hc0 := hf
  have hc1 := hf
  have hc2 := hf
  have hc3 : ¬ k0_cond2 (word2 c i t) = 1#1 := fun h => (live_iff _).mp h ((flag_read2 c i t).trans hf)
  have hc4 : ¬ k0_cond1 i (word c i t) = 1#1 := fun h => h0 ((fill_iff _ _).mp h).2
  unfold bodyOn
  simp only [cc0_grouped_ffn_eq_skeleton]; unfold cc0_grouped_ffn_skel
  simp only [k0_part1_eq_skeleton, k0_part2_eq_skeleton, k0_part3_eq_skeleton, k0_part4_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT⟩, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hf5; obtain rfl := harg10.eq_unread hf6
  sl_exec (disch := first | sl_exact hc0 | sl_exact hc1 | sl_exact hc2 | sl_exact hc3 | sl_exact hc4)
  sl_step
  iapply Hk
  isplitl [H0]
  · iexists _; isplitr
    rotate_left
    · iexact H0
    ipureintro
    exact harg4.read_unread _
  isplitl [H1]
  · iexists _; isplitr
    rotate_left
    · iexact H1
    ipureintro
    exact harg5.read_unread _
  isplitl [H2]
  · iexists _; isplitr
    rotate_left
    · iexact H2
    ipureintro
    exact harg6.read_unread _
  isplitl [H3]
  · iexists _; isplitr
    rotate_left
    · iexact H3
    ipureintro
    exact harg7.read_unread _
  isplitl [H4]
  · iexists _; isplitr
    rotate_left
    · iexact H4
    ipureintro
    exact harg8.read_unread _
  isplitl [H5]
  · iexists _; isplitr
    rotate_left
    · iexact H5
    ipureintro
    exact harg9.read_unread _
  isplitl [H6]
  · iexists _; isplitr
    rotate_left
    · iexact H6
    ipureintro
    exact harg10.read_unread _
  iexact HT

end Run

end Cert.Kernel2Ideal.Ffn

end
-- ==== Proof.Ffn.Launch.lean ====
/-
  The expert feed-forward's launch: what its scratch and its output hold along the grid, the body's obligation, and the run.
-/
module

public import proofs.«01_k».proof.Proof.Ffn.RunFirst
public import proofs.«01_k».proof.Proof.Ffn.RunMid
public import proofs.«01_k».proof.Proof.Ffn.RunLast
public import proofs.«01_k».proof.Proof.Ffn.RunZero

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks, by their types -/

def blk0 (hO : Ok m) (c : Dev nD) (t : Fin (cfgM m hO).N) : Vec F S8192x128 .f32 := iblk m hO c 0 t
def blk1 (hO : Ok m) (c : Dev nD) (t : Fin (cfgM m hO).N) : Vec F S1x2048x512 .bf16 := iblk m hO c 1 t
def blk2 (hO : Ok m) (c : Dev nD) (t : Fin (cfgM m hO).N) : Vec F S1x2048x512 .bf16 := iblk m hO c 2 t
def blk3 (hO : Ok m) (c : Dev nD) (t : Fin (cfgM m hO).N) : Vec F S1x512x2048 .bf16 := iblk m hO c 3 t

theorem size_N (hO : Ok m) : (cfgM m hO).N = 1008 := N_0

/-- The first point of `t`'s tile. -/
def firstOf (hO : Ok m) (t : Fin (cfgM m hO).N) : Fin (cfgM m hO).N := ⟨14 * (t.val / 14), by have := t.isLt; omega⟩
theorem firstOf_self (hO : Ok m) (t : Fin (cfgM m hO).N) (h : t.val % 14 = 0) : firstOf m hO t = t := Fin.ext (by show 14 * (t.val / 14) = t.val; omega)
theorem firstOf_pred (hO : Ok m) (t s : Fin (cfgM m hO).N) (hs : t.val = s.val + 1) (h : t.val % 14 ≠ 0) : firstOf m hO s = firstOf m hO t :=
  Fin.ext (by show 14 * (s.val / 14) = 14 * (t.val / 14); omega)

/-- The tile's rows at point `t`, the part the point computes, and the parts' sum up to it. -/
def rowsAt (hO : Ok m) (c : Dev nD) (t : Fin (cfgM m hO).N) : Vec F S512x2048 .bf16 := xbOf (blk0 m hO c (firstOf m hO t))
def partAt (hO : Ok m) (c : Dev nD) (t : Fin (cfgM m hO).N) : Vec F S512x2048 .f32 := k0_pay6 (rowsAt m hO c t) (blk1 m hO c t) (blk2 m hO c t) (blk3 m hO c t)
def sumTo (hO : Ok m) (c : Dev nD) : (n : ℕ) → n < (cfgM m hO).N → Vec F S512x2048 .f32
  | 0, h => partAt m hO c ⟨0, h⟩
  | n + 1, h => if (n + 1) % 14 = 0 then partAt m hO c ⟨n + 1, h⟩ else addf (sumTo hO c n (by omega)) (partAt m hO c ⟨n + 1, h⟩)
theorem sumTo_first (hO : Ok m) (c : Dev nD) (t : Fin (cfgM m hO).N) (h : t.val % 14 = 0) : sumTo m hO c t.val t.isLt = partAt m hO c t := by
  obtain ⟨n, hn⟩ := t
  cases n with
  | zero => rfl
  | succ n => exact if_pos h
theorem sumTo_next (hO : Ok m) (c : Dev nD) (t s : Fin (cfgM m hO).N) (hs : t.val = s.val + 1) (h : t.val % 14 ≠ 0) :
    sumTo m hO c t.val t.isLt = addf (sumTo m hO c s.val s.isLt) (partAt m hO c t) := by
  obtain ⟨n, hn⟩ := t; obtain ⟨k, hk⟩ := s
  obtain rfl : n = k + 1 := hs
  exact if_neg h

/-- What the tile's output block holds when it is written back. -/
def outAt (hO : Ok m) (c : Dev nD) (t : Fin (cfgM m hO).N) : Vec F S8192x128 .f32 :=
  if flagAt (tbl m) (grid0.coords t) = 0#32 then k0_pay1 else chunksOf (sumTo m hO c t.val t.isLt)

/-! ## The invariant -/

/-- Inside a computed tile the scratch holds its rows and the sum so far. -/
def Good (hO : Ok m) (c : Dev nD) (n : ℕ) (b : Vec F S512x2048 .bf16) (a : Vec F S512x2048 .f32) : Prop :=
  ∀ s : Fin (cfgM m hO).N, n = s.val + 1 → n % 14 ≠ 0 → flagAt (tbl m) (grid0.coords s) ≠ 0#32 → b = rowsAt m hO c s ∧ a = sumTo m hO c s.val s.isLt

def PhiS (hO : Ok m) (c : Dev nD) (n : ℕ) : sProp 𝕄 :=
  iprop(∃ b a, ⌜Good m hO c n b a⌝ ∗ ((((owns (c : Thread nD τ) sx fullShare b) ∗ (owns (c : Thread nD τ) sa fullShare a)) ∗ (∃ r, prngReg c r))
    ∗ (tHeld c tE (tbl m 0) ∗ tHeld c tF (tbl m 1))))

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := PhiS m hO c t.val
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outAt m hO c t := by dsimp only [dats]; try rfl
theorem before0_0 (hO : Ok m) (c : Dev nD) (t : Fin (cfgM m hO).N) (d) : (dats m hO 0 c).before 0 t d = blk0 m hO c t :=
  before0 m hO (dats m hO 0 c) (A_eq m hO c 0) (after0_0 m hO c) t d
theorem before0_1 (hO : Ok m) (c : Dev nD) (t : Fin (cfgM m hO).N) (d) : (dats m hO 0 c).before 1 t d = blk1 m hO c t :=
  before1 m hO (dats m hO 0 c) (A_eq m hO c 1) (after0_1 m hO c) t d
theorem before0_2 (hO : Ok m) (c : Dev nD) (t : Fin (cfgM m hO).N) (d) : (dats m hO 0 c).before 2 t d = blk2 m hO c t :=
  before2 m hO (dats m hO 0 c) (A_eq m hO c 2) (after0_2 m hO c) t d
theorem before0_3 (hO : Ok m) (c : Dev nD) (t : Fin (cfgM m hO).N) (d) : (dats m hO 0 c).before 3 t d = blk3 m hO c t :=
  before3 m hO (dats m hO 0 c) (A_eq m hO c 3) (after0_3 m hO c) t d

/-! ## When the output is left alone -/

theorem flag_tile (hO : Ok m) (s t : Fin (cfgM m hO).N) (h : s.val / 14 = t.val / 14) : flagAt (tbl m) (grid0.coords s) = flagAt (tbl m) (grid0.coords t) := by
  have e : (grid0.coords s 0).val = (grid0.coords t 0).val := (tile_of s).trans (h.trans (tile_of t).symm)
  exact congrArg (tbl m 1) (funext fun a => Fin.ext e)

theorem idle_of (hO : Ok m) (t : Fin (cfgM m hO).N) (h1 : ¬ (flagAt (tbl m) (grid0.coords t) = 0#32 ∧ t.val % 14 = 0))
    (h2 : ¬ (flagAt (tbl m) (grid0.coords t) ≠ 0#32 ∧ t.val % 14 = 13)) : (cfgM m hO).idle 4 ((cfgM m hO).grid.coords t) = true := by
  refine (idle4_iff (tbl m) (grid0.coords t)).mpr ?_
  rw [show (grid0.coords t 1).val = t.val % 14 from part_of t]
  exact ⟨h1, h2⟩
theorem live_of (hO : Ok m) (t : Fin (cfgM m hO).N) (h : (flagAt (tbl m) (grid0.coords t) = 0#32 ∧ t.val % 14 = 0)
    ∨ (flagAt (tbl m) (grid0.coords t) ≠ 0#32 ∧ t.val % 14 = 13)) : (cfgM m hO).idle 4 ((cfgM m hO).grid.coords t) = false := by
  refine Bool.eq_false_iff.mpr fun hi => ?_
  have := (idle4_iff (tbl m) (grid0.coords t)).mp hi
  rw [show (grid0.coords t 1).val = t.val % 14 from part_of t] at this
  exact h.elim this.1 this.2
theorem noflush_of (hO : Ok m) (t : Fin (cfgM m hO).N) (h : t.val % 14 ≠ 13) : ((cfgM m hO).win 4).flush t = false :=
  Bool.eq_false_iff.mpr fun hf => h ((flush4 m hO t).mp hf)

theorem leaves_live (hO : Ok m) (c : Dev nD) (t : Fin (cfgM m hO).N) (h : (cfgM m hO).idle 4 ((cfgM m hO).grid.coords t) = false) :
    (dats m hO 0 c).leavesExact 4 t = owns (c : Thread nD τ) (ms4 m hO t) fullShare (outAt m hO c t) := by
  unfold Dat.leavesExact; rw [h]; try rfl
theorem leaves_flush (hO : Ok m) (c : Dev nD) (t : Fin (cfgM m hO).N) (h : (cfgM m hO).idle 4 ((cfgM m hO).grid.coords t) = true)
    (hf : ((cfgM m hO).win 4).flush t = true) :
    (dats m hO 0 c).leavesExact 4 t = owns (c : Thread nD τ) (ms4 m hO t) fullShare (outAt m hO c t) := by
  unfold Dat.leavesExact; rw [h, hf]; try rfl

/-- In a tile left out, the zeros of its first point stay. -/
theorem before_zero (hO : Ok m) (c : Dev nD) (t : Fin (cfgM m hO).N) (hf : flagAt (tbl m) (grid0.coords t) = 0#32) (h : t.val % 14 = 13) (d) :
    (dats m hO 0 c).before 4 t d = k0_pay1 := by
  have hle : 12 ≤ t.val := by omega
  rw [(dats m hO 0 c).before_idle_run 4 (fun t => ((cfgM m hO).win 4).fetch_out rfl t) d 12 t hle fun j h1 h2 =>
    ⟨idle_of m hO j (fun hh => by omega) (fun hh => hh.1 ((flag_tile m hO j t (by omega)).trans hf)), noflush_of m hO j (by omega)⟩]
  have hne : t.val - 12 ≠ 0 := by omega
  have hlt : t.val - 12 - 1 < (cfgM m hO).N := by have := t.isLt; omega
  have e0 : flagAt (tbl m) (grid0.coords (⟨t.val - 12 - 1, hlt⟩ : Fin (cfgM m hO).N)) = 0#32 := (flag_tile m hO ⟨t.val - 12 - 1, hlt⟩ t (by show (t.val - 12 - 1) / 14 = t.val / 14; omega)).trans hf
  rw [(dats m hO 0 c).before_of_pos 4 ⟨t.val - 12, _⟩ hne (((cfgM m hO).win 4).fetch_out rfl _) d,
    show ((cfgM m hO).win 4).flush ⟨t.val - 12 - 1, hlt⟩ = false from noflush_of m hO ⟨t.val - 12 - 1, hlt⟩ (by show (t.val - 12 - 1) % 14 ≠ 13; omega), if_neg Bool.false_ne_true]
  unfold Dat.left
  rw [show (cfgM m hO).idle 4 ((cfgM m hO).grid.coords ⟨t.val - 12 - 1, hlt⟩) = false from live_of m hO ⟨t.val - 12 - 1, hlt⟩ (.inl ⟨e0, by show (t.val - 12 - 1) % 14 = 0; omega⟩)]
  show (dats m hO 0 c).kept 4 ⟨t.val - 12 - 1, hlt⟩ d = _
  unfold Dat.kept
  rw [Pipeline.fill_of_clip_none (cfg := cfgM m hO) 4 _ (fun _ => rfl) d ((dats m hO 0 c).after 4 ⟨t.val - 12 - 1, hlt⟩), Window.fill_cut, after0_4]
  exact if_pos e0

/-! ## The body's obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

theorem leaves0 (hO : Ok m) (c : Dev nD) (t : Fin (cfgM m hO).N) : (dats m hO 0 c).leavesExact 0 t = owns (c : Thread nD τ) (ms0 m hO t) fullShare (blk0 m hO c t) := by
  rw [show (dats m hO 0 c).leavesExact 0 t = owns (c : Thread nD τ) (ms0 m hO t) fullShare ((dats m hO 0 c).after 0 t) from rfl, after0_0]; rfl
theorem leaves1 (hO : Ok m) (c : Dev nD) (t : Fin (cfgM m hO).N) : (dats m hO 0 c).leavesExact 1 t = owns (c : Thread nD τ) (ms1 m hO t) fullShare (blk1 m hO c t) := by
  rw [show (dats m hO 0 c).leavesExact 1 t = owns (c : Thread nD τ) (ms1 m hO t) fullShare ((dats m hO 0 c).after 1 t) from rfl, after0_1]; rfl
theorem leaves2 (hO : Ok m) (c : Dev nD) (t : Fin (cfgM m hO).N) : (dats m hO 0 c).leavesExact 2 t = owns (c : Thread nD τ) (ms2 m hO t) fullShare (blk2 m hO c t) := by
  rw [show (dats m hO 0 c).leavesExact 2 t = owns (c : Thread nD τ) (ms2 m hO t) fullShare ((dats m hO 0 c).after 2 t) from rfl, after0_2]; rfl
theorem leaves3 (hO : Ok m) (c : Dev nD) (t : Fin (cfgM m hO).N) : (dats m hO 0 c).leavesExact 3 t = owns (c : Thread nD τ) (ms3 m hO t) fullShare (blk3 m hO c t) := by
  rw [show (dats m hO 0 c).leavesExact 3 t = owns (c : Thread nD τ) (ms3 m hO t) fullShare ((dats m hO 0 c).after 3 t) from rfl, after0_3]; rfl

set_option maxHeartbeats 1000000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before0_0, before0_1, before0_2, before0_3]
  rw [leaves0, leaves1, leaves2, leaves3]
  rw [show (dats m hO 0 c).owesAt () t.succ = (dats m hO 0 c).owesAt () t.castSucc from rfl,
    show (dats m hO 0 c).Φ t.succ = PhiS m hO c (t.val + 1) from rfl, show (dats m hO 0 c).Φ t.castSucc = PhiS m hO c t.val from rfl]
  unfold PhiS
  have hN : t.val < 1008 := lt_of_lt_of_eq t.isLt (size_N m hO)
  have hp : (grid0.coords t 1).val = t.val % 14 := part_of t
  have hv : ∀ {b a}, flagAt (tbl m) (grid0.coords t) = 0#32 → Good m hO c (t.val + 1) b a := fun hf s hs _ hn => by
    obtain rfl : s = t := Fin.ext (by omega)
    exact absurd hf hn
  iintro ⟨⟨%b, %a, %hG, ⟨⟨HS0, HS1⟩, Hg⟩, HT0, HT1⟩, Ho, ⟨%d0, H0⟩, ⟨%d1, H1⟩, ⟨%d2, H2⟩, ⟨%d3, H3⟩, ⟨%d4, H4⟩⟩
  rcases Classical.em (flagAt (tbl m) (grid0.coords t) = 0#32) with hf | hf
  · rcases Classical.em (t.val % 14 = 0) with h0 | h0
    · rw [leaves_live m hO c t (live_of m hO t (.inl ⟨hf, h0⟩)), show outAt m hO c t = k0_pay1 from if_pos hf]
      iapply (run_zero c (grid0.coords t) (ms0 m hO t) (hs0 m hO t) (ms1 m hO t) (hs1 m hO t) (ms2 m hO t) (hs2 m hO t) (ms3 m hO t) (hs3 m hO t) (ms4 m hO t) (hs4 m hO t)
        sx (Memref.isWhole_whole _) sa (Memref.isWhole_whole _) (blk0 m hO c t) (blk1 m hO c t) (blk2 m hO c t) (blk3 m hO c t) _ b a (tbl m 1) hf (hp.trans h0) Set.univ _)
      isplitl [H0 H1 H2 H3 H4 HS0 HS1 HT1]
      · unfold held
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iexact HT1
      unfold held
      iintro ⟨H0, H1, H2, H3, H4, HS0, HS1, HT1⟩
      isplitl [HS0 HS1 Hg HT0 HT1]
      · iexists _; iexists _
        isplitr
        rotate_left
        · isplitl [HS0 HS1 Hg]
          · isplitl [HS0 HS1]
            · isplitl [HS0]; · iexact HS0
              iexact HS1
            iexact Hg
          isplitl [HT0]; · iexact HT0
          iexact HT1
        ipureintro
        exact hv hf
      isplitl [Ho]; · iexact Ho
      isplitl [H0]; · iexact H0
      isplitl [H1]; · iexact H1
      isplitl [H2]; · iexact H2
      isplitl [H3]; · iexact H3
      iexact H4
    · rcases Classical.em (t.val % 14 = 13) with h1 | h1
      · rw [leaves_flush m hO c t (idle_of m hO t (fun h => h0 h.2) (fun h => h.1 hf)) ((flush4 m hO t).mpr h1), show outAt m hO c t = k0_pay1 from if_pos hf, before_zero m hO c t hf h1]
        iapply (run_none c (grid0.coords t) (ms0 m hO t) (hs0 m hO t) (ms1 m hO t) (hs1 m hO t) (ms2 m hO t) (hs2 m hO t) (ms3 m hO t) (hs3 m hO t) (ms4 m hO t) (hs4 m hO t)
          sx (Memref.isWhole_whole _) sa (Memref.isWhole_whole _) (blk0 m hO c t) (blk1 m hO c t) (blk2 m hO c t) (blk3 m hO c t) _ b a (tbl m 1) hf (fun h => h0 (hp.symm.trans h)) Set.univ _)
        isplitl [H0 H1 H2 H3 H4 HS0 HS1 HT1]
        · unfold held
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          iexact HT1
        unfold held
        iintro ⟨H0, H1, H2, H3, H4, HS0, HS1, HT1⟩
        isplitl [HS0 HS1 Hg HT0 HT1]
        · iexists _; iexists _
          isplitr
          rotate_left
          · isplitl [HS0 HS1 Hg]
            · isplitl [HS0 HS1]
              · isplitl [HS0]; · iexact HS0
                iexact HS1
              iexact Hg
            isplitl [HT0]; · iexact HT0
            iexact HT1
          ipureintro
          exact hv hf
        isplitl [Ho]; · iexact Ho
        isplitl [H0]; · iexact H0
        isplitl [H1]; · iexact H1
        isplitl [H2]; · iexact H2
        isplitl [H3]; · iexact H3
        iexact H4
      · rw [(dats m hO 0 c).leavesExact_idle 4 t (idle_of m hO t (fun h => h0 h.2) (fun h => h.1 hf)) (noflush_of m hO t h1)]
        iapply (run_none c (grid0.coords t) (ms0 m hO t) (hs0 m hO t) (ms1 m hO t) (hs1 m hO t) (ms2 m hO t) (hs2 m hO t) (ms3 m hO t) (hs3 m hO t) (ms4 m hO t) (hs4 m hO t)
          sx (Memref.isWhole_whole _) sa (Memref.isWhole_whole _) (blk0 m hO c t) (blk1 m hO c t) (blk2 m hO c t) (blk3 m hO c t) _ b a (tbl m 1) hf (fun h => h0 (hp.symm.trans h)) Set.univ _)
        isplitl [H0 H1 H2 H3 H4 HS0 HS1 HT1]
        · unfold held
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          iexact HT1
        unfold held
        iintro ⟨H0, H1, H2, H3, H4, HS0, HS1, HT1⟩
        isplitl [HS0 HS1 Hg HT0 HT1]
        · iexists _; iexists _
          isplitr
          rotate_left
          · isplitl [HS0 HS1 Hg]
            · isplitl [HS0 HS1]
              · isplitl [HS0]; · iexact HS0
                iexact HS1
              iexact Hg
            isplitl [HT0]; · iexact HT0
            iexact HT1
          ipureintro
          exact hv hf
        isplitl [Ho]; · iexact Ho
        isplitl [H0]; · iexact H0
        isplitl [H1]; · iexact H1
        isplitl [H2]; · iexact H2
        isplitl [H3]; · iexact H3
        iexists d4; iexact H4
  · rcases Classical.em (t.val % 14 = 0) with h0 | h0
    · rw [(dats m hO 0 c).leavesExact_idle 4 t (idle_of m hO t (fun h => hf h.1) (fun h => by omega)) (noflush_of m hO t (by omega))]
      iapply (run_first c (grid0.coords t) (ms0 m hO t) (hs0 m hO t) (ms1 m hO t) (hs1 m hO t) (ms2 m hO t) (hs2 m hO t) (ms3 m hO t) (hs3 m hO t) (ms4 m hO t) (hs4 m hO t)
        sx (Memref.isWhole_whole _) sa (Memref.isWhole_whole _) (blk0 m hO c t) (blk1 m hO c t) (blk2 m hO c t) (blk3 m hO c t) _ b a (tbl m 1) hf (hp.trans h0) Set.univ _)
      isplitl [H0 H1 H2 H3 H4 HS0 HS1 HT1]
      · unfold held
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iexact HT1
      unfold held
      iintro ⟨H0, H1, H2, H3, H4, HS0, HS1, HT1⟩
      isplitl [HS0 HS1 Hg HT0 HT1]
      · iexists _; iexists _
        isplitr
        rotate_left
        · isplitl [HS0 HS1 Hg]
          · isplitl [HS0 HS1]
            · isplitl [HS0]; · iexact HS0
              iexact HS1
            iexact Hg
          isplitl [HT0]; · iexact HT0
          iexact HT1
        ipureintro
        intro s hs _ _
        obtain rfl : s = t := Fin.ext (by omega)
        have e : rowsAt m hO c s = xbOf (blk0 m hO c s) := by unfold rowsAt; rw [firstOf_self m hO s h0]
        exact ⟨e.symm, by rw [sumTo_first m hO c s h0]; unfold partAt; rw [e]⟩
      isplitl [Ho]; · iexact Ho
      isplitl [H0]; · iexact H0
      isplitl [H1]; · iexact H1
      isplitl [H2]; · iexact H2
      isplitl [H3]; · iexact H3
      iexists d4; iexact H4
    · have hlt : t.val - 1 < (cfgM m hO).N := by have := t.isLt; omega
      obtain ⟨hb, ha⟩ := hG ⟨t.val - 1, hlt⟩ (by show t.val = t.val - 1 + 1; omega) h0 (fun e => hf ((flag_tile m hO ⟨t.val - 1, hlt⟩ t (by show (t.val - 1) / 14 = t.val / 14; omega)).symm.trans e))
      have e : b = rowsAt m hO c t := by
        rw [hb]; unfold rowsAt; rw [firstOf_pred m hO t ⟨t.val - 1, hlt⟩ (by show t.val = t.val - 1 + 1; omega) h0]
      have es : addf a (k0_pay6 b (blk1 m hO c t) (blk2 m hO c t) (blk3 m hO c t)) = sumTo m hO c t.val t.isLt := by
        rw [sumTo_next m hO c t ⟨t.val - 1, hlt⟩ (by show t.val = t.val - 1 + 1; omega) h0, ha, e]; rfl
      rcases Classical.em (t.val % 14 = 13) with h1 | h1
      · rw [leaves_live m hO c t (live_of m hO t (.inr ⟨hf, h1⟩)), show outAt m hO c t = chunksOf (sumTo m hO c t.val t.isLt) from if_neg hf, ← es]
        iapply (run_last c (grid0.coords t) (ms0 m hO t) (hs0 m hO t) (ms1 m hO t) (hs1 m hO t) (ms2 m hO t) (hs2 m hO t) (ms3 m hO t) (hs3 m hO t) (ms4 m hO t) (hs4 m hO t)
          sx (Memref.isWhole_whole _) sa (Memref.isWhole_whole _) (blk0 m hO c t) (blk1 m hO c t) (blk2 m hO c t) (blk3 m hO c t) _ b a (tbl m 1) hf (hp.trans h1) Set.univ _)
        isplitl [H0 H1 H2 H3 H4 HS0 HS1 HT1]
        · unfold held
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          iexact HT1
        unfold held
        iintro ⟨H0, H1, H2, H3, H4, HS0, HS1, HT1⟩
        isplitl [HS0 HS1 Hg HT0 HT1]
        · iexists _; iexists _
          isplitr
          rotate_left
          · isplitl [HS0 HS1 Hg]
            · isplitl [HS0 HS1]
              · isplitl [HS0]; · iexact HS0
                iexact HS1
              iexact Hg
            isplitl [HT0]; · iexact HT0
            iexact HT1
          ipureintro
          intro s hs h14 _; omega
        isplitl [Ho]; · iexact Ho
        isplitl [H0]; · iexact H0
        isplitl [H1]; · iexact H1
        isplitl [H2]; · iexact H2
        isplitl [H3]; · iexact H3
        iexact H4
      · rw [(dats m hO 0 c).leavesExact_idle 4 t (idle_of m hO t (fun h => hf h.1) (fun h => h1 h.2)) (noflush_of m hO t h1)]
        iapply (run_mid c (grid0.coords t) (ms0 m hO t) (hs0 m hO t) (ms1 m hO t) (hs1 m hO t) (ms2 m hO t) (hs2 m hO t) (ms3 m hO t) (hs3 m hO t) (ms4 m hO t) (hs4 m hO t)
          sx (Memref.isWhole_whole _) sa (Memref.isWhole_whole _) (blk0 m hO c t) (blk1 m hO c t) (blk2 m hO c t) (blk3 m hO c t) _ b a (tbl m 1) hf (by omega) (by omega) Set.univ _)
        isplitl [H0 H1 H2 H3 H4 HS0 HS1 HT1]
        · unfold held
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          iexact HT1
        unfold held
        iintro ⟨H0, H1, H2, H3, H4, HS0, HS1, HT1⟩
        isplitl [HS0 HS1 Hg HT0 HT1]
        · iexists _; iexists _
          isplitr
          rotate_left
          · isplitl [HS0 HS1 Hg]
            · isplitl [HS0 HS1]
              · isplitl [HS0]; · iexact HS0
                iexact HS1
              iexact Hg
            isplitl [HT0]; · iexact HT0
            iexact HT1
          ipureintro
          intro s hs _ _
          obtain rfl : s = t := Fin.ext (by omega)
          exact ⟨e, es⟩
        isplitl [Ho]; · iexact Ho
        isplitl [H0]; · iexact H0
        isplitl [H1]; · iexact H1
        isplitl [H2]; · iexact H2
        isplitl [H3]; · iexact H3
        iexists d4; iexact H4

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiT_eq, PhiA_eq]
  unfold PhiS
  iintro ⟨⟨⟨⟨%b, HS0⟩, ⟨%a, HS1⟩⟩, Hg⟩, HT0, HT1⟩
  iexists b; iexists a
  isplitr
  · ipureintro; intro s hs; exact absurd hs (by omega)
  isplitl [HS0 HS1 Hg]
  · isplitl [HS0 HS1]
    · isplitl [HS0]; · iexact HS0
      iexact HS1
    iexact Hg
  isplitl [HT0]; · iexact HT0
  iexact HT1

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val from rfl, PhiA_eq]
  unfold PhiS
  iintro ⟨%b, %a, -, ⟨⟨HS0, HS1⟩, Hg⟩, -⟩
  isplitl [HS0 HS1]
  · isplitl [HS0]
    · iexists _; iexact HS0
    iexists _; iexact HS1
  iexact Hg

/-! ## The run -/

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

end Cert.Kernel2Ideal.Ffn

end
-- ==== Proof.Ffn.Tables.lean ====
/-
  The expert feed-forward's blocks: which block of which array each window holds at a point, given the tiles' experts and
  flags; and that every block lies in its array when the experts do.
-/
module

public import proofs.«01_k».proof.Proof.Ffn.Setup

@[expose] public section

set_option maxRecDepth 16384

noncomputable section

namespace Cert.Kernel2Ideal.Ffn

open Cert.Kernel2Ideal Cert.Kernel2Ideal.Gen
open Idealize.ShloMosaic Idealize.ShloMosaic.TcCoe

variable {F : FTy → Type} [FloatOps F]

/-- The part whose weights the point stages: its own, or the last where the tile is left out. -/
def partIx (pf : pre0.Contents (Elt F)) (i : grid0.Coords) : ℕ := if flagAt pf i = 0#32 then 13 else (i 1).val
theorem partIx_lt (pf : pre0.Contents (Elt F)) (i : grid0.Coords) : partIx pf i < 14 := by
  have hi : (i 1).val < 14 := (i 1).isLt
  unfold partIx; split <;> omega

theorem word_at (f : S72.Idx → BitVec 32) (i : grid0.Coords) (inb) (h1) :
    f ((Rect.unit (s := S72) (k0_off1 i) S1.size inb).emb (Shape.Idx.first h1)) = f (tx ⟨(i 0).val, (i 0).isLt⟩) := by
  refine congrArg f (funext fun (a : Fin 1) => ?_)
  obtain rfl : a = 0 := Subsingleton.elim _ _
  apply Fin.ext
  have e : k0_off1 i 0 = (i 0).val := by rw [k0_off1_eq]; rfl
  exact e

theorem pick_part (pf : pre0.Contents (Elt F)) (i : grid0.Coords) :
    (Scalar.select (Scalar.cmpi .ne (flagAt pf i) 0#32) (BitVec.ofNat 32 (i 1).val) 13#32).toNat = partIx pf i := by
  have hi : (i 1).val < 14 := (i 1).isLt
  unfold partIx
  by_cases h : flagAt pf i = 0#32
  · rw [if_pos h, h]; rfl
  · rw [if_neg h]
    have : Scalar.cmpi .ne (flagAt pf i) 0#32 = 1#1 := by simp [Scalar.cmpi, IntOp.cmpi]; first | (rw [bne_iff_ne.mpr h]; rfl) | (rw [beq_eq_false_iff_ne.mpr h]; rfl)
    rw [this]
    show (BitVec.ofNat 32 (i 1).val).toNat = _
    rw [BitVec.toNat_ofNat, Nat.mod_eq_of_lt (by omega)]

theorem ix1 (pf : pre0.Contents (Elt F)) (i : grid0.Coords) :
    cc0_transform_1 k0_off1_inb numel1_S1 pf i = ![(expAt pf i).toNat, 0, partIx pf i] := by
  rw [← pick_part]
  unfold cc0_transform_1
  refine congr (congrArg (fun x y => (![x, 0, y] : Fin 3 → ℕ)) (congrArg BitVec.toNat (word_at (pf 0) i _ _)))
    (congrArg (fun z : BitVec 32 => (Scalar.select (Scalar.cmpi .ne z 0#32) (BitVec.ofNat 32 (i 1).val) 13#32).toNat) (word_at (pf 1) i _ _))
theorem ix2 (pf : pre0.Contents (Elt F)) (i : grid0.Coords) :
    cc0_transform_2 k0_off1_inb numel1_S1 pf i = ![(expAt pf i).toNat, 0, partIx pf i] := ix1 pf i
theorem ix3 (pf : pre0.Contents (Elt F)) (i : grid0.Coords) :
    cc0_transform_3 k0_off1_inb numel1_S1 pf i = ![(expAt pf i).toNat, partIx pf i, 0] := by
  rw [← pick_part]
  unfold cc0_transform_3
  refine congr (congrArg (fun x y => (![x, y, 0] : Fin 3 → ℕ)) (congrArg BitVec.toNat (word_at (pf 0) i _ _)))
    (congrArg (fun z : BitVec 32 => (Scalar.select (Scalar.cmpi .ne z 0#32) (BitVec.ofNat 32 (i 1).val) 13#32).toNat) (word_at (pf 1) i _ _))

/-- Every block lies in its array when every tile's expert is one of the eight. -/
theorem ok_of (pf : pre0.Contents (Elt F)) (h : ∀ n, (pf 0 (tx n) : BitVec 32).toNat < 8) : ok0 pf := by
  have hin : ∀ i : grid0.Coords, ∀ a : Fin 3, ((![(expAt pf i).toNat, 0, partIx pf i] : Fin 3 → ℕ) a + 1) * S1x2048x512.size a ≤ S8x2048x7168.size a := by
    intro i a
    have h0 : (expAt pf i).toNat < 8 := h _
    have h1 := partIx_lt pf i
    match a with
    | 0 => show ((expAt pf i).toNat + 1) * 1 ≤ 8; omega
    | 1 => show (0 + 1) * 2048 ≤ 2048; omega
    | 2 => show (partIx pf i + 1) * 512 ≤ 7168; omega
  have hin3 : ∀ i : grid0.Coords, ∀ a : Fin 3, ((![(expAt pf i).toNat, partIx pf i, 0] : Fin 3 → ℕ) a + 1) * S1x512x2048.size a ≤ S8x7168x2048.size a := by
    intro i a
    have h0 : (expAt pf i).toNat < 8 := h _
    have h1 := partIx_lt pf i
    match a with
    | 0 => show ((expAt pf i).toNat + 1) * 1 ≤ 8; omega
    | 1 => show (partIx pf i + 1) * 512 ≤ 7168; omega
    | 2 => show (0 + 1) * 2048 ≤ 2048; omega
  refine ⟨fun i => ?_, fun i => ?_, fun i => ?_⟩
  · rw [ix1]
    exact ⟨hin i, .inr (.inr ⟨by decide, rfl, rfl, rfl⟩)⟩
  · rw [ix2]
    exact ⟨hin i, .inr (.inr ⟨by decide, rfl, rfl, rfl⟩)⟩
  · rw [ix3]
    exact ⟨hin3 i, .inr (.inl (.inr ⟨by decide, rfl, .inl ⟨⟨partIx pf i * 256, by show partIx pf i * 512 = 2 * (partIx pf i * 256); omega⟩, ⟨256, rfl⟩⟩⟩))⟩

end Cert.Kernel2Ideal.Ffn

end
-- ==== Proof.Ffn.Run.lean ====
/-
  The expert feed-forward's run: the result array holds the rows the grid wrote, and the arguments are as launched.
-/
module

public import proofs.«01_k».proof.Proof.Ffn.Launch
public import proofs.«01_k».proof.Proof.Ffn.Tables

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The result array after the last point. -/
def result (hO : Ok m) (c : Dev nD) : Buf (Elt F) ((c : Thread nD τ).loc main_v3) := (dats m hO 0 c).arrAt 4 (cfgM m hO).N

theorem run_main (hO : Ok m) : θ_run defs (onTc (τ := τ) (main (F := F))) ⟨m, fun _ => 0, ρ⟩ (fun r => (∀ c : Dev nD,
      r.2.mem ((c : Thread nD τ).loc main_v3) = result m hO c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run defs _ _).mono (fun r h => ⟨fun c => ⟨(h.1 c).1 4,
    ((h.1 c).1 0).trans (((dats m hO 0 c).arrAt_in 0 rfl _).trans ((A_eq m hO c 0).trans (V_arg0 m c))),
    ((h.1 c).2 main_arg1 (by decide : main_arg1 ∈ Pipeline.restRefs sig spec0)).trans (V_arg1 m c),
    ((h.1 c).2 main_arg2 (by decide : main_arg2 ∈ Pipeline.restRefs sig spec0)).trans (V_arg2 m c),
    ((h.1 c).2 main_arg3 (by decide : main_arg3 ∈ Pipeline.restRefs sig spec0)).trans (V_arg3 m c),
    ((h.1 c).2 main_arg4 (by decide : main_arg4 ∈ Pipeline.restRefs sig spec0)).trans (V_arg4 m c),
    ((h.1 c).2 main_arg5 (by decide : main_arg5 ∈ Pipeline.restRefs sig spec0)).trans (V_arg5 m c)⟩, h.2⟩) (run_main_quiescent m ρ hO)

/-- Every block lies in its array when every tile's expert, as launched, is one of the eight. -/
theorem ok_launched (h : ∀ (c : Dev nD) (n : S72.Idx), (m ((c : Thread nD τ).loc main_arg4) n : BitVec 32).toNat < 8) : Ok m := by
  refine ok_of (tbl m) fun n => ?_
  have e : (tbl m 0 : S72.Idx → BitVec 32) = m (((0 : Dev nD) : Thread nD τ).loc main_arg4) := V_arg4 m 0
  rw [e]; exact h 0 _

end Cert.Kernel2Ideal.Ffn

end
-- ==== Proof.Ffn.Bits.lean ====
/-
  The printed expert feed-forward is the idealized one's text: its run is that run, at any float values. And what its
  precondition says of the tiles' experts.
-/
module

public import proofs.«01_k».proof.Kernel2
public import proofs.«01_k».proof.Pre_experts_in_range
public import proofs.«01_k».proof.Proof.Gen.Kernel2
public import proofs.«01_k».proof.Proof.Ffn.Run

@[expose] public section

set_option maxRecDepth 16384

noncomputable section

namespace Cert.Ffn

open Idealize.ShloMosaic Idealize.ShloMosaic.TcCoe Idealize.SL.Sem

variable {F : FTy → Type} [FloatOps F]

theorem pcfg0_eq : Cert.Kernel2.pcfg0 (F := F) = Cert.Kernel2Ideal.pcfg0 (F := F) := rfl
theorem part1_eq : @Cert.Kernel2.k0_part1 F _ _ = @Cert.Kernel2Ideal.k0_part1 F _ _ := by
  funext i a2 h2 a3 h3 a4 h4 a5 h5 a6 h6 a7 h7 a8 h8 a9 h9 a10 h10
  unfold Cert.Kernel2.k0_part1 Cert.Kernel2Ideal.k0_part1
  rfl
theorem part2_eq : @Cert.Kernel2.k0_part2 F _ _ = @Cert.Kernel2Ideal.k0_part2 F _ _ := by
  funext i a2 h2 a3 h3 a4 h4 a5 h5 a6 h6 a7 h7 a8 h8 a9 h9 a10 h10
  unfold Cert.Kernel2.k0_part2 Cert.Kernel2Ideal.k0_part2
  rfl
theorem part3_eq : @Cert.Kernel2.k0_part3 F _ _ = @Cert.Kernel2Ideal.k0_part3 F _ _ := by
  funext i a2 h2 a3 h3 a4 h4 a5 h5 a6 h6 a7 h7 a8 h8 a9 h9 a10 h10 v
  unfold Cert.Kernel2.k0_part3 Cert.Kernel2Ideal.k0_part3
  rfl
theorem part4_eq : @Cert.Kernel2.k0_part4 F _ _ = @Cert.Kernel2Ideal.k0_part4 F _ _ := by
  funext i a2 h2 a3 h3 a4 h4 a5 h5 a6 h6 a7 h7 a8 h8 a9 h9 a10 h10 v w
  unfold Cert.Kernel2.k0_part4 Cert.Kernel2Ideal.k0_part4
  rfl
theorem body_eq (i : Cert.Kernel2.grid0.Coords) : Cert.Kernel2.cc0_grouped_ffn (F := F) i = Cert.Kernel2Ideal.cc0_grouped_ffn (F := F) i := by
  funext a2 h2 a3 h3 a4 h4 a5 h5 a6 h6 a7 h7 a8 h8 a9 h9 a10 h10
  unfold Cert.Kernel2.cc0_grouped_ffn Cert.Kernel2Ideal.cc0_grouped_ffn
  rfl
theorem defs₀_eq : Cert.Kernel2.defs₀ (F := F) = Cert.Kernel2Ideal.defs₀ (F := F) := by
  unfold Cert.Kernel2.defs₀ Cert.Kernel2Ideal.defs₀
  refine congrArg Defs.onTc ?_
  funext l x
  match l, x with
  | 0, (t, s) =>
    dsimp only
    rw [body_eq (F := F) (Cert.Kernel2.grid0.coords t)]
    rfl
  | ⟨n + 1, h⟩, _ => exact absurd h (by omega)
theorem defs_eq : Cert.Kernel2.defs (F := F) = Cert.Kernel2Ideal.defs (F := F) := congrArg (Pipeline.defs _) defs₀_eq
theorem main_eq : Cert.Kernel2.main (F := F) = Cert.Kernel2Ideal.main (F := F) := rfl

theorem run_iff (m : (ℓ : Loc Cert.Kernel2.nD Cert.Kernel2.τ Cert.Kernel2.sig) → Buf (Elt F) ℓ) (ρ : Dev Cert.Kernel2.nD → PrngReg)
    (Q : PUnit × MemSt Cert.Kernel2.nD Cert.Kernel2.τ Cert.Kernel2.sig (Elt F) → Prop)
    (h : θ_run Cert.Kernel2Ideal.defs (onTc (τ := Cert.Kernel2Ideal.τ) (Cert.Kernel2Ideal.main (F := F))) ⟨m, fun _ => 0, ρ⟩ Q) :
    θ_run Cert.Kernel2.defs (onTc (τ := Cert.Kernel2.τ) (Cert.Kernel2.main (F := F))) ⟨m, fun _ => 0, ρ⟩ Q := by
  rw [defs_eq, main_eq]; exact h

/-! ## The precondition -/

theorem pre_facts : Cert.Pre_experts_in_range.Facts := ⟨by decide⟩

open Cert.Pre_experts_in_range in
/-- The precondition, read at a tile. -/
theorem expert_lt [Cert.Pre_experts_in_range.Facts] (x0 : FVec F S589824x128 .f32) (x1 x2 : FVec F S8x2048x7168 .f32) (x3 : FVec F S8x7168x2048 .f32)
    (te tv : IVec S72 32) (h : fn (F := F) x0 x1 x2 x3 te tv = fun _ => 1#1) (k : S72.Idx) : (te k).toNat < 8 := by
  have both (a b : BitVec 1) : IntOp.andi a b = 1#1 ↔ a = 1#1 ∧ b = 1#1 := by revert a b; decide
  have hk := congrFun h k
  simp only [fn, constantI, broadcastInDim, cmpi, andi, both] at hk
  obtain ⟨h1, h2⟩ := hk
  have one (b : Bool) (h : BitVec.ofBool b = 1#1) : b = true := by revert h; cases b <;> decide
  have g1 : (0#32).sle (te k) = true := one _ h1
  have g2 : (te k).slt 8#32 = true := one _ h2
  rw [BitVec.sle, decide_eq_true_eq] at g1
  rw [BitVec.slt, decide_eq_true_eq] at g2
  have e0 : (0#32).toInt = 0 := by decide
  have e1 : (8#32).toInt = 8 := by decide
  rw [e0] at g1
  rw [e1] at g2
  have hc := BitVec.toInt_eq_toNat_cond (te k)
  split at hc <;> omega

end Cert.Ffn
end
-- ==== Proof.Ffn.Spec.lean ====
/-
  The expert feed-forward as sums over the extended reals: a token's row, its products with an expert's gate, up and down
  matrices, and the result, tile by tile.
-/
module

public import Idealize.ShloMosaic.Lib.ValueIdx
public import Idealize.ShloMosaic.Lib.MatmulPlain
public import Idealize.ShloMosaic.Lib.Pointwise.Sums
public import Idealize.ShloMosaic.PureOps.Ideal.Laws

@[expose] public section

noncomputable section

namespace Cert.Ffn

open Idealize.ShloMosaic

/-- The token rows in 16 chunks of 128, the gate's or up projection's matrices, the down projection's, and a word for each tile. -/
abbrev Rows : Type := FVec Ideal ⟨2, ![589824, 128]⟩ .f32
abbrev Wide : Type := FVec Ideal ⟨3, ![8, 2048, 7168]⟩ .f32
abbrev Back : Type := FVec Ideal ⟨3, ![8, 7168, 2048]⟩ .f32
abbrev Words : Type := IVec ⟨1, ![72]⟩ 32

/-- Entry `q` of token `n`'s row. -/
def tok (x : Rows) (n : Fin 36864) (q : Fin 2048) : EReal :=
  x (ValueIdx.ix2 ⟨16 * n.val + q.val / 128, by omega⟩ ⟨q.val % 128, Nat.mod_lt _ (by decide)⟩)
/-- Token `n`'s row by column `k` of expert `e`'s matrix. -/
def proj (x : Rows) (w : Wide) (e : Fin 8) (n : Fin 36864) (k : Fin 7168) : EReal := ∑ q : Fin 2048, tok x n q * w (ValueIdx.ix3 e q k)
/-- The gated hidden value. -/
def act (x : Rows) (wg wu : Wide) (e : Fin 8) (n : Fin 36864) (k : Fin 7168) : EReal :=
  proj x wg e n k * Ideal.logistic (proj x wg e n k) * proj x wu e n k
/-- Entry `j` of expert `e`'s answer for token `n`. -/
def ffn (x : Rows) (wg wu : Wide) (wd : Back) (e : Fin 8) (n : Fin 36864) (j : Fin 2048) : EReal :=
  ∑ k : Fin 7168, act x wg wu e n k * wd (ValueIdx.ix3 e k j)

/-- A word as an expert. -/
def expertOf (b : BitVec 32) : Fin 8 := ⟨b.toNat % 8, Nat.mod_lt _ (by decide)⟩
/-- Tile `i`'s place in a table. -/
abbrev tileIx (i : Fin 72) : (⟨1, ![72]⟩ : Shape).Idx := fun a => match a with | ⟨0, _⟩ => i

/-- Entry `j` of token `n`'s row of the result: zero where the token's tile is left out. -/
def answer (x : Rows) (wg wu : Wide) (wd : Back) (te tv : Words) (n : Fin 36864) (j : Fin 2048) : EReal :=
  if tv (tileIx ⟨n.val / 512, by omega⟩) = 0#32 then 0
  else ffn x wg wu wd (expertOf (te (tileIx ⟨n.val / 512, by omega⟩))) n j
/-- The result, in chunks. -/
def answers (x : Rows) (wg wu : Wide) (wd : Back) (te tv : Words) : Rows := fun r =>
  answer x wg wu wd te tv ⟨(r 0).val / 16, by have h : (r 0).val < 589824 := (r 0).isLt; omega⟩
    ⟨128 * ((r 0).val % 16) + (r 1).val, by have h : (r 1).val < 128 := (r 1).isLt; omega⟩

theorem one_f32 : Ideal.ofBits .f32 0x3F800000#32 = 1 := by simp [Ideal.ofBits, Ideal.ieee, -EReal.coe_mul]; norm_num

/-- The hidden positions in fourteen parts of 512. -/
theorem ffn_parts (x : Rows) (wg wu : Wide) (wd : Back) (e : Fin 8) (n : Fin 36864) (j : Fin 2048) :
    ffn x wg wu wd e n j = ∑ f : Fin 14, ∑ k : Fin 512,
      act x wg wu e n ⟨f.val * 512 + k.val, by omega⟩ * wd (ValueIdx.ix3 e ⟨f.val * 512 + k.val, by omega⟩ j) :=
  Fin.sum_univ_tiles 14 512 rfl _

end Cert.Ffn
end
-- ==== Proof.Ffn.Ref.lean ====
/-
  The reference's expert feed-forward, read at an index: the selection over the eight experts leaves each token its own.
-/
module

public import proofs.«01_k».proof.Proof.Gen.Reference2Ideal.Read
public import proofs.«01_k».proof.Proof.Ffn.Spec

@[expose] public section

set_option maxRecDepth 16384

noncomputable section

namespace Cert.Ffn

open Idealize.ShloMosaic Idealize.ShloMosaic.TcCoe
open Idealize.ShloMosaic.ValueIdx hiding ix2 ix3
open Cert.Reference2Ideal Cert.Reference2Ideal.Gen Cert.Reference2Ideal.Read

theorem wide_apply (e : ℕ) (he : e < 8) (x : Wide) (h : S8x2048x7168.Slices ![e, 0, 0] S1x2048x7168) (q : Fin 2048) (k : Fin 7168) :
    shapeCast S2048x7168 (extractStridedSlice S1x2048x7168 ![e, 0, 0] x h) shapeCasts_S1x2048x7168_S2048x7168 (ValueIdx.ix2 q k) = x (ValueIdx.ix3 ⟨e, he⟩ q k) :=
  (shapeCast_apply _ _ (ValueIdx.ix2 q k) (ValueIdx.ix3 (0 : Fin 1) q k)
    (by rewrite [Shape.rowMajor_val_three, Shape.rowMajor_val_two]; show (0 * 2048 + q.val) * 7168 + k.val = q.val * 7168 + k.val; omega)).trans
  (extractStridedSlice_apply _ x h _ (ValueIdx.ix3 ⟨e, he⟩ q k) (fun a => match a with
    | ⟨0, _⟩ => by show e = e + 0; omega
    | ⟨1, _⟩ => by show q.val = 0 + q.val; omega
    | ⟨2, _⟩ => by show k.val = 0 + k.val; omega))
theorem back_apply (e : ℕ) (he : e < 8) (x : Back) (h : S8x7168x2048.Slices ![e, 0, 0] S1x7168x2048) (k : Fin 7168) (j : Fin 2048) :
    shapeCast S7168x2048 (extractStridedSlice S1x7168x2048 ![e, 0, 0] x h) shapeCasts_S1x7168x2048_S7168x2048 (ValueIdx.ix2 k j) = x (ValueIdx.ix3 ⟨e, he⟩ k j) :=
  (shapeCast_apply _ _ (ValueIdx.ix2 k j) (ValueIdx.ix3 (0 : Fin 1) k j)
    (by rewrite [Shape.rowMajor_val_three, Shape.rowMajor_val_two]; show (0 * 7168 + k.val) * 2048 + j.val = k.val * 2048 + j.val; omega)).trans
  (extractStridedSlice_apply _ x h _ (ValueIdx.ix3 ⟨e, he⟩ k j) (fun a => match a with
    | ⟨0, _⟩ => by show e = e + 0; omega
    | ⟨1, _⟩ => by show k.val = 0 + k.val; omega
    | ⟨2, _⟩ => by show j.val = 0 + j.val; omega))

theorem tok_apply (x : Rows) (n : Fin 36864) (q : Fin 2048) : val_main_v0 (F := Ideal) x (ValueIdx.ix2 n q) = tok x n q := by
  rw [val_main_v0_apply]
  unfold tok
  refine congrArg x (funext fun a => Fin.ext ?_)
  match a with
  | ⟨0, _⟩ => show (n.val * 2048 + q.val) / 128 = 16 * n.val + q.val / 128; omega
  | ⟨1, _⟩ => show (n.val * 2048 + q.val) % 128 = q.val % 128; omega

theorem dot1_apply (t : FVec Ideal S36864x2048 .f32) (w : FVec Ideal S2048x7168 .f32) (n : Fin 36864) (k : Fin 7168) :
    Host.dotGeneral dot_S36864x2048_S2048x7168_S36864x7168_1_0_0_1_n_n none t w (ValueIdx.ix2 n k) = ∑ q : Fin 2048, t (ValueIdx.ix2 n q) * w (ValueIdx.ix2 q k) := by
  simp only [Host.dotGeneral]; rw [Ideal.dotGeneral_def]
  exact (Ideal.matmul_plain_apply none t w (fun _ => 0) n k).trans (zero_add _)
theorem dot2_apply (t : FVec Ideal S36864x7168 .f32) (w : FVec Ideal S7168x2048 .f32) (n : Fin 36864) (j : Fin 2048) :
    Host.dotGeneral dot_S36864x7168_S7168x2048_S36864x2048_1_0_0_1_n_n none t w (ValueIdx.ix2 n j) = ∑ k : Fin 7168, t (ValueIdx.ix2 n k) * w (ValueIdx.ix2 k j) := by
  simp only [Host.dotGeneral]; rw [Ideal.dotGeneral_def]
  exact (Ideal.matmul_plain_apply none t w (fun _ => 0) n j).trans (zero_add _)

/-- One expert over every token, as the reference computes it. -/
def hidden (e : ℕ) (h : S8x2048x7168.Slices ![e, 0, 0] S1x2048x7168) (x : Rows) (w : Wide) : FVec Ideal S36864x7168 .f32 :=
  Host.dotGeneral (φ₁ := .f32) dot_S36864x2048_S2048x7168_S36864x7168_1_0_0_1_n_n none (val_main_v0 (F := Ideal) x : FVec Ideal S36864x2048 .f32)
    (shapeCast S2048x7168 (extractStridedSlice S1x2048x7168 ![e, 0, 0] w h) shapeCasts_S1x2048x7168_S2048x7168)
def ones : FVec Ideal S36864x7168 .f32 := broadcastInDim S36864x7168 ![] bcast_S_S36864x7168 (constant S_ .f32 0x3F800000#32)
def one (e : ℕ) (h : S8x2048x7168.Slices ![e, 0, 0] S1x2048x7168) (h' : S8x7168x2048.Slices ![e, 0, 0] S1x7168x2048)
    (x : Rows) (wg wu : Wide) (wd : Back) : FVec Ideal S36864x2048 .f32 :=
  Host.dotGeneral dot_S36864x7168_S7168x2048_S36864x2048_1_0_0_1_n_n none
    (mulf (mulf (hidden e h x wg) (Host.divf ones (addf ones (Host.exp (Host.negf (hidden e h x wg)))))) (hidden e h x wu))
    (shapeCast S7168x2048 (extractStridedSlice S1x7168x2048 ![e, 0, 0] wd h') shapeCasts_S1x7168x2048_S7168x2048)

theorem hidden_apply (e : ℕ) (he : e < 8) (h) (x : Rows) (w : Wide) (n : Fin 36864) (k : Fin 7168) :
    hidden e h x w (ValueIdx.ix2 n k) = proj x w ⟨e, he⟩ n k := by
  unfold hidden proj
  rw [dot1_apply]
  exact Finset.sum_congr rfl fun q _ => by rw [tok_apply, wide_apply e he]
theorem ones_apply (i : S36864x7168.Idx) : ones i = 1 := one_f32
theorem one_apply (e : ℕ) (he : e < 8) (h) (h') (x : Rows) (wg wu : Wide) (wd : Back) (n : Fin 36864) (j : Fin 2048) :
    one e h h' x wg wu wd (ValueIdx.ix2 n j) = ffn x wg wu wd ⟨e, he⟩ n j := by
  unfold one ffn
  rw [dot2_apply]
  refine Finset.sum_congr rfl fun k _ => ?_
  rw [back_apply e he]
  refine congrArg (· * _) ?_
  show hidden e h x wg (ValueIdx.ix2 n k) * Ideal.div (ones (ValueIdx.ix2 n k)) (ones (ValueIdx.ix2 n k) + Ideal.exp (-(hidden e h x wg (ValueIdx.ix2 n k)))) * hidden e h x wu (ValueIdx.ix2 n k) = _
  rw [ones_apply, hidden_apply e he, hidden_apply e he]
  rfl

/-! ## The selection -/

/-- Tokens of expert `b` take `v`; the others keep `y`. -/
def pick (b : BitVec 32) (own : IVec S36864x1 32) (v y : FVec Ideal S36864x2048 .f32) : FVec Ideal S36864x2048 .f32 :=
  select (broadcastInDim S36864x2048 ![0, 1] bcast_S36864x1_S36864x2048_0_1
    (cmpi .eq own (broadcastInDim S36864x1 ![] bcast_S_S36864x1 (constantI S_ 32 b)))) v y
theorem pick_apply (b : BitVec 32) (own : IVec S36864x1 32) (v y : FVec Ideal S36864x2048 .f32) (n : Fin 36864) (j : Fin 2048) :
    pick b own v y (ValueIdx.ix2 n j) = if own (ValueIdx.ix2 n 0) = b then v (ValueIdx.ix2 n j) else y (ValueIdx.ix2 n j) := by
  unfold pick
  rw [select_apply, broadcastInDim_apply _ _ _ (ValueIdx.ix2 n j) (ValueIdx.ix2 n (0 : Fin 1)) (fun a => match a with | ⟨0, _⟩ => rfl | ⟨1, _⟩ => rfl)]
  show Scalar.select (IntOp.cmpi .eq (own (ValueIdx.ix2 n 0)) b) _ _ = _
  by_cases hb : own (ValueIdx.ix2 n 0) = b
  · rw [if_pos hb, hb]; simp [Scalar.select, IntOp.cmpi]
  · rw [if_neg hb]
    have h : (own (ValueIdx.ix2 n 0) == b) = false := beq_eq_false_iff_ne.mpr hb
    simp [Scalar.select, IntOp.cmpi, h]

theorem own_apply (te tv : Words) (n : Fin 36864) :
    val_main_v6 (F := Ideal) te tv (ValueIdx.ix2 n 0)
      = if tv (tileIx ⟨n.val / 512, by omega⟩) = 0#32 then 8#32 else te (tileIx ⟨n.val / 512, by omega⟩) := by
  rw [val_main_v6_apply, val_main_v5_apply, val_main_v4_apply, val_main_v3_apply]
  have e : idx_main_v4 (idx_main_v5 (idx_main_v6 (ValueIdx.ix2 n (0 : Fin 1)))) = tileIx ⟨n.val / 512, by omega⟩ := by
    funext (a : Fin 1)
    obtain rfl : a = 0 := Subsingleton.elim _ _
    apply Fin.ext
    show (n.val * 1 + 0) / 512 = n.val / 512
    omega
  rw [e]
  show Scalar.select (IntOp.cmpi .ne (tv _) 0#32) (te _) 8#32 = _
  by_cases hb : tv (tileIx ⟨n.val / 512, by omega⟩) = 0#32
  · rw [if_pos hb, hb]; simp [Scalar.select, IntOp.cmpi]
  · rw [if_neg hb]
    have h : (tv (tileIx ⟨n.val / 512, by omega⟩) != 0#32) = true := bne_iff_ne.mpr hb
    simp [Scalar.select, IntOp.cmpi, h]

section chain
variable (x : Rows) (wg wu : Wide) (wd : Back) (te tv : Words)
theorem gate0 : val_main_v16 (F := Ideal) x wg = hidden 0 slices_S8x2048x7168_S1x2048x7168_0_0_0 x wg := by
  unfold val_main_v16 val_main_v11 val_main_v10 hidden; rfl
theorem up0 : val_main_v18 (F := Ideal) x wu = hidden 0 slices_S8x2048x7168_S1x2048x7168_0_0_0 x wu := by
  unfold val_main_v18 val_main_v13 val_main_v12 hidden; rfl
theorem one0 : val_main_v20 (F := Ideal) x wg wu wd = one 0 slices_S8x2048x7168_S1x2048x7168_0_0_0 slices_S8x7168x2048_S1x7168x2048_0_0_0 x wg wu wd := by
  unfold val_main_v20 val_main_v19 val_main_v17 val_main_call1_v5 val_main_call1_v3 val_main_call1_v1 val_main_call1_v0
  rw [gate0, up0]
  unfold val_main_v15 val_main_v14 val_main_call1_v4 val_main_call1_v2 one ones; rfl
theorem pick0 : val_main_v21 (F := Ideal) x wg wu wd te tv
    = pick 0#32 (val_main_v6 (F := Ideal) te tv) (one 0 slices_S8x2048x7168_S1x2048x7168_0_0_0 slices_S8x7168x2048_S1x7168x2048_0_0_0 x wg wu wd) (val_main_v7 (F := Ideal)) := by
  unfold val_main_v21 val_main_call2_v0 val_main_v9
  rw [one0]
  unfold val_main_v8 pick; rfl
theorem gate1 : val_main_v30 (F := Ideal) x wg = hidden 1 slices_S8x2048x7168_S1x2048x7168_1_0_0 x wg := by
  unfold val_main_v30 val_main_v25 val_main_v24 hidden; rfl
theorem up1 : val_main_v32 (F := Ideal) x wu = hidden 1 slices_S8x2048x7168_S1x2048x7168_1_0_0 x wu := by
  unfold val_main_v32 val_main_v27 val_main_v26 hidden; rfl
theorem one1 : val_main_v34 (F := Ideal) x wg wu wd = one 1 slices_S8x2048x7168_S1x2048x7168_1_0_0 slices_S8x7168x2048_S1x7168x2048_1_0_0 x wg wu wd := by
  unfold val_main_v34 val_main_v33 val_main_v31 val_main_call3_v5 val_main_call3_v3 val_main_call3_v1 val_main_call3_v0
  rw [gate1, up1]
  unfold val_main_v29 val_main_v28 val_main_call3_v4 val_main_call3_v2 one ones; rfl
theorem pick1 : val_main_v35 (F := Ideal) x wg wu wd te tv
    = pick 1#32 (val_main_v6 (F := Ideal) te tv) (one 1 slices_S8x2048x7168_S1x2048x7168_1_0_0 slices_S8x7168x2048_S1x7168x2048_1_0_0 x wg wu wd) (val_main_v21 (F := Ideal) x wg wu wd te tv) := by
  unfold val_main_v35 val_main_call4_v0 val_main_v23
  rw [one1]
  unfold val_main_v22 pick; rfl
theorem gate2 : val_main_v44 (F := Ideal) x wg = hidden 2 slices_S8x2048x7168_S1x2048x7168_2_0_0 x wg := by
  unfold val_main_v44 val_main_v39 val_main_v38 hidden; rfl
theorem up2 : val_main_v46 (F := Ideal) x wu = hidden 2 slices_S8x2048x7168_S1x2048x7168_2_0_0 x wu := by
  unfold val_main_v46 val_main_v41 val_main_v40 hidden; rfl
theorem one2 : val_main_v48 (F := Ideal) x wg wu wd = one 2 slices_S8x2048x7168_S1x2048x7168_2_0_0 slices_S8x7168x2048_S1x7168x2048_2_0_0 x wg wu wd := by
  unfold val_main_v48 val_main_v47 val_main_v45 val_main_call5_v5 val_main_call5_v3 val_main_call5_v1 val_main_call5_v0
  rw [gate2, up2]
  unfold val_main_v43 val_main_v42 val_main_call5_v4 val_main_call5_v2 one ones; rfl
theorem pick2 : val_main_v49 (F := Ideal) x wg wu wd te tv
    = pick 2#32 (val_main_v6 (F := Ideal) te tv) (one 2 slices_S8x2048x7168_S1x2048x7168_2_0_0 slices_S8x7168x2048_S1x7168x2048_2_0_0 x wg wu wd) (val_main_v35 (F := Ideal) x wg wu wd te tv) := by
  unfold val_main_v49 val_main_call6_v0 val_main_v37
  rw [one2]
  unfold val_main_v36 pick; rfl
theorem gate3 : val_main_v58 (F := Ideal) x wg = hidden 3 slices_S8x2048x7168_S1x2048x7168_3_0_0 x wg := by
  unfold val_main_v58 val_main_v53 val_main_v52 hidden; rfl
theorem up3 : val_main_v60 (F := Ideal) x wu = hidden 3 slices_S8x2048x7168_S1x2048x7168_3_0_0 x wu := by
  unfold val_main_v60 val_main_v55 val_main_v54 hidden; rfl
theorem one3 : val_main_v62 (F := Ideal) x wg wu wd = one 3 slices_S8x2048x7168_S1x2048x7168_3_0_0 slices_S8x7168x2048_S1x7168x2048_3_0_0 x wg wu wd := by
  unfold val_main_v62 val_main_v61 val_main_v59 val_main_call7_v5 val_main_call7_v3 val_main_call7_v1 val_main_call7_v0
  rw [gate3, up3]
  unfold val_main_v57 val_main_v56 val_main_call7_v4 val_main_call7_v2 one ones; rfl
theorem pick3 : val_main_v63 (F := Ideal) x wg wu wd te tv
    = pick 3#32 (val_main_v6 (F := Ideal) te tv) (one 3 slices_S8x2048x7168_S1x2048x7168_3_0_0 slices_S8x7168x2048_S1x7168x2048_3_0_0 x wg wu wd) (val_main_v49 (F := Ideal) x wg wu wd te tv) := by
  unfold val_main_v63 val_main_call8_v0 val_main_v51
  rw [one3]
  unfold val_main_v50 pick; rfl
theorem gate4 : val_main_v72 (F := Ideal) x wg = hidden 4 slices_S8x2048x7168_S1x2048x7168_4_0_0 x wg := by
  unfold val_main_v72 val_main_v67 val_main_v66 hidden; rfl
theorem up4 : val_main_v74 (F := Ideal) x wu = hidden 4 slices_S8x2048x7168_S1x2048x7168_4_0_0 x wu := by
  unfold val_main_v74 val_main_v69 val_main_v68 hidden; rfl
theorem one4 : val_main_v76 (F := Ideal) x wg wu wd = one 4 slices_S8x2048x7168_S1x2048x7168_4_0_0 slices_S8x7168x2048_S1x7168x2048_4_0_0 x wg wu wd := by
  unfold val_main_v76 val_main_v75 val_main_v73 val_main_call9_v5 val_main_call9_v3 val_main_call9_v1 val_main_call9_v0
  rw [gate4, up4]
  unfold val_main_v71 val_main_v70 val_main_call9_v4 val_main_call9_v2 one ones; rfl
theorem pick4 : val_main_v77 (F := Ideal) x wg wu wd te tv
    = pick 4#32 (val_main_v6 (F := Ideal) te tv) (one 4 slices_S8x2048x7168_S1x2048x7168_4_0_0 slices_S8x7168x2048_S1x7168x2048_4_0_0 x wg wu wd) (val_main_v63 (F := Ideal) x wg wu wd te tv) := by
  unfold val_main_v77 val_main_call10_v0 val_main_v65
  rw [one4]
  unfold val_main_v64 pick; rfl
theorem gate5 : val_main_v86 (F := Ideal) x wg = hidden 5 slices_S8x2048x7168_S1x2048x7168_5_0_0 x wg := by
  unfold val_main_v86 val_main_v81 val_main_v80 hidden; rfl
theorem up5 : val_main_v88 (F := Ideal) x wu = hidden 5 slices_S8x2048x7168_S1x2048x7168_5_0_0 x wu := by
  unfold val_main_v88 val_main_v83 val_main_v82 hidden; rfl
theorem one5 : val_main_v90 (F := Ideal) x wg wu wd = one 5 slices_S8x2048x7168_S1x2048x7168_5_0_0 slices_S8x7168x2048_S1x7168x2048_5_0_0 x wg wu wd := by
  unfold val_main_v90 val_main_v89 val_main_v87 val_main_call11_v5 val_main_call11_v3 val_main_call11_v1 val_main_call11_v0
  rw [gate5, up5]
  unfold val_main_v85 val_main_v84 val_main_call11_v4 val_main_call11_v2 one ones; rfl
theorem pick5 : val_main_v91 (F := Ideal) x wg wu wd te tv
    = pick 5#32 (val_main_v6 (F := Ideal) te tv) (one 5 slices_S8x2048x7168_S1x2048x7168_5_0_0 slices_S8x7168x2048_S1x7168x2048_5_0_0 x wg wu wd) (val_main_v77 (F := Ideal) x wg wu wd te tv) := by
  unfold val_main_v91 val_main_call12_v0 val_main_v79
  rw [one5]
  unfold val_main_v78 pick; rfl
theorem gate6 : val_main_v100 (F := Ideal) x wg = hidden 6 slices_S8x2048x7168_S1x2048x7168_6_0_0 x wg := by
  unfold val_main_v100 val_main_v95 val_main_v94 hidden; rfl
theorem up6 : val_main_v102 (F := Ideal) x wu = hidden 6 slices_S8x2048x7168_S1x2048x7168_6_0_0 x wu := by
  unfold val_main_v102 val_main_v97 val_main_v96 hidden; rfl
theorem one6 : val_main_v104 (F := Ideal) x wg wu wd = one 6 slices_S8x2048x7168_S1x2048x7168_6_0_0 slices_S8x7168x2048_S1x7168x2048_6_0_0 x wg wu wd := by
  unfold val_main_v104 val_main_v103 val_main_v101 val_main_call13_v5 val_main_call13_v3 val_main_call13_v1 val_main_call13_v0
  rw [gate6, up6]
  unfold val_main_v99 val_main_v98 val_main_call13_v4 val_main_call13_v2 one ones; rfl
theorem pick6 : val_main_v105 (F := Ideal) x wg wu wd te tv
    = pick 6#32 (val_main_v6 (F := Ideal) te tv) (one 6 slices_S8x2048x7168_S1x2048x7168_6_0_0 slices_S8x7168x2048_S1x7168x2048_6_0_0 x wg wu wd) (val_main_v91 (F := Ideal) x wg wu wd te tv) := by
  unfold val_main_v105 val_main_call14_v0 val_main_v93
  rw [one6]
  unfold val_main_v92 pick; rfl
theorem gate7 : val_main_v114 (F := Ideal) x wg = hidden 7 slices_S8x2048x7168_S1x2048x7168_7_0_0 x wg := by
  unfold val_main_v114 val_main_v109 val_main_v108 hidden; rfl
theorem up7 : val_main_v116 (F := Ideal) x wu = hidden 7 slices_S8x2048x7168_S1x2048x7168_7_0_0 x wu := by
  unfold val_main_v116 val_main_v111 val_main_v110 hidden; rfl
theorem one7 : val_main_v118 (F := Ideal) x wg wu wd = one 7 slices_S8x2048x7168_S1x2048x7168_7_0_0 slices_S8x7168x2048_S1x7168x2048_7_0_0 x wg wu wd := by
  unfold val_main_v118 val_main_v117 val_main_v115 val_main_call15_v5 val_main_call15_v3 val_main_call15_v1 val_main_call15_v0
  rw [gate7, up7]
  unfold val_main_v113 val_main_v112 val_main_call15_v4 val_main_call15_v2 one ones; rfl
theorem pick7 : val_main_v119 (F := Ideal) x wg wu wd te tv
    = pick 7#32 (val_main_v6 (F := Ideal) te tv) (one 7 slices_S8x2048x7168_S1x2048x7168_7_0_0 slices_S8x7168x2048_S1x7168x2048_7_0_0 x wg wu wd) (val_main_v105 (F := Ideal) x wg wu wd te tv) := by
  unfold val_main_v119 val_main_call16_v0 val_main_v107
  rw [one7]
  unfold val_main_v106 pick; rfl
end chain

theorem picked (x : Rows) (wg wu : Wide) (wd : Back) (te tv : Words) (hte : ∀ i, (te i).toNat < 8) (n : Fin 36864) (j : Fin 2048) :
    val_main_v119 (F := Ideal) x wg wu wd te tv (ValueIdx.ix2 n j) = answer x wg wu wd te tv n j := by
  rw [pick7, pick_apply, one_apply 7 (by decide)]
  rw [pick6, pick_apply, one_apply 6 (by decide)]
  rw [pick5, pick_apply, one_apply 5 (by decide)]
  rw [pick4, pick_apply, one_apply 4 (by decide)]
  rw [pick3, pick_apply, one_apply 3 (by decide)]
  rw [pick2, pick_apply, one_apply 2 (by decide)]
  rw [pick1, pick_apply, one_apply 1 (by decide)]
  rw [pick0, pick_apply, one_apply 0 (by decide)]
  rw [own_apply]
  have z : val_main_v7 (F := Ideal) (ValueIdx.ix2 n j) = 0 := Ideal.ofBits_zero_f32
  rw [z]
  unfold answer
  by_cases hb : tv (tileIx ⟨n.val / 512, by omega⟩) = 0#32
  · rw [if_pos hb, if_pos hb]; rfl
  · rw [if_neg hb, if_neg hb]
    have h8 := hte (tileIx ⟨n.val / 512, by omega⟩)
    generalize te (tileIx ⟨n.val / 512, by omega⟩) = b at h8 ⊢
    obtain ⟨v, hv⟩ : ∃ v : Fin 8, b = BitVec.ofNat 32 v.val := ⟨⟨b.toNat, h8⟩, by simp⟩
    subst hv
    match v with
    | 0 => rfl
    | 1 => rfl
    | 2 => rfl
    | 3 => rfl
    | 4 => rfl
    | 5 => rfl
    | 6 => rfl
    | 7 => rfl

/-- The reference's result is the sums. -/
theorem ref_value (x : Rows) (wg wu : Wide) (wd : Back) (te tv : Words) (hte : ∀ i, (te i).toNat < 8) :
    val_main_v120 (F := Ideal) x wg wu wd te tv = answers x wg wu wd te tv := by
  funext r
  rw [val_main_v120_apply]
  have h0 : (r 0).val < 589824 := (r 0).isLt
  have h1 : (r 1).val < 128 := (r 1).isLt
  have e : idx_main_v120 r = ValueIdx.ix2 (⟨(r 0).val / 16, by omega⟩ : Fin 36864) (⟨128 * ((r 0).val % 16) + (r 1).val, by omega⟩ : Fin 2048) := by
    funext a; apply Fin.ext
    match a with
    | ⟨0, _⟩ => show ((r 0).val * 128 + (r 1).val) / 2048 = (r 0).val / 16; omega
    | ⟨1, _⟩ => show ((r 0).val * 128 + (r 1).val) % 2048 = 128 * ((r 0).val % 16) + (r 1).val; omega
  rw [e, picked x wg wu wd te tv hte]
  rfl

end Cert.Ffn
end
-- ==== Proof.Ffn.Blocks.lean ====
/-
  The blocks the expert feed-forward stages, read at an index of the arrays as launched, with exact arithmetic.
-/
module

public import proofs.«01_k».proof.Proof.Ffn.Run
public import proofs.«01_k».proof.Proof.Ffn.Spec

@[expose] public section

set_option maxRecDepth 16384

noncomputable section

namespace Cert.Kernel2Ideal.Ffn

open Cert.Kernel2Ideal Cert.Kernel2Ideal.Gen
open Idealize.ShloMosaic Idealize.ShloMosaic.TcCoe
open Cert.Ffn (Rows Wide Back Words tok proj act ffn expertOf tileIx answer answers)

variable (m : (ℓ : Loc nD τ sig) → Buf (Elt Ideal) ℓ)

/-! ## The arrays as launched, by their types -/

def aX (c : Dev nD) : Rows := m ((c : Thread nD τ).loc main_arg0)
def aG (c : Dev nD) : Wide := m ((c : Thread nD τ).loc main_arg1)
def aU (c : Dev nD) : Wide := m ((c : Thread nD τ).loc main_arg2)
def aD (c : Dev nD) : Back := m ((c : Thread nD τ).loc main_arg3)
def aE (c : Dev nD) : Words := m ((c : Thread nD τ).loc main_arg4)
def aF (c : Dev nD) : Words := m ((c : Thread nD τ).loc main_arg5)

theorem V_v0 (c : Dev nD) : V m c main_v0 = truncf .bf16 (aG m c) bitsLt_bf16_f32 := by
  show StableHlo.after hostOps0 _ (Proc.devRef .tc main_v0) = _
  after_results
  rfl
theorem V_v1 (c : Dev nD) : V m c main_v1 = truncf .bf16 (aU m c) bitsLt_bf16_f32 := by
  show StableHlo.after hostOps0 _ (Proc.devRef .tc main_v1) = _
  after_results
  rfl
theorem V_v2 (c : Dev nD) : V m c main_v2 = truncf .bf16 (aD m c) bitsLt_bf16_f32 := by
  show StableHlo.after hostOps0 _ (Proc.devRef .tc main_v2) = _
  after_results
  rfl

/-! ## Tiles and parts -/

variable (hO : Ok m) (c : Dev nD)

theorem lt_N (t : Fin (cfgM m hO).N) : t.val < 1008 := Nat.lt_of_lt_of_eq t.isLt (size_N m hO)
def tileOf (t : Fin (cfgM m hO).N) : Fin 72 := ⟨t.val / 14, by have := lt_N m hO t; omega⟩
def partOf (t : Fin (cfgM m hO).N) : Fin 14 := ⟨t.val % 14, Nat.mod_lt _ (by decide)⟩
/-- Row `r` of tile `i`, as a token. -/
def rowOf (i : Fin 72) (r : Fin 512) : Fin 36864 := ⟨i.val * 512 + r.val, by omega⟩
/-- Position `k` of part `f`. -/
def posOf (f : Fin 14) (k : Fin 512) : Fin 7168 := ⟨f.val * 512 + k.val, by omega⟩

theorem tx_eq (t : Fin (cfgM m hO).N) : tx ⟨(grid0.coords t 0).val, (grid0.coords t 0).isLt⟩ = tileIx (tileOf m hO t) := by
  funext (a : Fin 1)
  obtain rfl : a = 0 := Subsingleton.elim _ _
  exact Fin.ext (tile_of t)
theorem flag_eq (t : Fin (cfgM m hO).N) : flagAt (tbl m) (grid0.coords t) = aF m c (tileIx (tileOf m hO t)) := by
  obtain rfl : c = 0 := Subsingleton.elim _ _
  have e : (tbl m 1 : S72.Idx → BitVec 32) = aF m 0 := V_arg5 m 0
  show (tbl m 1 : S72.Idx → BitVec 32) _ = _
  rw [e, tx_eq]
theorem exp_eq (t : Fin (cfgM m hO).N) : expAt (tbl m) (grid0.coords t) = aE m c (tileIx (tileOf m hO t)) := by
  obtain rfl : c = 0 := Subsingleton.elim _ _
  have e : (tbl m 0 : S72.Idx → BitVec 32) = aE m 0 := V_arg4 m 0
  show (tbl m 0 : S72.Idx → BitVec 32) _ = _
  rw [e, tx_eq]
theorem partIx_eq (t : Fin (cfgM m hO).N) (hf : aF m c (tileIx (tileOf m hO t)) ≠ 0#32) : partIx (tbl m) (grid0.coords t) = t.val % 14 := by
  unfold partIx
  rw [if_neg (by rw [flag_eq m hO c]; exact hf)]
  exact part_of t

/-- The expert of `t`'s tile. -/
def exOf (t : Fin (cfgM m hO).N) : Fin 8 := expertOf (aE m c (tileIx (tileOf m hO t)))
theorem exOf_val (h : ∀ n, (aE m c n).toNat < 8) (t : Fin (cfgM m hO).N) : (expAt (tbl m) (grid0.coords t)).toNat = (exOf m hO c t).val := by
  rw [exp_eq m hO c]
  exact (Nat.mod_eq_of_lt (h _)).symm

/-! ## The blocks -/

theorem blk0_apply (t : Fin (cfgM m hO).N) (r : Fin 8192) (d : Fin 128) :
    blk0 m hO c t (ValueIdx.ix2 r d) = aX m c (ValueIdx.ix2 ⟨(tileOf m hO t).val * 8192 + r.val, by omega⟩ d) := by
  show V m c main_arg0 ((((cfgM m hO).win 0).blk t).view.emb _) = _
  rw [V_arg0]
  refine congrArg (aX m c) (funext fun a => Fin.ext ((Pipeline.Window.rect_emb_val ((cfgM m hO).win 0) t _ a).trans ?_))
  match a with
  | ⟨0, _⟩ =>
    have e : ((cfgM m hO).win 0).index t (0 : Fin 2) = t.val / 14 := by
      show (BitVec.ofNat 32 (grid0.coords t 0).val).toNat = _
      have := lt_N m hO t
      rw [tile_of, BitVec.toNat_ofNat, Nat.mod_eq_of_lt (by omega)]
    exact congrArg (· * 8192 + r.val) e
  | ⟨1, _⟩ => show 0 * 128 + d.val = d.val; omega

theorem blk1_apply (h : ∀ n, (aE m c n).toNat < 8) (t : Fin (cfgM m hO).N) (hf : aF m c (tileIx (tileOf m hO t)) ≠ 0#32) (q : Fin 2048) (k : Fin 512) :
    blk1 m hO c t (ValueIdx.ix3 (0 : Fin 1) q k) = aG m c (ValueIdx.ix3 (exOf m hO c t) q (posOf (partOf m hO t) k)) := by
  show V m c main_v0 ((((cfgM m hO).win 1).blk t).view.emb _) = _
  rw [V_v0]
  refine congrArg (aG m c) (funext fun a => Fin.ext ((Pipeline.Window.rect_emb_val ((cfgM m hO).win 1) t _ a).trans ?_))
  have e : ((cfgM m hO).win 1).index t = ![(expAt (tbl m) (grid0.coords t)).toNat, 0, partIx (tbl m) (grid0.coords t)] := ix1 (tbl m) (grid0.coords t)
  rw [e]
  match a with
  | ⟨0, _⟩ => show (expAt (tbl m) (grid0.coords t)).toNat * 1 + 0 = _; rw [exOf_val m hO c h]; show _ = (exOf m hO c t).val; omega
  | ⟨1, _⟩ => show 0 * 2048 + q.val = q.val; omega
  | ⟨2, _⟩ => show partIx (tbl m) (grid0.coords t) * 512 + k.val = t.val % 14 * 512 + k.val; rw [partIx_eq m hO c t hf]

theorem blk2_apply (h : ∀ n, (aE m c n).toNat < 8) (t : Fin (cfgM m hO).N) (hf : aF m c (tileIx (tileOf m hO t)) ≠ 0#32) (q : Fin 2048) (k : Fin 512) :
    blk2 m hO c t (ValueIdx.ix3 (0 : Fin 1) q k) = aU m c (ValueIdx.ix3 (exOf m hO c t) q (posOf (partOf m hO t) k)) := by
  show V m c main_v1 ((((cfgM m hO).win 2).blk t).view.emb _) = _
  rw [V_v1]
  refine congrArg (aU m c) (funext fun a => Fin.ext ((Pipeline.Window.rect_emb_val ((cfgM m hO).win 2) t _ a).trans ?_))
  have e : ((cfgM m hO).win 2).index t = ![(expAt (tbl m) (grid0.coords t)).toNat, 0, partIx (tbl m) (grid0.coords t)] := ix2 (tbl m) (grid0.coords t)
  rw [e]
  match a with
  | ⟨0, _⟩ => show (expAt (tbl m) (grid0.coords t)).toNat * 1 + 0 = _; rw [exOf_val m hO c h]; show _ = (exOf m hO c t).val; omega
  | ⟨1, _⟩ => show 0 * 2048 + q.val = q.val; omega
  | ⟨2, _⟩ => show partIx (tbl m) (grid0.coords t) * 512 + k.val = t.val % 14 * 512 + k.val; rw [partIx_eq m hO c t hf]

theorem blk3_apply (h : ∀ n, (aE m c n).toNat < 8) (t : Fin (cfgM m hO).N) (hf : aF m c (tileIx (tileOf m hO t)) ≠ 0#32) (k : Fin 512) (j : Fin 2048) :
    blk3 m hO c t (ValueIdx.ix3 (0 : Fin 1) k j) = aD m c (ValueIdx.ix3 (exOf m hO c t) (posOf (partOf m hO t) k) j) := by
  show V m c main_v2 ((((cfgM m hO).win 3).blk t).view.emb _) = _
  rw [V_v2]
  refine congrArg (aD m c) (funext fun a => Fin.ext ((Pipeline.Window.rect_emb_val ((cfgM m hO).win 3) t _ a).trans ?_))
  have e : ((cfgM m hO).win 3).index t = ![(expAt (tbl m) (grid0.coords t)).toNat, partIx (tbl m) (grid0.coords t), 0] := ix3 (tbl m) (grid0.coords t)
  rw [e]
  match a with
  | ⟨0, _⟩ => show (expAt (tbl m) (grid0.coords t)).toNat * 1 + 0 = _; rw [exOf_val m hO c h]; show _ = (exOf m hO c t).val; omega
  | ⟨1, _⟩ => show partIx (tbl m) (grid0.coords t) * 512 + k.val = t.val % 14 * 512 + k.val; rw [partIx_eq m hO c t hf]
  | ⟨2, _⟩ => show 0 * 2048 + j.val = j.val; omega

theorem tileOf_first (t : Fin (cfgM m hO).N) : tileOf m hO (firstOf m hO t) = tileOf m hO t :=
  Fin.ext (by show 14 * (t.val / 14) / 14 = t.val / 14; omega)

/-- The rows the products of `t`'s tile take. -/
theorem rowsAt_apply (t : Fin (cfgM m hO).N) (r : Fin 512) (q : Fin 2048) :
    rowsAt m hO c t (ValueIdx.ix2 r q) = tok (aX m c) (rowOf (tileOf m hO t) r) q := by
  have e : rowsAt m hO c t (ValueIdx.ix2 r q)
      = blk0 m hO c (firstOf m hO t) (ValueIdx.ix2 (⟨16 * r.val + q.val / 128, by omega⟩ : Fin 8192) (⟨q.val % 128, Nat.mod_lt _ (by decide)⟩ : Fin 128)) := by
    show blk0 m hO c (firstOf m hO t) _ = _
    refine congrArg (blk0 m hO c (firstOf m hO t)) (funext fun a => ?_)
    match a with
    | ⟨0, _⟩ => rfl
    | ⟨1, _⟩ => rfl
  have tf : (tileOf m hO (firstOf m hO t)).val = (tileOf m hO t).val := congrArg Fin.val (tileOf_first m hO t)
  refine e.trans ((blk0_apply m hO c (firstOf m hO t) _ _).trans ?_)
  unfold tok
  refine congrArg (aX m c) (funext fun a => Fin.ext ?_)
  match a with
  | ⟨0, _⟩ =>
    show (tileOf m hO (firstOf m hO t)).val * 8192 + (16 * r.val + q.val / 128) = 16 * ((tileOf m hO t).val * 512 + r.val) + q.val / 128
    rw [tf]; omega
  | ⟨1, _⟩ => exact (rfl : q.val % 128 = q.val % 128)

end Cert.Kernel2Ideal.Ffn

end
-- ==== Proof.Ffn.Value.lean ====
/-
  The expert feed-forward's value with exact arithmetic: a tile's parts add up to its expert's answer, and the blocks written
  back make up the result.
-/
module

public import proofs.«01_k».proof.Proof.Ffn.Blocks
public import Idealize.ShloMosaic.Lib.Pipeline.ValueKit.Geometry

@[expose] public section

set_option maxRecDepth 16384

noncomputable section

namespace Cert.Kernel2Ideal.Ffn

open Cert.Kernel2Ideal Cert.Kernel2Ideal.Gen
open Idealize.ShloMosaic Idealize.ShloMosaic.TcCoe
open Cert.Ffn (Rows Wide Back Words tok proj act ffn expertOf tileIx answer answers)

variable (m : (ℓ : Loc nD τ sig) → Buf (Elt Ideal) ℓ)

/-! ## One part's products -/

theorem mm1_apply (x : FVec Ideal S512x2048 .bf16) (w : FVec Ideal S2048x512 .bf16) (r : Fin 512) (k : Fin 512) :
    matmul dot_S512x2048_S2048x512_S512x512_1_0_0_1_n_n none x w (constant S512x512 .f32 0x00000000#32) (ValueIdx.ix2 r k)
      = ∑ q : Fin 2048, x (ValueIdx.ix2 r q) * w (ValueIdx.ix2 q k) := by
  simp only [matmul]
  refine (Ideal.matmul_plain_apply none x w _ r k).trans ?_
  rw [show (constant S512x512 .f32 0x00000000#32 : FVec Ideal S512x512 .f32) (ValueIdx.ix2 r k) = 0 from Ideal.ofBits_zero_f32, zero_add]
theorem mm2_apply (x : FVec Ideal S512x512 .bf16) (w : FVec Ideal S512x2048 .bf16) (r : Fin 512) (j : Fin 2048) :
    matmul dot_S512x512_S512x2048_S512x2048_1_0_0_1_n_n none x w (constant S512x2048 .f32 0x00000000#32) (ValueIdx.ix2 r j)
      = ∑ k : Fin 512, x (ValueIdx.ix2 r k) * w (ValueIdx.ix2 k j) := by
  simp only [matmul]
  refine (Ideal.matmul_plain_apply none x w _ r j).trans ?_
  rw [show (constant S512x2048 .f32 0x00000000#32 : FVec Ideal S512x2048 .f32) (ValueIdx.ix2 r j) = 0 from Ideal.ofBits_zero_f32, zero_add]

theorem flat1 (w : FVec Ideal S1x2048x512 .bf16) (q : Fin 2048) (k : Fin 512) :
    shapeCast S2048x512 w shapeCasts_S1x2048x512_S2048x512 (ValueIdx.ix2 q k) = w (ValueIdx.ix3 (0 : Fin 1) q k) :=
  shapeCast_apply _ _ (ValueIdx.ix2 q k) (ValueIdx.ix3 (0 : Fin 1) q k)
    (by rewrite [Shape.rowMajor_val_three, Shape.rowMajor_val_two]; show (0 * 2048 + q.val) * 512 + k.val = q.val * 512 + k.val; omega)
theorem flat2 (w : FVec Ideal S1x512x2048 .bf16) (k : Fin 512) (j : Fin 2048) :
    shapeCast S512x2048 w shapeCasts_S1x512x2048_S512x2048 (ValueIdx.ix2 k j) = w (ValueIdx.ix3 (0 : Fin 1) k j) :=
  shapeCast_apply _ _ (ValueIdx.ix2 k j) (ValueIdx.ix3 (0 : Fin 1) k j)
    (by rewrite [Shape.rowMajor_val_three, Shape.rowMajor_val_two]; show (0 * 512 + k.val) * 2048 + j.val = k.val * 2048 + j.val; omega)

/-- A row by a column of a staged matrix. -/
def col (x : FVec Ideal S512x2048 .bf16) (w : FVec Ideal S1x2048x512 .bf16) (r k : Fin 512) : EReal :=
  ∑ q : Fin 2048, x (ValueIdx.ix2 r q) * w (ValueIdx.ix3 (0 : Fin 1) q k)

theorem pay6_apply (x : FVec Ideal S512x2048 .bf16) (g u : FVec Ideal S1x2048x512 .bf16) (d : FVec Ideal S1x512x2048 .bf16) (r : Fin 512) (j : Fin 2048) :
    k0_pay6 (F := Ideal) x g u d (ValueIdx.ix2 r j)
      = ∑ k : Fin 512, (col x g r k * Ideal.logistic (col x g r k) * col x u r k) * d (ValueIdx.ix3 (0 : Fin 1) k j) := by
  unfold k0_pay6
  refine (mm2_apply _ _ r j).trans (Finset.sum_congr rfl fun k _ => ?_)
  rw [flat2]
  refine congrArg (· * _) ?_
  have e : ∀ w : FVec Ideal S1x2048x512 .bf16, matmul dot_S512x2048_S2048x512_S512x512_1_0_0_1_n_n none x (shapeCast S2048x512 w shapeCasts_S1x2048x512_S2048x512)
      (constant S512x512 .f32 0x00000000#32) (ValueIdx.ix2 r k) = col x w r k := fun w => by
    rw [mm1_apply]; exact Finset.sum_congr rfl fun q _ => by rw [flat1]
  rw [← e g, ← e u]
  rfl

variable (hO : Ok m) (c : Dev nD) (h : ∀ n, (aE m c n).toNat < 8)
include h

theorem partAt_apply (t : Fin (cfgM m hO).N) (hf : aF m c (tileIx (tileOf m hO t)) ≠ 0#32) (r : Fin 512) (j : Fin 2048) :
    partAt m hO c t (ValueIdx.ix2 r j) = ∑ k : Fin 512,
      act (aX m c) (aG m c) (aU m c) (exOf m hO c t) (rowOf (tileOf m hO t) r) (posOf (partOf m hO t) k)
        * aD m c (ValueIdx.ix3 (exOf m hO c t) (posOf (partOf m hO t) k) j) := by
  unfold partAt
  refine (pay6_apply _ _ _ _ r j).trans (Finset.sum_congr rfl fun k _ => ?_)
  have e1 : col (rowsAt m hO c t) (blk1 m hO c t) r k = proj (aX m c) (aG m c) (exOf m hO c t) (rowOf (tileOf m hO t) r) (posOf (partOf m hO t) k) :=
    Finset.sum_congr rfl fun q _ => by rw [rowsAt_apply, blk1_apply m hO c h t hf]
  have e2 : col (rowsAt m hO c t) (blk2 m hO c t) r k = proj (aX m c) (aU m c) (exOf m hO c t) (rowOf (tileOf m hO t) r) (posOf (partOf m hO t) k) :=
    Finset.sum_congr rfl fun q _ => by rw [rowsAt_apply, blk2_apply m hO c h t hf]
  rw [e1, e2, blk3_apply m hO c h t hf]
  rfl

/-! ## The sum over the parts -/

omit h in
/-- Part `f`'s share of expert `e`'s answer for token `n`. -/
def share (e : Fin 8) (n : Fin 36864) (j : Fin 2048) (f : Fin 14) : EReal :=
  ∑ k : Fin 512, act (aX m c) (aG m c) (aU m c) e n (posOf f k) * aD m c (ValueIdx.ix3 e (posOf f k) j)

theorem sumTo_apply (i : Fin 72) (hf : aF m c (tileIx i) ≠ 0#32) (r : Fin 512) (j : Fin 2048) :
    ∀ (f : ℕ) (hlt : f < 14) (t : Fin (cfgM m hO).N), t.val = 14 * i.val + f →
      sumTo m hO c t.val t.isLt (ValueIdx.ix2 r j)
        = ∑ g : Fin (f + 1), share m c (expertOf (aE m c (tileIx i))) (rowOf i r) j ⟨g.val, by omega⟩ := by
  have one : ∀ (f : ℕ) (hlt : f < 14) (t : Fin (cfgM m hO).N), t.val = 14 * i.val + f →
      partAt m hO c t (ValueIdx.ix2 r j) = share m c (expertOf (aE m c (tileIx i))) (rowOf i r) j ⟨f, hlt⟩ := by
    intro f hlt t ht
    have ei : tileOf m hO t = i := Fin.ext (by show t.val / 14 = i.val; omega)
    have ef : partOf m hO t = ⟨f, hlt⟩ := Fin.ext (by show t.val % 14 = f; omega)
    have ee : exOf m hO c t = expertOf (aE m c (tileIx i)) := by unfold exOf; rw [ei]
    rw [partAt_apply m hO c h t (by rw [ei]; exact hf), ei, ef, ee]
    rfl
  intro f
  induction f with
  | zero =>
    intro hlt t ht
    rw [sumTo_first m hO c t (by omega), one 0 hlt t ht]
    exact (Fin.sum_univ_one (fun g : Fin 1 => share m c (expertOf (aE m c (tileIx i))) (rowOf i r) j ⟨g.val, by omega⟩)).symm
  | succ f ih =>
    intro hlt t ht
    have hs : t.val - 1 < (cfgM m hO).N := by have := t.isLt; omega
    rw [sumTo_next m hO c t ⟨t.val - 1, hs⟩ (by show t.val = t.val - 1 + 1; omega) (by omega), ValueIdx.addf_apply, one (f + 1) hlt t ht,
      ih (by omega) ⟨t.val - 1, hs⟩ (by show t.val - 1 = _; omega), Fin.sum_univ_castSucc (n := f + 1)]
    rfl

theorem outAt_apply (t : Fin (cfgM m hO).N) (ht : t.val % 14 = 13) (y : S8192x128.Idx) :
    outAt m hO c t y = answer (aX m c) (aG m c) (aU m c) (aD m c) (aE m c) (aF m c)
      (rowOf (tileOf m hO t) ⟨(y 0).val / 16, by have h0 : (y 0).val < 8192 := (y 0).isLt; omega⟩)
      ⟨128 * ((y 0).val % 16) + (y 1).val, by have h1 : (y 1).val < 128 := (y 1).isLt; omega⟩ := by
  have h0 : (y 0).val < 8192 := (y 0).isLt
  have h1 : (y 1).val < 128 := (y 1).isLt
  have ei : (⟨(rowOf (tileOf m hO t) ⟨(y 0).val / 16, by omega⟩).val / 512, by omega⟩ : Fin 72) = tileOf m hO t :=
    Fin.ext (by show ((tileOf m hO t).val * 512 + (y 0).val / 16) / 512 = (tileOf m hO t).val; omega)
  unfold outAt answer
  rw [flag_eq m hO c, ei]
  by_cases hf : aF m c (tileIx (tileOf m hO t)) = 0#32
  · rw [if_pos hf, if_pos hf]
    exact Ideal.ofBits_zero_f32
  · rw [if_neg hf, if_neg hf]
    have e : chunksOf (sumTo m hO c t.val t.isLt) y = sumTo m hO c t.val t.isLt
        (ValueIdx.ix2 (⟨(y 0).val / 16, by omega⟩ : Fin 512) (⟨128 * ((y 0).val % 16) + (y 1).val, by omega⟩ : Fin 2048)) := by
      refine congrArg (sumTo m hO c t.val t.isLt) (funext fun a => ?_)
      match a with
      | ⟨0, _⟩ => rfl
      | ⟨1, _⟩ => rfl
    rw [e, sumTo_apply m hO c h (tileOf m hO t) hf _ _ 13 (by decide) t (by show t.val = 14 * (t.val / 14) + 13; omega), Cert.Ffn.ffn_parts]
    rfl

/-! ## The result array -/

omit h in
theorem index4 (t : Fin (cfgM m hO).N) : ((cfgM m hO).win 4).index t = ![t.val / 14, 0] := by
  show cc0_transform_4 (grid0.coords t) = _
  have := lt_N m hO t
  have e : (BitVec.ofNat 32 (grid0.coords t 0).val).toNat = t.val / 14 := by
    rw [tile_of, BitVec.toNat_ofNat, Nat.mod_eq_of_lt (by omega)]
  exact congrArg (fun x => (![x, 0] : Fin 2 → ℕ)) e

/-- The result array is the sums. -/
theorem result_eq : result m hO c = answers (aX m c) (aG m c) (aU m c) (aD m c) (aE m c) (aF m c) := by
  unfold result
  refine Pipeline.Dat.arrAt_eq_of_emb (dats m hO 0 c) 4 _ (fun t hfl y => ?_) fun i => ?_
  · have ht := (flush4 m hO t).mp hfl
    rw [after0_4]
    refine (outAt_apply m hO c h t ht _).trans ?_
    have y0 : (y (0 : Fin 2)).val < 8192 := (y (0 : Fin 2)).isLt
    have e0 : ((((cfgM m hO).win 4).blk t).view.emb y (0 : Fin 2)).val = t.val / 14 * 8192 + (y (0 : Fin 2)).val := by
      refine (Pipeline.Window.rect_emb_val ((cfgM m hO).win 4) t y (0 : Fin 2)).trans ?_
      rw [index4]; rfl
    have e1 : ((((cfgM m hO).win 4).blk t).view.emb y (1 : Fin 2)).val = (y (1 : Fin 2)).val := by
      refine (Pipeline.Window.rect_emb_val ((cfgM m hO).win 4) t y (1 : Fin 2)).trans ?_
      rw [index4]; show 0 * 128 + _ = _; rw [Nat.zero_mul, Nat.zero_add]
    unfold answers
    refine congrArg₂ (answer (aX m c) (aG m c) (aU m c) (aD m c) (aE m c) (aF m c)) (Fin.ext ?_) (Fin.ext ?_)
    · show t.val / 14 * 512 + (y (0 : Fin 2)).val / 16 = ((((cfgM m hO).win 4).blk t).view.emb y (0 : Fin 2)).val / 16
      rw [e0]; omega
    · show 128 * ((y (0 : Fin 2)).val % 16) + (y (1 : Fin 2)).val
        = 128 * (((((cfgM m hO).win 4).blk t).view.emb y (0 : Fin 2)).val % 16) + ((((cfgM m hO).win 4).blk t).view.emb y (1 : Fin 2)).val
      rw [e0, e1]; omega
  · have i0 : (i (0 : Fin 2)).val < 589824 := (i (0 : Fin 2)).isLt
    have i1 : (i (1 : Fin 2)).val < 128 := (i (1 : Fin 2)).isLt
    have hN : 14 * ((i (0 : Fin 2)).val / 8192) + 13 < (cfgM m hO).N := by rw [size_N]; omega
    refine ⟨⟨14 * ((i (0 : Fin 2)).val / 8192) + 13, hN⟩, (flush4 m hO _).mpr (by show (14 * _ + 13) % 14 = 13; omega), ?_⟩
    refine (Pipeline.Window.emb_mem_blk_iff ((cfgM m hO).win 4) _ i).mpr fun a => ?_
    rw [index4]
    match a with
    | ⟨0, _⟩ =>
      show (14 * ((i (0 : Fin 2)).val / 8192) + 13) / 14 * 8192 ≤ (i (0 : Fin 2)).val
        ∧ (i (0 : Fin 2)).val < (14 * ((i (0 : Fin 2)).val / 8192) + 13) / 14 * 8192 + 8192
      omega
    | ⟨1, _⟩ => show 0 * 128 ≤ (i (1 : Fin 2)).val ∧ (i (1 : Fin 2)).val < 0 * 128 + 128; omega

end Cert.Kernel2Ideal.Ffn

end
-- ==== Proof.Last.Spec.lean ====
/-
  The final combine over the extended reals: a token's row plus its two weighted expert rows, normalised.
-/
module

public import Idealize.ShloMosaic.Lib.ValueIdx
public import Idealize.ShloMosaic.Lib.Pointwise.Sums
public import Idealize.ShloMosaic.Lib.Pointwise.Reduce
public import Idealize.ShloMosaic.PureOps.Ideal.Laws

@[expose] public section

noncomputable section

namespace Cert.Last

open Idealize.ShloMosaic

/-- The residual stream, the expert rows in 16 chunks of 128 (the first choices, then the second), the weights, and the norm's scale. -/
abbrev Stream : Type := FVec Ideal ⟨3, ![4, 4096, 2048]⟩ .f32
abbrev Rows : Type := FVec Ideal ⟨2, ![524288, 128]⟩ .f32
abbrev Weights : Type := FVec Ideal ⟨2, ![16384, 128]⟩ .f32
abbrev Scale : Type := FVec Ideal ⟨1, ![2048]⟩ .f32

/-- Entry `q` of token `n`'s row in the stream, and in the expert rows of choice `s`. -/
def res (x : Stream) (n : Fin 16384) (q : Fin 2048) : EReal :=
  x (ValueIdx.ix3 (⟨n.val / 4096, by omega⟩ : Fin 4) (⟨n.val % 4096, Nat.mod_lt _ (by decide)⟩ : Fin 4096) q)
def pick (o : Rows) (s : Fin 2) (n : Fin 16384) (q : Fin 2048) : EReal :=
  o (ValueIdx.ix2 (⟨262144 * s.val + 16 * n.val + q.val / 128, by omega⟩ : Fin 524288) (⟨q.val % 128, Nat.mod_lt _ (by decide)⟩ : Fin 128))
def mix (x : Stream) (o : Rows) (w : Weights) (n : Fin 16384) (q : Fin 2048) : EReal :=
  res x n q + (w (ValueIdx.ix2 n (0 : Fin 128)) * pick o 0 n q + w (ValueIdx.ix2 n (1 : Fin 128)) * pick o 1 n q)

/-- A row over its root mean square, by the scale. -/
def normed (v : Fin 2048 → EReal) (g : EReal) (q : Fin 2048) : EReal :=
  v q * Ideal.rsqrt (Ideal.div (∑ k : Fin 2048, v k * v k) (Ideal.ofBits .f32 0x45000000#32) + Ideal.ofBits .f32 0x358637BD#32) * g

/-- The result. -/
def answers (x : Stream) (o : Rows) (w : Weights) (g : Scale) : Stream := fun i =>
  normed (mix x o w ⟨4096 * (i 0).val + (i 1).val, by
      have h0 : (i 0).val < 4 := (i 0).isLt; have h1 : (i 1).val < 4096 := (i 1).isLt; omega⟩)
    (g (fun a => match a with | ⟨0, _⟩ => i 2)) (i 2)

end Cert.Last

end
-- ==== Proof.Last.Value.lean ====
/-
  The final combine's value with exact arithmetic: each row of the result is the residual's row plus the two weighted expert rows, normalised.
-/
module

public import proofs.«01_k».proof.Proof.Gen.Kernel3Ideal
public import proofs.«01_k».proof.Proof.Gen.Kernel3Ideal.Frame
public import proofs.«01_k».proof.Proof.Last.Spec
public import Idealize.ShloMosaic.Lib.Pipeline.Value
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel3Ideal.Last

open Cert.Kernel3Ideal Cert.Kernel3Ideal.Gen
open Idealize.ShloMosaic Idealize.ShloMosaic.TcCoe

theorem hz : (![0, 0] : Fin 2 → Nat) = fun _ => 0 := funext fun a => by fin_cases a <;> rfl

section Body
variable (x : Vec Ideal S256x2048 .f32) (p q : Vec Ideal S4096x128 .f32) (w : Vec Ideal S256x128 .f32) (g : Vec Ideal S1x2048 .f32)

/-- Chunk `n` of a block's rows, the expert rows added by their weights. -/
def chunk (n : Fin 16) : Vec Ideal S256x128 .f32 := fun y =>
  have h0 : (y 0).val < 256 := (y 0).isLt
  have h1 : (y 1).val < 128 := (y 1).isLt
  x (ValueIdx.ix2 (y 0) (⟨128 * n.val + (y 1).val, by omega⟩ : Fin 2048))
    + (w (ValueIdx.ix2 (y 0) (0 : Fin 128)) * p (ValueIdx.ix2 (⟨16 * (y 0).val + n.val, by omega⟩ : Fin 4096) (y 1))
      + w (ValueIdx.ix2 (y 0) (1 : Fin 128)) * q (ValueIdx.ix2 (⟨16 * (y 0).val + n.val, by omega⟩ : Fin 4096) (y 1)))
/-- The block's rows. -/
def wide : Vec Ideal S256x2048 .f32 := fun y =>
  have h0 : (y 0).val < 256 := (y 0).isLt
  have h1 : (y 1).val < 2048 := (y 1).isLt
  x y + (w (ValueIdx.ix2 (y 0) (0 : Fin 128)) * p (ValueIdx.ix2 (⟨16 * (y 0).val + (y 1).val / 128, by omega⟩ : Fin 4096) (⟨(y 1).val % 128, Nat.mod_lt _ (by decide)⟩ : Fin 128))
      + w (ValueIdx.ix2 (y 0) (1 : Fin 128)) * q (ValueIdx.ix2 (⟨16 * (y 0).val + (y 1).val / 128, by omega⟩ : Fin 4096) (⟨(y 1).val % 128, Nat.mod_lt _ (by decide)⟩ : Fin 128)))

theorem pay6_apply (a b d : Vec Ideal S256x128 .f32) (y : S256x128.Idx) :
    k0_pay6 (F := Ideal) w a b d y = a y + (w (ValueIdx.ix2 (y 0) (0 : Fin 128)) * b y + w (ValueIdx.ix2 (y 0) (1 : Fin 128)) * d y) := by
  have e0 : broadcastTo S256x128 (k0_pay4 (F := Ideal) w) broadcasts_S256x1_S256x128 y = w (ValueIdx.ix2 (y 0) (0 : Fin 128)) :=
    (broadcastTo_apply _ _ y (ValueIdx.ix2 (y 0) (0 : Fin 1)) (fun a => match a with
      | ⟨0, _⟩ => rfl
      | ⟨1, _⟩ => rfl)).trans (extractStridedSlice_apply _ w slices_S256x128_o0_0_S256x1 _ (ValueIdx.ix2 (y 0) (0 : Fin 128)) (fun a => match a with
      | ⟨0, _⟩ => by show (y 0).val = 0 + (y 0).val; omega
      | ⟨1, _⟩ => rfl))
  have e1 : broadcastTo S256x128 (k0_pay5 (F := Ideal) w) broadcasts_S256x1_S256x128 y = w (ValueIdx.ix2 (y 0) (1 : Fin 128)) :=
    (broadcastTo_apply _ _ y (ValueIdx.ix2 (y 0) (0 : Fin 1)) (fun a => match a with
      | ⟨0, _⟩ => rfl
      | ⟨1, _⟩ => rfl)).trans (extractStridedSlice_apply _ w slices_S256x128_o0_1_S256x1 _ (ValueIdx.ix2 (y 0) (1 : Fin 128)) (fun a => match a with
      | ⟨0, _⟩ => by show (y 0).val = 0 + (y 0).val; omega
      | ⟨1, _⟩ => rfl))
  unfold k0_pay6
  show shapeCast S256x128 a shapeCasts_S256x128_S256x128 y + (_ * b y + _ * d y) = _
  rw [e0, e1, shapeCast_self]

/-- A strided load of a block's chunk. -/
theorem strided (n : ℕ) (hn : n < 16) (h) (v : Vec Ideal S4096x128 .f32) (a : Memref sig .tc .vmem S4096x128 .f32) (ha : a.IsWhole) (y : S256x128.Idx) :
    a.view.readAt (Elt Ideal) (⟨![n, 0], S256x128.size, ![16, 1], h⟩ : LoadRect S4096x128) (ha.unread v) y
      = v (ValueIdx.ix2 (⟨16 * (y 0).val + n, by have h0 : (y 0).val < 256 := (y 0).isLt; omega⟩ : Fin 4096) (y 1)) := by
  rw [View.readAt_apply, ha.read_unread]
  refine congrArg v (funext fun b => Fin.ext ?_)
  match b with
  | ⟨0, _⟩ => show n + 16 * (y 0).val = 16 * (y 0).val + n; omega
  | ⟨1, _⟩ => show 0 + 1 * (y 1).val = (y 1).val; omega
/-- A load of a block's columns. -/
theorem columns (n : Fin 16) (o : ℕ) (ho : o = 128 * n.val) (h) (y : S256x128.Idx) :
    View.ld x (Rect.unit (s := S256x2048) ![0, o] S256x128.size h) y
      = x (ValueIdx.ix2 (y 0) (⟨128 * n.val + (y 1).val, by have h1 : (y 1).val < 128 := (y 1).isLt; omega⟩ : Fin 2048)) :=
  View.ld_unit_apply_of x _ _ h y _ (fun a => match a with
    | ⟨0, _⟩ => by show (y 0).val = 0 + (y 0).val; omega
    | ⟨1, _⟩ => by show 128 * n.val + (y 1).val = o + (y 1).val; omega)

/-- One chunk, as the body computes it. -/
theorem chunk_eq (n : Fin 16) (k : ℕ) (hk : k = n.val) (o : ℕ) (ho : o = 128 * n.val) (h h' h'') (a2 : Memref sig .tc .vmem S4096x128 .f32) (h2 : a2.IsWhole)
    (a3 : Memref sig .tc .vmem S4096x128 .f32) (h3 : a3.IsWhole) :
    k0_pay6 (F := Ideal) w (View.ld x (Rect.unit (s := S256x2048) ![0, o] S256x128.size h))
      (a2.view.readAt (Elt Ideal) (⟨![k, 0], S256x128.size, ![16, 1], h'⟩ : LoadRect S4096x128) (h2.unread p))
      (a3.view.readAt (Elt Ideal) (⟨![k, 0], S256x128.size, ![16, 1], h''⟩ : LoadRect S4096x128) (h3.unread q)) = chunk x p q w n := funext fun y => by
  subst hk
  rw [pay6_apply, columns x n o ho, strided n.val n.isLt, strided n.val n.isLt]
  rfl

end Body

/-- What the body leaves in the result's buffer. -/
theorem out_eq (c : Dev nD) (i : grid0.Coords) (a1 : Memref sig .tc .vmem S256x2048 .f32) (h1 : a1.IsWhole) (a2 : Memref sig .tc .vmem S4096x128 .f32) (h2 : a2.IsWhole) (a3 : Memref sig .tc .vmem S4096x128 .f32) (h3 : a3.IsWhole) (a4 : Memref sig .tc .vmem S256x128 .f32) (h4 : a4.IsWhole) (a5 : Memref sig .tc .vmem S1x2048 .f32) (h5 : a5.IsWhole) (a6 : Memref sig .tc .vmem S256x2048 .f32) (h6 : a6.IsWhole)
    (x : Vec Ideal S256x2048 .f32) (p q : Vec Ideal S4096x128 .f32) (w : Vec Ideal S256x128 .f32) (g : Vec Ideal S1x2048 .f32) :
    out0_A_5 (F := Ideal) c i a1 h1 a2 h2 a3 h3 a4 h4 a5 h5 a6 h6 x p q w g = k0_pay3 (F := Ideal) (wide x p q w) g := by
  unfold out0_A_5
  rw [View.read_writes_junk_eq_canon]
  unfold kernelRun0_A
  dsimp only
  rw [View.canon_unit_zero hz]
  simp only [View.readAt_eq_ld, h5.read_unread, View.ld_unit_zero (S := S1x2048) hz]
  refine congrArg₂ k0_pay3 ?_ rfl
  sl_unfold_words
  refine (StableHlo.concatenate_congr S256x2048 1 (ys := List.ofFn fun n : Fin 16 => ⟨S256x128, chunk x p q w n⟩) ?_ _ concatenates_S256x128_S256x128_S256x128_S256x128_S256x128_S256x128_S256x128_S256x128_S256x128_S256x128_S256x128_S256x128_S256x128_S256x128_S256x128_S256x128_S256x2048_d1).trans ?_
  · simp only [View.readAt_eq_ld, h1.read_unread, h4.read_unread, View.ld_unit_zero (S := S256x128) hz]
    refine congrArg₂ List.cons (congrArg (Sigma.mk S256x128) (chunk_eq x p q w 0 0 rfl 0 rfl _ _ _ a2 h2 a3 h3)) ?_
    refine congrArg₂ List.cons (congrArg (Sigma.mk S256x128) (chunk_eq x p q w 1 1 rfl 128 rfl _ _ _ a2 h2 a3 h3)) ?_
    refine congrArg₂ List.cons (congrArg (Sigma.mk S256x128) (chunk_eq x p q w 2 2 rfl 256 rfl _ _ _ a2 h2 a3 h3)) ?_
    refine congrArg₂ List.cons (congrArg (Sigma.mk S256x128) (chunk_eq x p q w 3 3 rfl 384 rfl _ _ _ a2 h2 a3 h3)) ?_
    refine congrArg₂ List.cons (congrArg (Sigma.mk S256x128) (chunk_eq x p q w 4 4 rfl 512 rfl _ _ _ a2 h2 a3 h3)) ?_
    refine congrArg₂ List.cons (congrArg (Sigma.mk S256x128) (chunk_eq x p q w 5 5 rfl 640 rfl _ _ _ a2 h2 a3 h3)) ?_
    refine congrArg₂ List.cons (congrArg (Sigma.mk S256x128) (chunk_eq x p q w 6 6 rfl 768 rfl _ _ _ a2 h2 a3 h3)) ?_
    refine congrArg₂ List.cons (congrArg (Sigma.mk S256x128) (chunk_eq x p q w 7 7 rfl 896 rfl _ _ _ a2 h2 a3 h3)) ?_
    refine congrArg₂ List.cons (congrArg (Sigma.mk S256x128) (chunk_eq x p q w 8 8 rfl 1024 rfl _ _ _ a2 h2 a3 h3)) ?_
    refine congrArg₂ List.cons (congrArg (Sigma.mk S256x128) (chunk_eq x p q w 9 9 rfl 1152 rfl _ _ _ a2 h2 a3 h3)) ?_
    refine congrArg₂ List.cons (congrArg (Sigma.mk S256x128) (chunk_eq x p q w 10 10 rfl 1280 rfl _ _ _ a2 h2 a3 h3)) ?_
    refine congrArg₂ List.cons (congrArg (Sigma.mk S256x128) (chunk_eq x p q w 11 11 rfl 1408 rfl _ _ _ a2 h2 a3 h3)) ?_
    refine congrArg₂ List.cons (congrArg (Sigma.mk S256x128) (chunk_eq x p q w 12 12 rfl 1536 rfl _ _ _ a2 h2 a3 h3)) ?_
    refine congrArg₂ List.cons (congrArg (Sigma.mk S256x128) (chunk_eq x p q w 13 13 rfl 1664 rfl _ _ _ a2 h2 a3 h3)) ?_
    refine congrArg₂ List.cons (congrArg (Sigma.mk S256x128) (chunk_eq x p q w 14 14 rfl 1792 rfl _ _ _ a2 h2 a3 h3)) ?_
    refine congrArg₂ List.cons (congrArg (Sigma.mk S256x128) (chunk_eq x p q w 15 15 rfl 1920 rfl _ _ _ a2 h2 a3 h3)) ?_
    rfl
  · funext j
    have j1 : (j 1).val < 2048 := (j 1).isLt
    refine (concatenate_ofFn_apply (t := S256x2048) (1 : Fin 2) (chunk x p q w) concatenates_S256x128_S256x128_S256x128_S256x128_S256x128_S256x128_S256x128_S256x128_S256x128_S256x128_S256x128_S256x128_S256x128_S256x128_S256x128_S256x128_S256x2048_d1 rfl 128 rfl j (⟨(j 1).val / 128, by omega⟩ : Fin 16) rfl
      (ValueIdx.ix2 (j 0) (⟨(j 1).val % 128, Nat.mod_lt _ (by decide)⟩ : Fin 128)) rfl (fun b hb => ?_)).trans ?_
    · match b with
      | ⟨0, _⟩ => rfl
      | ⟨1, _⟩ => exact absurd rfl hb
    · unfold chunk wide
      refine congrArg₂ (· + ·) (congrArg x (funext fun b => Fin.ext ?_)) rfl
      match b with
      | ⟨0, _⟩ => rfl
      | ⟨1, _⟩ => show 128 * ((j 1).val / 128) + (j 1).val % 128 = (j 1).val; omega

/-- The block after its normalisation. -/
theorem pay3_apply (v : Vec Ideal S256x2048 .f32) (g : Vec Ideal S1x2048 .f32) (r : Fin 256) (j : Fin 2048) :
    k0_pay3 (F := Ideal) v g (ValueIdx.ix2 r j) = Cert.Last.normed (fun k : Fin 2048 => v (ValueIdx.ix2 r k)) (g (ValueIdx.ix2 (0 : Fin 1) j)) j := by
  have hs : shapeCast S256x1 (multiReduction (F := Ideal) .add [1] S256 (mulf v v) 0x00000000#32 reduces_S256x2048_S256 (.inl rfl) rfl) shapeCasts_S256_S256x1 (ValueIdx.ix2 r (0 : Fin 1))
      = ∑ k : Fin 2048, v (ValueIdx.ix2 r k) * v (ValueIdx.ix2 r k) := by
    refine (shapeCast_apply _ _ (ValueIdx.ix2 r (0 : Fin 1)) (fun a => match a with | ⟨0, _⟩ => r) ?_).trans ?_
    · rw [Shape.rowMajor_val_one, Shape.rowMajor_val_two]; show r.val = r.val * 1 + 0; omega
    · refine (Ideal.multiReduction_add_single _ _ _ _ _ _).trans (Finset.sum_congr rfl fun k _ => ?_)
      have e : reduces_S256x2048_S256.lift (fun a => match a with | ⟨0, _⟩ => r) k = ValueIdx.ix2 r k := funext fun a => match a with
        | ⟨0, _⟩ => rfl
        | ⟨1, _⟩ => rfl
      exact congrArg (fun z => v z * v z) e
  have e1 : ∀ u : FVec Ideal S256x1 .f32, broadcastTo S256x2048 u broadcasts_S256x1_S256x2048 (ValueIdx.ix2 r j) = u (ValueIdx.ix2 r (0 : Fin 1)) := fun u =>
    broadcastTo_apply _ _ _ (ValueIdx.ix2 r (0 : Fin 1)) (fun a => match a with
      | ⟨0, _⟩ => rfl
      | ⟨1, _⟩ => rfl)
  have e2 : ∀ u : FVec Ideal S1x2048 .f32, broadcastTo S256x2048 u broadcasts_S1x2048_S256x2048 (ValueIdx.ix2 r j) = u (ValueIdx.ix2 (0 : Fin 1) j) := fun u =>
    broadcastTo_apply _ _ _ (ValueIdx.ix2 (0 : Fin 1) j) (fun a => match a with
      | ⟨0, _⟩ => rfl
      | ⟨1, _⟩ => rfl)
  unfold k0_pay3 Cert.Last.normed
  show v (ValueIdx.ix2 r j) * broadcastTo S256x2048 _ broadcasts_S256x1_S256x2048 (ValueIdx.ix2 r j) * broadcastTo S256x2048 _ broadcasts_S1x2048_S256x2048 (ValueIdx.ix2 r j) = _
  rw [e1, e2, shapeCast_self]
  show v (ValueIdx.ix2 r j) * Ideal.rsqrt (Ideal.div _ _ + _) * _ = _
  rw [hs]
  rfl

end Cert.Kernel3Ideal.Last

end
-- ==== Proof.Last.Blocks.lean ====
/-
  The final combine's result array with exact arithmetic, and the result as its caller sees it.
-/
module

public import proofs.«01_k».proof.Proof.Last.Value

@[expose] public section

set_option maxRecDepth 16384

noncomputable section

namespace Cert.Kernel3Ideal.Last

open Cert.Kernel3Ideal Cert.Kernel3Ideal.Gen
open Idealize.ShloMosaic Idealize.ShloMosaic.TcCoe
open Cert.Last (Stream Rows Weights Scale res pick mix normed answers)

variable (m : (ℓ : Loc nD τ sig) → Buf (Elt Ideal) ℓ)

/-! ## The arrays as launched, by their types -/

def aX (c : Dev nD) : Stream := m ((c : Thread nD τ).loc main_arg0)
def aO (c : Dev nD) : Rows := m ((c : Thread nD τ).loc main_arg1)
def aW (c : Dev nD) : Weights := m ((c : Thread nD τ).loc main_arg2)
def aG (c : Dev nD) : Scale := m ((c : Thread nD τ).loc main_arg3)

theorem V_v0 (c : Dev nD) : V m c main_v0 = shapeCast S16384x2048 (aX m c) shapeCasts_S4x4096x2048_S16384x2048 := by
  show StableHlo.after hostOps0 _ (Proc.devRef .tc main_v0) = _
  after_results
  rfl
theorem V_v1 (c : Dev nD) : V m c main_v1 = shapeCast S1x2048 (aG m c) shapeCasts_S2048_S1x2048 := by
  show StableHlo.after hostOps0 _ (Proc.devRef .tc main_v1) = _
  after_results
  rfl

theorem flat_apply (x : Stream) (n : Fin 16384) (q : Fin 2048) :
    shapeCast S16384x2048 x shapeCasts_S4x4096x2048_S16384x2048 (ValueIdx.ix2 n q) = res x n q :=
  shapeCast_apply _ _ _ _ (by
    rewrite [Shape.rowMajor_val_three, Shape.rowMajor_val_two]
    show (n.val / 4096 * 4096 + n.val % 4096) * 2048 + q.val = n.val * 2048 + q.val
    omega)
theorem scale_apply (g : Scale) (q : Fin 2048) :
    shapeCast S1x2048 g shapeCasts_S2048_S1x2048 (ValueIdx.ix2 (0 : Fin 1) q) = g (fun a => match a with | ⟨0, _⟩ => q) :=
  shapeCast_apply _ _ _ _ (by
    rewrite [Shape.rowMajor_val_one, Shape.rowMajor_val_two]
    show q.val = 0 * 2048 + q.val
    omega)
theorem unflat_apply (v : FVec Ideal S16384x2048 .f32) (i : S4x4096x2048.Idx) (h) :
    shapeCast S4x4096x2048 v shapeCasts_S16384x2048_S4x4096x2048 i = v (ValueIdx.ix2 (⟨4096 * (i 0).val + (i 1).val, h⟩ : Fin 16384) (i 2)) :=
  shapeCast_apply _ _ _ _ (by
    rewrite [Shape.rowMajor_val_three, Shape.rowMajor_val_two]
    show (4096 * (i 0).val + (i 1).val) * 2048 + (i 2).val = ((i 0).val * 4096 + (i 1).val) * 2048 + (i 2).val
    omega)

/-! ## The blocks -/

variable (c : Dev nD) (t : Fin cfg0.N)

theorem lt_N : t.val < 64 := t.isLt
theorem coord : (BitVec.ofNat 32 (grid0.coords t 0).val).toNat = t.val := by
  have h := lt_N t
  have e : (grid0.coords t 0).val = t.val := (by decide +kernel : ∀ t : Fin grid0.N, (grid0.coords t 0).val = t.val) t
  rw [e, BitVec.toNat_ofNat, Nat.mod_eq_of_lt (by omega)]
theorem coord64 : (Scalar.addi (BitVec.ofNat 32 (grid0.coords t 0).val) 64#32).toNat = t.val + 64 :=
  (by decide +kernel : ∀ t : Fin grid0.N, (Scalar.addi (BitVec.ofNat 32 (grid0.coords t 0).val) 64#32).toNat = t.val + 64) t

/-- Row `r` of block `t`, as a token. -/
def tok (r : Fin 256) : Fin 16384 := ⟨t.val * 256 + r.val, by have := lt_N t; omega⟩

theorem blk0_apply (r : Fin 256) (q : Fin 2048) : (iblk m c 0 t : Vec Ideal S256x2048 .f32) (ValueIdx.ix2 r q) = res (aX m c) (tok t r) q := by
  show V m c main_v0 (((cfg0.win 0).blk t).view.emb _) = _
  rw [V_v0, ← flat_apply]
  refine congrArg _ (funext fun a => Fin.ext ((Pipeline.Window.rect_emb_val (cfg0.win 0) t _ a).trans ?_))
  match a with
  | ⟨0, _⟩ => exact congrArg (· * 256 + r.val) (coord t)
  | ⟨1, _⟩ => show 0 * 2048 + q.val = q.val; omega
theorem blk1_apply (n : Fin 4096) (d : Fin 128) : (iblk m c 1 t : Vec Ideal S4096x128 .f32) (ValueIdx.ix2 n d)
    = aO m c (ValueIdx.ix2 (⟨t.val * 4096 + n.val, by have := lt_N t; omega⟩ : Fin 524288) d) := by
  show V m c main_arg1 (((cfg0.win 1).blk t).view.emb _) = _
  rw [V_main_arg1]
  refine congrArg (aO m c) (funext fun a => Fin.ext ((Pipeline.Window.rect_emb_val (cfg0.win 1) t _ a).trans ?_))
  match a with
  | ⟨0, _⟩ => exact congrArg (· * 4096 + n.val) (coord t)
  | ⟨1, _⟩ => show 0 * 128 + d.val = d.val; omega
theorem blk2_apply (n : Fin 4096) (d : Fin 128) : (iblk m c 2 t : Vec Ideal S4096x128 .f32) (ValueIdx.ix2 n d)
    = aO m c (ValueIdx.ix2 (⟨(t.val + 64) * 4096 + n.val, by have := lt_N t; omega⟩ : Fin 524288) d) := by
  show V m c main_arg1 (((cfg0.win 2).blk t).view.emb _) = _
  rw [V_main_arg1]
  refine congrArg (aO m c) (funext fun a => Fin.ext ((Pipeline.Window.rect_emb_val (cfg0.win 2) t _ a).trans ?_))
  match a with
  | ⟨0, _⟩ => exact congrArg (· * 4096 + n.val) (coord64 t)
  | ⟨1, _⟩ => show 0 * 128 + d.val = d.val; omega
theorem blk3_apply (r : Fin 256) (d : Fin 128) : (iblk m c 3 t : Vec Ideal S256x128 .f32) (ValueIdx.ix2 r d) = aW m c (ValueIdx.ix2 (tok t r) d) := by
  show V m c main_arg2 (((cfg0.win 3).blk t).view.emb _) = _
  rw [V_main_arg2]
  refine congrArg (aW m c) (funext fun a => Fin.ext ((Pipeline.Window.rect_emb_val (cfg0.win 3) t _ a).trans ?_))
  match a with
  | ⟨0, _⟩ => exact congrArg (· * 256 + r.val) (coord t)
  | ⟨1, _⟩ => show 0 * 128 + d.val = d.val; omega
theorem blk4_apply (q : Fin 2048) : (iblk m c 4 t : Vec Ideal S1x2048 .f32) (ValueIdx.ix2 (0 : Fin 1) q) = aG m c (fun a => match a with | ⟨0, _⟩ => q) := by
  show V m c main_v1 (((cfg0.win 4).blk t).view.emb _) = _
  rw [V_v1]
  refine Eq.trans (congrArg _ ?_) (scale_apply (aG m c) q)
  refine (funext fun a => Fin.ext ((Pipeline.Window.rect_emb_val (cfg0.win 4) t _ a).trans ?_))
  match a with
  | ⟨0, _⟩ => rfl
  | ⟨1, _⟩ => show 0 * 2048 + q.val = q.val; omega

/-- A block's mixed rows are its tokens'. -/
theorem wide_apply (r : Fin 256) (q : Fin 2048) :
    wide (iblk m c 0 t) (iblk m c 1 t) (iblk m c 2 t) (iblk m c 3 t) (ValueIdx.ix2 r q) = mix (aX m c) (aO m c) (aW m c) (tok t r) q := by
  unfold wide mix
  dsimp only
  rw [blk0_apply]
  refine congrArg₂ (· + ·) rfl (congrArg₂ (· + ·) (congrArg₂ (· * ·) (blk3_apply m c t r 0) ((blk1_apply m c t _ _).trans ?_))
    (congrArg₂ (· * ·) (blk3_apply m c t r 1) ((blk2_apply m c t _ _).trans ?_)))
  · refine congrArg (aO m c) (funext fun a => Fin.ext ?_)
    match a with
    | ⟨0, _⟩ => show t.val * 4096 + (16 * r.val + q.val / 128) = 262144 * 0 + 16 * (t.val * 256 + r.val) + q.val / 128; omega
    | ⟨1, _⟩ => rfl
  · refine congrArg (aO m c) (funext fun a => Fin.ext ?_)
    match a with
    | ⟨0, _⟩ => show (t.val + 64) * 4096 + (16 * r.val + q.val / 128) = 262144 * 1 + 16 * (t.val * 256 + r.val) + q.val / 128; omega
    | ⟨1, _⟩ => rfl

/-- The result by tokens. -/
def rows : FVec Ideal S16384x2048 .f32 := fun i =>
  normed (mix (aX m c) (aO m c) (aW m c) (i 0)) (aG m c (fun a => match a with | ⟨0, _⟩ => i 1)) (i 1)

theorem outsAt_apply (r : Fin 256) (q : Fin 2048) : outsAt0 m c t (ValueIdx.ix2 r q) = rows m c (ValueIdx.ix2 (tok t r) q) := by
  unfold outsAt0
  rw [out_eq, pay3_apply, blk4_apply]
  exact congrArg (fun v => normed v _ q) (funext fun k => wide_apply m c t r k)

theorem outsAt_entry (y : S256x2048.Idx) : outsAt0 m c t y = rows m c (ValueIdx.ix2 (tok t (y 0)) (y 1)) := by
  have ey : y = ValueIdx.ix2 (y 0) (y 1) := funext fun a => match a with
    | ⟨0, _⟩ => rfl
    | ⟨1, _⟩ => rfl
  exact (congrArg (outsAt0 m c t) ey).trans (outsAt_apply m c t _ _)

/-! ## The result array -/

theorem index5 : (cfg0.win 5).index t = ![t.val, 0] := by
  show cc0_transform_5 (grid0.coords t) = _
  exact congrArg (fun x => (![x, 0] : Fin 2 → ℕ)) (coord t)

/-- The result array is the rows. -/
theorem result_eq : (dats m 0 c).arrAt 5 cfg0.N = rows m c := by
  refine Pipeline.Dat.arrAt_eq_of_emb (dats m 0 c) 5 _ (fun t _ y => ?_) fun i => ?_
  · rw [after0_5]
    have hf : ∀ z : S256x2048.Idx, outsAt0 m c t z = rows m c (ValueIdx.ix2 (tok t (z 0)) (z 1)) := outsAt_entry m c t
    generalize outsAt0 m c t = f at hf ⊢
    refine (hf y).trans ?_
    have e0 : (((cfg0.win 5).blk t).view.emb y (0 : Fin 2)).val = t.val * 256 + (y (0 : Fin 2)).val := by
      refine (Pipeline.Window.rect_emb_val (cfg0.win 5) t y (0 : Fin 2)).trans ?_
      rw [index5]; rfl
    have e1 : (((cfg0.win 5).blk t).view.emb y (1 : Fin 2)).val = (y (1 : Fin 2)).val := by
      refine (Pipeline.Window.rect_emb_val (cfg0.win 5) t y (1 : Fin 2)).trans ?_
      rw [index5]; show 0 * 2048 + _ = _; rw [Nat.zero_mul, Nat.zero_add]
    have ea : (ValueIdx.ix2 (tok t (y (0 : Fin 2))) (y (1 : Fin 2)) : S16384x2048.Idx) = ((cfg0.win 5).blk t).view.emb y := funext fun a => match a with
      | ⟨0, _⟩ => Fin.ext e0.symm
      | ⟨1, _⟩ => Fin.ext e1.symm
    exact congrArg (rows m c) ea
  · have i0 : (i (0 : Fin 2)).val < 16384 := (i (0 : Fin 2)).isLt
    have i1 : (i (1 : Fin 2)).val < 2048 := (i (1 : Fin 2)).isLt
    have hN : (i (0 : Fin 2)).val / 256 < cfg0.N := by show _ < 64; omega
    refine ⟨⟨(i (0 : Fin 2)).val / 256, hN⟩, flush0_5 _, ?_⟩
    refine (Pipeline.Window.emb_mem_blk_iff (cfg0.win 5) _ i).mpr fun a => ?_
    rw [index5]
    match a with
    | ⟨0, _⟩ =>
      show (i (0 : Fin 2)).val / 256 * 256 ≤ (i (0 : Fin 2)).val ∧ (i (0 : Fin 2)).val < (i (0 : Fin 2)).val / 256 * 256 + 256
      omega
    | ⟨1, _⟩ => show 0 * 2048 ≤ (i (1 : Fin 2)).val ∧ (i (1 : Fin 2)).val < 0 * 2048 + 2048; omega

/-- The result the caller sees. -/
theorem final_eq : Pipeline.afterTail₀ cfgs (dats m) 0 (V0 m) [hostOps1] c main_v3 = answers (aX m c) (aO m c) (aW m c) (aG m c) := by
  have e : Pipeline.withArrays (cfgs 0).spec c (V0 m c) (fun w => (dats m 0 c).arrAt w (cfgs 0).N) (Proc.devRef .tc main_v2) = rows m c :=
    (Pipeline.withArrays_arr_shared (cfgs 0).spec c (V0 m c) _ (Pipeline.Dat.arrAt_sharedIn (dats m 0 c) (by decide) (V0 m c) (A_eq m c) _) 5).trans (result_eq m c)
  unfold Pipeline.afterTail₀
  show StableHlo.after hostOps1 _ (Proc.devRef .tc main_v3) = _
  after_results
  rw [e]
  funext i
  have h0 : (i 0).val < 4 := (i 0).isLt
  have h1 : (i 1).val < 4096 := (i 1).isLt
  exact unflat_apply (rows m c) i (by omega)

/-- The run: the result is the normalised mixed rows, and the operands are as they began. -/
theorem run (ρ : Dev nD → PrngReg) : θ_run defs (onTc (τ := τ) (main (F := Ideal))) ⟨m, fun _ => 0, ρ⟩ (fun r => ∀ c : Dev nD,
      r.2.mem ((c.tc : Thread nD τ).loc main_v3) = answers (aX m c) (aO m c) (aW m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v3 (Pipeline.mem_restRefs_of main_v3 (by decide) (by decide))).trans (final_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c)⟩) (run_main m ρ)

end Cert.Kernel3Ideal.Last

end
-- ==== Proof.Last.Ref.lean ====
/-
  The reference's final combine, read at an index.
-/
module

public import proofs.«01_k».proof.Proof.Gen.Reference3Ideal.Read
public import proofs.«01_k».proof.Proof.Last.Spec

@[expose] public section

set_option maxRecDepth 16384

noncomputable section

namespace Cert.Last

open Idealize.ShloMosaic Idealize.ShloMosaic.TcCoe
open Cert.Reference3Ideal Cert.Reference3Ideal.Gen Cert.Reference3Ideal.Read

/-- The token a row of the stream belongs to. -/
def tokOf (b : Fin 4) (s : Fin 4096) : Fin 16384 := ⟨4096 * b.val + s.val, by omega⟩

theorem ref_first (o : Rows) (b : Fin 4) (s : Fin 4096) (q : Fin 2048) : val_main_v2 (F := Ideal) o (ValueIdx.ix3 b s q) = pick o 0 (tokOf b s) q := by
  rw [val_main_v2_apply, val_main_v1_apply, val_main_v0_apply]
  unfold pick tokOf
  refine congrArg o (funext fun a => Fin.ext ?_)
  match a with
  | ⟨0, _⟩ => show (((0 * 4 + ((b.val * 4096 + s.val) * 2048 + q.val) / 8388608 % 4) * 4096 + ((b.val * 4096 + s.val) * 2048 + q.val) / 2048 % 4096) * 2048 + ((b.val * 4096 + s.val) * 2048 + q.val) % 2048) / 128 = 262144 * 0 + 16 * (4096 * b.val + s.val) + q.val / 128; omega
  | ⟨1, _⟩ => show (((0 * 4 + ((b.val * 4096 + s.val) * 2048 + q.val) / 8388608 % 4) * 4096 + ((b.val * 4096 + s.val) * 2048 + q.val) / 2048 % 4096) * 2048 + ((b.val * 4096 + s.val) * 2048 + q.val) % 2048) % 128 = q.val % 128; omega
theorem ref_second (o : Rows) (b : Fin 4) (s : Fin 4096) (q : Fin 2048) : val_main_v4 (F := Ideal) o (ValueIdx.ix3 b s q) = pick o 1 (tokOf b s) q := by
  rw [val_main_v4_apply, val_main_v3_apply, val_main_v0_apply]
  unfold pick tokOf
  refine congrArg o (funext fun a => Fin.ext ?_)
  match a with
  | ⟨0, _⟩ => show ((((1 + 0) * 4 + ((b.val * 4096 + s.val) * 2048 + q.val) / 8388608 % 4) * 4096 + ((b.val * 4096 + s.val) * 2048 + q.val) / 2048 % 4096) * 2048 + ((b.val * 4096 + s.val) * 2048 + q.val) % 2048) / 128 = 262144 * 1 + 16 * (4096 * b.val + s.val) + q.val / 128; omega
  | ⟨1, _⟩ => show ((((1 + 0) * 4 + ((b.val * 4096 + s.val) * 2048 + q.val) / 8388608 % 4) * 4096 + ((b.val * 4096 + s.val) * 2048 + q.val) / 2048 % 4096) * 2048 + ((b.val * 4096 + s.val) * 2048 + q.val) % 2048) % 128 = q.val % 128; omega
theorem ref_w0 (w : Weights) (b : Fin 4) (s : Fin 4096) (q : Fin 2048) : val_main_v7 (F := Ideal) w (ValueIdx.ix3 b s q) = w (ValueIdx.ix2 (tokOf b s) (0 : Fin 128)) := by
  rw [val_main_v7_apply, val_main_v6_apply, val_main_v5_apply]
  unfold tokOf
  refine congrArg w (funext fun a => Fin.ext ?_)
  match a with
  | ⟨0, _⟩ => show ((b.val * 4096 + s.val) * 128 + 0) / 128 = 4096 * b.val + s.val; omega
  | ⟨1, _⟩ => show ((b.val * 4096 + s.val) * 128 + 0) % 128 = 0; omega
theorem ref_w1 (w : Weights) (b : Fin 4) (s : Fin 4096) (q : Fin 2048) : val_main_v10 (F := Ideal) w (ValueIdx.ix3 b s q) = w (ValueIdx.ix2 (tokOf b s) (1 : Fin 128)) := by
  rw [val_main_v10_apply, val_main_v9_apply, val_main_v5_apply]
  unfold tokOf
  refine congrArg w (funext fun a => Fin.ext ?_)
  match a with
  | ⟨0, _⟩ => show ((b.val * 4096 + s.val) * 128 + (1 + 0)) / 128 = 4096 * b.val + s.val; omega
  | ⟨1, _⟩ => show ((b.val * 4096 + s.val) * 128 + (1 + 0)) % 128 = 1; omega

theorem ref_mix (x : Stream) (o : Rows) (w : Weights) (b : Fin 4) (s : Fin 4096) (q : Fin 2048) :
    val_main_v13 (F := Ideal) x o w (ValueIdx.ix3 b s q) = mix x o w (tokOf b s) q := by
  rw [val_main_v13_apply, val_main_v12_apply, val_main_v8_apply, val_main_v11_apply, ref_first, ref_second, ref_w0, ref_w1]
  have e : x (ValueIdx.ix3 b s q) = res x (tokOf b s) q := by
    unfold res tokOf
    refine congrArg x (funext fun a => Fin.ext ?_)
    match a with
    | ⟨0, _⟩ => show b.val = (4096 * b.val + s.val) / 4096; omega
    | ⟨1, _⟩ => show s.val = (4096 * b.val + s.val) % 4096; omega
    | ⟨2, _⟩ => rfl
  rw [e]
  rfl

theorem ref_sum (x : Stream) (o : Rows) (w : Weights) (b : Fin 4) (s : Fin 4096) (q : Fin 2048) :
    val_main_v22 (F := Ideal) x o w (ValueIdx.ix3 b s q)
      = Ideal.rsqrt (Ideal.div (∑ k : Fin 2048, mix x o w (tokOf b s) k * mix x o w (tokOf b s) k) (Ideal.ofBits .f32 0x45000000#32) + Ideal.ofBits .f32 0x358637BD#32) := by
  rw [val_main_v22_apply, val_main_v21_apply, val_main_v20_apply, val_main_v18_apply, val_main_v16_apply, val_main_v15_apply,
    val_main_v17_apply, val_main_v19_apply, val_main_cst_apply, val_main_cst_0_apply, val_main_cst_1_apply]
  have e : ∀ k : Fin 2048, val_main_v14 (F := Ideal) x o w (idx_main_v15 (idx_main_v16 (idx_main_v22 (ValueIdx.ix3 b s q))) k)
      = mix x o w (tokOf b s) k * mix x o w (tokOf b s) k := fun k => by
    have ei : idx_main_v15 (idx_main_v16 (idx_main_v22 (ValueIdx.ix3 b s q))) k = ValueIdx.ix3 b s k := funext fun a => match a with
      | ⟨0, _⟩ => rfl
      | ⟨1, _⟩ => rfl
      | ⟨2, _⟩ => rfl
    rw [ei, val_main_v14_apply, ref_mix]; rfl
  rw [Finset.sum_congr rfl fun k _ => e k]
  show Ideal.rsqrt (Ideal.div (Ideal.ofBits .f32 0x00000000#32 + _) _ + _) = _
  rw [Ideal.ofBits_zero_f32, zero_add]
  rfl

/-- The reference's result. -/
theorem ref_value (x : Stream) (o : Rows) (w : Weights) (g : Scale) : val_main_v26 (F := Ideal) x o w g = answers x o w g := by
  funext i
  obtain ⟨b, s, q, rfl⟩ : ∃ (b : Fin 4) (s : Fin 4096) (q : Fin 2048), ValueIdx.ix3 b s q = i := ⟨i 0, i 1, i 2, funext fun a => match a with
    | ⟨0, _⟩ => rfl
    | ⟨1, _⟩ => rfl
    | ⟨2, _⟩ => rfl⟩
  rw [val_main_v26_apply, val_main_v23_apply, ref_mix, ref_sum, val_main_v25_apply, val_main_v24_apply]
  have e : idx_main_v24 (idx_main_v25 (ValueIdx.ix3 b s q)) = (fun a => match a with | ⟨0, _⟩ => q) := funext fun a => match a with
    | ⟨0, _⟩ => rfl
  rw [e]
  rfl

end Cert.Last

end
-- ==== Proof.Dense.Setup.lean ====
/-
  The dense feed-forward's region: the memory it is entered at, its two constant tables, its windows' blocks, and where its
  branches go.
-/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel4Ideal.Dense

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The memory the region finds -/

/-- The buffers after the casts of the rows and weights and the writing of the two tables. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_arg0 (c : Dev nD) : V m c main_arg0 = m ((c : Thread nD τ).loc main_arg0) := by
  show StableHlo.after hostOps0 _ (Proc.devRef .tc main_arg0) = _
  after_results
theorem V_arg1 (c : Dev nD) : V m c main_arg1 = m ((c : Thread nD τ).loc main_arg1) := by
  show StableHlo.after hostOps0 _ (Proc.devRef .tc main_arg1) = _
  after_results
theorem V_arg2 (c : Dev nD) : V m c main_arg2 = m ((c : Thread nD τ).loc main_arg2) := by
  show StableHlo.after hostOps0 _ (Proc.devRef .tc main_arg2) = _
  after_results
theorem V_arg3 (c : Dev nD) : V m c main_arg3 = m ((c : Thread nD τ).loc main_arg3) := by
  show StableHlo.after hostOps0 _ (Proc.devRef .tc main_arg3) = _
  after_results

/-! ## The tables -/

/-- The tables' words: sixteen zeros and sixteen ones. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
theorem tbl_zero (n : S16.Idx) : (tbl m 0 : S16.Idx → BitVec 32) n = 0#32 := by
  have e : V m (0 : Dev nD) main_v7 = (broadcastInDim S16 ![] bcast_S_S16 (constantI S_ 32 0#32) : S16.Idx → BitVec 32) := by
    show StableHlo.after hostOps0 _ (Proc.devRef .tc main_v7) = _
    after_results
  exact congrFun e n
theorem tbl_one (n : S16.Idx) : (tbl m 1 : S16.Idx → BitVec 32) n = 1#32 := by
  have e : V m (0 : Dev nD) main_v8 = (broadcastInDim S16 ![] bcast_S_S16 (constantI S_ 32 1#32) : S16.Idx → BitVec 32) := by
    show StableHlo.after hostOps0 _ (Proc.devRef .tc main_v8) = _
    after_results
  exact congrFun e n

/-! ## Which blocks the windows hold -/

theorem ix1 (i : grid0.Coords) : cc0_transform_1 k0_off1_inb numel1_S1 (tbl m) i = ![0, 0, (i 1).val] := by
  have hi : (i 1).val < 14 := (i 1).isLt
  have ew : (BitVec.ofNat 32 (i 1).val).toNat = (i 1).val := by rw [BitVec.toNat_ofNat, Nat.mod_eq_of_lt (by omega)]
  unfold cc0_transform_1
  refine congr (congrArg (fun x y => (![x, 0, y] : Fin 3 → ℕ)) (congrArg BitVec.toNat (tbl_zero m _))) (Eq.trans (congrArg (fun z : BitVec 32 =>
    (Scalar.select (Scalar.cmpi .ne z 0#32) (BitVec.ofNat 32 (i 1).val) 13#32).toNat) (tbl_one m _)) ew)
theorem ix2 (i : grid0.Coords) : cc0_transform_2 k0_off1_inb numel1_S1 (tbl m) i = ![0, 0, (i 1).val] := ix1 m i
theorem ix3 (i : grid0.Coords) : cc0_transform_3 k0_off1_inb numel1_S1 (tbl m) i = ![0, (i 1).val, 0] := by
  have hi : (i 1).val < 14 := (i 1).isLt
  have ew : (BitVec.ofNat 32 (i 1).val).toNat = (i 1).val := by rw [BitVec.toNat_ofNat, Nat.mod_eq_of_lt (by omega)]
  unfold cc0_transform_3
  refine congr (congrArg (fun x y => (![x, y, 0] : Fin 3 → ℕ)) (congrArg BitVec.toNat (tbl_zero m _))) (Eq.trans (congrArg (fun z : BitVec 32 =>
    (Scalar.select (Scalar.cmpi .ne z 0#32) (BitVec.ofNat 32 (i 1).val) 13#32).toNat) (tbl_one m _)) ew)

/-- Every window's block lies in its array. -/
theorem ok : ok0 (F := F) (tbl m) := by
  have hin : ∀ i : grid0.Coords, ∀ a : Fin 3, ((![0, 0, (i 1).val] : Fin 3 → ℕ) a + 1) * S1x2048x512.size a ≤ S1x2048x7168.size a := by
    intro i a
    have hi : (i 1).val < 14 := (i 1).isLt
    match a with
    | 0 => show (0 + 1) * 1 ≤ 1; omega
    | 1 => show (0 + 1) * 2048 ≤ 2048; omega
    | 2 => show ((i 1).val + 1) * 512 ≤ 7168; omega
  have hin3 : ∀ i : grid0.Coords, ∀ a : Fin 3, ((![0, (i 1).val, 0] : Fin 3 → ℕ) a + 1) * S1x512x2048.size a ≤ S1x7168x2048.size a := by
    intro i a
    have hi : (i 1).val < 14 := (i 1).isLt
    match a with
    | 0 => show (0 + 1) * 1 ≤ 1; omega
    | 1 => show ((i 1).val + 1) * 512 ≤ 7168; omega
    | 2 => show (0 + 1) * 2048 ≤ 2048; omega
  refine ⟨fun i => ?_, fun i => ?_, fun i => ?_⟩
  · rw [ix1]
    exact ⟨hin i, .inr (.inr ⟨by decide, rfl, rfl, rfl⟩)⟩
  · rw [ix2]
    exact ⟨hin i, .inr (.inr ⟨by decide, rfl, rfl, rfl⟩)⟩
  · rw [ix3]
    exact ⟨hin3 i, .inr (.inl (.inr ⟨by decide, rfl, .inl ⟨⟨(i 1).val * 256, by show (i 1).val * 512 = 2 * ((i 1).val * 256); omega⟩, ⟨256, rfl⟩⟩⟩))⟩

abbrev adm : (pcfg0 (F := F)).Adm := ⟨tbl m, ok m⟩
abbrev cfgM : Pipeline.Cfg sig Λ₀ := cfg0 (adm m)

abbrev tE : Memref sig .tc .smem S16 .i32 := Memref.whole main_v7
abbrev tF : Memref sig .tc .smem S16 .i32 := Memref.whole main_v8

/-! ## The windows' blocks -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0 {c : Dev nD} (dat : Dat τ (Elt F) Unit ℕ (UR sig nD τ) ℕ (cfgM m) c)
    (hA : dat.A 0 = V m c (Pipeline.arrRef spec0 0)) (hafter : ∀ t, dat.after 0 t = iblk m c 0 t)
    (t : Fin (cfgM m).N) (d) : dat.before 0 t d = iblk m c 0 t := by
  refine (dat.before_in_eq_fetched 0 rfl (fun _ => rfl) (fun _ _ _ => rfl) (fun t => ?_) t d).trans ?_
  · rw [hafter]; unfold Dat.blockOf iblk; rw [hA]; try rfl
  · unfold Dat.fetched Dat.blockOf iblk; rw [hA]; try rfl
theorem before1 {c : Dev nD} (dat : Dat τ (Elt F) Unit ℕ (UR sig nD τ) ℕ (cfgM m) c)
    (hA : dat.A 1 = V m c (Pipeline.arrRef spec0 1)) (hafter : ∀ t, dat.after 1 t = iblk m c 1 t)
    (t : Fin (cfgM m).N) (d) : dat.before 1 t d = iblk m c 1 t := by
  refine (dat.before_in_eq_fetched 1 rfl (fun _ => rfl) (fun _ _ _ => rfl) (fun t => ?_) t d).trans ?_
  · rw [hafter]; unfold Dat.blockOf iblk; rw [hA]; try rfl
  · unfold Dat.fetched Dat.blockOf iblk; rw [hA]; try rfl
theorem before2 {c : Dev nD} (dat : Dat τ (Elt F) Unit ℕ (UR sig nD τ) ℕ (cfgM m) c)
    (hA : dat.A 2 = V m c (Pipeline.arrRef spec0 2)) (hafter : ∀ t, dat.after 2 t = iblk m c 2 t)
    (t : Fin (cfgM m).N) (d) : dat.before 2 t d = iblk m c 2 t := by
  refine (dat.before_in_eq_fetched 2 rfl (fun _ => rfl) (fun _ _ _ => rfl) (fun t => ?_) t d).trans ?_
  · rw [hafter]; unfold Dat.blockOf iblk; rw [hA]; try rfl
  · unfold Dat.fetched Dat.blockOf iblk; rw [hA]; try rfl
theorem before3 {c : Dev nD} (dat : Dat τ (Elt F) Unit ℕ (UR sig nD τ) ℕ (cfgM m) c)
    (hA : dat.A 3 = V m c (Pipeline.arrRef spec0 3)) (hafter : ∀ t, dat.after 3 t = iblk m c 3 t)
    (t : Fin (cfgM m).N) (d) : dat.before 3 t d = iblk m c 3 t := by
  refine (dat.before_in_eq_fetched 3 rfl (fun _ => rfl) (fun _ _ _ => rfl) (fun t => ?_) t d).trans ?_
  · rw [hafter]; unfold Dat.blockOf iblk; rw [hA]; try rfl
  · unfold Dat.fetched Dat.blockOf iblk; rw [hA]; try rfl

/-! ## The grid's coordinates and the branches -/

theorem tile_of (t : Fin grid0.N) : (grid0.coords t 0).val = t.val / 14 := by
  have ht : t.val < 224 := Nat.lt_of_lt_of_eq t.isLt N_0
  have e : (grid0.coords t 0).val = t.val / 14 % 16 := Pipeline.Grid.coords_val t 0 (by decide) rfl
  omega
theorem part_of (t : Fin grid0.N) : (grid0.coords t 1).val = t.val % 14 := by
  have e : (grid0.coords t 1).val = t.val / 1 % 14 := Pipeline.Grid.coords_val t 1 (by decide) rfl
  omega

theorem isFirst_iff (i : grid0.Coords) : k0_cond1 i = 1#1 ↔ (i 1).val = 0 := by
  have hi : (i 1).val < 14 := (i 1).isLt
  simp only [k0_cond1]
  generalize (i 1).val = n at hi ⊢
  word_cmp
theorem isLater_iff (i : grid0.Coords) : k0_cond2 i = 1#1 ↔ (i 1).val ≠ 0 := by
  have hi : (i 1).val < 14 := (i 1).isLt
  simp only [k0_cond2]
  generalize (i 1).val = n at hi ⊢
  exact (by decide +kernel : ∀ k : Fin 14, ((Scalar.cmpi .ne (Scalar.extui (Scalar.cmpi .sgt (BitVec.ofNat 32 k.val) 0#32)) 0#32) = 1#1) ↔ k.val ≠ 0) ⟨n, hi⟩
/-- Every point writes its output block. -/
theorem live4 (i : grid0.Coords) : idle0 4 i = false := by
  show (!(k0_cond1 i == 1#1) && !(k0_cond2 i == 1#1)) = false
  by_cases h : (i 1).val = 0
  · rw [(isFirst_iff i).mpr h]; rfl
  · rw [(isLater_iff i).mpr h]; exact Bool.and_false _

theorem flush4 : ∀ t : Fin (cfgM m).N, ((cfgM m).win 4).flush t = true ↔ t.val % 14 = 13 :=
  (fun t => Pipeline.Window.flushOf_reads cc0_transform_4 reads0_4 hreads0_4 0 (by decide) (by decide) (Pipeline.Window.sep_of_coord cc0_transform_4 0 0 (fun _ => rfl) (by decide)) (P := 14) (m := 13) (by decide) rfl t
    : ∀ t : Fin grid0.N, Pipeline.Window.flushOf grid0 true cc0_transform_4 t = true ↔ t.val % 14 = 13)

/-! ## The memrefs the body is handed -/

abbrev ms0 (t : Fin (cfgM m).N) : Memref sig .tc .vmem S1024x2048 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x2048x512 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x2048x512 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x512x2048 .bf16 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1024x2048 .f32 := spec0_4.stage ((cfgM m).slots t 4)
abbrev hs4 (t : Fin (cfgM m).N) : (ms4 m t).IsWhole := hstage0_4 (((cfgM m).slots t 4).cast nbuf0_4)

/-- The body at point `t`. -/
abbrev bodyAt (t : Fin (cfgM m).N) : Prog (TpuEff nD τ sig (Elt F) Λ₀ .tc) PUnit :=
  cc0_grouped_ffn (grid0.coords t) tE (Memref.isWhole_whole _) tF (Memref.isWhole_whole _)
    (ms0 m t) (hs0 m t) (ms1 m t) (hs1 m t) (ms2 m t) (hs2 m t) (ms3 m t) (hs3 m t) (ms4 m t) (hs4 m t)

end Cert.Kernel4Ideal.Dense

end
-- ==== Proof.Dense.Runs.lean ====
/-
  The dense feed-forward's body: a tile's first point stores its part, a later one adds its own to what is there.
-/
module

public import proofs.«01_k».proof.Proof.Dense.Setup
public import Idealize.ShloMosaic.Lib.Pipeline.Value

@[expose] public section

set_option maxRecDepth 16384

noncomputable section

namespace Cert.Kernel4Ideal.Dense

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := by decide
theorem zero3 : (![0, 0, 0] : Fin 3 → Nat) = fun _ => 0 := by decide
/-- A load of a whole buffer reads what it holds. -/
theorem load_all {S : Shape} {e : EltTy} {sp : Space} (M : Memref sig .tc sp S e) (hM : M.IsWhole) (X : S.Idx → Elt F e)
    {off : Fin S.rank → Nat} (h : off = fun _ => 0) (inb : ∀ a, off a + S.size a ≤ S.size a) :
    M.view.readAt (Elt F) (Rect.unit off S.size inb).toLoadRect (hM.unread X) = X := by
  rw [View.readAt_eq_ld, hM.read_unread, View.ld_unit_zero h]

section Run

variable (c : Dev nD) (i : grid0.Coords)
  (arg4 : Memref sig .tc .vmem S1024x2048 .bf16) (harg4 : arg4.IsWhole) (arg5 : Memref sig .tc .vmem S1x2048x512 .bf16) (harg5 : arg5.IsWhole)
  (arg6 : Memref sig .tc .vmem S1x2048x512 .bf16) (harg6 : arg6.IsWhole) (arg7 : Memref sig .tc .vmem S1x512x2048 .bf16) (harg7 : arg7.IsWhole)
  (arg8 : Memref sig .tc .vmem S1024x2048 .f32) (harg8 : arg8.IsWhole)

/-- What a point holds: its five windows. -/
abbrev held (x : Vec F S1024x2048 .bf16) (g u : Vec F S1x2048x512 .bf16) (d : Vec F S1x512x2048 .bf16) (o : Vec F S1024x2048 .f32) : sProp 𝕄 :=
  iprop(owns (c : Thread nD τ) arg4 fullShare x ∗ owns (c : Thread nD τ) arg5 fullShare g ∗ owns (c : Thread nD τ) arg6 fullShare u
    ∗ owns (c : Thread nD τ) arg7 fullShare d ∗ owns (c : Thread nD τ) arg8 fullShare o)

/-- The body at the point. -/
abbrev bodyOn : Prog (TpuEff nD τ sig (Elt F) Λ₀ .tc) PUnit :=
  cc0_grouped_ffn i tE (Memref.isWhole_whole _) tF (Memref.isWhole_whole _) arg4 harg4 arg5 harg5 arg6 harg6 arg7 harg7 arg8 harg8

variable (x : Vec F S1024x2048 .bf16) (g u : Vec F S1x2048x512 .bf16) (d : Vec F S1x512x2048 .bf16) (o : Vec F S1024x2048 .f32)

set_option maxHeartbeats 1000000 in
/-- A tile's first point: its part is stored. -/
theorem run_first (h : (i 1).val = 0) (E : Set ℕ) (K : PUnit → sProp 𝕄) :
    iprop(held c arg4 arg5 arg6 arg7 arg8 x g u d o
        ∗ (held c arg4 arg5 arg6 arg7 arg8 x g u d (k0_pay1 x g u d) -∗ K ⟨⟩))
      ⊢ wp frame (wpE (defs₀ (F := F)) Variants.none c none) E
        (bodyOn i arg4 harg4 arg5 harg5 arg6 harg6 arg7 harg7 arg8 harg8) K := by
  have hc1 : k0_cond1 i = 1#1 := (isFirst_iff i).mpr h
  have hc2 : ¬ k0_cond2 i = 1#1 := fun e => (isLater_iff i).mp e h
  unfold bodyOn
  simp only [cc0_grouped_ffn_eq_skeleton]; unfold cc0_grouped_ffn_skel
  unfold held owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := harg4.eq_unread hf0; obtain rfl := harg5.eq_unread hf1; obtain rfl := harg6.eq_unread hf2; obtain rfl := harg7.eq_unread hf3
  obtain rfl := harg8.eq_unread hf4
  sl_exec (disch := first | sl_exact hc1 | sl_exact hc2)
  sl_step
  iapply Hk
  isplitl [H0]
  · iexists _; isplitr
    rotate_left
    · iexact H0
    ipureintro
    exact harg4.read_unread _
  isplitl [H1]
  · iexists _; isplitr
    rotate_left
    · iexact H1
    ipureintro
    exact harg5.read_unread _
  isplitl [H2]
  · iexists _; isplitr
    rotate_left
    · iexact H2
    ipureintro
    exact harg6.read_unread _
  isplitl [H3]
  · iexists _; isplitr
    rotate_left
    · iexact H3
    ipureintro
    exact harg7.read_unread _
  · iexists _; isplitr
    rotate_left
    · iexact H4
    ipureintro
    refine (View.read_writes_eq_canon _ _ _ fun y => ⟨_, List.mem_singleton_self _, View.mem_set_unit_zero zero2 inb_S1024x2048_S1024x2048_0_0 y⟩).trans ((View.canon_unit_zero zero2 inb_S1024x2048_S1024x2048_0_0 _).trans ?_)
    rw [load_all arg4 harg4 x zero2, load_all arg5 harg5 g zero3, load_all arg6 harg6 u zero3, load_all arg7 harg7 d zero3]

set_option maxHeartbeats 1000000 in
/-- A later point: its part is added. -/
theorem run_later (h : (i 1).val ≠ 0) (E : Set ℕ) (K : PUnit → sProp 𝕄) :
    iprop(held c arg4 arg5 arg6 arg7 arg8 x g u d o
        ∗ (held c arg4 arg5 arg6 arg7 arg8 x g u d (addf o (k0_pay1 x g u d)) -∗ K ⟨⟩))
      ⊢ wp frame (wpE (defs₀ (F := F)) Variants.none c none) E
        (bodyOn i arg4 harg4 arg5 harg5 arg6 harg6 arg7 harg7 arg8 harg8) K := by
  have hc1 : ¬ k0_cond1 i = 1#1 := fun e => h ((isFirst_iff i).mp e)
  have hc2 : k0_cond2 i = 1#1 := (isLater_iff i).mpr h
  unfold bodyOn
  simp only [cc0_grouped_ffn_eq_skeleton]; unfold cc0_grouped_ffn_skel
  unfold held owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := harg4.eq_unread hf0; obtain rfl := harg5.eq_unread hf1; obtain rfl := harg6.eq_unread hf2; obtain rfl := harg7.eq_unread hf3
  obtain rfl := harg8.eq_unread hf4
  sl_exec (disch := first | sl_exact hc1 | sl_exact hc2)
  sl_step
  iapply Hk
  isplitl [H0]
  · iexists _; isplitr
    rotate_left
    · iexact H0
    ipureintro
    exact harg4.read_unread _
  isplitl [H1]
  · iexists _; isplitr
    rotate_left
    · iexact H1
    ipureintro
    exact harg5.read_unread _
  isplitl [H2]
  · iexists _; isplitr
    rotate_left
    · iexact H2
    ipureintro
    exact harg6.read_unread _
  isplitl [H3]
  · iexists _; isplitr
    rotate_left
    · iexact H3
    ipureintro
    exact harg7.read_unread _
  · iexists _; isplitr
    rotate_left
    · iexact H4
    ipureintro
    refine (View.read_writes_eq_canon _ _ _ fun y => ⟨_, List.mem_singleton_self _, View.mem_set_unit_zero zero2 inb_S1024x2048_S1024x2048_0_0 y⟩).trans ((View.canon_unit_zero zero2 inb_S1024x2048_S1024x2048_0_0 _).trans ?_)
    unfold k0_pay2
    rw [load_all arg4 harg4 x zero2, load_all arg5 harg5 g zero3, load_all arg6 harg6 u zero3, load_all arg7 harg7 d zero3, load_all arg8 harg8 o zero2]
    exact congrArg (addf · _) (shapeCast_self _ _)

end Run

end Cert.Kernel4Ideal.Dense

end
-- ==== Proof.Dense.Launch.lean ====
/-
  The dense feed-forward's launch: what its output block holds along the grid, the body's obligation, and the run.
-/
module

public import proofs.«01_k».proof.Proof.Dense.Runs

@[expose] public section

set_option maxRecDepth 16384

noncomputable section

namespace Cert.Kernel4Ideal.Dense

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks, by their types -/

def blk0 (c : Dev nD) (t : Fin (cfgM m).N) : Vec F S1024x2048 .bf16 := iblk m c 0 t
def blk1 (c : Dev nD) (t : Fin (cfgM m).N) : Vec F S1x2048x512 .bf16 := iblk m c 1 t
def blk2 (c : Dev nD) (t : Fin (cfgM m).N) : Vec F S1x2048x512 .bf16 := iblk m c 2 t
def blk3 (c : Dev nD) (t : Fin (cfgM m).N) : Vec F S1x512x2048 .bf16 := iblk m c 3 t

theorem size_N : (cfgM m).N = 224 := N_0

/-- The part point `t` computes, and its tile's parts' sum up to it. -/
def partAt (c : Dev nD) (t : Fin (cfgM m).N) : Vec F S1024x2048 .f32 := k0_pay1 (blk0 m c t) (blk1 m c t) (blk2 m c t) (blk3 m c t)
def sumTo (c : Dev nD) : (n : ℕ) → n < (cfgM m).N → Vec F S1024x2048 .f32
  | 0, h => partAt m c ⟨0, h⟩
  | n + 1, h => if (n + 1) % 14 = 0 then partAt m c ⟨n + 1, h⟩ else addf (sumTo c n (by omega)) (partAt m c ⟨n + 1, h⟩)
theorem sumTo_first (c : Dev nD) (t : Fin (cfgM m).N) (h : t.val % 14 = 0) : sumTo m c t.val t.isLt = partAt m c t := by
  obtain ⟨n, hn⟩ := t
  cases n with
  | zero => rfl
  | succ n => exact if_pos h
theorem sumTo_next (c : Dev nD) (t s : Fin (cfgM m).N) (hs : t.val = s.val + 1) (h : t.val % 14 ≠ 0) :
    sumTo m c t.val t.isLt = addf (sumTo m c s.val s.isLt) (partAt m c t) := by
  obtain ⟨n, hn⟩ := t; obtain ⟨k, hk⟩ := s
  obtain rfl : n = k + 1 := hs
  exact if_neg h

/-! ## The proof's data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => sumTo m c t.val t.isLt
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = sumTo m c t.val t.isLt := by dsimp only [dats]; try rfl
theorem before0_0 (c : Dev nD) (t : Fin (cfgM m).N) (d) : (dats m 0 c).before 0 t d = blk0 m c t :=
  before0 m (dats m 0 c) (A_eq m c 0) (after0_0 m c) t d
theorem before0_1 (c : Dev nD) (t : Fin (cfgM m).N) (d) : (dats m 0 c).before 1 t d = blk1 m c t :=
  before1 m (dats m 0 c) (A_eq m c 1) (after0_1 m c) t d
theorem before0_2 (c : Dev nD) (t : Fin (cfgM m).N) (d) : (dats m 0 c).before 2 t d = blk2 m c t :=
  before2 m (dats m 0 c) (A_eq m c 2) (after0_2 m c) t d
theorem before0_3 (c : Dev nD) (t : Fin (cfgM m).N) (d) : (dats m 0 c).before 3 t d = blk3 m c t :=
  before3 m (dats m 0 c) (A_eq m c 3) (after0_3 m c) t d

theorem noflush_of (t : Fin (cfgM m).N) (h : t.val % 14 ≠ 13) : ((cfgM m).win 4).flush t = false :=
  Bool.eq_false_iff.mpr fun hf => h ((flush4 m t).mp hf)
theorem idle_false (t : Fin (cfgM m).N) : (cfgM m).idle 4 ((cfgM m).grid.coords t) = false := live4 (grid0.coords t)
theorem leaves4 (c : Dev nD) (t : Fin (cfgM m).N) :
    (dats m 0 c).leavesExact 4 t = owns (c : Thread nD τ) (ms4 m t) fullShare (sumTo m c t.val t.isLt) := by
  unfold Dat.leavesExact; rw [idle_false m t]; try rfl

/-- Past a tile's first point the output block holds the sum so far. -/
theorem before_later (c : Dev nD) (t s : Fin (cfgM m).N) (hs : t.val = s.val + 1) (h : t.val % 14 ≠ 0) (d) :
    (dats m 0 c).before 4 t d = sumTo m c s.val s.isLt := by
  obtain ⟨n, hn⟩ := t; obtain ⟨k, hk⟩ := s
  obtain rfl : n = k + 1 := hs
  rw [(dats m 0 c).before_of_pos 4 ⟨k + 1, hn⟩ (Nat.succ_ne_zero k) (((cfgM m).win 4).fetch_out rfl _) d]
  show (if ((cfgM m).win 4).flush ⟨k, hk⟩ = true then _ else (dats m 0 c).left 4 ⟨k, hk⟩ d) = _
  rw [noflush_of m ⟨k, hk⟩ (by show k % 14 ≠ 13; have : (k + 1) % 14 ≠ 0 := h; omega), if_neg Bool.false_ne_true]
  unfold Dat.left
  rw [idle_false m ⟨k, hk⟩]
  show (dats m 0 c).kept 4 ⟨k, hk⟩ d = _
  unfold Dat.kept
  rw [Pipeline.fill_of_clip_none (cfg := cfgM m) 4 _ (fun _ => rfl) d ((dats m 0 c).after 4 ⟨k, hk⟩), Window.fill_cut, after0_4]

/-! ## The body's obligation -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d)))
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin (cfgM m).N) : (dats m 0 c).leavesExact 0 t = owns (c : Thread nD τ) (ms0 m t) fullShare (blk0 m c t) := by
  rw [show (dats m 0 c).leavesExact 0 t = owns (c : Thread nD τ) (ms0 m t) fullShare ((dats m 0 c).after 0 t) from rfl, after0_0]; rfl
theorem leaves1 (c : Dev nD) (t : Fin (cfgM m).N) : (dats m 0 c).leavesExact 1 t = owns (c : Thread nD τ) (ms1 m t) fullShare (blk1 m c t) := by
  rw [show (dats m 0 c).leavesExact 1 t = owns (c : Thread nD τ) (ms1 m t) fullShare ((dats m 0 c).after 1 t) from rfl, after0_1]; rfl
theorem leaves2 (c : Dev nD) (t : Fin (cfgM m).N) : (dats m 0 c).leavesExact 2 t = owns (c : Thread nD τ) (ms2 m t) fullShare (blk2 m c t) := by
  rw [show (dats m 0 c).leavesExact 2 t = owns (c : Thread nD τ) (ms2 m t) fullShare ((dats m 0 c).after 2 t) from rfl, after0_2]; rfl
theorem leaves3 (c : Dev nD) (t : Fin (cfgM m).N) : (dats m 0 c).leavesExact 3 t = owns (c : Thread nD τ) (ms3 m t) fullShare (blk3 m c t) := by
  rw [show (dats m 0 c).leavesExact 3 t = owns (c : Thread nD τ) (ms3 m t) fullShare ((dats m 0 c).after 3 t) from rfl, after0_3]; rfl

set_option maxHeartbeats 1000000 in
theorem sound_body (c : Dev nD) (t : Fin (cfgM m).N) :
    bodyPre m c t ⊢ wp frame (wpE (defs₀ (F := F)) Variants.none c none) Set.univ (bodyAt m t) (fun _ => bodyPost m c t) := by
  unfold bodyPre bodyPost
  simp only [before0_0, before0_1, before0_2, before0_3]
  rw [leaves0, leaves1, leaves2, leaves3, leaves4]
  rw [show (dats m 0 c).owesAt () t.succ = (dats m 0 c).owesAt () t.castSucc from rfl, show (dats m 0 c).Φ t.succ = (dats m 0 c).Φ t.castSucc from rfl]
  have hp : (grid0.coords t 1).val = t.val % 14 := part_of t
  iintro ⟨HP, Ho, ⟨%d0, H0⟩, ⟨%d1, H1⟩, ⟨%d2, H2⟩, ⟨%d3, H3⟩, ⟨%d4, H4⟩⟩
  rcases Classical.em (t.val % 14 = 0) with h0 | h0
  · rw [sumTo_first m c t h0]
    iapply (run_first c (grid0.coords t) (ms0 m t) (hs0 m t) (ms1 m t) (hs1 m t) (ms2 m t) (hs2 m t) (ms3 m t) (hs3 m t) (ms4 m t) (hs4 m t) (blk0 m c t) (blk1 m c t) (blk2 m c t) (blk3 m c t) _ (hp.trans h0) Set.univ _)
    isplitl [H0 H1 H2 H3 H4]
    · unfold held
      isplitl [H0]; · iexact H0
      isplitl [H1]; · iexact H1
      isplitl [H2]; · iexact H2
      isplitl [H3]; · iexact H3
      iexact H4
    unfold held
    iintro ⟨H0, H1, H2, H3, H4⟩
    isplitl [HP]; · iexact HP
    isplitl [Ho]; · iexact Ho
    isplitl [H0]; · iexact H0
    isplitl [H1]; · iexact H1
    isplitl [H2]; · iexact H2
    isplitl [H3]; · iexact H3
    iexact H4
  · have hlt : t.val - 1 < (cfgM m).N := by have := t.isLt; omega
    have hs : t.val = (⟨t.val - 1, hlt⟩ : Fin (cfgM m).N).val + 1 := by show t.val = t.val - 1 + 1; omega
    rw [sumTo_next m c t ⟨t.val - 1, hlt⟩ hs h0, before_later m c t ⟨t.val - 1, hlt⟩ hs h0]
    iapply (run_later c (grid0.coords t) (ms0 m t) (hs0 m t) (ms1 m t) (hs1 m t) (ms2 m t) (hs2 m t) (ms3 m t) (hs3 m t) (ms4 m t) (hs4 m t) (blk0 m c t) (blk1 m c t) (blk2 m c t) (blk3 m c t) _ (fun e => h0 (hp.symm.trans e)) Set.univ _)
    isplitl [H0 H1 H2 H3 H4]
    · unfold held
      isplitl [H0]; · iexact H0
      isplitl [H1]; · iexact H1
      isplitl [H2]; · iexact H2
      isplitl [H3]; · iexact H3
      iexact H4
    unfold held
    iintro ⟨H0, H1, H2, H3, H4⟩
    isplitl [HP]; · iexact HP
    isplitl [Ho]; · iexact Ho
    isplitl [H0]; · iexact H0
    isplitl [H1]; · iexact H1
    isplitl [H2]; · iexact H2
    isplitl [H3]; · iexact H3
    iexact H4

theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

theorem hin (c : Dev nD) : iprop(Pipeline.ΦA spec0 c ∗ Pipeline.ΦT pre0 (tbl m) c) ⊢ (dats m 0 c).Φ 0 := .rfl
theorem hout (c : Dev nD) : (dats m 0 c).Φ (Fin.last (cfgM m).N) ⊢ Pipeline.ΦA spec0 c := by
  show iprop(Pipeline.ΦA spec0 c ∗ Pipeline.ΦT pre0 (tbl m) c) ⊢ _
  iintro ⟨HA, -⟩
  iexact HA

/-! ## The run -/

set_option backward.isDefEq.respectTransparency.types false in
theorem run_main_quiescent : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hin := hin m) (hout := hout m)

/-- The result array after the last point. -/
def result (c : Dev nD) : Buf (Elt F) ((c : Thread nD τ).loc main_v9) := (dats m 0 c).arrAt 4 (cfgM m).N

theorem run_main : θ_run defs (onTc (τ := τ) (main (F := F))) ⟨m, fun _ => 0, ρ⟩ (fun r => (∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨(h.1 c).1 4,
    ((h.1 c).2 main_arg0 (by decide : main_arg0 ∈ Pipeline.restRefs sig spec0)).trans (V_arg0 m c),
    ((h.1 c).2 main_arg1 (by decide : main_arg1 ∈ Pipeline.restRefs sig spec0)).trans (V_arg1 m c),
    ((h.1 c).2 main_arg2 (by decide : main_arg2 ∈ Pipeline.restRefs sig spec0)).trans (V_arg2 m c),
    ((h.1 c).2 main_arg3 (by decide : main_arg3 ∈ Pipeline.restRefs sig spec0)).trans (V_arg3 m c)⟩, h.2⟩) (run_main_quiescent m ρ)

end Cert.Kernel4Ideal.Dense

end
-- ==== Proof.Dense.Bits.lean ====
/-
  The printed dense feed-forward is the idealized one's text: its run is that run, at any float values.
-/
module

public import proofs.«01_k».proof.Kernel4
public import proofs.«01_k».proof.Proof.Gen.Kernel4
public import proofs.«01_k».proof.Proof.Dense.Launch

@[expose] public section

set_option maxRecDepth 16384

noncomputable section

namespace Cert.Dense

open Idealize.ShloMosaic Idealize.ShloMosaic.TcCoe Idealize.SL.Sem

variable {F : FTy → Type} [FloatOps F]

theorem body_eq (i : Cert.Kernel4.grid0.Coords) : Cert.Kernel4.cc0_grouped_ffn (F := F) i = Cert.Kernel4Ideal.cc0_grouped_ffn (F := F) i := by
  funext a2 h2 a3 h3 a4 h4 a5 h5 a6 h6 a7 h7 a8 h8
  unfold Cert.Kernel4.cc0_grouped_ffn Cert.Kernel4Ideal.cc0_grouped_ffn
  rfl
theorem defs₀_eq : Cert.Kernel4.defs₀ (F := F) = Cert.Kernel4Ideal.defs₀ (F := F) := by
  unfold Cert.Kernel4.defs₀ Cert.Kernel4Ideal.defs₀
  refine congrArg Defs.onTc ?_
  funext l x
  match l, x with
  | 0, (t, s) =>
    dsimp only
    rw [body_eq (F := F) (Cert.Kernel4.grid0.coords t)]
    rfl
  | ⟨n + 1, h⟩, _ => exact absurd h (by omega)
theorem defs_eq : Cert.Kernel4.defs (F := F) = Cert.Kernel4Ideal.defs (F := F) := congrArg (Pipeline.defs _) defs₀_eq
theorem main_eq : Cert.Kernel4.main (F := F) = Cert.Kernel4Ideal.main (F := F) := by
  funext c
  unfold Cert.Kernel4.main Cert.Kernel4Ideal.main
  rfl

theorem run_iff (m : (ℓ : Loc Cert.Kernel4.nD Cert.Kernel4.τ Cert.Kernel4.sig) → Buf (Elt F) ℓ) (ρ : Dev Cert.Kernel4.nD → PrngReg)
    (Q : PUnit × MemSt Cert.Kernel4.nD Cert.Kernel4.τ Cert.Kernel4.sig (Elt F) → Prop)
    (h : θ_run Cert.Kernel4Ideal.defs (onTc (τ := Cert.Kernel4Ideal.τ) (Cert.Kernel4Ideal.main (F := F))) ⟨m, fun _ => 0, ρ⟩ Q) :
    θ_run Cert.Kernel4.defs (onTc (τ := Cert.Kernel4.τ) (Cert.Kernel4.main (F := F))) ⟨m, fun _ => 0, ρ⟩ Q := by
  rw [defs_eq, main_eq]; exact h

end Cert.Dense
end
-- ==== Proof.Dense.Spec.lean ====
/-
  The dense feed-forward as sums over the extended reals: a token's products with the gate, up and down matrices.
-/
module

public import Idealize.ShloMosaic.Lib.ValueIdx
public import Idealize.ShloMosaic.Lib.MatmulPlain
public import Idealize.ShloMosaic.Lib.Pointwise.Sums
public import Idealize.ShloMosaic.PureOps.Ideal.Laws

@[expose] public section

noncomputable section

namespace Cert.Dense

open Idealize.ShloMosaic

/-- The token rows, the gate's or up projection's matrix, and the down projection's. -/
abbrev Rows : Type := FVec Ideal ⟨2, ![16384, 2048]⟩ .f32
abbrev Wide : Type := FVec Ideal ⟨2, ![2048, 7168]⟩ .f32
abbrev Back : Type := FVec Ideal ⟨2, ![7168, 2048]⟩ .f32

/-- Token `n`'s row by column `k` of a matrix. -/
def proj (x : Rows) (w : Wide) (n : Fin 16384) (k : Fin 7168) : EReal := ∑ q : Fin 2048, x (ValueIdx.ix2 n q) * w (ValueIdx.ix2 q k)
/-- The gated hidden value. -/
def act (x : Rows) (wg wu : Wide) (n : Fin 16384) (k : Fin 7168) : EReal :=
  proj x wg n k * Ideal.logistic (proj x wg n k) * proj x wu n k
/-- Entry `j` of the answer for token `n`. -/
def ffn (x : Rows) (wg wu : Wide) (wd : Back) (n : Fin 16384) (j : Fin 2048) : EReal :=
  ∑ k : Fin 7168, act x wg wu n k * wd (ValueIdx.ix2 k j)
/-- The result. -/
def answers (x : Rows) (wg wu : Wide) (wd : Back) : Rows := fun r => ffn x wg wu wd (r 0) (r 1)

theorem one_f32 : Ideal.ofBits .f32 0x3F800000#32 = 1 := by simp [Ideal.ofBits, Ideal.ieee, -EReal.coe_mul]; norm_num

/-- The hidden positions in fourteen parts of 512. -/
theorem ffn_parts (x : Rows) (wg wu : Wide) (wd : Back) (n : Fin 16384) (j : Fin 2048) :
    ffn x wg wu wd n j = ∑ f : Fin 14, ∑ k : Fin 512,
      act x wg wu n ⟨f.val * 512 + k.val, by omega⟩ * wd (ValueIdx.ix2 ⟨f.val * 512 + k.val, by omega⟩ j) :=
  Fin.sum_univ_tiles 14 512 rfl _

end Cert.Dense
end
-- ==== Proof.Dense.Ref.lean ====
/-
  The reference's dense feed-forward, read at an index.
-/
module

public import proofs.«01_k».proof.Proof.Gen.Reference4Ideal.Read
public import proofs.«01_k».proof.Proof.Dense.Spec

@[expose] public section

set_option maxRecDepth 16384

noncomputable section

namespace Cert.Dense

open Idealize.ShloMosaic Idealize.ShloMosaic.TcCoe
open Cert.Reference4Ideal Cert.Reference4Ideal.Gen Cert.Reference4Ideal.Read

theorem gate_apply (x : Rows) (w : Wide) (n : Fin 16384) (k : Fin 7168) : val_main_v0 (F := Ideal) x w (ValueIdx.ix2 n k) = proj x w n k := by
  unfold val_main_v0 proj
  simp only [Host.dotGeneral]; rw [Ideal.dotGeneral_def]
  exact (Ideal.matmul_plain_apply none x w (fun _ => 0) n k).trans (zero_add _)
theorem up_apply (x : Rows) (w : Wide) (n : Fin 16384) (k : Fin 7168) : val_main_v2 (F := Ideal) x w (ValueIdx.ix2 n k) = proj x w n k := by
  unfold val_main_v2 proj
  simp only [Host.dotGeneral]; rw [Ideal.dotGeneral_def]
  exact (Ideal.matmul_plain_apply none x w (fun _ => 0) n k).trans (zero_add _)

theorem hidden_apply (x : Rows) (wg wu : Wide) (n : Fin 16384) (k : Fin 7168) :
    val_main_v3 (F := Ideal) x wg wu (ValueIdx.ix2 n k) = act x wg wu n k := by
  rw [val_main_v3_apply, val_main_v1_apply, val_main_call0_v5_apply, val_main_call0_v3_apply, val_main_call0_v1_apply, val_main_call0_v0_apply,
    val_main_call0_v4_apply, val_main_call0_v2_apply, val_main_call0_cst_apply, val_main_call0_cst_0_apply, gate_apply, up_apply]
  show proj x wg n k * Ideal.div (Ideal.ofBits .f32 0x3F800000#32) (Ideal.ofBits .f32 0x3F800000#32 + Ideal.exp (-(proj x wg n k))) * proj x wu n k = _
  rw [one_f32]
  rfl

/-- The reference's result is the sums. -/
theorem ref_value (x : Rows) (wg wu : Wide) (wd : Back) : val_main_v4 (F := Ideal) x wg wu wd = answers x wg wu wd := by
  refine funext fun (r : S16384x2048.Idx) => ?_
  obtain ⟨n, j, rfl⟩ : ∃ (n : Fin 16384) (j : Fin 2048), r = ValueIdx.ix2 n j := ⟨r 0, r 1, funext fun a => match a with | ⟨0, _⟩ => rfl | ⟨1, _⟩ => rfl⟩
  show _ = ffn x wg wu wd n j
  unfold val_main_v4 ffn
  simp only [Host.dotGeneral]; rw [Ideal.dotGeneral_def]
  refine ((Ideal.matmul_plain_apply none (val_main_v3 (F := Ideal) x wg wu) wd (fun _ => 0) n j).trans (zero_add _)).trans (Finset.sum_congr rfl fun k _ => ?_)
  rw [hidden_apply]

end Cert.Dense
end
-- ==== Proof.Dense.Value.lean ====
/-
  The dense feed-forward's value with exact arithmetic: the blocks it stages, read from the arrays as launched; a tile's parts
  added up; and the blocks written back, which make up the result.
-/
module

public import proofs.«01_k».proof.Proof.Dense.Launch
public import proofs.«01_k».proof.Proof.Dense.Spec
public import Idealize.ShloMosaic.Lib.Pipeline.ValueKit.Geometry

@[expose] public section

set_option maxRecDepth 16384

noncomputable section

namespace Cert.Kernel4Ideal.Dense

open Cert.Kernel4Ideal Cert.Kernel4Ideal.Gen
open Idealize.ShloMosaic Idealize.ShloMosaic.TcCoe
open Cert.Dense (Rows Wide Back proj act ffn answers)

variable (m : (ℓ : Loc nD τ sig) → Buf (Elt Ideal) ℓ)

/-! ## The arrays as launched, by their types -/

def aX (c : Dev nD) : Rows := m ((c : Thread nD τ).loc main_arg0)
def aG (c : Dev nD) : Wide := m ((c : Thread nD τ).loc main_arg1)
def aU (c : Dev nD) : Wide := m ((c : Thread nD τ).loc main_arg2)
def aD (c : Dev nD) : Back := m ((c : Thread nD τ).loc main_arg3)

theorem V_v0 (c : Dev nD) : V m c main_v0 = (truncf .bf16 (aX m c) bitsLt_bf16_f32 : FVec Ideal S16384x2048 .bf16) := by
  show StableHlo.after hostOps0 _ (Proc.devRef .tc main_v0) = _
  after_results
  rfl
theorem V_v2 (c : Dev nD) : V m c main_v2 = (truncf .bf16 (broadcastInDim S1x2048x7168 ![1, 2] bcast_S2048x7168_S1x2048x7168_1_2 (aG m c)) bitsLt_bf16_f32 : FVec Ideal S1x2048x7168 .bf16) := by
  show StableHlo.after hostOps0 _ (Proc.devRef .tc main_v2) = _
  after_results
  rfl
theorem V_v4 (c : Dev nD) : V m c main_v4 = (truncf .bf16 (broadcastInDim S1x2048x7168 ![1, 2] bcast_S2048x7168_S1x2048x7168_1_2 (aU m c)) bitsLt_bf16_f32 : FVec Ideal S1x2048x7168 .bf16) := by
  show StableHlo.after hostOps0 _ (Proc.devRef .tc main_v4) = _
  after_results
  rfl
theorem V_v6 (c : Dev nD) : V m c main_v6 = (truncf .bf16 (broadcastInDim S1x7168x2048 ![1, 2] bcast_S7168x2048_S1x7168x2048_1_2 (aD m c)) bitsLt_bf16_f32 : FVec Ideal S1x7168x2048 .bf16) := by
  show StableHlo.after hostOps0 _ (Proc.devRef .tc main_v6) = _
  after_results
  rfl

theorem wide_apply (w : Wide) (i : S1x2048x7168.Idx) (q : Fin 2048) (k : Fin 7168) (h1 : (i 1).val = q.val) (h2 : (i 2).val = k.val) :
    (truncf .bf16 (broadcastInDim S1x2048x7168 ![1, 2] bcast_S2048x7168_S1x2048x7168_1_2 w) bitsLt_bf16_f32 : FVec Ideal S1x2048x7168 .bf16) i = w (ValueIdx.ix2 q k) :=
  broadcastInDim_apply _ bcast_S2048x7168_S1x2048x7168_1_2 w i (ValueIdx.ix2 q k) (fun a => match a with | ⟨0, _⟩ => h1.symm | ⟨1, _⟩ => h2.symm)
theorem back_apply (w : Back) (i : S1x7168x2048.Idx) (k : Fin 7168) (j : Fin 2048) (h1 : (i 1).val = k.val) (h2 : (i 2).val = j.val) :
    (truncf .bf16 (broadcastInDim S1x7168x2048 ![1, 2] bcast_S7168x2048_S1x7168x2048_1_2 w) bitsLt_bf16_f32 : FVec Ideal S1x7168x2048 .bf16) i = w (ValueIdx.ix2 k j) :=
  broadcastInDim_apply _ bcast_S7168x2048_S1x7168x2048_1_2 w i (ValueIdx.ix2 k j) (fun a => match a with | ⟨0, _⟩ => h1.symm | ⟨1, _⟩ => h2.symm)

/-! ## Tiles and parts -/

variable (c : Dev nD)

theorem lt_N (t : Fin (cfgM m).N) : t.val < 224 := Nat.lt_of_lt_of_eq t.isLt (size_N m)
def tileOf (t : Fin (cfgM m).N) : Fin 16 := ⟨t.val / 14, by have := lt_N m t; omega⟩
def partOf (t : Fin (cfgM m).N) : Fin 14 := ⟨t.val % 14, Nat.mod_lt _ (by decide)⟩
/-- Row `r` of tile `i`, as a token. -/
def rowOf (i : Fin 16) (r : Fin 1024) : Fin 16384 := ⟨i.val * 1024 + r.val, by omega⟩
/-- Position `k` of part `f`. -/
def posOf (f : Fin 14) (k : Fin 512) : Fin 7168 := ⟨f.val * 512 + k.val, by omega⟩

/-! ## The blocks -/

theorem blk0_apply (t : Fin (cfgM m).N) (r : Fin 1024) (q : Fin 2048) :
    blk0 m c t (ValueIdx.ix2 r q) = aX m c (ValueIdx.ix2 (rowOf (tileOf m t) r) q) := by
  show V m c main_v0 ((((cfgM m).win 0).blk t).view.emb _) = _
  rw [V_v0]
  refine congrArg (aX m c) (funext fun a => Fin.ext ((Pipeline.Window.rect_emb_val ((cfgM m).win 0) t _ a).trans ?_))
  match a with
  | ⟨0, _⟩ =>
    have e : ((cfgM m).win 0).index t (0 : Fin 2) = t.val / 14 := by
      show (BitVec.ofNat 32 (grid0.coords t 0).val).toNat = _
      have := lt_N m t
      rw [tile_of, BitVec.toNat_ofNat, Nat.mod_eq_of_lt (by omega)]
    exact congrArg (· * 1024 + r.val) e
  | ⟨1, _⟩ => show 0 * 2048 + q.val = q.val; omega

theorem index1 (t : Fin (cfgM m).N) : ((cfgM m).win 1).index t = ![0, 0, t.val % 14] :=
  (ix1 m (grid0.coords t)).trans (congrArg (fun x => (![0, 0, x] : Fin 3 → ℕ)) (part_of t))
theorem index2 (t : Fin (cfgM m).N) : ((cfgM m).win 2).index t = ![0, 0, t.val % 14] :=
  (ix2 m (grid0.coords t)).trans (congrArg (fun x => (![0, 0, x] : Fin 3 → ℕ)) (part_of t))
theorem index3 (t : Fin (cfgM m).N) : ((cfgM m).win 3).index t = ![0, t.val % 14, 0] :=
  (ix3 m (grid0.coords t)).trans (congrArg (fun x => (![0, x, 0] : Fin 3 → ℕ)) (part_of t))

theorem blk1_apply (t : Fin (cfgM m).N) (q : Fin 2048) (k : Fin 512) :
    blk1 m c t (ValueIdx.ix3 (0 : Fin 1) q k) = aG m c (ValueIdx.ix2 q (posOf (partOf m t) k)) := by
  show V m c main_v2 ((((cfgM m).win 1).blk t).view.emb _) = _
  rw [V_v2]
  refine wide_apply (aG m c) _ q (posOf (partOf m t) k) ?_ ?_
  · refine (Pipeline.Window.rect_emb_val ((cfgM m).win 1) t _ (1 : Fin 3)).trans ?_
    rw [index1]; show 0 * 2048 + q.val = q.val; omega
  · refine (Pipeline.Window.rect_emb_val ((cfgM m).win 1) t _ (2 : Fin 3)).trans ?_
    rw [index1]; rfl
theorem blk2_apply (t : Fin (cfgM m).N) (q : Fin 2048) (k : Fin 512) :
    blk2 m c t (ValueIdx.ix3 (0 : Fin 1) q k) = aU m c (ValueIdx.ix2 q (posOf (partOf m t) k)) := by
  show V m c main_v4 ((((cfgM m).win 2).blk t).view.emb _) = _
  rw [V_v4]
  refine wide_apply (aU m c) _ q (posOf (partOf m t) k) ?_ ?_
  · refine (Pipeline.Window.rect_emb_val ((cfgM m).win 2) t _ (1 : Fin 3)).trans ?_
    rw [index2]; show 0 * 2048 + q.val = q.val; omega
  · refine (Pipeline.Window.rect_emb_val ((cfgM m).win 2) t _ (2 : Fin 3)).trans ?_
    rw [index2]; rfl
theorem blk3_apply (t : Fin (cfgM m).N) (k : Fin 512) (j : Fin 2048) :
    blk3 m c t (ValueIdx.ix3 (0 : Fin 1) k j) = aD m c (ValueIdx.ix2 (posOf (partOf m t) k) j) := by
  show V m c main_v6 ((((cfgM m).win 3).blk t).view.emb _) = _
  rw [V_v6]
  refine back_apply (aD m c) _ (posOf (partOf m t) k) j ?_ ?_
  · refine (Pipeline.Window.rect_emb_val ((cfgM m).win 3) t _ (1 : Fin 3)).trans ?_
    rw [index3]; rfl
  · refine (Pipeline.Window.rect_emb_val ((cfgM m).win 3) t _ (2 : Fin 3)).trans ?_
    rw [index3]; show 0 * 2048 + j.val = j.val; omega

/-! ## One part's products -/

theorem hid_apply (x : FVec Ideal S1024x2048 .bf16) (w : FVec Ideal S2048x512 .bf16) (r : Fin 1024) (k : Fin 512) :
    matmul dot_S1024x2048_S2048x512_S1024x512_1_0_0_1_n_n none x w (constant S1024x512 .f32 0x00000000#32) (ValueIdx.ix2 r k)
      = ∑ q : Fin 2048, x (ValueIdx.ix2 r q) * w (ValueIdx.ix2 q k) := by
  simp only [matmul]
  refine (Ideal.matmul_plain_apply none x w _ r k).trans ?_
  rw [show (constant S1024x512 .f32 0x00000000#32 : FVec Ideal S1024x512 .f32) (ValueIdx.ix2 r k) = 0 from Ideal.ofBits_zero_f32, zero_add]
theorem down_apply (x : FVec Ideal S1024x512 .bf16) (w : FVec Ideal S512x2048 .bf16) (r : Fin 1024) (j : Fin 2048) :
    matmul dot_S1024x512_S512x2048_S1024x2048_1_0_0_1_n_n none x w (constant S1024x2048 .f32 0x00000000#32) (ValueIdx.ix2 r j)
      = ∑ k : Fin 512, x (ValueIdx.ix2 r k) * w (ValueIdx.ix2 k j) := by
  simp only [matmul]
  refine (Ideal.matmul_plain_apply none x w _ r j).trans ?_
  rw [show (constant S1024x2048 .f32 0x00000000#32 : FVec Ideal S1024x2048 .f32) (ValueIdx.ix2 r j) = 0 from Ideal.ofBits_zero_f32, zero_add]

theorem flat1 (w : FVec Ideal S1x2048x512 .bf16) (q : Fin 2048) (k : Fin 512) :
    shapeCast S2048x512 w shapeCasts_S1x2048x512_S2048x512 (ValueIdx.ix2 q k) = w (ValueIdx.ix3 (0 : Fin 1) q k) :=
  shapeCast_apply _ _ (ValueIdx.ix2 q k) (ValueIdx.ix3 (0 : Fin 1) q k)
    (by rewrite [Shape.rowMajor_val_three, Shape.rowMajor_val_two]; show (0 * 2048 + q.val) * 512 + k.val = q.val * 512 + k.val; omega)
theorem flat2 (w : FVec Ideal S1x512x2048 .bf16) (k : Fin 512) (j : Fin 2048) :
    shapeCast S512x2048 w shapeCasts_S1x512x2048_S512x2048 (ValueIdx.ix2 k j) = w (ValueIdx.ix3 (0 : Fin 1) k j) :=
  shapeCast_apply _ _ (ValueIdx.ix2 k j) (ValueIdx.ix3 (0 : Fin 1) k j)
    (by rewrite [Shape.rowMajor_val_three, Shape.rowMajor_val_two]; show (0 * 512 + k.val) * 2048 + j.val = k.val * 2048 + j.val; omega)

/-- A row by a column of a staged matrix. -/
def col (x : FVec Ideal S1024x2048 .bf16) (w : FVec Ideal S1x2048x512 .bf16) (r : Fin 1024) (k : Fin 512) : EReal :=
  ∑ q : Fin 2048, x (ValueIdx.ix2 r q) * w (ValueIdx.ix3 (0 : Fin 1) q k)

theorem pay1_apply (x : FVec Ideal S1024x2048 .bf16) (g u : FVec Ideal S1x2048x512 .bf16) (d : FVec Ideal S1x512x2048 .bf16) (r : Fin 1024) (j : Fin 2048) :
    k0_pay1 (F := Ideal) x g u d (ValueIdx.ix2 r j)
      = ∑ k : Fin 512, (col x g r k * Ideal.logistic (col x g r k) * col x u r k) * d (ValueIdx.ix3 (0 : Fin 1) k j) := by
  unfold k0_pay1
  rw [shapeCast_self]
  refine (down_apply _ _ r j).trans (Finset.sum_congr rfl fun k _ => ?_)
  rw [flat2]
  refine congrArg (· * _) ?_
  have e : ∀ w : FVec Ideal S1x2048x512 .bf16, matmul dot_S1024x2048_S2048x512_S1024x512_1_0_0_1_n_n none x (shapeCast S2048x512 w shapeCasts_S1x2048x512_S2048x512)
      (constant S1024x512 .f32 0x00000000#32) (ValueIdx.ix2 r k) = col x w r k := fun w => by
    rw [hid_apply]; exact Finset.sum_congr rfl fun q _ => by rw [flat1]
  rw [← e g, ← e u]
  rfl

/-- Part `f`'s share of the answer for token `n`. -/
def share (n : Fin 16384) (j : Fin 2048) (f : Fin 14) : EReal :=
  ∑ k : Fin 512, act (aX m c) (aG m c) (aU m c) n (posOf f k) * aD m c (ValueIdx.ix2 (posOf f k) j)

theorem partAt_apply (t : Fin (cfgM m).N) (r : Fin 1024) (j : Fin 2048) :
    partAt m c t (ValueIdx.ix2 r j) = share m c (rowOf (tileOf m t) r) j (partOf m t) := by
  unfold partAt
  refine (pay1_apply _ _ _ _ r j).trans (Finset.sum_congr rfl fun k _ => ?_)
  have e1 : col (blk0 m c t) (blk1 m c t) r k = proj (aX m c) (aG m c) (rowOf (tileOf m t) r) (posOf (partOf m t) k) :=
    Finset.sum_congr rfl fun q _ => by rw [blk0_apply, blk1_apply]
  have e2 : col (blk0 m c t) (blk2 m c t) r k = proj (aX m c) (aU m c) (rowOf (tileOf m t) r) (posOf (partOf m t) k) :=
    Finset.sum_congr rfl fun q _ => by rw [blk0_apply, blk2_apply]
  rw [e1, e2, blk3_apply]
  rfl

/-! ## The sum over the parts -/

theorem sumTo_apply (i : Fin 16) (r : Fin 1024) (j : Fin 2048) :
    ∀ (f : ℕ) (hlt : f < 14) (t : Fin (cfgM m).N), t.val = 14 * i.val + f →
      sumTo m c t.val t.isLt (ValueIdx.ix2 r j) = ∑ g : Fin (f + 1), share m c (rowOf i r) j ⟨g.val, by omega⟩ := by
  have one : ∀ (f : ℕ) (hlt : f < 14) (t : Fin (cfgM m).N), t.val = 14 * i.val + f →
      partAt m c t (ValueIdx.ix2 r j) = share m c (rowOf i r) j ⟨f, hlt⟩ := by
    intro f hlt t ht
    have ei : tileOf m t = i := Fin.ext (by show t.val / 14 = i.val; omega)
    have ef : partOf m t = ⟨f, hlt⟩ := Fin.ext (by show t.val % 14 = f; omega)
    rw [partAt_apply, ei, ef]
  intro f
  induction f with
  | zero =>
    intro hlt t ht
    rw [sumTo_first m c t (by omega), one 0 hlt t ht]
    exact (Fin.sum_univ_one (fun g : Fin 1 => share m c (rowOf i r) j ⟨g.val, by omega⟩)).symm
  | succ f ih =>
    intro hlt t ht
    have hs : t.val - 1 < (cfgM m).N := by have := t.isLt; omega
    rw [sumTo_next m c t ⟨t.val - 1, hs⟩ (by show t.val = t.val - 1 + 1; omega) (by omega), ValueIdx.addf_apply, one (f + 1) hlt t ht,
      ih (by omega) ⟨t.val - 1, hs⟩ (by show t.val - 1 = _; omega), Fin.sum_univ_castSucc (n := f + 1)]
    rfl

/-- What a tile's last point leaves in its output block. -/
theorem last_apply (t : Fin (cfgM m).N) (ht : t.val % 14 = 13) (y : S1024x2048.Idx) :
    sumTo m c t.val t.isLt y = ffn (aX m c) (aG m c) (aU m c) (aD m c) (rowOf (tileOf m t) (y 0)) (y 1) := by
  obtain ⟨r, j, rfl⟩ : ∃ (r : Fin 1024) (j : Fin 2048), y = ValueIdx.ix2 r j := ⟨y 0, y 1, funext fun a => match a with | ⟨0, _⟩ => rfl | ⟨1, _⟩ => rfl⟩
  rw [sumTo_apply m c (tileOf m t) r j 13 (by decide) t (by show t.val = 14 * (t.val / 14) + 13; omega)]
  exact (Cert.Dense.ffn_parts _ _ _ _ _ _).symm

/-! ## The result array -/

theorem index4 (t : Fin (cfgM m).N) : ((cfgM m).win 4).index t = ![t.val / 14, 0] := by
  show cc0_transform_4 (grid0.coords t) = _
  have := lt_N m t
  have e : (BitVec.ofNat 32 (grid0.coords t 0).val).toNat = t.val / 14 := by
    rw [tile_of, BitVec.toNat_ofNat, Nat.mod_eq_of_lt (by omega)]
  exact congrArg (fun x => (![x, 0] : Fin 2 → ℕ)) e

/-- The result array is the sums. -/
theorem result_eq : result m c = answers (aX m c) (aG m c) (aU m c) (aD m c) := by
  unfold result
  refine Pipeline.Dat.arrAt_eq_of_emb (dats m 0 c) 4 _ (fun t hfl y => ?_) fun i => ?_
  · have ht := (flush4 m t).mp hfl
    rw [after0_4]
    have hf : ∀ z : S1024x2048.Idx, sumTo m c t.val t.isLt z = ffn (aX m c) (aG m c) (aU m c) (aD m c) (rowOf (tileOf m t) (z 0)) (z 1) := last_apply m c t ht
    generalize sumTo m c t.val t.isLt = f at hf ⊢
    refine (hf y).trans ?_
    have e0 : ((((cfgM m).win 4).blk t).view.emb y (0 : Fin 2)).val = t.val / 14 * 1024 + (y (0 : Fin 2)).val := by
      refine (Pipeline.Window.rect_emb_val ((cfgM m).win 4) t y (0 : Fin 2)).trans ?_
      rw [index4]; rfl
    have e1 : ((((cfgM m).win 4).blk t).view.emb y (1 : Fin 2)).val = (y (1 : Fin 2)).val := by
      refine (Pipeline.Window.rect_emb_val ((cfgM m).win 4) t y (1 : Fin 2)).trans ?_
      rw [index4]; show 0 * 2048 + _ = _; rw [Nat.zero_mul, Nat.zero_add]
    unfold answers
    exact congrArg₂ (ffn (aX m c) (aG m c) (aU m c) (aD m c)) (Fin.ext e0.symm) (Fin.ext e1.symm)
  · have i0 : (i (0 : Fin 2)).val < 16384 := (i (0 : Fin 2)).isLt
    have i1 : (i (1 : Fin 2)).val < 2048 := (i (1 : Fin 2)).isLt
    have hN : 14 * ((i (0 : Fin 2)).val / 1024) + 13 < (cfgM m).N := by rw [size_N]; omega
    refine ⟨⟨14 * ((i (0 : Fin 2)).val / 1024) + 13, hN⟩, (flush4 m _).mpr (by show (14 * _ + 13) % 14 = 13; omega), ?_⟩
    refine (Pipeline.Window.emb_mem_blk_iff ((cfgM m).win 4) _ i).mpr fun a => ?_
    rw [index4]
    match a with
    | ⟨0, _⟩ =>
      show (14 * ((i (0 : Fin 2)).val / 1024) + 13) / 14 * 1024 ≤ (i (0 : Fin 2)).val
        ∧ (i (0 : Fin 2)).val < (14 * ((i (0 : Fin 2)).val / 1024) + 13) / 14 * 1024 + 1024
      omega
    | ⟨1, _⟩ => show 0 * 2048 ≤ (i (1 : Fin 2)).val ∧ (i (1 : Fin 2)).val < 0 * 2048 + 2048; omega

end Cert.Kernel4Ideal.Dense

end
-- ==== Proof.Proj.Value.lean ====
/-
  The delta rule's input projection with exact arithmetic: each entry of the result is a token's row by a column of the weights.
-/
module

public import proofs.«01_k».proof.Proof.Gen.Kernel5Ideal
public import proofs.«01_k».proof.Proof.Gen.Kernel5Ideal.Frame
public import proofs.«01_k».proof.Proof.Gen.Reference5Ideal.Read
public import Idealize.ShloMosaic.Lib.MatmulPlain
public import Idealize.ShloMosaic.Lib.ValueIdx
public import Idealize.ShloMosaic.Lib.Pipeline.Value
public import Idealize.ShloMosaic.Lib.Pipeline.ValueKit.Geometry
public import Idealize.ShloMosaic.PureOps.Ideal.Laws

@[expose] public section

set_option maxRecDepth 16384

noncomputable section

namespace Cert.Proj

open Idealize.ShloMosaic

/-- The token rows, the projection's weights, and the result. -/
abbrev Rows : Type := FVec Ideal ⟨2, ![16384, 2048]⟩ .f32
abbrev Weights : Type := FVec Ideal ⟨2, ![2048, 12352]⟩ .f32
abbrev Out : Type := FVec Ideal ⟨2, ![16384, 12288]⟩ .f32

/-- Token `n`'s row by column `k` of the weights, of which the last 64 columns are left out. -/
def proj (x : Rows) (w : Weights) (n : Fin 16384) (k : Fin 12288) : EReal :=
  ∑ q : Fin 2048, x (ValueIdx.ix2 n q) * w (ValueIdx.ix2 q (⟨k.val, by omega⟩ : Fin 12352))
/-- The result. -/
def answers (x : Rows) (w : Weights) : Out := fun r => proj x w (r 0) (r 1)

open Cert.Reference5Ideal Cert.Reference5Ideal.Gen Cert.Reference5Ideal.Read in
/-- The reference's result is the sums. -/
theorem ref_value (x : Rows) (w : Weights) : val_main_v1 (F := Ideal) x w = answers x w := by
  refine funext fun (r : S16384x12288.Idx) => ?_
  rw [val_main_v1_apply, val_main_v0_apply]
  show _ = proj x w (r 0) (r 1)
  unfold proj
  refine Finset.sum_congr rfl fun q _ => congrArg₂ (fun a b => x a * w b) (funext fun a => ?_) (funext fun a => ?_)
  · match a with
    | ⟨0, _⟩ => rfl
    | ⟨1, _⟩ => rfl
  · match a with
    | ⟨0, _⟩ => rfl
    | ⟨1, _⟩ => rfl

end Cert.Proj

namespace Cert.Kernel5Ideal.Proj

open Cert.Kernel5Ideal Cert.Kernel5Ideal.Gen
open Idealize.ShloMosaic Idealize.ShloMosaic.TcCoe
open Cert.Proj (Rows Weights Out proj answers)

theorem hz : (![0, 0] : Fin 2 → Nat) = fun _ => 0 := funext fun a => by fin_cases a <;> rfl

/-- One block of products. -/
theorem out_apply (x : Vec Ideal S1024x2048 .bf16) (w : Vec Ideal S2048x512 .bf16) (r : Fin 1024) (k : Fin 512) :
    out0_2 (F := Ideal) x w (ValueIdx.ix2 r k) = ∑ q : Fin 2048, x (ValueIdx.ix2 r q) * w (ValueIdx.ix2 q k) := by
  unfold out0_2
  rw [View.canon_unit_zero hz, View.ld_unit_zero (S := S1024x2048) hz, View.ld_unit_zero (S := S2048x512) hz]
  unfold k0_pay1
  rw [shapeCast_self, shapeCast_self]
  simp only [matmul]
  refine (Ideal.matmul_plain_apply none x w _ r k).trans ?_
  rw [show (constant S1024x512 .f32 0x00000000#32 : FVec Ideal S1024x512 .f32) (ValueIdx.ix2 r k) = 0 from Ideal.ofBits_zero_f32, zero_add]

variable (m : (ℓ : Loc nD τ sig) → Buf (Elt Ideal) ℓ)

/-! ## The arrays as launched, by their types -/

def aX (c : Dev nD) : Rows := m ((c : Thread nD τ).loc main_arg0)
def aW (c : Dev nD) : Weights := m ((c : Thread nD τ).loc main_arg1)

theorem V_v0 (c : Dev nD) : V m c main_v0 = (truncf .bf16 (aX m c) bitsLt_bf16_f32 : FVec Ideal S16384x2048 .bf16) := by
  show StableHlo.after hostOps0 _ (Proc.devRef .tc main_v0) = _
  after_results
  rfl
theorem V_v2 (c : Dev nD) : V m c main_v2 = (truncf .bf16 (extractStridedSlice S2048x12288 ![0, 0] (aW m c) slices_S2048x12352_S2048x12288_0_0) bitsLt_bf16_f32 : FVec Ideal S2048x12288 .bf16) := by
  show StableHlo.after hostOps0 _ (Proc.devRef .tc main_v2) = _
  after_results
  rfl
theorem cols_apply (w : Weights) (i : S2048x12288.Idx) (q : Fin 2048) (k : Fin 12352) (h0 : (i 0).val = q.val) (h1 : (i 1).val = k.val) :
    (truncf .bf16 (extractStridedSlice S2048x12288 ![0, 0] w slices_S2048x12352_S2048x12288_0_0) bitsLt_bf16_f32 : FVec Ideal S2048x12288 .bf16) i
      = w (ValueIdx.ix2 q k) :=
  extractStridedSlice_apply _ w slices_S2048x12352_S2048x12288_0_0 i (ValueIdx.ix2 q k) (fun a => match a with
    | ⟨0, _⟩ => by show q.val = 0 + (i 0).val; omega
    | ⟨1, _⟩ => by show k.val = 0 + (i 1).val; omega)

/-! ## The blocks -/

variable (c : Dev nD) (t : Fin cfg0.N)

theorem lt_N : t.val < 384 := t.isLt
theorem coord0 : (BitVec.ofNat 32 (grid0.coords t 0).val).toNat = t.val / 24 := by
  have h := lt_N t
  have e : (grid0.coords t 0).val = t.val / 24 := (by decide +kernel : ∀ t : Fin grid0.N, (grid0.coords t 0).val = t.val / 24) t
  rw [e, BitVec.toNat_ofNat, Nat.mod_eq_of_lt (by omega)]
theorem coord1 : (BitVec.ofNat 32 (grid0.coords t 1).val).toNat = t.val % 24 := by
  have h := lt_N t
  have e : (grid0.coords t 1).val = t.val % 24 := (by decide +kernel : ∀ t : Fin grid0.N, (grid0.coords t 1).val = t.val % 24) t
  rw [e, BitVec.toNat_ofNat, Nat.mod_eq_of_lt (by omega)]
theorem coord2 : (BitVec.ofNat 32 (grid0.coords t 2).val).toNat = 0 :=
  (by decide +kernel : ∀ t : Fin grid0.N, (BitVec.ofNat 32 (grid0.coords t 2).val).toNat = 0) t

theorem index0 : (cfg0.win 0).index t = ![t.val / 24, 0] := by
  show cc0_transform_0 (grid0.coords t) = _
  exact congrArg₂ (fun x y => (![x, y] : Fin 2 → ℕ)) (coord0 t) (coord2 t)
theorem index1 : (cfg0.win 1).index t = ![0, t.val % 24] := by
  show cc0_transform_1 (grid0.coords t) = _
  exact congrArg₂ (fun x y => (![x, y] : Fin 2 → ℕ)) (coord2 t) (coord1 t)
theorem index2 : (cfg0.win 2).index t = ![t.val / 24, t.val % 24] := by
  show cc0_transform_2 (grid0.coords t) = _
  exact congrArg₂ (fun x y => (![x, y] : Fin 2 → ℕ)) (coord0 t) (coord1 t)

/-- Row `r` and column `k` of point `t`'s block, in the result. -/
def tok (r : Fin 1024) : Fin 16384 := ⟨t.val / 24 * 1024 + r.val, by have := lt_N t; omega⟩
def col (k : Fin 512) : Fin 12288 := ⟨t.val % 24 * 512 + k.val, by omega⟩

theorem blk0_apply (r : Fin 1024) (q : Fin 2048) : (iblk m c 0 t : Vec Ideal S1024x2048 .bf16) (ValueIdx.ix2 r q) = aX m c (ValueIdx.ix2 (tok t r) q) := by
  show V m c main_v0 (((cfg0.win 0).blk t).view.emb _) = _
  rw [V_v0]
  refine congrArg (aX m c) (funext fun a => Fin.ext ((Pipeline.Window.rect_emb_val (cfg0.win 0) t _ a).trans ?_))
  rw [index0]
  match a with
  | ⟨0, _⟩ => rfl
  | ⟨1, _⟩ => show 0 * 2048 + q.val = q.val; omega
theorem blk1_apply (q : Fin 2048) (k : Fin 512) : (iblk m c 1 t : Vec Ideal S2048x512 .bf16) (ValueIdx.ix2 q k)
    = aW m c (ValueIdx.ix2 q (⟨(col t k).val, by omega⟩ : Fin 12352)) := by
  show V m c main_v2 (((cfg0.win 1).blk t).view.emb _) = _
  rw [V_v2]
  refine cols_apply (aW m c) _ q _ ?_ ?_
  · refine (Pipeline.Window.rect_emb_val (cfg0.win 1) t _ (0 : Fin 2)).trans ?_
    rw [index1]; show 0 * 2048 + q.val = q.val; omega
  · refine (Pipeline.Window.rect_emb_val (cfg0.win 1) t _ (1 : Fin 2)).trans ?_
    rw [index1]; rfl

theorem outAt_apply (y : S1024x512.Idx) : out0_2 (F := Ideal) (iblk m c 0 t) (iblk m c 1 t) y = proj (aX m c) (aW m c) (tok t (y 0)) (col t (y 1)) := by
  obtain ⟨r, k, rfl⟩ : ∃ (r : Fin 1024) (k : Fin 512), y = ValueIdx.ix2 r k := ⟨y 0, y 1, funext fun a => match a with | ⟨0, _⟩ => rfl | ⟨1, _⟩ => rfl⟩
  refine (out_apply _ _ r k).trans (Finset.sum_congr rfl fun q _ => ?_)
  rw [blk0_apply, blk1_apply]

/-! ## The result array -/

theorem result_eq : (dats m 0 c).arrAt 2 cfg0.N = answers (aX m c) (aW m c) := by
  refine Pipeline.Dat.arrAt_eq_of_emb (dats m 0 c) 2 _ (fun t _ y => ?_) fun i => ?_
  · rw [after0_2]
    have hf : ∀ z : S1024x512.Idx, out0_2 (F := Ideal) (iblk m c 0 t) (iblk m c 1 t) z = proj (aX m c) (aW m c) (tok t (z 0)) (col t (z 1)) := outAt_apply m c t
    generalize out0_2 (F := Ideal) (iblk m c 0 t) (iblk m c 1 t) = f at hf ⊢
    refine (hf y).trans ?_
    have e0 : (((cfg0.win 2).blk t).view.emb y (0 : Fin 2)).val = t.val / 24 * 1024 + (y (0 : Fin 2)).val := by
      refine (Pipeline.Window.rect_emb_val (cfg0.win 2) t y (0 : Fin 2)).trans ?_
      rw [index2]; rfl
    have e1 : (((cfg0.win 2).blk t).view.emb y (1 : Fin 2)).val = t.val % 24 * 512 + (y (1 : Fin 2)).val := by
      refine (Pipeline.Window.rect_emb_val (cfg0.win 2) t y (1 : Fin 2)).trans ?_
      rw [index2]; rfl
    unfold answers
    exact congrArg₂ (proj (aX m c) (aW m c)) (Fin.ext e0.symm) (Fin.ext e1.symm)
  · have i0 : (i (0 : Fin 2)).val < 16384 := (i (0 : Fin 2)).isLt
    have i1 : (i (1 : Fin 2)).val < 12288 := (i (1 : Fin 2)).isLt
    have hN : 24 * ((i (0 : Fin 2)).val / 1024) + (i (1 : Fin 2)).val / 512 < cfg0.N := by show _ < 384; omega
    refine ⟨⟨24 * ((i (0 : Fin 2)).val / 1024) + (i (1 : Fin 2)).val / 512, hN⟩, flush0_2 _, ?_⟩
    refine (Pipeline.Window.emb_mem_blk_iff (cfg0.win 2) _ i).mpr fun a => ?_
    rw [index2]
    match a with
    | ⟨0, _⟩ =>
      show (24 * ((i (0 : Fin 2)).val / 1024) + (i (1 : Fin 2)).val / 512) / 24 * 1024 ≤ (i (0 : Fin 2)).val
        ∧ (i (0 : Fin 2)).val < (24 * ((i (0 : Fin 2)).val / 1024) + (i (1 : Fin 2)).val / 512) / 24 * 1024 + 1024
      omega
    | ⟨1, _⟩ =>
      show (24 * ((i (0 : Fin 2)).val / 1024) + (i (1 : Fin 2)).val / 512) % 24 * 512 ≤ (i (1 : Fin 2)).val
        ∧ (i (1 : Fin 2)).val < (24 * ((i (0 : Fin 2)).val / 1024) + (i (1 : Fin 2)).val / 512) % 24 * 512 + 512
      omega

/-- The run: the result is the sums, and the operands are as they began. -/
theorem run (ρ : Dev nD → PrngReg) : θ_run defs (onTc (τ := τ) (main (F := Ideal))) ⟨m, fun _ => 0, ρ⟩ (fun r => ∀ c : Dev nD,
      r.2.mem ((c.tc : Thread nD τ).loc main_v3) = answers (aX m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (result_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.Kernel5Ideal.Proj

end
-- ==== Proof.Glu.Value.lean ====
/-
  The convolution's gated projection with exact arithmetic: each entry of the result is one projection of a token's row times the
  logistic function of another.
-/
module

public import proofs.«01_k».proof.Proof.Gen.Kernel6Ideal
public import proofs.«01_k».proof.Proof.Gen.Kernel6Ideal.Frame
public import proofs.«01_k».proof.Proof.Gen.Reference6Ideal.Read
public import Idealize.ShloMosaic.Lib.MatmulPlain
public import Idealize.ShloMosaic.Lib.ValueIdx
public import Idealize.ShloMosaic.Lib.Pipeline.Value
public import Idealize.ShloMosaic.Lib.Pipeline.ValueKit.Geometry
public import Idealize.ShloMosaic.PureOps.Ideal.Laws

@[expose] public section

set_option maxRecDepth 16384

noncomputable section

namespace Cert.Glu

open Idealize.ShloMosaic

/-- The token rows, the weights and the bias of both projections, and the result. -/
abbrev Rows : Type := FVec Ideal ⟨2, ![16384, 2048]⟩ .f32
abbrev Weights : Type := FVec Ideal ⟨2, ![2048, 4096]⟩ .f32
abbrev Bias : Type := FVec Ideal ⟨1, ![4096]⟩ .f32
abbrev Out : Type := FVec Ideal ⟨2, ![16384, 2048]⟩ .f32

/-- Token `n`'s row by column `k` of the weights, and the bias. -/
def proj (x : Rows) (w : Weights) (b : Bias) (n : Fin 16384) (k : Fin 4096) : EReal :=
  (∑ q : Fin 2048, x (ValueIdx.ix2 n q) * w (ValueIdx.ix2 q k)) + b (ValueIdx.ix1 k)
/-- Columns `k` of the first half and of the second. -/
def lo (k : Fin 2048) : Fin 4096 := ⟨k.val, by omega⟩
def hi (k : Fin 2048) : Fin 4096 := ⟨2048 + k.val, by omega⟩
def gated (x : Rows) (w : Weights) (b : Bias) (n : Fin 16384) (k : Fin 2048) : EReal :=
  proj x w b n (lo k) * Ideal.logistic (proj x w b n (hi k))
/-- The result. -/
def answers (x : Rows) (w : Weights) (b : Bias) : Out := fun r => gated x w b (r 0) (r 1)

theorem one_f32 : Ideal.ofBits .f32 0x3F800000#32 = 1 := by simp [Ideal.ofBits, Ideal.ieee, -EReal.coe_mul]; norm_num

open Cert.Reference6Ideal Cert.Reference6Ideal.Gen Cert.Reference6Ideal.Read in
theorem ref_proj (x : Rows) (w : Weights) (b : Bias) (r : S16384x4096.Idx) : val_main_v3 (F := Ideal) x w b r = proj x w b (r 0) (r 1) := by
  rw [val_main_v3_apply, val_main_v0_apply, val_main_v2_apply, val_main_v1_apply]
  show _ + _ = _
  unfold proj
  refine congrArg₂ (· + ·) (Finset.sum_congr rfl fun q _ => congrArg₂ (fun a b => x a * w b) (funext fun a => ?_) (funext fun a => ?_)) (congrArg b (funext fun a => ?_))
  · match a with
    | ⟨0, _⟩ => rfl
    | ⟨1, _⟩ => rfl
  · match a with
    | ⟨0, _⟩ => rfl
    | ⟨1, _⟩ => rfl
  · match a with
    | ⟨0, _⟩ => rfl

open Cert.Reference6Ideal Cert.Reference6Ideal.Gen Cert.Reference6Ideal.Read in
/-- The reference's result is the gated projections. -/
theorem ref_value (x : Rows) (w : Weights) (b : Bias) : val_main_v12 (F := Ideal) x w b = answers x w b := by
  refine funext fun (r : S16384x2048.Idx) => ?_
  rw [val_main_v12_apply, val_main_v11_apply, val_main_v10_apply, val_main_cst_0_apply, val_main_v9_apply, val_main_v8_apply, val_main_cst_apply,
    val_main_v7_apply, val_main_v6_apply, val_main_v5_apply, val_main_v4_apply, ref_proj, ref_proj]
  show proj x w b (r 0) (lo (r 1)) * Ideal.div (Ideal.ofBits .f32 0x3F800000#32) (Ideal.ofBits .f32 0x3F800000#32 + Ideal.exp (-(proj x w b (r 0) (hi (r 1)))))
    = gated x w b (r 0) (r 1)
  rw [one_f32]
  rfl

end Cert.Glu

namespace Cert.Kernel6Ideal.Glu

open Cert.Kernel6Ideal Cert.Kernel6Ideal.Gen
open Idealize.ShloMosaic Idealize.ShloMosaic.TcCoe
open Cert.Glu (Rows Weights Bias Out proj lo hi gated answers)

theorem hz : (![0, 0] : Fin 2 → Nat) = fun _ => 0 := funext fun a => by fin_cases a <;> rfl

theorem dot_apply (x : FVec Ideal S1024x2048 .bf16) (w : FVec Ideal S2048x512 .bf16) (r : Fin 1024) (k : Fin 512) :
    matmul dot_S1024x2048_S2048x512_S1024x512_1_0_0_1_n_n none x w (constant S1024x512 .f32 0x00000000#32) (ValueIdx.ix2 r k)
      = ∑ q : Fin 2048, x (ValueIdx.ix2 r q) * w (ValueIdx.ix2 q k) := by
  simp only [matmul]
  refine (Ideal.matmul_plain_apply none x w _ r k).trans ?_
  rw [show (constant S1024x512 .f32 0x00000000#32 : FVec Ideal S1024x512 .f32) (ValueIdx.ix2 r k) = 0 from Ideal.ofBits_zero_f32, zero_add]
theorem spread_apply (b : FVec Ideal S1x512 .f32) (r : Fin 1024) (k : Fin 512) :
    broadcastTo S1024x512 b broadcasts_S1x512_S1024x512 (ValueIdx.ix2 r k) = b (ValueIdx.ix2 (0 : Fin 1) k) :=
  broadcastTo_apply _ _ _ (ValueIdx.ix2 (0 : Fin 1) k) (fun a => match a with
    | ⟨0, _⟩ => rfl
    | ⟨1, _⟩ => rfl)

/-- One block of the result. -/
theorem out_apply (x : Vec Ideal S1024x2048 .bf16) (w v : Vec Ideal S2048x512 .bf16) (b d : Vec Ideal S1x512 .f32) (r : Fin 1024) (k : Fin 512) :
    out0_5 (F := Ideal) x w v b d (ValueIdx.ix2 r k)
      = ((∑ q : Fin 2048, x (ValueIdx.ix2 r q) * w (ValueIdx.ix2 q k)) + b (ValueIdx.ix2 (0 : Fin 1) k))
        * Ideal.logistic ((∑ q : Fin 2048, x (ValueIdx.ix2 r q) * v (ValueIdx.ix2 q k)) + d (ValueIdx.ix2 (0 : Fin 1) k)) := by
  unfold out0_5
  rw [View.canon_unit_zero hz, View.ld_unit_zero (S := S1024x2048) hz, View.ld_unit_zero (S := S2048x512) hz, View.ld_unit_zero (S := S1x512) hz,
    View.ld_unit_zero (S := S2048x512) hz, View.ld_unit_zero (S := S1x512) hz]
  unfold k0_pay1
  rw [shapeCast_self, shapeCast_self, shapeCast_self, shapeCast_self, shapeCast_self]
  rw [← dot_apply x w r k, ← dot_apply x v r k, ← spread_apply b r k, ← spread_apply d r k]
  rfl

variable (m : (ℓ : Loc nD τ sig) → Buf (Elt Ideal) ℓ)

/-! ## The arrays as launched, by their types -/

def aX (c : Dev nD) : Rows := m ((c : Thread nD τ).loc main_arg0)
def aW (c : Dev nD) : Weights := m ((c : Thread nD τ).loc main_arg1)
def aB (c : Dev nD) : Bias := m ((c : Thread nD τ).loc main_arg2)

theorem V_v0 (c : Dev nD) : V m c main_v0 = (truncf .bf16 (aX m c) bitsLt_bf16_f32 : FVec Ideal S16384x2048 .bf16) := by
  show StableHlo.after hostOps0 _ (Proc.devRef .tc main_v0) = _
  after_results
  rfl
theorem V_v1 (c : Dev nD) : V m c main_v1 = (truncf .bf16 (aW m c) bitsLt_bf16_f32 : FVec Ideal S2048x4096 .bf16) := by
  show StableHlo.after hostOps0 _ (Proc.devRef .tc main_v1) = _
  after_results
  rfl
theorem V_v2 (c : Dev nD) : V m c main_v2 = (shapeCast S1x4096 (aB m c) shapeCasts_S4096_S1x4096 : FVec Ideal S1x4096 .f32) := by
  show StableHlo.after hostOps0 _ (Proc.devRef .tc main_v2) = _
  after_results
  rfl
theorem row_apply (b : Bias) (i : S1x4096.Idx) (k : Fin 4096) (h : (i 1).val = k.val) :
    (shapeCast S1x4096 b shapeCasts_S4096_S1x4096 : FVec Ideal S1x4096 .f32) i = b (ValueIdx.ix1 k) :=
  shapeCast_apply _ _ i (ValueIdx.ix1 k) (by
    have h0 : (i 0).val < 1 := (i 0).isLt
    rw [Shape.rowMajor_val_one, Shape.rowMajor_val_two]
    show k.val = (i 0).val * 4096 + (i 1).val
    omega)

/-! ## The blocks -/

variable (c : Dev nD) (t : Fin cfg0.N)

theorem lt_N : t.val < 64 := t.isLt
theorem coord0 : (BitVec.ofNat 32 (grid0.coords t 0).val).toNat = t.val / 4 :=
  (by decide +kernel : ∀ t : Fin grid0.N, (BitVec.ofNat 32 (grid0.coords t 0).val).toNat = t.val / 4) t
theorem coord1 : (BitVec.ofNat 32 (grid0.coords t 1).val).toNat = t.val % 4 :=
  (by decide +kernel : ∀ t : Fin grid0.N, (BitVec.ofNat 32 (grid0.coords t 1).val).toNat = t.val % 4) t
theorem coord1' : (Scalar.addi (BitVec.ofNat 32 (grid0.coords t 1).val) 4#32).toNat = t.val % 4 + 4 :=
  (by decide +kernel : ∀ t : Fin grid0.N, (Scalar.addi (BitVec.ofNat 32 (grid0.coords t 1).val) 4#32).toNat = t.val % 4 + 4) t

theorem index0 : (cfg0.win 0).index t = ![t.val / 4, 0] := by
  show cc0_transform_0 (grid0.coords t) = _
  exact congrArg (fun x => (![x, 0] : Fin 2 → ℕ)) (coord0 t)
theorem index1 : (cfg0.win 1).index t = ![0, t.val % 4] := by
  show cc0_transform_1 (grid0.coords t) = _
  exact congrArg (fun x => (![0, x] : Fin 2 → ℕ)) (coord1 t)
theorem index2 : (cfg0.win 2).index t = ![0, t.val % 4 + 4] := by
  show cc0_transform_2 (grid0.coords t) = _
  exact congrArg (fun x => (![0, x] : Fin 2 → ℕ)) (coord1' t)
theorem index3 : (cfg0.win 3).index t = ![0, t.val % 4] := by
  show cc0_transform_3 (grid0.coords t) = _
  exact congrArg (fun x => (![0, x] : Fin 2 → ℕ)) (coord1 t)
theorem index4 : (cfg0.win 4).index t = ![0, t.val % 4 + 4] := by
  show cc0_transform_4 (grid0.coords t) = _
  exact congrArg (fun x => (![0, x] : Fin 2 → ℕ)) (coord1' t)
theorem index5 : (cfg0.win 5).index t = ![t.val / 4, t.val % 4] := by
  show cc0_transform_5 (grid0.coords t) = _
  exact congrArg₂ (fun x y => (![x, y] : Fin 2 → ℕ)) (coord0 t) (coord1 t)

/-- Row `r` and column `k` of point `t`'s block, in the result. -/
def tok (r : Fin 1024) : Fin 16384 := ⟨t.val / 4 * 1024 + r.val, by have := lt_N t; omega⟩
def col (k : Fin 512) : Fin 2048 := ⟨t.val % 4 * 512 + k.val, by omega⟩

def blk0 : FVec Ideal S1024x2048 .bf16 := iblk m c 0 t
def blk1 : FVec Ideal S2048x512 .bf16 := iblk m c 1 t
def blk2 : FVec Ideal S2048x512 .bf16 := iblk m c 2 t
def blk3 : FVec Ideal S1x512 .f32 := iblk m c 3 t
def blk4 : FVec Ideal S1x512 .f32 := iblk m c 4 t
theorem blk0_apply (r : Fin 1024) (q : Fin 2048) : blk0 m c t (ValueIdx.ix2 r q) = aX m c (ValueIdx.ix2 (tok t r) q) := by
  show V m c main_v0 (((cfg0.win 0).blk t).view.emb _) = _
  rw [V_v0]
  refine congrArg (aX m c) (funext fun a => Fin.ext ((Pipeline.Window.rect_emb_val (cfg0.win 0) t _ a).trans ?_))
  rw [index0]
  match a with
  | ⟨0, _⟩ => rfl
  | ⟨1, _⟩ => show 0 * 2048 + q.val = q.val; omega
theorem blk1_apply (q : Fin 2048) (k : Fin 512) : blk1 m c t (ValueIdx.ix2 q k)
    = aW m c (ValueIdx.ix2 q (lo (col t k))) := by
  show V m c main_v1 (((cfg0.win 1).blk t).view.emb _) = _
  rw [V_v1]
  refine congrArg (aW m c) (funext fun a => Fin.ext ((Pipeline.Window.rect_emb_val (cfg0.win 1) t _ a).trans ?_))
  rw [index1]
  match a with
  | ⟨0, _⟩ => show 0 * 2048 + q.val = q.val; omega
  | ⟨1, _⟩ => rfl
theorem blk2_apply (q : Fin 2048) (k : Fin 512) : blk2 m c t (ValueIdx.ix2 q k)
    = aW m c (ValueIdx.ix2 q (hi (col t k))) := by
  show V m c main_v1 (((cfg0.win 2).blk t).view.emb _) = _
  rw [V_v1]
  refine congrArg (aW m c) (funext fun a => Fin.ext ((Pipeline.Window.rect_emb_val (cfg0.win 2) t _ a).trans ?_))
  rw [index2]
  match a with
  | ⟨0, _⟩ => show 0 * 2048 + q.val = q.val; omega
  | ⟨1, _⟩ => show (t.val % 4 + 4) * 512 + k.val = 2048 + (t.val % 4 * 512 + k.val); omega
theorem blk3_apply (k : Fin 512) : blk3 m c t (ValueIdx.ix2 (0 : Fin 1) k) = aB m c (ValueIdx.ix1 (lo (col t k))) := by
  show V m c main_v2 (((cfg0.win 3).blk t).view.emb _) = _
  rw [V_v2]
  refine row_apply (aB m c) _ _ ((Pipeline.Window.rect_emb_val (cfg0.win 3) t _ (1 : Fin 2)).trans ?_)
  rw [index3]; rfl
theorem blk4_apply (k : Fin 512) : blk4 m c t (ValueIdx.ix2 (0 : Fin 1) k) = aB m c (ValueIdx.ix1 (hi (col t k))) := by
  show V m c main_v2 (((cfg0.win 4).blk t).view.emb _) = _
  rw [V_v2]
  refine row_apply (aB m c) _ _ ((Pipeline.Window.rect_emb_val (cfg0.win 4) t _ (1 : Fin 2)).trans ?_)
  rw [index4]
  show (t.val % 4 + 4) * 512 + k.val = 2048 + (t.val % 4 * 512 + k.val); omega

/-- What point `t` leaves in its block. -/
def outAt : Vec Ideal S1024x512 .f32 := out0_5 (F := Ideal) (blk0 m c t) (blk1 m c t) (blk2 m c t) (blk3 m c t) (blk4 m c t)
theorem after_eq : (dats m 0 c).after 5 t = outAt m c t := after0_5 m c t
theorem outAt_apply (y : S1024x512.Idx) : outAt m c t y = gated (aX m c) (aW m c) (aB m c) (tok t (y 0)) (col t (y 1)) := by
  obtain ⟨r, k, rfl⟩ : ∃ (r : Fin 1024) (k : Fin 512), y = ValueIdx.ix2 r k := ⟨y 0, y 1, funext fun a => match a with | ⟨0, _⟩ => rfl | ⟨1, _⟩ => rfl⟩
  unfold outAt
  refine (out_apply _ _ _ _ _ r k).trans ?_
  rw [blk3_apply, blk4_apply]
  have e1 : ∑ q : Fin 2048, blk0 m c t (ValueIdx.ix2 r q) * blk1 m c t (ValueIdx.ix2 q k)
      = ∑ q : Fin 2048, aX m c (ValueIdx.ix2 (tok t r) q) * aW m c (ValueIdx.ix2 q (lo (col t k))) :=
    Finset.sum_congr rfl fun q _ => by rw [blk0_apply, blk1_apply]
  have e2 : ∑ q : Fin 2048, blk0 m c t (ValueIdx.ix2 r q) * blk2 m c t (ValueIdx.ix2 q k)
      = ∑ q : Fin 2048, aX m c (ValueIdx.ix2 (tok t r) q) * aW m c (ValueIdx.ix2 q (hi (col t k))) :=
    Finset.sum_congr rfl fun q _ => by rw [blk0_apply, blk2_apply]
  exact congrArg₂ (fun a b => (a + aB m c (ValueIdx.ix1 (lo (col t k)))) * Ideal.logistic (b + aB m c (ValueIdx.ix1 (hi (col t k))))) e1 e2

/-! ## The result array -/

theorem result_eq : (dats m 0 c).arrAt 5 cfg0.N = answers (aX m c) (aW m c) (aB m c) := by
  refine Pipeline.Dat.arrAt_eq_of_emb (dats m 0 c) 5 _ (fun t _ y => ?_) fun i => ?_
  · rw [after_eq]
    have hf : ∀ z : S1024x512.Idx, outAt m c t z = gated (aX m c) (aW m c) (aB m c) (tok t (z 0)) (col t (z 1)) := outAt_apply m c t
    generalize outAt m c t = f at hf ⊢
    refine (hf y).trans ?_
    have e0 : (((cfg0.win 5).blk t).view.emb y (0 : Fin 2)).val = t.val / 4 * 1024 + (y (0 : Fin 2)).val := by
      refine (Pipeline.Window.rect_emb_val (cfg0.win 5) t y (0 : Fin 2)).trans ?_
      rw [index5]; rfl
    have e1 : (((cfg0.win 5).blk t).view.emb y (1 : Fin 2)).val = t.val % 4 * 512 + (y (1 : Fin 2)).val := by
      refine (Pipeline.Window.rect_emb_val (cfg0.win 5) t y (1 : Fin 2)).trans ?_
      rw [index5]; rfl
    unfold answers
    exact congrArg₂ (gated (aX m c) (aW m c) (aB m c)) (Fin.ext e0.symm) (Fin.ext e1.symm)
  · have i0 : (i (0 : Fin 2)).val < 16384 := (i (0 : Fin 2)).isLt
    have i1 : (i (1 : Fin 2)).val < 2048 := (i (1 : Fin 2)).isLt
    have hN : 4 * ((i (0 : Fin 2)).val / 1024) + (i (1 : Fin 2)).val / 512 < cfg0.N := by show _ < 64; omega
    refine ⟨⟨4 * ((i (0 : Fin 2)).val / 1024) + (i (1 : Fin 2)).val / 512, hN⟩, flush0_5 _, ?_⟩
    refine (Pipeline.Window.emb_mem_blk_iff (cfg0.win 5) _ i).mpr fun a => ?_
    rw [index5]
    match a with
    | ⟨0, _⟩ =>
      show (4 * ((i (0 : Fin 2)).val / 1024) + (i (1 : Fin 2)).val / 512) / 4 * 1024 ≤ (i (0 : Fin 2)).val
        ∧ (i (0 : Fin 2)).val < (4 * ((i (0 : Fin 2)).val / 1024) + (i (1 : Fin 2)).val / 512) / 4 * 1024 + 1024
      omega
    | ⟨1, _⟩ =>
      show (4 * ((i (0 : Fin 2)).val / 1024) + (i (1 : Fin 2)).val / 512) % 4 * 512 ≤ (i (1 : Fin 2)).val
        ∧ (i (1 : Fin 2)).val < (4 * ((i (0 : Fin 2)).val / 1024) + (i (1 : Fin 2)).val / 512) % 4 * 512 + 512
      omega

/-- The run: the result is the gated projections, and the operands are as they began. -/
theorem run (ρ : Dev nD → PrngReg) : θ_run defs (onTc (τ := τ) (main (F := Ideal))) ⟨m, fun _ => 0, ρ⟩ (fun r => ∀ c : Dev nD,
      r.2.mem ((c.tc : Thread nD τ).loc main_v3) = answers (aX m c) (aW m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 5).trans (result_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel6Ideal.Glu

end
-- ==== Proof.Back.Value.lean ====
/-
  The delta rule's output projection with exact arithmetic: each entry of the result is the residual's plus a row by a column of
  the weights, whose two halves are added one after the other.
-/
module

public import proofs.«01_k».proof.Proof.Gen.Kernel7Ideal
public import proofs.«01_k».proof.Proof.Gen.Kernel7Ideal.Frame
public import proofs.«01_k».proof.Proof.Gen.Reference7Ideal.Read
public import Idealize.ShloMosaic.Lib.MatmulPlain
public import Idealize.ShloMosaic.Lib.ValueIdx
public import Idealize.ShloMosaic.Lib.Pipeline.Value
public import Idealize.ShloMosaic.Lib.Pipeline.ValueKit.Geometry
public import Idealize.ShloMosaic.Lib.Pipeline.ValueKit.Acc
public import Idealize.ShloMosaic.PureOps.Ideal.Laws

@[expose] public section

set_option maxRecDepth 16384

noncomputable section

namespace Cert.Back

open Idealize.ShloMosaic

/-- The residual and the result, the rows projected, and the weights. -/
abbrev Out : Type := FVec Ideal ⟨2, ![16384, 2048]⟩ .f32
abbrev Rows : Type := FVec Ideal ⟨2, ![16384, 4096]⟩ .f32
abbrev Weights : Type := FVec Ideal ⟨2, ![4096, 2048]⟩ .f32

/-- Row `n` by column `k` of the weights. -/
def proj (y : Rows) (w : Weights) (n : Fin 16384) (k : Fin 2048) : EReal := ∑ q : Fin 4096, y (ValueIdx.ix2 n q) * w (ValueIdx.ix2 q k)
def added (x : Out) (y : Rows) (w : Weights) (n : Fin 16384) (k : Fin 2048) : EReal := x (ValueIdx.ix2 n k) + proj y w n k
/-- The result. -/
def answers (x : Out) (y : Rows) (w : Weights) : Out := fun r => added x y w (r 0) (r 1)

/-- Position `q` of half `h`, and a half's products. -/
def at2 (h : Fin 2) (q : Fin 2048) : Fin 4096 := ⟨h.val * 2048 + q.val, by omega⟩
def half (y : Rows) (w : Weights) (n : Fin 16384) (k : Fin 2048) (h : Fin 2) : EReal :=
  ∑ q : Fin 2048, y (ValueIdx.ix2 n (at2 h q)) * w (ValueIdx.ix2 (at2 h q) k)
theorem proj_halves (y : Rows) (w : Weights) (n : Fin 16384) (k : Fin 2048) : proj y w n k = half y w n k 0 + half y w n k 1 := by
  refine (Fin.sum_univ_add (a := 2048) (b := 2048) fun q : Fin 4096 => y (ValueIdx.ix2 n q) * w (ValueIdx.ix2 q k)).trans ?_
  refine congrArg₂ (· + ·) (Finset.sum_congr rfl fun q _ => ?_) (Finset.sum_congr rfl fun q _ => ?_)
  · have e : (Fin.castAdd 2048 q : Fin 4096) = at2 0 q := Fin.ext (by show q.val = 0 * 2048 + q.val; omega)
    exact congrArg (fun p : Fin 4096 => y (ValueIdx.ix2 n p) * w (ValueIdx.ix2 p k)) e
  · have e : (Fin.natAdd 2048 q : Fin 4096) = at2 1 q := Fin.ext (by show 2048 + q.val = 1 * 2048 + q.val; omega)
    exact congrArg (fun p : Fin 4096 => y (ValueIdx.ix2 n p) * w (ValueIdx.ix2 p k)) e

open Cert.Reference7Ideal Cert.Reference7Ideal.Gen Cert.Reference7Ideal.Read in
/-- The reference's result is the sums. -/
theorem ref_value (x : Out) (y : Rows) (w : Weights) : val_main_v1 (F := Ideal) x y w = answers x y w := by
  refine funext fun (r : S16384x2048.Idx) => ?_
  rw [val_main_v1_apply, val_main_v0_apply]
  show x r + _ = added x y w (r 0) (r 1)
  unfold added proj
  refine congrArg₂ (· + ·) (congrArg x (funext fun a => ?_)) (Finset.sum_congr rfl fun q _ => congrArg₂ (fun a b => y a * w b) (funext fun a => ?_) (funext fun a => ?_))
  · match a with
    | ⟨0, _⟩ => rfl
    | ⟨1, _⟩ => rfl
  · match a with
    | ⟨0, _⟩ => rfl
    | ⟨1, _⟩ => rfl
  · match a with
    | ⟨0, _⟩ => rfl
    | ⟨1, _⟩ => rfl

end Cert.Back

namespace Cert.Kernel7Ideal.Back

open Cert.Kernel7Ideal Cert.Kernel7Ideal.Gen
open Idealize.ShloMosaic Idealize.ShloMosaic.TcCoe
open Cert.Back (Out Rows Weights proj added answers at2 half proj_halves)

theorem hz : (![0, 0] : Fin 2 → Nat) = fun _ => 0 := funext fun a => by fin_cases a <;> rfl

/-! ## What the body leaves -/

/-- The products of one half. -/
theorem part_apply (y : Vec Ideal S1024x2048 .bf16) (w : Vec Ideal S2048x512 .bf16) (r : Fin 1024) (k : Fin 512) :
    k0_pay1 (F := Ideal) y w (ValueIdx.ix2 r k) = ∑ q : Fin 2048, y (ValueIdx.ix2 r q) * w (ValueIdx.ix2 q k) := by
  unfold k0_pay1
  rw [shapeCast_self, shapeCast_self]
  simp only [matmul]
  refine (Ideal.matmul_plain_apply none y w _ r k).trans ?_
  rw [show (constant S1024x512 .f32 0x00000000#32 : FVec Ideal S1024x512 .f32) (ValueIdx.ix2 r k) = 0 from Ideal.ofBits_zero_f32, zero_add]

section Body
variable (c : Dev nD) (i : grid0.Coords) (a3 : Memref sig .tc .vmem S1024x2048 .bf16) (h3 : a3.IsWhole) (a4 : Memref sig .tc .vmem S2048x512 .bf16) (h4 : a4.IsWhole)
  (a5 : Memref sig .tc .vmem S1024x512 .f32) (h5 : a5.IsWhole) (a6 : Memref sig .tc .vmem S1024x512 .f32) (h6 : a6.IsWhole) (a7 : Memref sig .tc .vmem S1024x512 .f32) (h7 : a7.IsWhole)
  (y : Vec Ideal S1024x2048 .bf16) (w : Vec Ideal S2048x512 .bf16) (x : Vec Ideal S1024x512 .f32)

/-- At a first half the accumulator is left with the half's products. -/
theorem scratch_eq (hc0 : cond0_0 i) (hc1 : ¬cond0_1 i) (hc2 : ¬cond0_2 i) :
    sout0_A_0 (F := Ideal) c i a3 h3 a4 h4 a5 h5 a6 h6 a7 h7 hc0 hc1 hc2 y w x = k0_pay1 (F := Ideal) y w := by
  unfold sout0_A_0
  rw [View.read_writes_junk_eq_canon]
  unfold kernelRun0_A
  dsimp only
  rw [View.canon_unit_zero hz]
  simp only [View.readAt_eq_ld, h3.read_unread, h4.read_unread, View.ld_unit_zero (S := S1024x2048) hz, View.ld_unit_zero (S := S2048x512) hz]
  unfold k0_pay2
  rw [shapeCast_self]

/-- At a second half the result's block is left with the accumulator, the half's products and the residual, added. -/
theorem out_eq (s : Vec Ideal S1024x512 .f32) (hc0 : ¬cond0_0 i) (hc1 : ¬cond0_1 i) (hc2 : cond0_2 i) :
    out0_B_3 (F := Ideal) c i a3 h3 a4 h4 a5 h5 a6 h6 a7 h7 hc0 hc1 hc2 y w x s = k0_pay4 (F := Ideal) y w s x := by
  unfold out0_B_3
  rw [View.read_writes_junk_eq_canon]
  unfold kernelRun0_B
  dsimp only
  rw [View.canon_unit_zero hz]
  simp only [View.readAt_eq_ld, h3.read_unread, h4.read_unread, h5.read_unread, h7.read_unread, View.ld_unit_zero (S := S1024x2048) hz,
    View.ld_unit_zero (S := S2048x512) hz, View.ld_unit_zero (S := S1024x512) hz]

end Body

variable (m : (ℓ : Loc nD τ sig) → Buf (Elt Ideal) ℓ)

/-! ## The arrays as launched, by their types -/

def aX (c : Dev nD) : Out := m ((c : Thread nD τ).loc main_arg0)
def aY (c : Dev nD) : Rows := m ((c : Thread nD τ).loc main_arg1)
def aW (c : Dev nD) : Weights := m ((c : Thread nD τ).loc main_arg2)

theorem V_v0 (c : Dev nD) : V m c main_v0 = (truncf .bf16 (aY m c) bitsLt_bf16_f32 : FVec Ideal S16384x4096 .bf16) := by
  show StableHlo.after hostOps0 _ (Proc.devRef .tc main_v0) = _
  after_results
  rfl
theorem V_v1 (c : Dev nD) : V m c main_v1 = (truncf .bf16 (aW m c) bitsLt_bf16_f32 : FVec Ideal S4096x2048 .bf16) := by
  show StableHlo.after hostOps0 _ (Proc.devRef .tc main_v1) = _
  after_results
  rfl

/-! ## The blocks -/

variable (c : Dev nD) (t : Fin cfg0.N)

theorem lt_N : t.val < 128 := t.isLt
theorem coord0 : (BitVec.ofNat 32 (grid0.coords t 0).val).toNat = t.val / 8 :=
  (by decide +kernel : ∀ t : Fin grid0.N, (BitVec.ofNat 32 (grid0.coords t 0).val).toNat = t.val / 8) t
theorem coord1 : (BitVec.ofNat 32 (grid0.coords t 1).val).toNat = t.val / 2 % 4 :=
  (by decide +kernel : ∀ t : Fin grid0.N, (BitVec.ofNat 32 (grid0.coords t 1).val).toNat = t.val / 2 % 4) t
theorem coord2 : (BitVec.ofNat 32 (grid0.coords t 2).val).toNat = t.val % 2 :=
  (by decide +kernel : ∀ t : Fin grid0.N, (BitVec.ofNat 32 (grid0.coords t 2).val).toNat = t.val % 2) t

theorem index0 : (cfg0.win 0).index t = ![t.val / 8, t.val % 2] := by
  show cc0_transform_0 (grid0.coords t) = _
  exact congrArg₂ (fun x y => (![x, y] : Fin 2 → ℕ)) (coord0 t) (coord2 t)
theorem index1 : (cfg0.win 1).index t = ![t.val % 2, t.val / 2 % 4] := by
  show cc0_transform_1 (grid0.coords t) = _
  exact congrArg₂ (fun x y => (![x, y] : Fin 2 → ℕ)) (coord2 t) (coord1 t)
theorem index2 : (cfg0.win 2).index t = ![t.val / 8, t.val / 2 % 4] := by
  show cc0_transform_2 (grid0.coords t) = _
  exact congrArg₂ (fun x y => (![x, y] : Fin 2 → ℕ)) (coord0 t) (coord1 t)
theorem index3 : (cfg0.win 3).index t = ![t.val / 8, t.val / 2 % 4] := by
  show cc0_transform_3 (grid0.coords t) = _
  exact congrArg₂ (fun x y => (![x, y] : Fin 2 → ℕ)) (coord0 t) (coord1 t)

/-- Row `r` and column `k` of point `t`'s block, in the result, and the half it adds. -/
def tok (r : Fin 1024) : Fin 16384 := ⟨t.val / 8 * 1024 + r.val, by have := lt_N t; omega⟩
def col (k : Fin 512) : Fin 2048 := ⟨t.val / 2 % 4 * 512 + k.val, by omega⟩
def which : Fin 2 := ⟨t.val % 2, by omega⟩

def blk0 : FVec Ideal S1024x2048 .bf16 := iblk m c 0 t
def blk1 : FVec Ideal S2048x512 .bf16 := iblk m c 1 t
def blk2 : FVec Ideal S1024x512 .f32 := iblk m c 2 t
theorem blk0_apply (r : Fin 1024) (q : Fin 2048) : blk0 m c t (ValueIdx.ix2 r q) = aY m c (ValueIdx.ix2 (tok t r) (at2 (which t) q)) := by
  show V m c main_v0 (((cfg0.win 0).blk t).view.emb _) = _
  rw [V_v0]
  refine congrArg (aY m c) (funext fun a => Fin.ext ((Pipeline.Window.rect_emb_val (cfg0.win 0) t _ a).trans ?_))
  rw [index0]
  match a with
  | ⟨0, _⟩ => rfl
  | ⟨1, _⟩ => rfl
theorem blk1_apply (q : Fin 2048) (k : Fin 512) : blk1 m c t (ValueIdx.ix2 q k) = aW m c (ValueIdx.ix2 (at2 (which t) q) (col t k)) := by
  show V m c main_v1 (((cfg0.win 1).blk t).view.emb _) = _
  rw [V_v1]
  refine congrArg (aW m c) (funext fun a => Fin.ext ((Pipeline.Window.rect_emb_val (cfg0.win 1) t _ a).trans ?_))
  rw [index1]
  match a with
  | ⟨0, _⟩ => rfl
  | ⟨1, _⟩ => rfl
theorem blk2_apply (r : Fin 1024) (k : Fin 512) : blk2 m c t (ValueIdx.ix2 r k) = aX m c (ValueIdx.ix2 (tok t r) (col t k)) := by
  show V m c main_arg0 (((cfg0.win 2).blk t).view.emb _) = _
  rw [V_main_arg0]
  refine congrArg (aX m c) (funext fun a => Fin.ext ((Pipeline.Window.rect_emb_val (cfg0.win 2) t _ a).trans ?_))
  rw [index2]
  match a with
  | ⟨0, _⟩ => rfl
  | ⟨1, _⟩ => rfl

theorem half_apply (r : Fin 1024) (k : Fin 512) :
    k0_pay1 (F := Ideal) (blk0 m c t) (blk1 m c t) (ValueIdx.ix2 r k) = half (aY m c) (aW m c) (tok t r) (col t k) (which t) :=
  (part_apply _ _ r k).trans (Finset.sum_congr rfl fun q _ => by rw [blk0_apply, blk1_apply])

/-- A tile's last point, and the one before it. -/
def prev : Fin cfg0.N := ⟨t.val - 1, Nat.lt_of_le_of_lt (Nat.sub_le _ _) t.isLt⟩

/-- What a tile's last point leaves in its block. -/
def outAt : Vec Ideal S1024x512 .f32 := k0_pay4 (F := Ideal) (blk0 m c t) (blk1 m c t) (k0_pay1 (F := Ideal) (blk0 m c (prev t)) (blk1 m c (prev t))) (blk2 m c t)
theorem scratchAt_eq (h0 : t.val % 2 = 0) : (outsAt0 m c t.val t.isLt).2 = k0_pay1 (F := Ideal) (blk0 m c t) (blk1 m c t) := by
  rw [outsAt0_A m c t h0 (by omega)]
  dsimp only
  rw [scratch_eq]
  unfold blk0 blk1
  rfl
theorem after_eq (h : t.val % 2 = 1) : (dats m 0 c).after 3 t = outAt m c t := by
  have e : (outsAt0 m c (t.val - 1) (Nat.lt_of_le_of_lt (Nat.sub_le _ _) t.isLt)).2 = k0_pay1 (F := Ideal) (blk0 m c (prev t)) (blk1 m c (prev t)) :=
    scratchAt_eq m c (prev t) (by show (t.val - 1) % 2 = 0; omega)
  rw [after0_3, outsAt0_B m c t (by omega) h]
  dsimp only
  rw [out_eq, e]
  unfold outAt
  generalize k0_pay1 (F := Ideal) (blk0 m c (prev t)) (blk1 m c (prev t)) = s
  unfold blk0 blk1 blk2
  rfl

theorem outAt_apply (h : t.val % 2 = 1) (y : S1024x512.Idx) : outAt m c t y = added (aX m c) (aY m c) (aW m c) (tok t (y 0)) (col t (y 1)) := by
  obtain ⟨r, k, rfl⟩ : ∃ (r : Fin 1024) (k : Fin 512), y = ValueIdx.ix2 r k := ⟨y 0, y 1, funext fun a => match a with | ⟨0, _⟩ => rfl | ⟨1, _⟩ => rfl⟩
  have hn := lt_N t
  have e0 : tok (prev t) r = tok t r := Fin.ext (by show (t.val - 1) / 8 * 1024 + r.val = t.val / 8 * 1024 + r.val; omega)
  have e1 : col (prev t) k = col t k := Fin.ext (by show (t.val - 1) / 2 % 4 * 512 + k.val = t.val / 2 % 4 * 512 + k.val; omega)
  have e2 : which (prev t) = 0 := Fin.ext (by show (t.val - 1) % 2 = 0; omega)
  have e3 : which t = 1 := Fin.ext h
  have p0 := half_apply m c (prev t) r k
  rw [e0, e1, e2] at p0
  have p1 := half_apply m c t r k
  rw [e3] at p1
  unfold outAt k0_pay4
  show k0_pay1 (F := Ideal) (blk0 m c (prev t)) (blk1 m c (prev t)) (ValueIdx.ix2 r k) + k0_pay1 (F := Ideal) (blk0 m c t) (blk1 m c t) (ValueIdx.ix2 r k)
    + blk2 m c t (ValueIdx.ix2 r k) = added (aX m c) (aY m c) (aW m c) (tok t r) (col t k)
  rw [p0, p1, blk2_apply]
  unfold added
  rw [proj_halves, add_comm]

/-! ## The result array -/

theorem result_eq : (dats m 0 c).arrAt 3 cfg0.N = answers (aX m c) (aY m c) (aW m c) := by
  refine Pipeline.Dat.arrAt_eq_of_emb (dats m 0 c) 3 _ (fun t hfl y => ?_) fun i => ?_
  · have ht : t.val % 2 = 1 := (flush0_3 t).mp hfl
    rw [after_eq m c t ht]
    have hf : ∀ z : S1024x512.Idx, outAt m c t z = added (aX m c) (aY m c) (aW m c) (tok t (z 0)) (col t (z 1)) := outAt_apply m c t ht
    generalize outAt m c t = f at hf ⊢
    refine (hf y).trans ?_
    have e0 : (((cfg0.win 3).blk t).view.emb y (0 : Fin 2)).val = t.val / 8 * 1024 + (y (0 : Fin 2)).val := by
      refine (Pipeline.Window.rect_emb_val (cfg0.win 3) t y (0 : Fin 2)).trans ?_
      rw [index3]; rfl
    have e1 : (((cfg0.win 3).blk t).view.emb y (1 : Fin 2)).val = t.val / 2 % 4 * 512 + (y (1 : Fin 2)).val := by
      refine (Pipeline.Window.rect_emb_val (cfg0.win 3) t y (1 : Fin 2)).trans ?_
      rw [index3]; rfl
    unfold answers
    exact congrArg₂ (added (aX m c) (aY m c) (aW m c)) (Fin.ext e0.symm) (Fin.ext e1.symm)
  · have i0 : (i (0 : Fin 2)).val < 16384 := (i (0 : Fin 2)).isLt
    have i1 : (i (1 : Fin 2)).val < 2048 := (i (1 : Fin 2)).isLt
    have hN : 8 * ((i (0 : Fin 2)).val / 1024) + 2 * ((i (1 : Fin 2)).val / 512) + 1 < cfg0.N := by show _ < 128; omega
    refine ⟨⟨8 * ((i (0 : Fin 2)).val / 1024) + 2 * ((i (1 : Fin 2)).val / 512) + 1, hN⟩, (flush0_3 _).mpr (by show (8 * _ + 2 * _ + 1) % 2 = 1; omega), ?_⟩
    refine (Pipeline.Window.emb_mem_blk_iff (cfg0.win 3) _ i).mpr fun a => ?_
    rw [index3]
    match a with
    | ⟨0, _⟩ =>
      show (8 * ((i (0 : Fin 2)).val / 1024) + 2 * ((i (1 : Fin 2)).val / 512) + 1) / 8 * 1024 ≤ (i (0 : Fin 2)).val
        ∧ (i (0 : Fin 2)).val < (8 * ((i (0 : Fin 2)).val / 1024) + 2 * ((i (1 : Fin 2)).val / 512) + 1) / 8 * 1024 + 1024
      omega
    | ⟨1, _⟩ =>
      show (8 * ((i (0 : Fin 2)).val / 1024) + 2 * ((i (1 : Fin 2)).val / 512) + 1) / 2 % 4 * 512 ≤ (i (1 : Fin 2)).val
        ∧ (i (1 : Fin 2)).val < (8 * ((i (0 : Fin 2)).val / 1024) + 2 * ((i (1 : Fin 2)).val / 512) + 1) / 2 % 4 * 512 + 512
      omega

/-- The run: the result is the sums, and the operands are as they began. -/
theorem run (ρ : Dev nD → PrngReg) : θ_run defs (onTc (τ := τ) (main (F := Ideal))) ⟨m, fun _ => 0, ρ⟩ (fun r => ∀ c : Dev nD,
      r.2.mem ((c.tc : Thread nD τ).loc main_v2) = answers (aX m c) (aY m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (result_eq m c),
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel7Ideal.Back

end
-- ==== Proof.Gelu.Value.lean ====
/-
  The gating unit's input projection with exact arithmetic: each entry of the result is the exact GELU of a projection of a token's
  row.
-/
module

public import proofs.«01_k».proof.Proof.Gen.Kernel8Ideal
public import proofs.«01_k».proof.Proof.Gen.Kernel8Ideal.Frame
public import proofs.«01_k».proof.Proof.Gen.Reference8Ideal.Read
public import Idealize.ShloMosaic.Lib.MatmulPlain
public import Idealize.ShloMosaic.Lib.ValueIdx
public import Idealize.ShloMosaic.Lib.Pipeline.Value
public import Idealize.ShloMosaic.Lib.Pipeline.ValueKit.Geometry
public import Idealize.ShloMosaic.PureOps.Ideal.Laws

@[expose] public section

set_option maxRecDepth 16384

noncomputable section

namespace Cert.Gelu

open Idealize.ShloMosaic

/-- The token rows, the weights and their bias, and the result. -/
abbrev Rows : Type := FVec Ideal ⟨2, ![16384, 2048]⟩ .f32
abbrev Weights : Type := FVec Ideal ⟨2, ![2048, 8192]⟩ .f32
abbrev Bias : Type := FVec Ideal ⟨1, ![8192]⟩ .f32
abbrev Out : Type := FVec Ideal ⟨2, ![16384, 8192]⟩ .f32

/-- Token `n`'s row by column `k` of the weights, and the bias. -/
def proj (x : Rows) (w : Weights) (b : Bias) (n : Fin 16384) (k : Fin 8192) : EReal :=
  (∑ q : Fin 2048, x (ValueIdx.ix2 n q) * w (ValueIdx.ix2 q k)) + b (ValueIdx.ix1 k)
/-- The exact GELU: half its argument, by one plus the error function of the argument over the root of two (as an f32). -/
def gelu (z : EReal) : EReal := Ideal.ofBits .f32 0x3F000000#32 * z * (1 + Ideal.erf (z * Ideal.ofBits .f32 0x3F3504F3#32))
def activated (x : Rows) (w : Weights) (b : Bias) (n : Fin 16384) (k : Fin 8192) : EReal := gelu (proj x w b n k)
/-- The result. -/
def answers (x : Rows) (w : Weights) (b : Bias) : Out := fun r => activated x w b (r 0) (r 1)

theorem one_f32 : Ideal.ofBits .f32 0x3F800000#32 = 1 := by simp [Ideal.ofBits, Ideal.ieee, -EReal.coe_mul]; norm_num

open Cert.Reference8Ideal Cert.Reference8Ideal.Gen Cert.Reference8Ideal.Read in
theorem ref_proj (x : Rows) (w : Weights) (b : Bias) (r : S16384x8192.Idx) : val_main_v3 (F := Ideal) x w b r = proj x w b (r 0) (r 1) := by
  rw [val_main_v3_apply, val_main_v0_apply, val_main_v2_apply, val_main_v1_apply]
  show _ + _ = _
  unfold proj
  refine congrArg₂ (· + ·) (Finset.sum_congr rfl fun q _ => congrArg₂ (fun a b => x a * w b) (funext fun a => ?_) (funext fun a => ?_)) (congrArg b (funext fun a => ?_))
  · match a with
    | ⟨0, _⟩ => rfl
    | ⟨1, _⟩ => rfl
  · match a with
    | ⟨0, _⟩ => rfl
    | ⟨1, _⟩ => rfl
  · match a with
    | ⟨0, _⟩ => rfl

open Cert.Reference8Ideal Cert.Reference8Ideal.Gen Cert.Reference8Ideal.Read in
/-- The reference's result is the activated projections: its complement of the error function, at the argument negated, is one
    plus the error function. -/
theorem ref_value (x : Rows) (w : Weights) (b : Bias) : val_main_v10 (F := Ideal) x w b = answers x w b := by
  refine funext fun (r : S16384x8192.Idx) => ?_
  rw [val_main_v10_apply, val_main_v9_apply, val_main_v8_apply, val_main_v7_apply, val_main_cst_0_apply, val_main_v6_apply,
    val_main_v5_apply, val_main_v4_apply, val_main_cst_apply, ref_proj]
  show Ideal.ofBits .f32 0x3F000000#32 * proj x w b (r 0) (r 1) * Ideal.erfc (-(proj x w b (r 0) (r 1)) * Ideal.ofBits .f32 0x3F3504F3#32)
    = gelu (proj x w b (r 0) (r 1))
  rw [neg_mul, Ideal.erfc_neg]
  rfl

end Cert.Gelu

namespace Cert.Kernel8Ideal.Gelu

open Cert.Kernel8Ideal Cert.Kernel8Ideal.Gen
open Idealize.ShloMosaic Idealize.ShloMosaic.TcCoe
open Cert.Gelu (Rows Weights Bias Out proj gelu activated answers)

theorem hz : (![0, 0] : Fin 2 → Nat) = fun _ => 0 := funext fun a => by fin_cases a <;> rfl

theorem dot_apply (x : FVec Ideal S1024x2048 .bf16) (w : FVec Ideal S2048x512 .bf16) (r : Fin 1024) (k : Fin 512) :
    matmul dot_S1024x2048_S2048x512_S1024x512_1_0_0_1_n_n none x w (constant S1024x512 .f32 0x00000000#32) (ValueIdx.ix2 r k)
      = ∑ q : Fin 2048, x (ValueIdx.ix2 r q) * w (ValueIdx.ix2 q k) := by
  simp only [matmul]
  refine (Ideal.matmul_plain_apply none x w _ r k).trans ?_
  rw [show (constant S1024x512 .f32 0x00000000#32 : FVec Ideal S1024x512 .f32) (ValueIdx.ix2 r k) = 0 from Ideal.ofBits_zero_f32, zero_add]
theorem spread_apply (b : FVec Ideal S1x512 .f32) (r : Fin 1024) (k : Fin 512) :
    broadcastTo S1024x512 b broadcasts_S1x512_S1024x512 (ValueIdx.ix2 r k) = b (ValueIdx.ix2 (0 : Fin 1) k) :=
  broadcastTo_apply _ _ _ (ValueIdx.ix2 (0 : Fin 1) k) (fun a => match a with
    | ⟨0, _⟩ => rfl
    | ⟨1, _⟩ => rfl)

/-- One block of the result. -/
theorem out_apply (x : Vec Ideal S1024x2048 .bf16) (w : Vec Ideal S2048x512 .bf16) (b : Vec Ideal S1x512 .f32) (r : Fin 1024) (k : Fin 512) :
    out0_3 (F := Ideal) x w b (ValueIdx.ix2 r k)
      = gelu ((∑ q : Fin 2048, x (ValueIdx.ix2 r q) * w (ValueIdx.ix2 q k)) + b (ValueIdx.ix2 (0 : Fin 1) k)) := by
  unfold out0_3
  rw [View.canon_unit_zero hz, View.ld_unit_zero (S := S1024x2048) hz, View.ld_unit_zero (S := S2048x512) hz, View.ld_unit_zero (S := S1x512) hz]
  unfold k0_pay1
  rw [shapeCast_self, shapeCast_self, shapeCast_self]
  rw [← dot_apply x w r k, ← spread_apply b r k]
  unfold gelu
  rw [← Cert.Gelu.one_f32]
  rfl

variable (m : (ℓ : Loc nD τ sig) → Buf (Elt Ideal) ℓ)

/-! ## The arrays as launched, by their types -/

def aX (c : Dev nD) : Rows := m ((c : Thread nD τ).loc main_arg0)
def aW (c : Dev nD) : Weights := m ((c : Thread nD τ).loc main_arg1)
def aB (c : Dev nD) : Bias := m ((c : Thread nD τ).loc main_arg2)

theorem V_v0 (c : Dev nD) : V m c main_v0 = (truncf .bf16 (aX m c) bitsLt_bf16_f32 : FVec Ideal S16384x2048 .bf16) := by
  show StableHlo.after hostOps0 _ (Proc.devRef .tc main_v0) = _
  after_results
  rfl
theorem V_v1 (c : Dev nD) : V m c main_v1 = (truncf .bf16 (aW m c) bitsLt_bf16_f32 : FVec Ideal S2048x8192 .bf16) := by
  show StableHlo.after hostOps0 _ (Proc.devRef .tc main_v1) = _
  after_results
  rfl
theorem V_v2 (c : Dev nD) : V m c main_v2 = (shapeCast S1x8192 (aB m c) shapeCasts_S8192_S1x8192 : FVec Ideal S1x8192 .f32) := by
  show StableHlo.after hostOps0 _ (Proc.devRef .tc main_v2) = _
  after_results
  rfl
theorem row_apply (b : Bias) (i : S1x8192.Idx) (k : Fin 8192) (h : (i 1).val = k.val) :
    (shapeCast S1x8192 b shapeCasts_S8192_S1x8192 : FVec Ideal S1x8192 .f32) i = b (ValueIdx.ix1 k) :=
  shapeCast_apply _ _ i (ValueIdx.ix1 k) (by
    have h0 : (i 0).val < 1 := (i 0).isLt
    rw [Shape.rowMajor_val_one, Shape.rowMajor_val_two]
    show k.val = (i 0).val * 8192 + (i 1).val
    omega)

/-! ## The blocks -/

variable (c : Dev nD) (t : Fin cfg0.N)

theorem lt_N : t.val < 256 := t.isLt
theorem coord0 : (BitVec.ofNat 32 (grid0.coords t 0).val).toNat = t.val / 16 :=
  (by decide +kernel : ∀ t : Fin grid0.N, (BitVec.ofNat 32 (grid0.coords t 0).val).toNat = t.val / 16) t
theorem coord1 : (BitVec.ofNat 32 (grid0.coords t 1).val).toNat = t.val % 16 :=
  (by decide +kernel : ∀ t : Fin grid0.N, (BitVec.ofNat 32 (grid0.coords t 1).val).toNat = t.val % 16) t
theorem coord2 : (BitVec.ofNat 32 (grid0.coords t 2).val).toNat = 0 :=
  (by decide +kernel : ∀ t : Fin grid0.N, (BitVec.ofNat 32 (grid0.coords t 2).val).toNat = 0) t

theorem index0 : (cfg0.win 0).index t = ![t.val / 16, 0] := by
  show cc0_transform_0 (grid0.coords t) = _
  exact congrArg₂ (fun x y => (![x, y] : Fin 2 → ℕ)) (coord0 t) (coord2 t)
theorem index1 : (cfg0.win 1).index t = ![0, t.val % 16] := by
  show cc0_transform_1 (grid0.coords t) = _
  exact congrArg₂ (fun x y => (![x, y] : Fin 2 → ℕ)) (coord2 t) (coord1 t)
theorem index2 : (cfg0.win 2).index t = ![0, t.val % 16] := by
  show cc0_transform_2 (grid0.coords t) = _
  exact congrArg (fun x => (![0, x] : Fin 2 → ℕ)) (coord1 t)
theorem index3 : (cfg0.win 3).index t = ![t.val / 16, t.val % 16] := by
  show cc0_transform_3 (grid0.coords t) = _
  exact congrArg₂ (fun x y => (![x, y] : Fin 2 → ℕ)) (coord0 t) (coord1 t)

/-- Row `r` and column `k` of point `t`'s block, in the result. -/
def tok (r : Fin 1024) : Fin 16384 := ⟨t.val / 16 * 1024 + r.val, by have := lt_N t; omega⟩
def col (k : Fin 512) : Fin 8192 := ⟨t.val % 16 * 512 + k.val, by omega⟩

def blk0 : FVec Ideal S1024x2048 .bf16 := iblk m c 0 t
def blk1 : FVec Ideal S2048x512 .bf16 := iblk m c 1 t
def blk2 : FVec Ideal S1x512 .f32 := iblk m c 2 t
theorem blk0_apply (r : Fin 1024) (q : Fin 2048) : blk0 m c t (ValueIdx.ix2 r q) = aX m c (ValueIdx.ix2 (tok t r) q) := by
  show V m c main_v0 (((cfg0.win 0).blk t).view.emb _) = _
  rw [V_v0]
  refine congrArg (aX m c) (funext fun a => Fin.ext ((Pipeline.Window.rect_emb_val (cfg0.win 0) t _ a).trans ?_))
  rw [index0]
  match a with
  | ⟨0, _⟩ => rfl
  | ⟨1, _⟩ => show 0 * 2048 + q.val = q.val; omega
theorem blk1_apply (q : Fin 2048) (k : Fin 512) : blk1 m c t (ValueIdx.ix2 q k) = aW m c (ValueIdx.ix2 q (col t k)) := by
  show V m c main_v1 (((cfg0.win 1).blk t).view.emb _) = _
  rw [V_v1]
  refine congrArg (aW m c) (funext fun a => Fin.ext ((Pipeline.Window.rect_emb_val (cfg0.win 1) t _ a).trans ?_))
  rw [index1]
  match a with
  | ⟨0, _⟩ => show 0 * 2048 + q.val = q.val; omega
  | ⟨1, _⟩ => rfl
theorem blk2_apply (k : Fin 512) : blk2 m c t (ValueIdx.ix2 (0 : Fin 1) k) = aB m c (ValueIdx.ix1 (col t k)) := by
  show V m c main_v2 (((cfg0.win 2).blk t).view.emb _) = _
  rw [V_v2]
  refine row_apply (aB m c) _ _ ((Pipeline.Window.rect_emb_val (cfg0.win 2) t _ (1 : Fin 2)).trans ?_)
  rw [index2]; rfl

/-- What point `t` leaves in its block. -/
def outAt : Vec Ideal S1024x512 .f32 := out0_3 (F := Ideal) (blk0 m c t) (blk1 m c t) (blk2 m c t)
theorem after_eq : (dats m 0 c).after 3 t = outAt m c t := after0_3 m c t
theorem outAt_apply (y : S1024x512.Idx) : outAt m c t y = activated (aX m c) (aW m c) (aB m c) (tok t (y 0)) (col t (y 1)) := by
  obtain ⟨r, k, rfl⟩ : ∃ (r : Fin 1024) (k : Fin 512), y = ValueIdx.ix2 r k := ⟨y 0, y 1, funext fun a => match a with | ⟨0, _⟩ => rfl | ⟨1, _⟩ => rfl⟩
  unfold outAt
  refine (out_apply _ _ _ r k).trans ?_
  rw [blk2_apply]
  have e1 : ∑ q : Fin 2048, blk0 m c t (ValueIdx.ix2 r q) * blk1 m c t (ValueIdx.ix2 q k)
      = ∑ q : Fin 2048, aX m c (ValueIdx.ix2 (tok t r) q) * aW m c (ValueIdx.ix2 q (col t k)) :=
    Finset.sum_congr rfl fun q _ => by rw [blk0_apply, blk1_apply]
  exact congrArg (fun a => gelu (a + aB m c (ValueIdx.ix1 (col t k)))) e1

/-! ## The result array -/

theorem result_eq : (dats m 0 c).arrAt 3 cfg0.N = answers (aX m c) (aW m c) (aB m c) := by
  refine Pipeline.Dat.arrAt_eq_of_emb (dats m 0 c) 3 _ (fun t _ y => ?_) fun i => ?_
  · rw [after_eq]
    have hf : ∀ z : S1024x512.Idx, outAt m c t z = activated (aX m c) (aW m c) (aB m c) (tok t (z 0)) (col t (z 1)) := outAt_apply m c t
    generalize outAt m c t = f at hf ⊢
    refine (hf y).trans ?_
    have e0 : (((cfg0.win 3).blk t).view.emb y (0 : Fin 2)).val = t.val / 16 * 1024 + (y (0 : Fin 2)).val := by
      refine (Pipeline.Window.rect_emb_val (cfg0.win 3) t y (0 : Fin 2)).trans ?_
      rw [index3]; rfl
    have e1 : (((cfg0.win 3).blk t).view.emb y (1 : Fin 2)).val = t.val % 16 * 512 + (y (1 : Fin 2)).val := by
      refine (Pipeline.Window.rect_emb_val (cfg0.win 3) t y (1 : Fin 2)).trans ?_
      rw [index3]; rfl
    unfold answers
    exact congrArg₂ (activated (aX m c) (aW m c) (aB m c)) (Fin.ext e0.symm) (Fin.ext e1.symm)
  · have i0 : (i (0 : Fin 2)).val < 16384 := (i (0 : Fin 2)).isLt
    have i1 : (i (1 : Fin 2)).val < 8192 := (i (1 : Fin 2)).isLt
    have hN : 16 * ((i (0 : Fin 2)).val / 1024) + (i (1 : Fin 2)).val / 512 < cfg0.N := by show _ < 256; omega
    refine ⟨⟨16 * ((i (0 : Fin 2)).val / 1024) + (i (1 : Fin 2)).val / 512, hN⟩, flush0_3 _, ?_⟩
    refine (Pipeline.Window.emb_mem_blk_iff (cfg0.win 3) _ i).mpr fun a => ?_
    rw [index3]
    match a with
    | ⟨0, _⟩ =>
      show (16 * ((i (0 : Fin 2)).val / 1024) + (i (1 : Fin 2)).val / 512) / 16 * 1024 ≤ (i (0 : Fin 2)).val
        ∧ (i (0 : Fin 2)).val < (16 * ((i (0 : Fin 2)).val / 1024) + (i (1 : Fin 2)).val / 512) / 16 * 1024 + 1024
      omega
    | ⟨1, _⟩ =>
      show (16 * ((i (0 : Fin 2)).val / 1024) + (i (1 : Fin 2)).val / 512) % 16 * 512 ≤ (i (1 : Fin 2)).val
        ∧ (i (1 : Fin 2)).val < (16 * ((i (0 : Fin 2)).val / 1024) + (i (1 : Fin 2)).val / 512) % 16 * 512 + 512
      omega

/-- The run: the result is the activated projections, and the operands are as they began. -/
theorem run (ρ : Dev nD → PrngReg) : θ_run defs (onTc (τ := τ) (main (F := Ideal))) ⟨m, fun _ => 0, ρ⟩ (fun r => ∀ c : Dev nD,
      r.2.mem ((c.tc : Thread nD τ).loc main_v3) = answers (aX m c) (aW m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (result_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel8Ideal.Gelu

end
-- ==== Proof.Close.Value.lean ====
/-
  The gating unit's output projection with exact arithmetic: each entry of the result is the residual's plus a row by a column of
  the weights, whose two halves are added one after the other, and the bias.
-/
module

public import proofs.«01_k».proof.Proof.Gen.Kernel9Ideal
public import proofs.«01_k».proof.Proof.Gen.Kernel9Ideal.Frame
public import proofs.«01_k».proof.Proof.Gen.Reference9Ideal.Read
public import Idealize.ShloMosaic.Lib.MatmulPlain
public import Idealize.ShloMosaic.Lib.ValueIdx
public import Idealize.ShloMosaic.Lib.Pipeline.Value
public import Idealize.ShloMosaic.Lib.Pipeline.ValueKit.Geometry
public import Idealize.ShloMosaic.Lib.Pipeline.ValueKit.Acc
public import Idealize.ShloMosaic.PureOps.Ideal.Laws

@[expose] public section

set_option maxRecDepth 16384

noncomputable section

namespace Cert.Close

open Idealize.ShloMosaic

/-- The residual and the result, the rows projected, the weights and their bias. -/
abbrev Out : Type := FVec Ideal ⟨2, ![16384, 2048]⟩ .f32
abbrev Rows : Type := FVec Ideal ⟨2, ![16384, 4096]⟩ .f32
abbrev Weights : Type := FVec Ideal ⟨2, ![4096, 2048]⟩ .f32
abbrev Bias : Type := FVec Ideal ⟨1, ![2048]⟩ .f32

/-- Row `n` by column `k` of the weights. -/
def proj (y : Rows) (w : Weights) (n : Fin 16384) (k : Fin 2048) : EReal := ∑ q : Fin 4096, y (ValueIdx.ix2 n q) * w (ValueIdx.ix2 q k)
def added (x : Out) (y : Rows) (w : Weights) (b : Bias) (n : Fin 16384) (k : Fin 2048) : EReal :=
  x (ValueIdx.ix2 n k) + (proj y w n k + b (ValueIdx.ix1 k))
/-- The result. -/
def answers (x : Out) (y : Rows) (w : Weights) (b : Bias) : Out := fun r => added x y w b (r 0) (r 1)

/-- Position `q` of half `h`, and a half's products. -/
def at2 (h : Fin 2) (q : Fin 2048) : Fin 4096 := ⟨h.val * 2048 + q.val, by omega⟩
def half (y : Rows) (w : Weights) (n : Fin 16384) (k : Fin 2048) (h : Fin 2) : EReal :=
  ∑ q : Fin 2048, y (ValueIdx.ix2 n (at2 h q)) * w (ValueIdx.ix2 (at2 h q) k)
theorem proj_halves (y : Rows) (w : Weights) (n : Fin 16384) (k : Fin 2048) : proj y w n k = half y w n k 0 + half y w n k 1 := by
  refine (Fin.sum_univ_add (a := 2048) (b := 2048) fun q : Fin 4096 => y (ValueIdx.ix2 n q) * w (ValueIdx.ix2 q k)).trans ?_
  refine congrArg₂ (· + ·) (Finset.sum_congr rfl fun q _ => ?_) (Finset.sum_congr rfl fun q _ => ?_)
  · have e : (Fin.castAdd 2048 q : Fin 4096) = at2 0 q := Fin.ext (by show q.val = 0 * 2048 + q.val; omega)
    exact congrArg (fun p : Fin 4096 => y (ValueIdx.ix2 n p) * w (ValueIdx.ix2 p k)) e
  · have e : (Fin.natAdd 2048 q : Fin 4096) = at2 1 q := Fin.ext (by show 2048 + q.val = 1 * 2048 + q.val; omega)
    exact congrArg (fun p : Fin 4096 => y (ValueIdx.ix2 n p) * w (ValueIdx.ix2 p k)) e

open Cert.Reference9Ideal Cert.Reference9Ideal.Gen Cert.Reference9Ideal.Read in
/-- The reference's result is the sums. -/
theorem ref_value (x : Out) (y : Rows) (w : Weights) (b : Bias) : val_main_v4 (F := Ideal) x y w b = answers x y w b := by
  refine funext fun (r : S16384x2048.Idx) => ?_
  rw [val_main_v4_apply, val_main_v3_apply, val_main_v0_apply, val_main_v2_apply, val_main_v1_apply]
  show x r + (_ + _) = added x y w b (r 0) (r 1)
  unfold added proj
  refine congrArg₂ (· + ·) (congrArg x (funext fun a => ?_)) (congrArg₂ (· + ·)
    (Finset.sum_congr rfl fun q _ => congrArg₂ (fun a b => y a * w b) (funext fun a => ?_) (funext fun a => ?_)) (congrArg b (funext fun a => ?_)))
  · match a with
    | ⟨0, _⟩ => rfl
    | ⟨1, _⟩ => rfl
  · match a with
    | ⟨0, _⟩ => rfl
    | ⟨1, _⟩ => rfl
  · match a with
    | ⟨0, _⟩ => rfl
    | ⟨1, _⟩ => rfl
  · match a with
    | ⟨0, _⟩ => rfl

end Cert.Close

namespace Cert.Kernel9Ideal.Close

open Cert.Kernel9Ideal Cert.Kernel9Ideal.Gen
open Idealize.ShloMosaic Idealize.ShloMosaic.TcCoe
open Cert.Close (Out Rows Weights Bias proj added answers at2 half proj_halves)

theorem hz : (![0, 0] : Fin 2 → Nat) = fun _ => 0 := funext fun a => by fin_cases a <;> rfl

/-! ## What the body leaves -/

/-- The products of one half. -/
theorem part_apply (y : Vec Ideal S1024x2048 .bf16) (w : Vec Ideal S2048x512 .bf16) (r : Fin 1024) (k : Fin 512) :
    k0_pay1 (F := Ideal) y w (ValueIdx.ix2 r k) = ∑ q : Fin 2048, y (ValueIdx.ix2 r q) * w (ValueIdx.ix2 q k) := by
  unfold k0_pay1
  rw [shapeCast_self, shapeCast_self]
  simp only [matmul]
  refine (Ideal.matmul_plain_apply none y w _ r k).trans ?_
  rw [show (constant S1024x512 .f32 0x00000000#32 : FVec Ideal S1024x512 .f32) (ValueIdx.ix2 r k) = 0 from Ideal.ofBits_zero_f32, zero_add]

theorem spread_apply (b : FVec Ideal S1x512 .f32) (r : Fin 1024) (k : Fin 512) :
    broadcastTo S1024x512 b broadcasts_S1x512_S1024x512 (ValueIdx.ix2 r k) = b (ValueIdx.ix2 (0 : Fin 1) k) :=
  broadcastTo_apply _ _ _ (ValueIdx.ix2 (0 : Fin 1) k) (fun a => match a with
    | ⟨0, _⟩ => rfl
    | ⟨1, _⟩ => rfl)

section Body
variable (c : Dev nD) (i : grid0.Coords) (a3 : Memref sig .tc .vmem S1024x2048 .bf16) (h3 : a3.IsWhole) (a4 : Memref sig .tc .vmem S2048x512 .bf16) (h4 : a4.IsWhole)
  (a5 : Memref sig .tc .vmem S1x512 .f32) (h5 : a5.IsWhole) (a6 : Memref sig .tc .vmem S1024x512 .f32) (h6 : a6.IsWhole) (a7 : Memref sig .tc .vmem S1024x512 .f32) (h7 : a7.IsWhole)
  (a8 : Memref sig .tc .vmem S1024x512 .f32) (h8 : a8.IsWhole)
  (y : Vec Ideal S1024x2048 .bf16) (w : Vec Ideal S2048x512 .bf16) (b : Vec Ideal S1x512 .f32) (x : Vec Ideal S1024x512 .f32)

/-- At a first half the accumulator is left with the half's products. -/
theorem scratch_eq (hc0 : cond0_0 i) (hc1 : ¬cond0_1 i) (hc2 : ¬cond0_2 i) :
    sout0_A_0 (F := Ideal) c i a3 h3 a4 h4 a5 h5 a6 h6 a7 h7 a8 h8 hc0 hc1 hc2 y w b x = k0_pay1 (F := Ideal) y w := by
  unfold sout0_A_0
  rw [View.read_writes_junk_eq_canon]
  unfold kernelRun0_A
  dsimp only
  rw [View.canon_unit_zero hz]
  simp only [View.readAt_eq_ld, h3.read_unread, h4.read_unread, View.ld_unit_zero (S := S1024x2048) hz, View.ld_unit_zero (S := S2048x512) hz]
  unfold k0_pay2
  rw [shapeCast_self]

/-- At a second half the result's block is left with the accumulator, the half's products, the bias and the residual,
    added. -/
theorem out_eq (s : Vec Ideal S1024x512 .f32) (hc0 : ¬cond0_0 i) (hc1 : ¬cond0_1 i) (hc2 : cond0_2 i) :
    out0_B_4 (F := Ideal) c i a3 h3 a4 h4 a5 h5 a6 h6 a7 h7 a8 h8 hc0 hc1 hc2 y w b x s = k0_pay4 (F := Ideal) y w s b x := by
  unfold out0_B_4
  rw [View.read_writes_junk_eq_canon]
  unfold kernelRun0_B
  dsimp only
  rw [View.canon_unit_zero hz]
  simp only [View.readAt_eq_ld, h3.read_unread, h4.read_unread, h5.read_unread, h6.read_unread, h8.read_unread, View.ld_unit_zero (S := S1024x2048) hz,
    View.ld_unit_zero (S := S2048x512) hz, View.ld_unit_zero (S := S1x512) hz, View.ld_unit_zero (S := S1024x512) hz]

end Body

variable (m : (ℓ : Loc nD τ sig) → Buf (Elt Ideal) ℓ)

/-! ## The arrays as launched, by their types -/

def aX (c : Dev nD) : Out := m ((c : Thread nD τ).loc main_arg0)
def aY (c : Dev nD) : Rows := m ((c : Thread nD τ).loc main_arg1)
def aW (c : Dev nD) : Weights := m ((c : Thread nD τ).loc main_arg2)
def aB (c : Dev nD) : Bias := m ((c : Thread nD τ).loc main_arg3)

theorem V_v0 (c : Dev nD) : V m c main_v0 = (truncf .bf16 (aY m c) bitsLt_bf16_f32 : FVec Ideal S16384x4096 .bf16) := by
  show StableHlo.after hostOps0 _ (Proc.devRef .tc main_v0) = _
  after_results
  rfl
theorem V_v1 (c : Dev nD) : V m c main_v1 = (truncf .bf16 (aW m c) bitsLt_bf16_f32 : FVec Ideal S4096x2048 .bf16) := by
  show StableHlo.after hostOps0 _ (Proc.devRef .tc main_v1) = _
  after_results
  rfl

theorem V_v2 (c : Dev nD) : V m c main_v2 = (shapeCast S1x2048 (aB m c) shapeCasts_S2048_S1x2048 : FVec Ideal S1x2048 .f32) := by
  show StableHlo.after hostOps0 _ (Proc.devRef .tc main_v2) = _
  after_results
  rfl
theorem row_apply (b : Bias) (i : S1x2048.Idx) (k : Fin 2048) (h : (i 1).val = k.val) :
    (shapeCast S1x2048 b shapeCasts_S2048_S1x2048 : FVec Ideal S1x2048 .f32) i = b (ValueIdx.ix1 k) :=
  shapeCast_apply _ _ i (ValueIdx.ix1 k) (by
    have h0 : (i 0).val < 1 := (i 0).isLt
    rw [Shape.rowMajor_val_one, Shape.rowMajor_val_two]
    show k.val = (i 0).val * 2048 + (i 1).val
    omega)

/-! ## The blocks -/

variable (c : Dev nD) (t : Fin cfg0.N)

theorem lt_N : t.val < 128 := t.isLt
theorem coord0 : (BitVec.ofNat 32 (grid0.coords t 0).val).toNat = t.val / 8 :=
  (by decide +kernel : ∀ t : Fin grid0.N, (BitVec.ofNat 32 (grid0.coords t 0).val).toNat = t.val / 8) t
theorem coord1 : (BitVec.ofNat 32 (grid0.coords t 1).val).toNat = t.val / 2 % 4 :=
  (by decide +kernel : ∀ t : Fin grid0.N, (BitVec.ofNat 32 (grid0.coords t 1).val).toNat = t.val / 2 % 4) t
theorem coord2 : (BitVec.ofNat 32 (grid0.coords t 2).val).toNat = t.val % 2 :=
  (by decide +kernel : ∀ t : Fin grid0.N, (BitVec.ofNat 32 (grid0.coords t 2).val).toNat = t.val % 2) t

theorem index0 : (cfg0.win 0).index t = ![t.val / 8, t.val % 2] := by
  show cc0_transform_0 (grid0.coords t) = _
  exact congrArg₂ (fun x y => (![x, y] : Fin 2 → ℕ)) (coord0 t) (coord2 t)
theorem index1 : (cfg0.win 1).index t = ![t.val % 2, t.val / 2 % 4] := by
  show cc0_transform_1 (grid0.coords t) = _
  exact congrArg₂ (fun x y => (![x, y] : Fin 2 → ℕ)) (coord2 t) (coord1 t)
theorem index2 : (cfg0.win 2).index t = ![0, t.val / 2 % 4] := by
  show cc0_transform_2 (grid0.coords t) = _
  exact congrArg (fun x => (![0, x] : Fin 2 → ℕ)) (coord1 t)
theorem index3 : (cfg0.win 3).index t = ![t.val / 8, t.val / 2 % 4] := by
  show cc0_transform_3 (grid0.coords t) = _
  exact congrArg₂ (fun x y => (![x, y] : Fin 2 → ℕ)) (coord0 t) (coord1 t)
theorem index4 : (cfg0.win 4).index t = ![t.val / 8, t.val / 2 % 4] := by
  show cc0_transform_4 (grid0.coords t) = _
  exact congrArg₂ (fun x y => (![x, y] : Fin 2 → ℕ)) (coord0 t) (coord1 t)

/-- Row `r` and column `k` of point `t`'s block, in the result, and the half it adds. -/
def tok (r : Fin 1024) : Fin 16384 := ⟨t.val / 8 * 1024 + r.val, by have := lt_N t; omega⟩
def col (k : Fin 512) : Fin 2048 := ⟨t.val / 2 % 4 * 512 + k.val, by omega⟩
def which : Fin 2 := ⟨t.val % 2, by omega⟩

def blk0 : FVec Ideal S1024x2048 .bf16 := iblk m c 0 t
def blk1 : FVec Ideal S2048x512 .bf16 := iblk m c 1 t
def blk2 : FVec Ideal S1x512 .f32 := iblk m c 2 t
def blk3 : FVec Ideal S1024x512 .f32 := iblk m c 3 t
theorem blk0_apply (r : Fin 1024) (q : Fin 2048) : blk0 m c t (ValueIdx.ix2 r q) = aY m c (ValueIdx.ix2 (tok t r) (at2 (which t) q)) := by
  show V m c main_v0 (((cfg0.win 0).blk t).view.emb _) = _
  rw [V_v0]
  refine congrArg (aY m c) (funext fun a => Fin.ext ((Pipeline.Window.rect_emb_val (cfg0.win 0) t _ a).trans ?_))
  rw [index0]
  match a with
  | ⟨0, _⟩ => rfl
  | ⟨1, _⟩ => rfl
theorem blk1_apply (q : Fin 2048) (k : Fin 512) : blk1 m c t (ValueIdx.ix2 q k) = aW m c (ValueIdx.ix2 (at2 (which t) q) (col t k)) := by
  show V m c main_v1 (((cfg0.win 1).blk t).view.emb _) = _
  rw [V_v1]
  refine congrArg (aW m c) (funext fun a => Fin.ext ((Pipeline.Window.rect_emb_val (cfg0.win 1) t _ a).trans ?_))
  rw [index1]
  match a with
  | ⟨0, _⟩ => rfl
  | ⟨1, _⟩ => rfl
theorem blk2_apply (k : Fin 512) : blk2 m c t (ValueIdx.ix2 (0 : Fin 1) k) = aB m c (ValueIdx.ix1 (col t k)) := by
  show V m c main_v2 (((cfg0.win 2).blk t).view.emb _) = _
  rw [V_v2]
  refine row_apply (aB m c) _ _ ((Pipeline.Window.rect_emb_val (cfg0.win 2) t _ (1 : Fin 2)).trans ?_)
  rw [index2]; rfl
theorem blk3_apply (r : Fin 1024) (k : Fin 512) : blk3 m c t (ValueIdx.ix2 r k) = aX m c (ValueIdx.ix2 (tok t r) (col t k)) := by
  show V m c main_arg0 (((cfg0.win 3).blk t).view.emb _) = _
  rw [V_main_arg0]
  refine congrArg (aX m c) (funext fun a => Fin.ext ((Pipeline.Window.rect_emb_val (cfg0.win 3) t _ a).trans ?_))
  rw [index3]
  match a with
  | ⟨0, _⟩ => rfl
  | ⟨1, _⟩ => rfl

theorem half_apply (r : Fin 1024) (k : Fin 512) :
    k0_pay1 (F := Ideal) (blk0 m c t) (blk1 m c t) (ValueIdx.ix2 r k) = half (aY m c) (aW m c) (tok t r) (col t k) (which t) :=
  (part_apply _ _ r k).trans (Finset.sum_congr rfl fun q _ => by rw [blk0_apply, blk1_apply])

/-- A tile's last point, and the one before it. -/
def prev : Fin cfg0.N := ⟨t.val - 1, Nat.lt_of_le_of_lt (Nat.sub_le _ _) t.isLt⟩

/-- What a tile's last point leaves in its block. -/
def outAt : Vec Ideal S1024x512 .f32 := k0_pay4 (F := Ideal) (blk0 m c t) (blk1 m c t) (k0_pay1 (F := Ideal) (blk0 m c (prev t)) (blk1 m c (prev t))) (blk2 m c t) (blk3 m c t)
theorem scratchAt_eq (h0 : t.val % 2 = 0) : (outsAt0 m c t.val t.isLt).2 = k0_pay1 (F := Ideal) (blk0 m c t) (blk1 m c t) := by
  rw [outsAt0_A m c t h0 (by omega)]
  dsimp only
  rw [scratch_eq]
  unfold blk0 blk1
  rfl
theorem after_eq (h : t.val % 2 = 1) : (dats m 0 c).after 4 t = outAt m c t := by
  have e : (outsAt0 m c (t.val - 1) (Nat.lt_of_le_of_lt (Nat.sub_le _ _) t.isLt)).2 = k0_pay1 (F := Ideal) (blk0 m c (prev t)) (blk1 m c (prev t)) :=
    scratchAt_eq m c (prev t) (by show (t.val - 1) % 2 = 0; omega)
  rw [after0_4, outsAt0_B m c t (by omega) h]
  dsimp only
  rw [out_eq, e]
  unfold outAt
  generalize k0_pay1 (F := Ideal) (blk0 m c (prev t)) (blk1 m c (prev t)) = s
  unfold blk0 blk1 blk2 blk3
  rfl

theorem outAt_apply (h : t.val % 2 = 1) (y : S1024x512.Idx) : outAt m c t y = added (aX m c) (aY m c) (aW m c) (aB m c) (tok t (y 0)) (col t (y 1)) := by
  obtain ⟨r, k, rfl⟩ : ∃ (r : Fin 1024) (k : Fin 512), y = ValueIdx.ix2 r k := ⟨y 0, y 1, funext fun a => match a with | ⟨0, _⟩ => rfl | ⟨1, _⟩ => rfl⟩
  have hn := lt_N t
  have e0 : tok (prev t) r = tok t r := Fin.ext (by show (t.val - 1) / 8 * 1024 + r.val = t.val / 8 * 1024 + r.val; omega)
  have e1 : col (prev t) k = col t k := Fin.ext (by show (t.val - 1) / 2 % 4 * 512 + k.val = t.val / 2 % 4 * 512 + k.val; omega)
  have e2 : which (prev t) = 0 := Fin.ext (by show (t.val - 1) % 2 = 0; omega)
  have e3 : which t = 1 := Fin.ext h
  have p0 := half_apply m c (prev t) r k
  rw [e0, e1, e2] at p0
  have p1 := half_apply m c t r k
  rw [e3] at p1
  have p2 := (spread_apply (blk2 m c t) r k).trans (blk2_apply m c t k)
  have p3 := blk3_apply m c t r k
  unfold outAt k0_pay4
  rw [shapeCast_self]
  show k0_pay1 (F := Ideal) (blk0 m c (prev t)) (blk1 m c (prev t)) (ValueIdx.ix2 r k) + k0_pay1 (F := Ideal) (blk0 m c t) (blk1 m c t) (ValueIdx.ix2 r k)
    + broadcastTo S1024x512 (blk2 m c t) broadcasts_S1x512_S1024x512 (ValueIdx.ix2 r k) + blk3 m c t (ValueIdx.ix2 r k)
    = added (aX m c) (aY m c) (aW m c) (aB m c) (tok t r) (col t k)
  rw [p0, p1, p2, p3]
  unfold added
  rw [proj_halves, add_comm]

/-! ## The result array -/

theorem result_eq : (dats m 0 c).arrAt 4 cfg0.N = answers (aX m c) (aY m c) (aW m c) (aB m c) := by
  refine Pipeline.Dat.arrAt_eq_of_emb (dats m 0 c) 4 _ (fun t hfl y => ?_) fun i => ?_
  · have ht : t.val % 2 = 1 := (flush0_4 t).mp hfl
    rw [after_eq m c t ht]
    have hf : ∀ z : S1024x512.Idx, outAt m c t z = added (aX m c) (aY m c) (aW m c) (aB m c) (tok t (z 0)) (col t (z 1)) := outAt_apply m c t ht
    generalize outAt m c t = f at hf ⊢
    refine (hf y).trans ?_
    have e0 : (((cfg0.win 4).blk t).view.emb y (0 : Fin 2)).val = t.val / 8 * 1024 + (y (0 : Fin 2)).val := by
      refine (Pipeline.Window.rect_emb_val (cfg0.win 4) t y (0 : Fin 2)).trans ?_
      rw [index4]; rfl
    have e1 : (((cfg0.win 4).blk t).view.emb y (1 : Fin 2)).val = t.val / 2 % 4 * 512 + (y (1 : Fin 2)).val := by
      refine (Pipeline.Window.rect_emb_val (cfg0.win 4) t y (1 : Fin 2)).trans ?_
      rw [index4]; rfl
    unfold answers
    exact congrArg₂ (added (aX m c) (aY m c) (aW m c) (aB m c)) (Fin.ext e0.symm) (Fin.ext e1.symm)
  · have i0 : (i (0 : Fin 2)).val < 16384 := (i (0 : Fin 2)).isLt
    have i1 : (i (1 : Fin 2)).val < 2048 := (i (1 : Fin 2)).isLt
    have hN : 8 * ((i (0 : Fin 2)).val / 1024) + 2 * ((i (1 : Fin 2)).val / 512) + 1 < cfg0.N := by show _ < 128; omega
    refine ⟨⟨8 * ((i (0 : Fin 2)).val / 1024) + 2 * ((i (1 : Fin 2)).val / 512) + 1, hN⟩, (flush0_4 _).mpr (by show (8 * _ + 2 * _ + 1) % 2 = 1; omega), ?_⟩
    refine (Pipeline.Window.emb_mem_blk_iff (cfg0.win 4) _ i).mpr fun a => ?_
    rw [index4]
    match a with
    | ⟨0, _⟩ =>
      show (8 * ((i (0 : Fin 2)).val / 1024) + 2 * ((i (1 : Fin 2)).val / 512) + 1) / 8 * 1024 ≤ (i (0 : Fin 2)).val
        ∧ (i (0 : Fin 2)).val < (8 * ((i (0 : Fin 2)).val / 1024) + 2 * ((i (1 : Fin 2)).val / 512) + 1) / 8 * 1024 + 1024
      omega
    | ⟨1, _⟩ =>
      show (8 * ((i (0 : Fin 2)).val / 1024) + 2 * ((i (1 : Fin 2)).val / 512) + 1) / 2 % 4 * 512 ≤ (i (1 : Fin 2)).val
        ∧ (i (1 : Fin 2)).val < (8 * ((i (0 : Fin 2)).val / 1024) + 2 * ((i (1 : Fin 2)).val / 512) + 1) / 2 % 4 * 512 + 512
      omega

/-- The run: the result is the sums, and the operands are as they began. -/
theorem run (ρ : Dev nD → PrngReg) : θ_run defs (onTc (τ := τ) (main (F := Ideal))) ⟨m, fun _ => 0, ρ⟩ (fun r => ∀ c : Dev nD,
      r.2.mem ((c.tc : Thread nD τ).loc main_v3) = answers (aX m c) (aY m c) (aW m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (result_eq m c),
      ((h c).1 3).trans (((dats m 0 c).arrAt_in 3 rfl _).trans ((A_eq m c 3).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel9Ideal.Close

end
-- ==== Proof.Point.Value.lean ====
/-
  The convolution's second pointwise projection with exact arithmetic: each entry of the result is the residual's plus a row by a
  column of the weights, and the bias.
-/
module

public import proofs.«01_k».proof.Proof.Gen.Kernel10Ideal
public import proofs.«01_k».proof.Proof.Gen.Kernel10Ideal.Frame
public import proofs.«01_k».proof.Proof.Gen.Reference10Ideal.Read
public import Idealize.ShloMosaic.Lib.MatmulPlain
public import Idealize.ShloMosaic.Lib.ValueIdx
public import Idealize.ShloMosaic.Lib.Pipeline.Value
public import Idealize.ShloMosaic.Lib.Pipeline.ValueKit.Geometry
public import Idealize.ShloMosaic.PureOps.Ideal.Laws

@[expose] public section

set_option maxRecDepth 16384

noncomputable section

namespace Cert.Point

open Idealize.ShloMosaic

/-- The residual, the rows projected and the result, the weights and their bias. -/
abbrev Rows : Type := FVec Ideal ⟨2, ![16384, 2048]⟩ .f32
abbrev Weights : Type := FVec Ideal ⟨2, ![2048, 2048]⟩ .f32
abbrev Bias : Type := FVec Ideal ⟨1, ![2048]⟩ .f32

/-- Row `n` by column `k` of the weights, and the bias. -/
def proj (y : Rows) (w : Weights) (b : Bias) (n : Fin 16384) (k : Fin 2048) : EReal :=
  (∑ q : Fin 2048, y (ValueIdx.ix2 n q) * w (ValueIdx.ix2 q k)) + b (ValueIdx.ix1 k)
def added (x y : Rows) (w : Weights) (b : Bias) (n : Fin 16384) (k : Fin 2048) : EReal := x (ValueIdx.ix2 n k) + proj y w b n k
/-- The result. -/
def answers (x y : Rows) (w : Weights) (b : Bias) : Rows := fun r => added x y w b (r 0) (r 1)

open Cert.Reference10Ideal Cert.Reference10Ideal.Gen Cert.Reference10Ideal.Read in
/-- The reference's result is the sums. -/
theorem ref_value (x y : Rows) (w : Weights) (b : Bias) : val_main_v4 (F := Ideal) x y w b = answers x y w b := by
  refine funext fun (r : S16384x2048.Idx) => ?_
  rw [val_main_v4_apply, val_main_v3_apply, val_main_v0_apply, val_main_v2_apply, val_main_v1_apply]
  show x r + (_ + _) = added x y w b (r 0) (r 1)
  unfold added proj
  refine congrArg₂ (· + ·) (congrArg x (funext fun a => ?_)) (congrArg₂ (· + ·)
    (Finset.sum_congr rfl fun q _ => congrArg₂ (fun a b => y a * w b) (funext fun a => ?_) (funext fun a => ?_)) (congrArg b (funext fun a => ?_)))
  · match a with
    | ⟨0, _⟩ => rfl
    | ⟨1, _⟩ => rfl
  · match a with
    | ⟨0, _⟩ => rfl
    | ⟨1, _⟩ => rfl
  · match a with
    | ⟨0, _⟩ => rfl
    | ⟨1, _⟩ => rfl
  · match a with
    | ⟨0, _⟩ => rfl

end Cert.Point

namespace Cert.Kernel10Ideal.Point

open Cert.Kernel10Ideal Cert.Kernel10Ideal.Gen
open Idealize.ShloMosaic Idealize.ShloMosaic.TcCoe
open Cert.Point (Rows Weights Bias proj added answers)

theorem hz : (![0, 0] : Fin 2 → Nat) = fun _ => 0 := funext fun a => by fin_cases a <;> rfl

theorem dot_apply (x : FVec Ideal S1024x2048 .bf16) (w : FVec Ideal S2048x512 .bf16) (r : Fin 1024) (k : Fin 512) :
    matmul dot_S1024x2048_S2048x512_S1024x512_1_0_0_1_n_n none x w (constant S1024x512 .f32 0x00000000#32) (ValueIdx.ix2 r k)
      = ∑ q : Fin 2048, x (ValueIdx.ix2 r q) * w (ValueIdx.ix2 q k) := by
  simp only [matmul]
  refine (Ideal.matmul_plain_apply none x w _ r k).trans ?_
  rw [show (constant S1024x512 .f32 0x00000000#32 : FVec Ideal S1024x512 .f32) (ValueIdx.ix2 r k) = 0 from Ideal.ofBits_zero_f32, zero_add]
theorem spread_apply (b : FVec Ideal S1x512 .f32) (r : Fin 1024) (k : Fin 512) :
    broadcastTo S1024x512 b broadcasts_S1x512_S1024x512 (ValueIdx.ix2 r k) = b (ValueIdx.ix2 (0 : Fin 1) k) :=
  broadcastTo_apply _ _ _ (ValueIdx.ix2 (0 : Fin 1) k) (fun a => match a with
    | ⟨0, _⟩ => rfl
    | ⟨1, _⟩ => rfl)

/-- One block of the result. -/
theorem out_apply (y : Vec Ideal S1024x2048 .bf16) (w : Vec Ideal S2048x512 .bf16) (b : Vec Ideal S1x512 .f32) (x : Vec Ideal S1024x512 .f32) (r : Fin 1024) (k : Fin 512) :
    out0_4 (F := Ideal) y w b x (ValueIdx.ix2 r k)
      = (∑ q : Fin 2048, y (ValueIdx.ix2 r q) * w (ValueIdx.ix2 q k)) + b (ValueIdx.ix2 (0 : Fin 1) k) + x (ValueIdx.ix2 r k) := by
  unfold out0_4
  rw [View.canon_unit_zero hz, View.ld_unit_zero (S := S1024x2048) hz, View.ld_unit_zero (S := S2048x512) hz, View.ld_unit_zero (S := S1x512) hz,
    View.ld_unit_zero (S := S1024x512) hz]
  unfold k0_pay1
  rw [shapeCast_self, shapeCast_self, shapeCast_self]
  rw [← dot_apply y w r k, ← spread_apply b r k]
  rfl

variable (m : (ℓ : Loc nD τ sig) → Buf (Elt Ideal) ℓ)

/-! ## The arrays as launched, by their types -/

def aX (c : Dev nD) : Rows := m ((c : Thread nD τ).loc main_arg0)
def aY (c : Dev nD) : Rows := m ((c : Thread nD τ).loc main_arg1)
def aW (c : Dev nD) : Weights := m ((c : Thread nD τ).loc main_arg2)
def aB (c : Dev nD) : Bias := m ((c : Thread nD τ).loc main_arg3)

theorem V_v0 (c : Dev nD) : V m c main_v0 = (truncf .bf16 (aY m c) bitsLt_bf16_f32 : FVec Ideal S16384x2048 .bf16) := by
  show StableHlo.after hostOps0 _ (Proc.devRef .tc main_v0) = _
  after_results
  rfl
theorem V_v1 (c : Dev nD) : V m c main_v1 = (truncf .bf16 (aW m c) bitsLt_bf16_f32 : FVec Ideal S2048x2048 .bf16) := by
  show StableHlo.after hostOps0 _ (Proc.devRef .tc main_v1) = _
  after_results
  rfl
theorem V_v2 (c : Dev nD) : V m c main_v2 = (shapeCast S1x2048 (aB m c) shapeCasts_S2048_S1x2048 : FVec Ideal S1x2048 .f32) := by
  show StableHlo.after hostOps0 _ (Proc.devRef .tc main_v2) = _
  after_results
  rfl
theorem row_apply (b : Bias) (i : S1x2048.Idx) (k : Fin 2048) (h : (i 1).val = k.val) :
    (shapeCast S1x2048 b shapeCasts_S2048_S1x2048 : FVec Ideal S1x2048 .f32) i = b (ValueIdx.ix1 k) :=
  shapeCast_apply _ _ i (ValueIdx.ix1 k) (by
    have h0 : (i 0).val < 1 := (i 0).isLt
    rw [Shape.rowMajor_val_one, Shape.rowMajor_val_two]
    show k.val = (i 0).val * 2048 + (i 1).val
    omega)

/-! ## The blocks -/

variable (c : Dev nD) (t : Fin cfg0.N)

theorem lt_N : t.val < 64 := t.isLt
theorem coord0 : (BitVec.ofNat 32 (grid0.coords t 0).val).toNat = t.val / 4 :=
  (by decide +kernel : ∀ t : Fin grid0.N, (BitVec.ofNat 32 (grid0.coords t 0).val).toNat = t.val / 4) t
theorem coord1 : (BitVec.ofNat 32 (grid0.coords t 1).val).toNat = t.val % 4 :=
  (by decide +kernel : ∀ t : Fin grid0.N, (BitVec.ofNat 32 (grid0.coords t 1).val).toNat = t.val % 4) t
theorem coord2 : (BitVec.ofNat 32 (grid0.coords t 2).val).toNat = 0 :=
  (by decide +kernel : ∀ t : Fin grid0.N, (BitVec.ofNat 32 (grid0.coords t 2).val).toNat = 0) t

theorem index0 : (cfg0.win 0).index t = ![t.val / 4, 0] := by
  show cc0_transform_0 (grid0.coords t) = _
  exact congrArg₂ (fun x y => (![x, y] : Fin 2 → ℕ)) (coord0 t) (coord2 t)
theorem index1 : (cfg0.win 1).index t = ![0, t.val % 4] := by
  show cc0_transform_1 (grid0.coords t) = _
  exact congrArg₂ (fun x y => (![x, y] : Fin 2 → ℕ)) (coord2 t) (coord1 t)
theorem index2 : (cfg0.win 2).index t = ![0, t.val % 4] := by
  show cc0_transform_2 (grid0.coords t) = _
  exact congrArg (fun x => (![0, x] : Fin 2 → ℕ)) (coord1 t)
theorem index3 : (cfg0.win 3).index t = ![t.val / 4, t.val % 4] := by
  show cc0_transform_3 (grid0.coords t) = _
  exact congrArg₂ (fun x y => (![x, y] : Fin 2 → ℕ)) (coord0 t) (coord1 t)
theorem index4 : (cfg0.win 4).index t = ![t.val / 4, t.val % 4] := by
  show cc0_transform_4 (grid0.coords t) = _
  exact congrArg₂ (fun x y => (![x, y] : Fin 2 → ℕ)) (coord0 t) (coord1 t)

/-- Row `r` and column `k` of point `t`'s block, in the result. -/
def tok (r : Fin 1024) : Fin 16384 := ⟨t.val / 4 * 1024 + r.val, by have := lt_N t; omega⟩
def col (k : Fin 512) : Fin 2048 := ⟨t.val % 4 * 512 + k.val, by omega⟩

def blk0 : FVec Ideal S1024x2048 .bf16 := iblk m c 0 t
def blk1 : FVec Ideal S2048x512 .bf16 := iblk m c 1 t
def blk2 : FVec Ideal S1x512 .f32 := iblk m c 2 t
def blk3 : FVec Ideal S1024x512 .f32 := iblk m c 3 t
theorem blk0_apply (r : Fin 1024) (q : Fin 2048) : blk0 m c t (ValueIdx.ix2 r q) = aY m c (ValueIdx.ix2 (tok t r) q) := by
  show V m c main_v0 (((cfg0.win 0).blk t).view.emb _) = _
  rw [V_v0]
  refine congrArg (aY m c) (funext fun a => Fin.ext ((Pipeline.Window.rect_emb_val (cfg0.win 0) t _ a).trans ?_))
  rw [index0]
  match a with
  | ⟨0, _⟩ => rfl
  | ⟨1, _⟩ => show 0 * 2048 + q.val = q.val; omega
theorem blk1_apply (q : Fin 2048) (k : Fin 512) : blk1 m c t (ValueIdx.ix2 q k) = aW m c (ValueIdx.ix2 q (col t k)) := by
  show V m c main_v1 (((cfg0.win 1).blk t).view.emb _) = _
  rw [V_v1]
  refine congrArg (aW m c) (funext fun a => Fin.ext ((Pipeline.Window.rect_emb_val (cfg0.win 1) t _ a).trans ?_))
  rw [index1]
  match a with
  | ⟨0, _⟩ => show 0 * 2048 + q.val = q.val; omega
  | ⟨1, _⟩ => rfl
theorem blk2_apply (k : Fin 512) : blk2 m c t (ValueIdx.ix2 (0 : Fin 1) k) = aB m c (ValueIdx.ix1 (col t k)) := by
  show V m c main_v2 (((cfg0.win 2).blk t).view.emb _) = _
  rw [V_v2]
  refine row_apply (aB m c) _ _ ((Pipeline.Window.rect_emb_val (cfg0.win 2) t _ (1 : Fin 2)).trans ?_)
  rw [index2]; rfl

theorem blk3_apply (r : Fin 1024) (k : Fin 512) : blk3 m c t (ValueIdx.ix2 r k) = aX m c (ValueIdx.ix2 (tok t r) (col t k)) := by
  show V m c main_arg0 (((cfg0.win 3).blk t).view.emb _) = _
  rw [V_main_arg0]
  refine congrArg (aX m c) (funext fun a => Fin.ext ((Pipeline.Window.rect_emb_val (cfg0.win 3) t _ a).trans ?_))
  rw [index3]
  match a with
  | ⟨0, _⟩ => rfl
  | ⟨1, _⟩ => rfl

/-- What point `t` leaves in its block. -/
def outAt : Vec Ideal S1024x512 .f32 := out0_4 (F := Ideal) (blk0 m c t) (blk1 m c t) (blk2 m c t) (blk3 m c t)
theorem after_eq : (dats m 0 c).after 4 t = outAt m c t := after0_4 m c t
theorem outAt_apply (y : S1024x512.Idx) : outAt m c t y = added (aX m c) (aY m c) (aW m c) (aB m c) (tok t (y 0)) (col t (y 1)) := by
  obtain ⟨r, k, rfl⟩ : ∃ (r : Fin 1024) (k : Fin 512), y = ValueIdx.ix2 r k := ⟨y 0, y 1, funext fun a => match a with | ⟨0, _⟩ => rfl | ⟨1, _⟩ => rfl⟩
  unfold outAt
  refine (out_apply _ _ _ _ r k).trans ?_
  rw [blk2_apply, blk3_apply, add_comm]
  have e1 : ∑ q : Fin 2048, blk0 m c t (ValueIdx.ix2 r q) * blk1 m c t (ValueIdx.ix2 q k)
      = ∑ q : Fin 2048, aY m c (ValueIdx.ix2 (tok t r) q) * aW m c (ValueIdx.ix2 q (col t k)) :=
    Finset.sum_congr rfl fun q _ => by rw [blk0_apply, blk1_apply]
  exact congrArg (fun a => aX m c (ValueIdx.ix2 (tok t r) (col t k)) + (a + aB m c (ValueIdx.ix1 (col t k)))) e1

/-! ## The result array -/

theorem result_eq : (dats m 0 c).arrAt 4 cfg0.N = answers (aX m c) (aY m c) (aW m c) (aB m c) := by
  refine Pipeline.Dat.arrAt_eq_of_emb (dats m 0 c) 4 _ (fun t _ y => ?_) fun i => ?_
  · rw [after_eq]
    have hf : ∀ z : S1024x512.Idx, outAt m c t z = added (aX m c) (aY m c) (aW m c) (aB m c) (tok t (z 0)) (col t (z 1)) := outAt_apply m c t
    generalize outAt m c t = f at hf ⊢
    refine (hf y).trans ?_
    have e0 : (((cfg0.win 4).blk t).view.emb y (0 : Fin 2)).val = t.val / 4 * 1024 + (y (0 : Fin 2)).val := by
      refine (Pipeline.Window.rect_emb_val (cfg0.win 4) t y (0 : Fin 2)).trans ?_
      rw [index4]; rfl
    have e1 : (((cfg0.win 4).blk t).view.emb y (1 : Fin 2)).val = t.val % 4 * 512 + (y (1 : Fin 2)).val := by
      refine (Pipeline.Window.rect_emb_val (cfg0.win 4) t y (1 : Fin 2)).trans ?_
      rw [index4]; rfl
    unfold answers
    exact congrArg₂ (added (aX m c) (aY m c) (aW m c) (aB m c)) (Fin.ext e0.symm) (Fin.ext e1.symm)
  · have i0 : (i (0 : Fin 2)).val < 16384 := (i (0 : Fin 2)).isLt
    have i1 : (i (1 : Fin 2)).val < 2048 := (i (1 : Fin 2)).isLt
    have hN : 4 * ((i (0 : Fin 2)).val / 1024) + (i (1 : Fin 2)).val / 512 < cfg0.N := by show _ < 64; omega
    refine ⟨⟨4 * ((i (0 : Fin 2)).val / 1024) + (i (1 : Fin 2)).val / 512, hN⟩, flush0_4 _, ?_⟩
    refine (Pipeline.Window.emb_mem_blk_iff (cfg0.win 4) _ i).mpr fun a => ?_
    rw [index4]
    match a with
    | ⟨0, _⟩ =>
      show (4 * ((i (0 : Fin 2)).val / 1024) + (i (1 : Fin 2)).val / 512) / 4 * 1024 ≤ (i (0 : Fin 2)).val
        ∧ (i (0 : Fin 2)).val < (4 * ((i (0 : Fin 2)).val / 1024) + (i (1 : Fin 2)).val / 512) / 4 * 1024 + 1024
      omega
    | ⟨1, _⟩ =>
      show (4 * ((i (0 : Fin 2)).val / 1024) + (i (1 : Fin 2)).val / 512) % 4 * 512 ≤ (i (1 : Fin 2)).val
        ∧ (i (1 : Fin 2)).val < (4 * ((i (0 : Fin 2)).val / 1024) + (i (1 : Fin 2)).val / 512) % 4 * 512 + 512
      omega

/-- The run: the result is the sums, and the operands are as they began. -/
theorem run (ρ : Dev nD → PrngReg) : θ_run defs (onTc (τ := τ) (main (F := Ideal))) ⟨m, fun _ => 0, ρ⟩ (fun r => ∀ c : Dev nD,
      r.2.mem ((c.tc : Thread nD τ).loc main_v3) = answers (aX m c) (aY m c) (aW m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (result_eq m c),
      ((h c).1 3).trans (((dats m 0 c).arrAt_in 3 rfl _).trans ((A_eq m c 3).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel10Ideal.Point

end
-- ==== Proof.Spatial.Value.lean ====
/-
  The gating unit's spatial mix with exact arithmetic: within each chunk of 128 tokens, each entry of the result is the left half's,
  times a causal mix of the chunk's normalised right halves, and the mix's bias.
-/
module

public import proofs.«01_k».proof.Proof.Gen.Kernel11Ideal
public import proofs.«01_k».proof.Proof.Gen.Kernel11Ideal.Frame
public import proofs.«01_k».proof.Proof.Gen.Reference11Ideal.Read
public import Idealize.ShloMosaic.Lib.MatmulPlain
public import Idealize.ShloMosaic.Lib.ValueIdx
public import Idealize.ShloMosaic.Lib.Pipeline.Value
public import Idealize.ShloMosaic.Lib.Pipeline.ValueKit.Geometry
public import Idealize.ShloMosaic.Lib.Pipeline.ValueKit.Tiles
public import Idealize.ShloMosaic.PureOps.Ideal.Laws

@[expose] public section

set_option maxRecDepth 16384

noncomputable section

namespace Cert.Spatial

open Idealize.ShloMosaic

/-- The projected tokens (a left and a right half), a row of the normalisation's scale or shift, the mixing weights and their bias
    by group, and the result. -/
abbrev Rows : Type := FVec Ideal ⟨2, ![16384, 8192]⟩ .f32
abbrev Row : Type := FVec Ideal ⟨1, ![4096]⟩ .f32
abbrev Mix : Type := FVec Ideal ⟨3, ![16, 128, 128]⟩ .f32
abbrev Bias : Type := FVec Ideal ⟨2, ![16, 128]⟩ .f32
abbrev Out : Type := FVec Ideal ⟨2, ![16384, 4096]⟩ .bf16

/-- A row's mean, the reciprocal root of its variance and a small constant, and its normalised entry `j`, scaled and shifted. -/
def mean (v : Fin 4096 → EReal) : EReal := Ideal.div (∑ k : Fin 4096, v k) (Ideal.ofBits .f32 0x45800000#32)
def scale (v : Fin 4096 → EReal) : EReal :=
  Ideal.rsqrt (Ideal.div (∑ k : Fin 4096, (v k - mean v) * (v k - mean v)) (Ideal.ofBits .f32 0x45800000#32) + Ideal.ofBits .f32 0x3727C5AC#32)
def normed (v : Fin 4096 → EReal) (g b : EReal) (j : Fin 4096) : EReal := (v j - mean v) * scale v * g + b

/-- Whether position `r` of a chunk reads position `s`: `s` is no later. -/
def causal (r s : Fin 128) : BitVec 1 := IntOp.cmpi .sle (BitVec.ofNat 32 s.val) (BitVec.ofNat 32 r.val)
/-- A weight where the position is read, zero elsewhere. -/
def kept (r s : Fin 128) (z : EReal) : EReal := Scalar.select (causal r s) z (Ideal.ofBits .f32 0x00000000#32)

/-- Column `j` of the right half, and of the left; a column's group; a token's position in its chunk, and the chunk's token `s`. -/
def right (j : Fin 4096) : Fin 8192 := ⟨4096 + j.val, by omega⟩
def left (j : Fin 4096) : Fin 8192 := ⟨j.val, by omega⟩
def grp (k : Fin 4096) : Fin 16 := ⟨k.val / 256, by omega⟩
def pos (n : Fin 16384) : Fin 128 := ⟨n.val % 128, by omega⟩
def mate (n : Fin 16384) (s : Fin 128) : Fin 16384 := ⟨n.val / 128 * 128 + s.val, by omega⟩

/-- Entry `(n, k)` of the result. -/
def gated (p : Rows) (lg lb : Row) (w : Mix) (b : Bias) (n : Fin 16384) (k : Fin 4096) : EReal :=
  p (ValueIdx.ix2 n (left k)) * ((∑ s : Fin 128, kept (pos n) s (w (ValueIdx.ix3 (grp k) (pos n) s))
      * normed (fun j => p (ValueIdx.ix2 (mate n s) (right j))) (lg (ValueIdx.ix1 k)) (lb (ValueIdx.ix1 k)) k) + b (ValueIdx.ix2 (grp k) (pos n)))
/-- The result. -/
def answers (p : Rows) (lg lb : Row) (w : Mix) (b : Bias) : Out := fun r => gated p lg lb w b (r 0) (r 1)

section Reference
open Cert.Reference11Ideal Cert.Reference11Ideal.Gen Cert.Reference11Ideal.Read

/-- Token `t` of sequence `b`. -/
def token (b : Fin 4) (t : Fin 4096) : Fin 16384 := ⟨b.val * 4096 + t.val, by omega⟩
def half (p : Rows) (b : Fin 4) (t : Fin 4096) : Fin 4096 → EReal := fun j => p (ValueIdx.ix2 (token b t) (right j))

theorem ref_right (p : Rows) (i : S4x4096x4096.Idx) : val_main_v2 (F := Ideal) p i = half p (i 0) (i 1) (i 2) := by
  rw [val_main_v2_apply, val_main_v0_apply]
  have h0 : (i 0).val < 4 := (i 0).isLt
  have h1 : (i 1).val < 4096 := (i 1).isLt
  have h2 : (i 2).val < 4096 := (i 2).isLt
  refine congrArg p (funext fun a => Fin.ext ?_)
  match a with
  | ⟨0, _⟩ => show (((i 0).val * 4096 + (i 1).val) * 8192 + (4096 + (i 2).val)) / 8192 = (i 0).val * 4096 + (i 1).val; omega
  | ⟨1, _⟩ => show (((i 0).val * 4096 + (i 1).val) * 8192 + (4096 + (i 2).val)) % 8192 = 4096 + (i 2).val; omega
theorem ref_left (p : Rows) (i : S4x4096x4096.Idx) : val_main_v1 (F := Ideal) p i = p (ValueIdx.ix2 (token (i 0) (i 1)) (left (i 2))) := by
  rw [val_main_v1_apply, val_main_v0_apply]
  have h0 : (i 0).val < 4 := (i 0).isLt
  have h1 : (i 1).val < 4096 := (i 1).isLt
  have h2 : (i 2).val < 4096 := (i 2).isLt
  refine congrArg p (funext fun a => Fin.ext ?_)
  match a with
  | ⟨0, _⟩ => show (((i 0).val * 4096 + (i 1).val) * 8192 + (i 2).val) / 8192 = (i 0).val * 4096 + (i 1).val; omega
  | ⟨1, _⟩ => show (((i 0).val * 4096 + (i 1).val) * 8192 + (i 2).val) % 8192 = (i 2).val; omega
theorem ref_mean (p : Rows) (i : S4x4096x1.Idx) : val_main_v6 (F := Ideal) p i = mean (half p (i 0) (i 1)) := by
  rw [val_main_v6_apply, val_main_v4_apply, val_main_v3_apply, val_main_v5_apply, val_main_cst_0_apply, val_main_cst_apply]
  show Ideal.div (Ideal.ofBits .f32 0x00000000#32 + _) _ = _
  rw [Ideal.ofBits_zero_f32, zero_add]
  exact congrArg (fun z => Ideal.div z (Ideal.ofBits .f32 0x45800000#32)) (Finset.sum_congr rfl fun k _ => ref_right p _)
theorem ref_centred (p : Rows) (i : S4x4096x4096.Idx) : val_main_v8 (F := Ideal) p i = half p (i 0) (i 1) (i 2) - mean (half p (i 0) (i 1)) := by
  rw [val_main_v8_apply, val_main_v7_apply, ref_mean, ref_right]
  rfl
theorem ref_scale (p : Rows) (i : S4x4096x1.Idx) : val_main_v16 (F := Ideal) p i = scale (half p (i 0) (i 1)) := by
  rw [val_main_v16_apply, val_main_v15_apply, val_main_v13_apply, val_main_v11_apply, val_main_v10_apply, val_main_v12_apply,
    val_main_cst_2_apply, val_main_cst_1_apply, val_main_v14_apply, val_main_cst_3_apply]
  show Ideal.rsqrt (Ideal.div (Ideal.ofBits .f32 0x00000000#32 + _) _ + _) = _
  rw [Ideal.ofBits_zero_f32, zero_add]
  refine congrArg (fun z => Ideal.rsqrt (Ideal.div z (Ideal.ofBits .f32 0x45800000#32) + Ideal.ofBits .f32 0x3727C5AC#32)) (Finset.sum_congr rfl fun k _ => ?_)
  rw [val_main_v9_apply, ref_centred]
  rfl
theorem ref_normed (p : Rows) (lg lb : Row) (i : S4x4096x4096.Idx) :
    val_main_v24 (F := Ideal) p lg lb i = normed (half p (i 0) (i 1)) (lg (ValueIdx.ix1 (i 2))) (lb (ValueIdx.ix1 (i 2))) (i 2) := by
  rw [val_main_v24_apply, val_main_v21_apply, val_main_v18_apply, val_main_v17_apply, val_main_v20_apply, val_main_v19_apply,
    val_main_v23_apply, val_main_v22_apply, ref_centred, ref_scale]
  unfold normed
  refine congrArg₂ (fun a b => (half p (i 0) (i 1) (i 2) - mean (half p (i 0) (i 1))) * scale (half p (i 0) (i 1)) * lg a + lb b) (funext fun a => ?_) (funext fun a => ?_)
  · match a with
    | ⟨0, _⟩ => rfl
  · match a with
    | ⟨0, _⟩ => rfl
theorem select_bit (c : BitVec 1) : Scalar.select c 1#1 0#1 = c := by revert c; decide
theorem ref_kept (w : Mix) (i : S16x128x128.Idx) : val_main_v28 (F := Ideal) w i = kept (i 1) (i 2) (w i) := by
  rw [val_main_v28_apply, val_main_call1_v1_apply, val_main_v27_apply, val_main_call0_v4_apply, val_main_call0_v2_apply, val_main_call0_v0_apply,
    val_main_call0_v1_apply, val_main_call0_c_apply, val_main_call0_v3_apply, val_main_v26_apply, val_main_c_apply, val_main_call0_v5_apply,
    val_main_call0_c_0_apply, val_main_call1_v2_apply, val_main_call1_v0_apply, val_main_cst_4_apply, select_bit]
  have e : IntOp.addi (BitVec.ofNat 32 (i 1).val) 0#32 = BitVec.ofNat 32 (i 1).val := BitVec.add_zero _
  show Scalar.select (IntOp.cmpi .sge (IntOp.addi (BitVec.ofNat 32 (i 1).val) 0#32) (BitVec.ofNat 32 (i 2).val)) _ _ = _
  rw [e]
  rfl
/-- The mix of group `g` at position `t` of chunk `q`, column `k` of the group. -/
theorem ref_mix (p : Rows) (lg lb : Row) (w : Mix) (b : Fin 4) (q : Fin 32) (t : Fin 128) (g : Fin 16) (k : Fin 256) :
    val_main_v30 (F := Ideal) p lg lb w (ValueIdx.ix5 b q t g k)
      = ∑ s : Fin 128, kept t s (w (ValueIdx.ix3 g t s)) * normed (half p b ⟨q.val * 128 + s.val, by omega⟩)
          (lg (ValueIdx.ix1 ⟨g.val * 256 + k.val, by omega⟩)) (lb (ValueIdx.ix1 ⟨g.val * 256 + k.val, by omega⟩)) ⟨g.val * 256 + k.val, by omega⟩ := by
  rw [val_main_v30_apply, val_main_v29_apply]
  refine Finset.sum_congr rfl fun s _ => ?_
  rw [val_main_v25_apply]
  have e1 : idx_main_v25 (lidx_main_v29 (idx_main_v30 (ValueIdx.ix5 b q t g k)) s)
      = ValueIdx.ix3 b (⟨q.val * 128 + s.val, by omega⟩ : Fin 4096) (⟨g.val * 256 + k.val, by omega⟩ : Fin 4096) := funext fun a => Fin.ext (by
    match a with
    | ⟨0, _⟩ => show ((((b.val * 32 + q.val) * 128 + s.val) * 16 + g.val) * 256 + k.val) / 16777216 = b.val; omega
    | ⟨1, _⟩ => show ((((b.val * 32 + q.val) * 128 + s.val) * 16 + g.val) * 256 + k.val) / 4096 % 4096 = q.val * 128 + s.val; omega
    | ⟨2, _⟩ => show ((((b.val * 32 + q.val) * 128 + s.val) * 16 + g.val) * 256 + k.val) % 4096 = g.val * 256 + k.val; omega)
  have e2 : ridx_main_v29 (idx_main_v30 (ValueIdx.ix5 b q t g k)) s = ValueIdx.ix3 g t s := funext fun a => by
    match a with
    | ⟨0, _⟩ => rfl
    | ⟨1, _⟩ => rfl
    | ⟨2, _⟩ => rfl
  rw [e1, e2, ref_normed, ref_kept, mul_comm]
theorem ref_bias (b : Bias) (i : S4x32x128x16x256.Idx) : val_main_v33 (F := Ideal) b i = b (ValueIdx.ix2 (i 3) (i 2)) := by
  rw [val_main_v33_apply, val_main_v32_apply, val_main_v31_apply]
  refine congrArg b (funext fun a => ?_)
  match a with
  | ⟨0, _⟩ => rfl
  | ⟨1, _⟩ => rfl
/-- The reference's result. -/
theorem ref_value (p : Rows) (lg lb : Row) (w : Mix) (b : Bias) : val_main_v38 (F := Ideal) p lg lb w b = answers p lg lb w b := by
  refine funext fun (r : S16384x4096.Idx) => ?_
  obtain ⟨n, k, rfl⟩ : ∃ (n : Fin 16384) (k : Fin 4096), r = ValueIdx.ix2 n k := ⟨r 0, r 1, funext fun a => match a with | ⟨0, _⟩ => rfl | ⟨1, _⟩ => rfl⟩
  have hn := n.isLt
  have hk := k.isLt
  have e1 : idx_main_v37 (ValueIdx.ix2 n k) = ValueIdx.ix3 (⟨n.val / 4096, by omega⟩ : Fin 4) (⟨n.val % 4096, by omega⟩ : Fin 4096) k := funext fun a => Fin.ext (by
    match a with
    | ⟨0, _⟩ => show (n.val * 4096 + k.val) / 16777216 = n.val / 4096; omega
    | ⟨1, _⟩ => show (n.val * 4096 + k.val) / 4096 % 4096 = n.val % 4096; omega
    | ⟨2, _⟩ => show (n.val * 4096 + k.val) % 4096 = k.val; omega)
  have e2 : idx_main_v35 (ValueIdx.ix3 (⟨n.val / 4096, by omega⟩ : Fin 4) (⟨n.val % 4096, by omega⟩ : Fin 4096) k)
      = ValueIdx.ix5 (⟨n.val / 4096, by omega⟩ : Fin 4) (⟨n.val % 4096 / 128, by omega⟩ : Fin 32) (pos n) (grp k) (⟨k.val % 256, by omega⟩ : Fin 256) := funext fun a => Fin.ext (by
    match a with
    | ⟨0, _⟩ => show ((n.val / 4096 * 4096 + n.val % 4096) * 4096 + k.val) / 16777216 = n.val / 4096; omega
    | ⟨1, _⟩ => show ((n.val / 4096 * 4096 + n.val % 4096) * 4096 + k.val) / 524288 % 32 = n.val % 4096 / 128; omega
    | ⟨2, _⟩ => show ((n.val / 4096 * 4096 + n.val % 4096) * 4096 + k.val) / 4096 % 128 = n.val % 128; omega
    | ⟨3, _⟩ => show ((n.val / 4096 * 4096 + n.val % 4096) * 4096 + k.val) / 256 % 16 = k.val / 256; omega
    | ⟨4, _⟩ => show ((n.val / 4096 * 4096 + n.val % 4096) * 4096 + k.val) % 256 = k.val % 256; omega)
  have e3 : token (⟨n.val / 4096, by omega⟩ : Fin 4) (⟨n.val % 4096, by omega⟩ : Fin 4096) = n := Fin.ext (by show n.val / 4096 * 4096 + n.val % 4096 = n.val; omega)
  have e4 : ∀ s : Fin 128, half p (⟨n.val / 4096, by omega⟩ : Fin 4) (⟨n.val % 4096 / 128 * 128 + s.val, by omega⟩ : Fin 4096)
      = fun j => p (ValueIdx.ix2 (mate n s) (right j)) := fun s => funext fun j =>
    congrArg (fun a => p (ValueIdx.ix2 a (right j))) (Fin.ext (by show n.val / 4096 * 4096 + (n.val % 4096 / 128 * 128 + s.val) = n.val / 128 * 128 + s.val; omega))
  have e5 : (⟨(grp k).val * 256 + k.val % 256, by show k.val / 256 * 256 + k.val % 256 < 4096; omega⟩ : Fin 4096) = k := Fin.ext (by show k.val / 256 * 256 + k.val % 256 = k.val; omega)
  rw [val_main_v38_apply, val_main_v37_apply, e1, val_main_v36_apply, val_main_v35_apply, e2, val_main_v34_apply, ref_left, ref_mix, ref_bias]
  show p (ValueIdx.ix2 (token _ _) (left k)) * ((∑ s : Fin 128, kept (pos n) s (w (ValueIdx.ix3 (grp k) (pos n) s)) * normed (half p _ _) (lg (ValueIdx.ix1 _)) (lb (ValueIdx.ix1 _)) _)
    + b (ValueIdx.ix2 (grp k) (pos n))) = gated p lg lb w b n k
  unfold gated
  refine congrArg₂ (· * ·) (congrArg (fun a => p (ValueIdx.ix2 a (left k))) e3) (congrArg (· + b (ValueIdx.ix2 (grp k) (pos n))) (Finset.sum_congr rfl fun s _ => congrArg (kept (pos n) s (w (ValueIdx.ix3 (grp k) (pos n) s)) * ·) ?_))
  refine (congrArg (fun v => normed v _ _ _) (e4 s)).trans ?_
  exact congrArg (fun z => normed (fun j => p (ValueIdx.ix2 (mate n s) (right j))) (lg (ValueIdx.ix1 z)) (lb (ValueIdx.ix1 z)) z) e5
end Reference

end Cert.Spatial

namespace Cert.Kernel11Ideal.Spatial

open Cert.Kernel11Ideal Cert.Kernel11Ideal.Gen
open Idealize.ShloMosaic Idealize.ShloMosaic.TcCoe
open Cert.Spatial (Rows Row Mix Bias Out mean scale normed causal kept right left grp pos mate gated answers)

theorem hz : (![0, 0] : Fin 2 → Nat) = fun _ => 0 := funext fun a => by fin_cases a <;> rfl

/-! ## The normalisation of a chunk -/

theorem sums_apply (v : FVec Ideal S128x4096 .f32) (r : Fin 128) :
    shapeCast S128x1 (multiReduction (F := Ideal) .add [1] S128 v 0x00000000#32 reduces_S128x4096_S128 (.inl rfl) rfl) shapeCasts_S128_S128x1 (ValueIdx.ix2 r (0 : Fin 1))
      = ∑ k : Fin 4096, v (ValueIdx.ix2 r k) := by
  refine (shapeCast_apply _ _ (ValueIdx.ix2 r (0 : Fin 1)) (fun a => match a with | ⟨0, _⟩ => r) ?_).trans ?_
  · rw [Shape.rowMajor_val_one, Shape.rowMajor_val_two]; show r.val = r.val * 1 + 0; omega
  · refine (Ideal.multiReduction_add_single _ _ _ _ _ _).trans (Finset.sum_congr rfl fun k _ => ?_)
    have e : reduces_S128x4096_S128.lift (fun a => match a with | ⟨0, _⟩ => r) k = ValueIdx.ix2 r k := funext fun a => match a with
      | ⟨0, _⟩ => rfl
      | ⟨1, _⟩ => rfl
    exact congrArg v e
theorem along_apply (u : FVec Ideal S128x1 .f32) (r : Fin 128) (j : Fin 4096) :
    broadcastTo S128x4096 u broadcasts_S128x1_S128x4096 (ValueIdx.ix2 r j) = u (ValueIdx.ix2 r (0 : Fin 1)) :=
  broadcastTo_apply _ _ _ (ValueIdx.ix2 r (0 : Fin 1)) (fun a => match a with
    | ⟨0, _⟩ => rfl
    | ⟨1, _⟩ => rfl)
theorem down_apply (u : FVec Ideal S1x4096 .f32) (r : Fin 128) (j : Fin 4096) :
    broadcastTo S128x4096 u broadcasts_S1x4096_S128x4096 (ValueIdx.ix2 r j) = u (ValueIdx.ix2 (0 : Fin 1) j) :=
  broadcastTo_apply _ _ _ (ValueIdx.ix2 (0 : Fin 1) j) (fun a => match a with
    | ⟨0, _⟩ => rfl
    | ⟨1, _⟩ => rfl)

/-- A chunk less its rows' means. -/
def centred (v : FVec Ideal S128x4096 .f32) : FVec Ideal S128x4096 .f32 :=
  subf v (broadcastTo S128x4096 (divf (shapeCast S128x1 (multiReduction (F := Ideal) .add [1] S128 v 0x00000000#32 reduces_S128x4096_S128 (.inl rfl) rfl) shapeCasts_S128_S128x1)
    (broadcast S128x1 (Scalar.ofBits .f32 0x45800000#32))) broadcasts_S128x1_S128x4096)
theorem centred_apply (v : FVec Ideal S128x4096 .f32) (r : Fin 128) (j : Fin 4096) :
    centred v (ValueIdx.ix2 r j) = v (ValueIdx.ix2 r j) - mean (fun k => v (ValueIdx.ix2 r k)) := by
  unfold centred
  show v (ValueIdx.ix2 r j) - broadcastTo S128x4096 _ broadcasts_S128x1_S128x4096 (ValueIdx.ix2 r j) = _
  rw [along_apply]
  show v (ValueIdx.ix2 r j) - Ideal.div (shapeCast S128x1 _ shapeCasts_S128_S128x1 (ValueIdx.ix2 r (0 : Fin 1))) _ = _
  rw [sums_apply]
  rfl
theorem norm_apply (v : Vec Ideal S128x4096 .f32) (g b : Vec Ideal S1x4096 .f32) (r : Fin 128) (j : Fin 4096) :
    k0_pay4 (F := Ideal) v g b (ValueIdx.ix2 r j)
      = normed (fun k => v (ValueIdx.ix2 r k)) (g (ValueIdx.ix2 (0 : Fin 1) j)) (b (ValueIdx.ix2 (0 : Fin 1) j)) j := by
  have hs : shapeCast S128x1 (multiReduction (F := Ideal) .add [1] S128 (mulf (centred v) (centred v)) 0x00000000#32 reduces_S128x4096_S128 (.inl rfl) rfl) shapeCasts_S128_S128x1 (ValueIdx.ix2 r (0 : Fin 1))
      = ∑ k : Fin 4096, (v (ValueIdx.ix2 r k) - mean (fun k => v (ValueIdx.ix2 r k))) * (v (ValueIdx.ix2 r k) - mean (fun k => v (ValueIdx.ix2 r k))) := by
    rw [sums_apply]
    refine Finset.sum_congr rfl fun k _ => ?_
    show centred v (ValueIdx.ix2 r k) * centred v (ValueIdx.ix2 r k) = _
    rw [centred_apply]
  unfold k0_pay4
  rw [shapeCast_self, shapeCast_self]
  show centred v (ValueIdx.ix2 r j) * broadcastTo S128x4096 _ broadcasts_S128x1_S128x4096 (ValueIdx.ix2 r j) * broadcastTo S128x4096 g broadcasts_S1x4096_S128x4096 (ValueIdx.ix2 r j)
    + broadcastTo S128x4096 b broadcasts_S1x4096_S128x4096 (ValueIdx.ix2 r j) = _
  rw [along_apply, down_apply, down_apply, centred_apply]
  unfold normed scale
  rw [← hs]
  rfl

/-! ## The mix of a group -/

/-- A group's block of the result, from the chunk's normalised right half, the group's weights and bias, and the block's left half. -/
def piece (o : ℕ) (hs : S128x4096.Slices ![0, o] S128x256) (n : FVec Ideal S128x4096 .bf16) (w : Vec Ideal S1x128x128 .f32) (b : Vec Ideal S128x1 .f32)
    (u : Vec Ideal S128x256 .f32) : FVec Ideal S128x256 .bf16 :=
  truncf .bf16 (mulf u (addf (matmul dot_S128x128_S128x256_S128x256_1_0_0_1_n_n none
      (truncf .bf16 (select k0_pay3 (shapeCast S128x128 w shapeCasts_S1x128x128_S128x128) (broadcast S128x128 (Scalar.ofBits (F := Ideal) .f32 0x00000000#32))) bitsLt_bf16_f32)
      (extractStridedSlice S128x256 ![0, o] n hs) (constant S128x256 .f32 0x00000000#32))
    (broadcastTo S128x256 (shapeCast S128x1 b shapeCasts_S128x1_S128x1) broadcasts_S128x1_S128x256))) bitsLt_bf16_f32

theorem mask_apply (r s : Fin 128) : k0_pay3 (ValueIdx.ix2 r s) = causal r s := by
  unfold k0_pay3 causal
  show IntOp.cmpi .sle (BitVec.ofNat 32 (0 * 128 + s.val)) (BitVec.ofNat 32 (0 * 128 + r.val)) = _
  rw [Nat.zero_mul, Nat.zero_add, Nat.zero_add]
theorem weights_apply (w : Vec Ideal S1x128x128 .f32) (r s : Fin 128) :
    shapeCast S128x128 w shapeCasts_S1x128x128_S128x128 (ValueIdx.ix2 r s) = w (ValueIdx.ix3 (0 : Fin 1) r s) :=
  shapeCast_apply _ _ _ (ValueIdx.ix3 (0 : Fin 1) r s) (by
    rw [Shape.rowMajor_val_three, Shape.rowMajor_val_two]
    show (0 * 128 + r.val) * 128 + s.val = r.val * 128 + s.val
    omega)
theorem dot_apply (x : FVec Ideal S128x128 .bf16) (w : FVec Ideal S128x256 .bf16) (r : Fin 128) (k : Fin 256) :
    matmul dot_S128x128_S128x256_S128x256_1_0_0_1_n_n none x w (constant S128x256 .f32 0x00000000#32) (ValueIdx.ix2 r k)
      = ∑ q : Fin 128, x (ValueIdx.ix2 r q) * w (ValueIdx.ix2 q k) := by
  simp only [matmul]
  refine (Ideal.matmul_plain_apply none x w _ r k).trans ?_
  rw [show (constant S128x256 .f32 0x00000000#32 : FVec Ideal S128x256 .f32) (ValueIdx.ix2 r k) = 0 from Ideal.ofBits_zero_f32, zero_add]
theorem slice_apply (o : ℕ) (ho : o + 256 ≤ 4096) (hs : S128x4096.Slices ![0, o] S128x256) (n : FVec Ideal S128x4096 .bf16) (s : Fin 128) (k : Fin 256) :
    extractStridedSlice S128x256 ![0, o] n hs (ValueIdx.ix2 s k) = n (ValueIdx.ix2 s (⟨o + k.val, by omega⟩ : Fin 4096)) :=
  extractStridedSlice_apply _ n hs _ (ValueIdx.ix2 s (⟨o + k.val, by omega⟩ : Fin 4096)) (fun a => match a with
    | ⟨0, _⟩ => by show s.val = 0 + s.val; omega
    | ⟨1, _⟩ => rfl)
theorem bias_apply (b : Vec Ideal S128x1 .f32) (r : Fin 128) (k : Fin 256) :
    broadcastTo S128x256 (shapeCast S128x1 b shapeCasts_S128x1_S128x1) broadcasts_S128x1_S128x256 (ValueIdx.ix2 r k) = b (ValueIdx.ix2 r (0 : Fin 1)) := by
  rw [shapeCast_self]
  exact broadcastTo_apply _ _ _ (ValueIdx.ix2 r (0 : Fin 1)) (fun a => match a with
    | ⟨0, _⟩ => rfl
    | ⟨1, _⟩ => rfl)
theorem piece_apply (o : ℕ) (ho : o + 256 ≤ 4096) (hs : S128x4096.Slices ![0, o] S128x256) (n : FVec Ideal S128x4096 .bf16) (w : Vec Ideal S1x128x128 .f32)
    (b : Vec Ideal S128x1 .f32) (u : Vec Ideal S128x256 .f32) (r : Fin 128) (k : Fin 256) :
    piece o hs n w b u (ValueIdx.ix2 r k) = u (ValueIdx.ix2 r k)
      * ((∑ s : Fin 128, kept r s (w (ValueIdx.ix3 (0 : Fin 1) r s)) * n (ValueIdx.ix2 s (⟨o + k.val, by omega⟩ : Fin 4096))) + b (ValueIdx.ix2 r (0 : Fin 1))) := by
  unfold piece
  show (u (ValueIdx.ix2 r k) : EReal) * ((matmul (F := Ideal) dot_S128x128_S128x256_S128x256_1_0_0_1_n_n none _ _ (constant S128x256 .f32 0x00000000#32) : FVec Ideal S128x256 .f32) (ValueIdx.ix2 r k)
    + (broadcastTo S128x256 (shapeCast S128x1 b shapeCasts_S128x1_S128x1) broadcasts_S128x1_S128x256 : FVec Ideal S128x256 .f32) (ValueIdx.ix2 r k)) = _
  rw [dot_apply, bias_apply]
  refine congrArg (fun z => u (ValueIdx.ix2 r k) * (z + b (ValueIdx.ix2 r (0 : Fin 1)))) (Finset.sum_congr rfl fun s _ => ?_)
  rw [slice_apply o ho]
  refine congrArg (· * n (ValueIdx.ix2 s (⟨o + k.val, by omega⟩ : Fin 4096))) ?_
  show Scalar.select (k0_pay3 (ValueIdx.ix2 r s)) (shapeCast S128x128 w shapeCasts_S1x128x128_S128x128 (ValueIdx.ix2 r s)) _ = _
  rw [mask_apply, weights_apply]
  rfl

/-! ## What the body leaves -/

section Body
variable (u v : Vec Ideal S256x4096 .f32) (lg lb : Vec Ideal S1x4096 .f32) (w : Vec Ideal S16x128x128 .f32) (b : Vec Ideal S128x16 .f32)

def pos' (n : Fin 256) : Fin 128 := ⟨n.val % 128, by omega⟩
def mate' (n : Fin 256) (s : Fin 128) : Fin 256 := ⟨n.val / 128 * 128 + s.val, by omega⟩
/-- An entry of the block. -/
def entry (n : Fin 256) (k : Fin 4096) : EReal :=
  u (ValueIdx.ix2 n k) * ((∑ s : Fin 128, kept (pos' n) s (w (ValueIdx.ix3 (grp k) (pos' n) s))
      * normed (fun j => v (ValueIdx.ix2 (mate' n s) j)) (lg (ValueIdx.ix2 (0 : Fin 1) k)) (lb (ValueIdx.ix2 (0 : Fin 1) k)) k) + b (ValueIdx.ix2 (pos' n) (grp k)))

/-- A group's block of a chunk is those entries. -/
theorem agree (a o g : ℕ) (ha : a = 0 ∨ a = 128) (hg : g < 16) (ho : o = 256 * g) (hs : S128x4096.Slices ![0, o] S128x256) (h0 h1 h2 h3)
    (x : S128x256.Idx) :
    piece o hs (k0_pay4 (F := Ideal) (View.ld v (Rect.unit (s := S256x4096) ![a, 0] S128x4096.size h1)) (View.ld lg r0_1) (View.ld lb r0_1))
        (View.ld w (Rect.unit (s := S16x128x128) ![g, 0, 0] S1x128x128.size h2)) (View.ld b (Rect.unit (s := S128x16) ![0, g] S128x1.size h3))
        (View.ld u (Rect.unit (s := S256x4096) ![a, o] S128x256.size h0)) x
      = entry u v lg lb w b ((Rect.unit (s := S256x4096) ![a, o] S128x256.size h0).emb x 0) ((Rect.unit (s := S256x4096) ![a, o] S128x256.size h0).emb x 1) := by
  obtain ⟨r, k, rfl⟩ : ∃ (r : Fin 128) (k : Fin 256), x = ValueIdx.ix2 r k := ⟨x 0, x 1, funext fun a => match a with | ⟨0, _⟩ => rfl | ⟨1, _⟩ => rfl⟩
  have hr := r.isLt
  have hk := k.isLt
  have hL : View.ld u (Rect.unit (s := S256x4096) ![a, o] S128x256.size h0) (ValueIdx.ix2 r k) = u (ValueIdx.ix2 (⟨a + r.val, by omega⟩ : Fin 256) (⟨o + k.val, by omega⟩ : Fin 4096)) :=
    View.ld_unit_apply_of u _ _ h0 _ _ (fun a => match a with
      | ⟨0, _⟩ => rfl
      | ⟨1, _⟩ => rfl)
  have hW : ∀ s : Fin 128, View.ld w (Rect.unit (s := S16x128x128) ![g, 0, 0] S1x128x128.size h2) (ValueIdx.ix3 (0 : Fin 1) r s) = w (ValueIdx.ix3 (⟨g, hg⟩ : Fin 16) r s) := fun s =>
    View.ld_unit_apply_of w _ _ h2 _ _ (fun a => match a with
      | ⟨0, _⟩ => rfl
      | ⟨1, _⟩ => by show r.val = 0 + r.val; omega
      | ⟨2, _⟩ => by show s.val = 0 + s.val; omega)
  have hB : View.ld b (Rect.unit (s := S128x16) ![0, g] S128x1.size h3) (ValueIdx.ix2 r (0 : Fin 1)) = b (ValueIdx.ix2 r (⟨g, hg⟩ : Fin 16)) :=
    View.ld_unit_apply_of b _ _ h3 _ _ (fun a => match a with
      | ⟨0, _⟩ => by show r.val = 0 + r.val; omega
      | ⟨1, _⟩ => rfl)
  have hV : ∀ (s : Fin 128) (j : Fin 4096), View.ld v (Rect.unit (s := S256x4096) ![a, 0] S128x4096.size h1) (ValueIdx.ix2 s j) = v (ValueIdx.ix2 (⟨a + s.val, by omega⟩ : Fin 256) j) := fun s j =>
    View.ld_unit_apply_of v _ _ h1 _ _ (fun a => match a with
      | ⟨0, _⟩ => rfl
      | ⟨1, _⟩ => by show j.val = 0 + j.val; omega)
  have e0 : (Rect.unit (s := S256x4096) ![a, o] S128x256.size h0).emb (ValueIdx.ix2 r k) 0 = (⟨a + r.val, by omega⟩ : Fin 256) := Fin.ext (by
    rw [Rect.emb_apply]; show a + 1 * r.val = a + r.val; omega)
  have e1 : (Rect.unit (s := S256x4096) ![a, o] S128x256.size h0).emb (ValueIdx.ix2 r k) 1 = (⟨o + k.val, by omega⟩ : Fin 4096) := Fin.ext (by
    rw [Rect.emb_apply]; show o + 1 * k.val = o + k.val; omega)
  rw [e0, e1, piece_apply o (by omega), hL, hB, View.ld_unit_zero (S := S1x4096) hz, View.ld_unit_zero (S := S1x4096) hz]
  have ep : pos' (⟨a + r.val, by omega⟩ : Fin 256) = r := Fin.ext (by show (a + r.val) % 128 = r.val; omega)
  have eg : grp (⟨o + k.val, by omega⟩ : Fin 4096) = ⟨g, hg⟩ := Fin.ext (by show (o + k.val) / 256 = g; omega)
  have em : ∀ s : Fin 128, mate' (⟨a + r.val, by omega⟩ : Fin 256) s = (⟨a + s.val, by omega⟩ : Fin 256) := fun s => Fin.ext (by
    have := s.isLt
    show (a + r.val) / 128 * 128 + s.val = a + s.val; omega)
  unfold entry
  rw [ep, eg]
  refine congrArg (fun z => u (ValueIdx.ix2 (⟨a + r.val, by omega⟩ : Fin 256) (⟨o + k.val, by omega⟩ : Fin 4096)) * (z + b (ValueIdx.ix2 r (⟨g, hg⟩ : Fin 16)))) (Finset.sum_congr rfl fun s _ => ?_)
  rw [hW, norm_apply, em]
  refine congrArg (fun z => kept r s (w (ValueIdx.ix3 (⟨g, hg⟩ : Fin 16) r s)) * normed z _ _ _) (funext fun j => hV s j)

theorem out_apply (y : S256x4096.Idx) : out0_6 (F := Ideal) u v lg lb w b y = entry u v lg lb w b (y 0) (y 1) := by
  unfold_out out0_6
  refine View.canon_apply_of_pieces (Val := Elt Ideal) (e := .bf16) (fun y : S256x4096.Idx => entry u v lg lb w b (y 0) (y 1)) _ ?_ y (cover0_6 _ _ _ _ _ _ _ _ _ _ _ _ _ _ _ _ _ _ _ _ _ _ _ _ _ _ _ _ _ _ _ _ y)
  refine List.forall_mem_cons.mpr ⟨fun x => agree u v lg lb w b 128 3840 15 (.inr rfl) (by decide) rfl slices_S128x4096_o0_3840_S128x256 _ _ _ _ x, ?_⟩
  refine List.forall_mem_cons.mpr ⟨fun x => agree u v lg lb w b 128 3584 14 (.inr rfl) (by decide) rfl slices_S128x4096_o0_3584_S128x256 _ _ _ _ x, ?_⟩
  refine List.forall_mem_cons.mpr ⟨fun x => agree u v lg lb w b 128 3328 13 (.inr rfl) (by decide) rfl slices_S128x4096_o0_3328_S128x256 _ _ _ _ x, ?_⟩
  refine List.forall_mem_cons.mpr ⟨fun x => agree u v lg lb w b 128 3072 12 (.inr rfl) (by decide) rfl slices_S128x4096_o0_3072_S128x256 _ _ _ _ x, ?_⟩
  refine List.forall_mem_cons.mpr ⟨fun x => agree u v lg lb w b 128 2816 11 (.inr rfl) (by decide) rfl slices_S128x4096_o0_2816_S128x256 _ _ _ _ x, ?_⟩
  refine List.forall_mem_cons.mpr ⟨fun x => agree u v lg lb w b 128 2560 10 (.inr rfl) (by decide) rfl slices_S128x4096_o0_2560_S128x256 _ _ _ _ x, ?_⟩
  refine List.forall_mem_cons.mpr ⟨fun x => agree u v lg lb w b 128 2304 9 (.inr rfl) (by decide) rfl slices_S128x4096_o0_2304_S128x256 _ _ _ _ x, ?_⟩
  refine List.forall_mem_cons.mpr ⟨fun x => agree u v lg lb w b 128 2048 8 (.inr rfl) (by decide) rfl slices_S128x4096_o0_2048_S128x256 _ _ _ _ x, ?_⟩
  refine List.forall_mem_cons.mpr ⟨fun x => agree u v lg lb w b 128 1792 7 (.inr rfl) (by decide) rfl slices_S128x4096_o0_1792_S128x256 _ _ _ _ x, ?_⟩
  refine List.forall_mem_cons.mpr ⟨fun x => agree u v lg lb w b 128 1536 6 (.inr rfl) (by decide) rfl slices_S128x4096_o0_1536_S128x256 _ _ _ _ x, ?_⟩
  refine List.forall_mem_cons.mpr ⟨fun x => agree u v lg lb w b 128 1280 5 (.inr rfl) (by decide) rfl slices_S128x4096_o0_1280_S128x256 _ _ _ _ x, ?_⟩
  refine List.forall_mem_cons.mpr ⟨fun x => agree u v lg lb w b 128 1024 4 (.inr rfl) (by decide) rfl slices_S128x4096_o0_1024_S128x256 _ _ _ _ x, ?_⟩
  refine List.forall_mem_cons.mpr ⟨fun x => agree u v lg lb w b 128 768 3 (.inr rfl) (by decide) rfl slices_S128x4096_o0_768_S128x256 _ _ _ _ x, ?_⟩
  refine List.forall_mem_cons.mpr ⟨fun x => agree u v lg lb w b 128 512 2 (.inr rfl) (by decide) rfl slices_S128x4096_o0_512_S128x256 _ _ _ _ x, ?_⟩
  refine List.forall_mem_cons.mpr ⟨fun x => agree u v lg lb w b 128 256 1 (.inr rfl) (by decide) rfl slices_S128x4096_o0_256_S128x256 _ _ _ _ x, ?_⟩
  refine List.forall_mem_cons.mpr ⟨fun x => agree u v lg lb w b 128 0 0 (.inr rfl) (by decide) rfl slices_S128x4096_o0_0_S128x256 _ _ _ _ x, ?_⟩
  refine List.forall_mem_cons.mpr ⟨fun x => agree u v lg lb w b 0 3840 15 (.inl rfl) (by decide) rfl slices_S128x4096_o0_3840_S128x256 _ _ _ _ x, ?_⟩
  refine List.forall_mem_cons.mpr ⟨fun x => agree u v lg lb w b 0 3584 14 (.inl rfl) (by decide) rfl slices_S128x4096_o0_3584_S128x256 _ _ _ _ x, ?_⟩
  refine List.forall_mem_cons.mpr ⟨fun x => agree u v lg lb w b 0 3328 13 (.inl rfl) (by decide) rfl slices_S128x4096_o0_3328_S128x256 _ _ _ _ x, ?_⟩
  refine List.forall_mem_cons.mpr ⟨fun x => agree u v lg lb w b 0 3072 12 (.inl rfl) (by decide) rfl slices_S128x4096_o0_3072_S128x256 _ _ _ _ x, ?_⟩
  refine List.forall_mem_cons.mpr ⟨fun x => agree u v lg lb w b 0 2816 11 (.inl rfl) (by decide) rfl slices_S128x4096_o0_2816_S128x256 _ _ _ _ x, ?_⟩
  refine List.forall_mem_cons.mpr ⟨fun x => agree u v lg lb w b 0 2560 10 (.inl rfl) (by decide) rfl slices_S128x4096_o0_2560_S128x256 _ _ _ _ x, ?_⟩
  refine List.forall_mem_cons.mpr ⟨fun x => agree u v lg lb w b 0 2304 9 (.inl rfl) (by decide) rfl slices_S128x4096_o0_2304_S128x256 _ _ _ _ x, ?_⟩
  refine List.forall_mem_cons.mpr ⟨fun x => agree u v lg lb w b 0 2048 8 (.inl rfl) (by decide) rfl slices_S128x4096_o0_2048_S128x256 _ _ _ _ x, ?_⟩
  refine List.forall_mem_cons.mpr ⟨fun x => agree u v lg lb w b 0 1792 7 (.inl rfl) (by decide) rfl slices_S128x4096_o0_1792_S128x256 _ _ _ _ x, ?_⟩
  refine List.forall_mem_cons.mpr ⟨fun x => agree u v lg lb w b 0 1536 6 (.inl rfl) (by decide) rfl slices_S128x4096_o0_1536_S128x256 _ _ _ _ x, ?_⟩
  refine List.forall_mem_cons.mpr ⟨fun x => agree u v lg lb w b 0 1280 5 (.inl rfl) (by decide) rfl slices_S128x4096_o0_1280_S128x256 _ _ _ _ x, ?_⟩
  refine List.forall_mem_cons.mpr ⟨fun x => agree u v lg lb w b 0 1024 4 (.inl rfl) (by decide) rfl slices_S128x4096_o0_1024_S128x256 _ _ _ _ x, ?_⟩
  refine List.forall_mem_cons.mpr ⟨fun x => agree u v lg lb w b 0 768 3 (.inl rfl) (by decide) rfl slices_S128x4096_o0_768_S128x256 _ _ _ _ x, ?_⟩
  refine List.forall_mem_cons.mpr ⟨fun x => agree u v lg lb w b 0 512 2 (.inl rfl) (by decide) rfl slices_S128x4096_o0_512_S128x256 _ _ _ _ x, ?_⟩
  refine List.forall_mem_cons.mpr ⟨fun x => agree u v lg lb w b 0 256 1 (.inl rfl) (by decide) rfl slices_S128x4096_o0_256_S128x256 _ _ _ _ x, ?_⟩
  refine List.forall_mem_cons.mpr ⟨fun x => agree u v lg lb w b 0 0 0 (.inl rfl) (by decide) rfl slices_S128x4096_o0_0_S128x256 _ _ _ _ x, ?_⟩
  exact fun p hp => absurd hp List.not_mem_nil

end Body

variable (m : (ℓ : Loc nD τ sig) → Buf (Elt Ideal) ℓ)

/-! ## The arrays as launched, by their types -/

def aP (c : Dev nD) : Rows := m ((c : Thread nD τ).loc main_arg0)
def aG (c : Dev nD) : Row := m ((c : Thread nD τ).loc main_arg1)
def aS (c : Dev nD) : Row := m ((c : Thread nD τ).loc main_arg2)
def aW (c : Dev nD) : Mix := m ((c : Thread nD τ).loc main_arg3)
def aB (c : Dev nD) : Bias := m ((c : Thread nD τ).loc main_arg4)

theorem V_v0 (c : Dev nD) : V m c main_v0 = (shapeCast S1x4096 (aG m c) shapeCasts_S4096_S1x4096 : FVec Ideal S1x4096 .f32) := by
  show StableHlo.after hostOps0 _ (Proc.devRef .tc main_v0) = _
  after_results
  rfl
theorem V_v1 (c : Dev nD) : V m c main_v1 = (shapeCast S1x4096 (aS m c) shapeCasts_S4096_S1x4096 : FVec Ideal S1x4096 .f32) := by
  show StableHlo.after hostOps0 _ (Proc.devRef .tc main_v1) = _
  after_results
  rfl
theorem V_v2 (c : Dev nD) : V m c main_v2 = (transpose S128x16 [1, 0] (aB m c) transposes_S16x128_S128x16_1_0 : FVec Ideal S128x16 .f32) := by
  show StableHlo.after hostOps0 _ (Proc.devRef .tc main_v2) = _
  after_results
  rfl
theorem row_apply (b : Row) (i : S1x4096.Idx) (k : Fin 4096) (h : (i 1).val = k.val) :
    (shapeCast S1x4096 b shapeCasts_S4096_S1x4096 : FVec Ideal S1x4096 .f32) i = b (ValueIdx.ix1 k) :=
  shapeCast_apply _ _ i (ValueIdx.ix1 k) (by
    have h0 : (i 0).val < 1 := (i 0).isLt
    rw [Shape.rowMajor_val_one, Shape.rowMajor_val_two]
    show k.val = (i 0).val * 4096 + (i 1).val
    omega)
theorem turn_apply (b : Bias) (i : S128x16.Idx) : (transpose S128x16 [1, 0] b transposes_S16x128_S128x16_1_0 : FVec Ideal S128x16 .f32) i = b (ValueIdx.ix2 (i 1) (i 0)) :=
  transpose_apply [1, 0] b transposes_S16x128_S128x16_1_0 i (ValueIdx.ix2 (i 1) (i 0)) (fun a => match a with
    | ⟨0, _⟩ => rfl
    | ⟨1, _⟩ => rfl)

/-! ## The blocks -/

variable (c : Dev nD) (t : Fin cfg0.N)

theorem lt_N : t.val < 64 := t.isLt
theorem coord0 : (BitVec.ofNat 32 (grid0.coords t 0).val).toNat = t.val :=
  (by decide +kernel : ∀ t : Fin grid0.N, (BitVec.ofNat 32 (grid0.coords t 0).val).toNat = t.val) t

theorem index0 : (cfg0.win 0).index t = ![t.val, 0] := by
  show cc0_transform_0 (grid0.coords t) = _
  exact congrArg (fun x => (![x, 0] : Fin 2 → ℕ)) (coord0 t)
theorem index1 : (cfg0.win 1).index t = ![t.val, 1] := by
  show cc0_transform_1 (grid0.coords t) = _
  exact congrArg (fun x => (![x, 1] : Fin 2 → ℕ)) (coord0 t)
theorem index2 : (cfg0.win 2).index t = ![0, 0] := rfl
theorem index3 : (cfg0.win 3).index t = ![0, 0] := rfl
theorem index4 : (cfg0.win 4).index t = ![0, 0, 0] := rfl
theorem index5 : (cfg0.win 5).index t = ![0, 0] := rfl
theorem index6 : (cfg0.win 6).index t = ![t.val, 0] := by
  show cc0_transform_6 (grid0.coords t) = _
  exact congrArg (fun x => (![x, 0] : Fin 2 → ℕ)) (coord0 t)

/-- Row `r` of point `t`'s block, among the tokens. -/
def tok (r : Fin 256) : Fin 16384 := ⟨t.val * 256 + r.val, by have := lt_N t; omega⟩

def blk0 : Vec Ideal S256x4096 .f32 := iblk m c 0 t
def blk1 : Vec Ideal S256x4096 .f32 := iblk m c 1 t
def blk2 : Vec Ideal S1x4096 .f32 := iblk m c 2 t
def blk3 : Vec Ideal S1x4096 .f32 := iblk m c 3 t
def blk4 : Vec Ideal S16x128x128 .f32 := iblk m c 4 t
def blk5 : Vec Ideal S128x16 .f32 := iblk m c 5 t
theorem blk0_apply (r : Fin 256) (k : Fin 4096) : blk0 m c t (ValueIdx.ix2 r k) = aP m c (ValueIdx.ix2 (tok t r) (left k)) := by
  show V m c main_arg0 (((cfg0.win 0).blk t).view.emb _) = _
  rw [V_main_arg0]
  refine congrArg (aP m c) (funext fun a => Fin.ext ((Pipeline.Window.rect_emb_val (cfg0.win 0) t _ a).trans ?_))
  rw [index0]
  match a with
  | ⟨0, _⟩ => rfl
  | ⟨1, _⟩ => show 0 * 4096 + k.val = k.val; omega
theorem blk1_apply (r : Fin 256) (k : Fin 4096) : blk1 m c t (ValueIdx.ix2 r k) = aP m c (ValueIdx.ix2 (tok t r) (right k)) := by
  show V m c main_arg0 (((cfg0.win 1).blk t).view.emb _) = _
  rw [V_main_arg0]
  refine congrArg (aP m c) (funext fun a => Fin.ext ((Pipeline.Window.rect_emb_val (cfg0.win 1) t _ a).trans ?_))
  rw [index1]
  match a with
  | ⟨0, _⟩ => rfl
  | ⟨1, _⟩ => show 1 * 4096 + k.val = 4096 + k.val; omega
theorem blk2_apply (k : Fin 4096) : blk2 m c t (ValueIdx.ix2 (0 : Fin 1) k) = aG m c (ValueIdx.ix1 k) := by
  show V m c main_v0 (((cfg0.win 2).blk t).view.emb _) = _
  rw [V_v0]
  refine row_apply (aG m c) _ _ ((Pipeline.Window.rect_emb_val (cfg0.win 2) t _ (1 : Fin 2)).trans ?_)
  rw [index2]; show 0 * 4096 + k.val = k.val; omega
theorem blk3_apply (k : Fin 4096) : blk3 m c t (ValueIdx.ix2 (0 : Fin 1) k) = aS m c (ValueIdx.ix1 k) := by
  show V m c main_v1 (((cfg0.win 3).blk t).view.emb _) = _
  rw [V_v1]
  refine row_apply (aS m c) _ _ ((Pipeline.Window.rect_emb_val (cfg0.win 3) t _ (1 : Fin 2)).trans ?_)
  rw [index3]; show 0 * 4096 + k.val = k.val; omega
theorem blk4_apply (g : Fin 16) (r s : Fin 128) : blk4 m c t (ValueIdx.ix3 g r s) = aW m c (ValueIdx.ix3 g r s) := by
  show V m c main_arg3 (((cfg0.win 4).blk t).view.emb _) = _
  rw [V_main_arg3]
  refine congrArg (aW m c) (funext fun a => Fin.ext ((Pipeline.Window.rect_emb_val (cfg0.win 4) t _ a).trans ?_))
  rw [index4]
  match a with
  | ⟨0, _⟩ => show 0 * 16 + g.val = g.val; omega
  | ⟨1, _⟩ => show 0 * 128 + r.val = r.val; omega
  | ⟨2, _⟩ => show 0 * 128 + s.val = s.val; omega
theorem blk5_apply (r : Fin 128) (g : Fin 16) : blk5 m c t (ValueIdx.ix2 r g) = aB m c (ValueIdx.ix2 g r) := by
  show V m c main_v2 (((cfg0.win 5).blk t).view.emb _) = _
  rw [V_v2]
  refine (turn_apply (aB m c) _).trans (congrArg (aB m c) (funext fun a => Fin.ext ?_))
  match a with
  | ⟨0, _⟩ => refine (Pipeline.Window.rect_emb_val (cfg0.win 5) t _ (1 : Fin 2)).trans ?_; rw [index5]; show 0 * 16 + g.val = g.val; omega
  | ⟨1, _⟩ => refine (Pipeline.Window.rect_emb_val (cfg0.win 5) t _ (0 : Fin 2)).trans ?_; rw [index5]; show 0 * 128 + r.val = r.val; omega

/-- What point `t` leaves in its block. -/
def outAt : Vec Ideal S256x4096 .bf16 := out0_6 (F := Ideal) (blk0 m c t) (blk1 m c t) (blk2 m c t) (blk3 m c t) (blk4 m c t) (blk5 m c t)
theorem after_eq : (dats m 0 c).after 6 t = outAt m c t := after0_6 m c t
theorem outAt_apply (y : S256x4096.Idx) : outAt m c t y = gated (aP m c) (aG m c) (aS m c) (aW m c) (aB m c) (tok t (y 0)) (y 1) := by
  obtain ⟨r, k, rfl⟩ : ∃ (r : Fin 256) (k : Fin 4096), y = ValueIdx.ix2 r k := ⟨y 0, y 1, funext fun a => match a with | ⟨0, _⟩ => rfl | ⟨1, _⟩ => rfl⟩
  unfold outAt
  refine (out_apply _ _ _ _ _ _ (ValueIdx.ix2 r k)).trans ?_
  show entry (blk0 m c t) (blk1 m c t) (blk2 m c t) (blk3 m c t) (blk4 m c t) (blk5 m c t) r k = gated (aP m c) (aG m c) (aS m c) (aW m c) (aB m c) (tok t r) k
  have hr := r.isLt
  have ep : pos (tok t r) = pos' r := Fin.ext (by show (t.val * 256 + r.val) % 128 = r.val % 128; omega)
  have em : ∀ s, mate (tok t r) s = tok t (mate' r s) := fun s => Fin.ext (by show (t.val * 256 + r.val) / 128 * 128 + s.val = t.val * 256 + (r.val / 128 * 128 + s.val); omega)
  unfold entry gated
  rw [blk0_apply, blk2_apply, blk3_apply, blk5_apply, ep]
  refine congrArg (fun z => aP m c (ValueIdx.ix2 (tok t r) (left k)) * (z + aB m c (ValueIdx.ix2 (grp k) (pos' r)))) (Finset.sum_congr rfl fun s _ => ?_)
  rw [blk4_apply, em]
  exact congrArg (fun z => kept (pos' r) s (aW m c (ValueIdx.ix3 (grp k) (pos' r) s)) * normed z (aG m c (ValueIdx.ix1 k)) (aS m c (ValueIdx.ix1 k)) k) (funext fun j => blk1_apply m c t _ j)

/-! ## The result array -/

theorem result_eq : (dats m 0 c).arrAt 6 cfg0.N = answers (aP m c) (aG m c) (aS m c) (aW m c) (aB m c) := by
  refine Pipeline.Dat.arrAt_eq_of_emb (dats m 0 c) 6 _ (fun t _ y => ?_) fun i => ?_
  · rw [after_eq]
    have hf : ∀ z : S256x4096.Idx, outAt m c t z = gated (aP m c) (aG m c) (aS m c) (aW m c) (aB m c) (tok t (z 0)) (z 1) := outAt_apply m c t
    generalize outAt m c t = f at hf ⊢
    refine (hf y).trans ?_
    have e0 : (((cfg0.win 6).blk t).view.emb y (0 : Fin 2)).val = t.val * 256 + (y (0 : Fin 2)).val := by
      refine (Pipeline.Window.rect_emb_val (cfg0.win 6) t y (0 : Fin 2)).trans ?_
      rw [index6]; rfl
    have e1 : (((cfg0.win 6).blk t).view.emb y (1 : Fin 2)).val = (y (1 : Fin 2)).val := by
      refine (Pipeline.Window.rect_emb_val (cfg0.win 6) t y (1 : Fin 2)).trans ?_
      rw [index6]
      show 0 * 4096 + (y (1 : Fin 2)).val = _
      omega
    unfold answers
    exact congrArg₂ (gated (aP m c) (aG m c) (aS m c) (aW m c) (aB m c)) (Fin.ext e0.symm) (Fin.ext e1.symm)
  · have i0 : (i (0 : Fin 2)).val < 16384 := (i (0 : Fin 2)).isLt
    have i1 : (i (1 : Fin 2)).val < 4096 := (i (1 : Fin 2)).isLt
    have hN : (i (0 : Fin 2)).val / 256 < cfg0.N := by show _ < 64; omega
    refine ⟨⟨(i (0 : Fin 2)).val / 256, hN⟩, flush0_6 _, ?_⟩
    refine (Pipeline.Window.emb_mem_blk_iff (cfg0.win 6) _ i).mpr fun a => ?_
    rw [index6]
    match a with
    | ⟨0, _⟩ =>
      show (i (0 : Fin 2)).val / 256 * 256 ≤ (i (0 : Fin 2)).val ∧ (i (0 : Fin 2)).val < (i (0 : Fin 2)).val / 256 * 256 + 256
      omega
    | ⟨1, _⟩ =>
      show 0 * 4096 ≤ (i (1 : Fin 2)).val ∧ (i (1 : Fin 2)).val < 0 * 4096 + 4096
      omega

/-- The run: the result is the gated halves, and the operands are as they began. -/
theorem run (ρ : Dev nD → PrngReg) : θ_run defs (onTc (τ := τ) (main (F := Ideal))) ⟨m, fun _ => 0, ρ⟩ (fun r => ∀ c : Dev nD,
      r.2.mem ((c.tc : Thread nD τ).loc main_v3) = answers (aP m c) (aG m c) (aS m c) (aW m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 6).trans (result_eq m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩) (run_main m ρ)

end Cert.Kernel11Ideal.Spatial

end
-- ==== Proof.Conv.Value.lean ====
/-
  The convolution of the conformer with exact arithmetic: each token's row is the weighted sum of its own and the 30 rows before it in
  its sequence, column by column, with a bias; it is then normalised, and each entry times its logistic.
-/
module

public import proofs.«01_k».proof.Proof.Gen.Kernel12Ideal
public import proofs.«01_k».proof.Proof.Gen.Kernel12Ideal.Frame
public import proofs.«01_k».proof.Proof.Gen.Reference12Ideal.Read
public import Idealize.ShloMosaic.Lib.KernelVsHost
public import Idealize.ShloMosaic.Lib.ValueIdx
public import Idealize.ShloMosaic.Lib.Pipeline.Value
public import Idealize.ShloMosaic.Lib.Pipeline.ValueKit.Geometry
public import Idealize.ShloMosaic.Lib.Pipeline.ValueKit.Tiles
public import Idealize.ShloMosaic.PureOps.Ideal.Laws

@[expose] public section

set_option maxRecDepth 16384

noncomputable section

namespace Cert.Conv

open Idealize.ShloMosaic

/-- The tokens, the weights of the 31 taps, a row of the bias, the normalisation's scale or its shift, and the result. -/
abbrev Rows : Type := FVec Ideal ⟨2, ![16384, 2048]⟩ .f32
abbrev Weights : Type := FVec Ideal ⟨2, ![31, 2048]⟩ .f32
abbrev Row : Type := FVec Ideal ⟨1, ![2048]⟩ .f32
abbrev Out : Type := FVec Ideal ⟨2, ![16384, 2048]⟩ .bf16

theorem one_f32 : Ideal.ofBits .f32 0x3F800000#32 = 1 := by simp [Ideal.ofBits, Ideal.ieee, -EReal.coe_mul]; norm_num
theorem add_eq {a b c d : EReal} (h : a = c) (h' : b = d) : a + b = c + d := by subst h h'; rfl

/-- The 31 taps added, in order. -/
def taps (f : Fin 31 → EReal) : EReal := f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30

/-- What tap `j` reads for token `n`: the row `30 - j` before it, or zero before its sequence begins. -/
def shifted (x : Rows) (n : Fin 16384) (j : Fin 31) (k : Fin 2048) : EReal :=
  if h : 30 ≤ n.val % 4096 + j.val then x (ValueIdx.ix2 (⟨n.val + j.val - 30, by omega⟩ : Fin 16384) k) else 0
/-- An entry of the convolution. -/
def conv (x : Rows) (w : Weights) (b : Row) (n : Fin 16384) (k : Fin 2048) : EReal :=
  taps (fun j => w (ValueIdx.ix2 j k) * shifted x n j k) + b (ValueIdx.ix1 k)

/-- A row's mean, the reciprocal root of its variance and a small constant, and its normalised entry `j`, scaled and shifted. -/
def mean (v : Fin 2048 → EReal) : EReal := Ideal.div (∑ k : Fin 2048, v k) (Ideal.ofBits .f32 0x45000000#32)
def scale (v : Fin 2048 → EReal) : EReal :=
  Ideal.rsqrt (Ideal.div (∑ k : Fin 2048, (v k - mean v) * (v k - mean v)) (Ideal.ofBits .f32 0x45000000#32) + Ideal.ofBits .f32 0x3727C5AC#32)
def normed (v : Fin 2048 → EReal) (g b : EReal) (j : Fin 2048) : EReal := (v j - mean v) * scale v * g + b
theorem normed_congr {v v' : Fin 2048 → EReal} {g g' b b' : EReal} (hv : ∀ k, v k = v' k) (hg : g = g') (hb : b = b') (j : Fin 2048) :
    normed v g b j = normed v' g' b' j := by
  have e : v = v' := funext hv
  subst e hg hb
  rfl
/-- A number times its logistic. -/
def silu (z : EReal) : EReal := z * Ideal.logistic z

/-- Entry `(n, k)` of the result. -/
def convolved (x : Rows) (w : Weights) (b g s : Row) (n : Fin 16384) (k : Fin 2048) : EReal :=
  silu (normed (conv x w b n) (g (ValueIdx.ix1 k)) (s (ValueIdx.ix1 k)) k)
/-- The result. -/
def answers (x : Rows) (w : Weights) (b g s : Row) : Out := fun r => convolved x w b g s (r 0) (r 1)

theorem answers_congr {x x' : Rows} {w w' : Weights} {b b' g g' s s' : Row} (hx : x = x') (hw : w = w') (hb : b = b') (hg : g = g') (hs : s = s') :
    answers x w b g s = answers x' w' b' g' s' := by
  subst hx hw hb hg hs
  rfl

section Reference
open Cert.Reference12Ideal Cert.Reference12Ideal.Gen Cert.Reference12Ideal.Read

/-- Token `t` of sequence `b`. -/
def token (b : Fin 4) (t : Fin 4096) : Fin 16384 := ⟨b.val * 4096 + t.val, by omega⟩

theorem tap (x : Rows) (w : Weights) (j : Fin 31) (i : S4x4096x2048.Idx) (a : S31x2048.Idx) (b : S4x4126x2048.Idx)
    (a0 : (a 0).val = j.val) (a1 : (a 1).val = (i 2).val) (b0 : (b 0).val = (i 0).val) (b1 : (b 1).val = j.val + (i 1).val) (b2 : (b 2).val = (i 2).val) :
    FloatOps.mulf (F := Ideal) (φ := .f32) (w a) (val_main_v1 (F := Ideal) x b) = w (ValueIdx.ix2 j (i 2)) * shifted x (token (i 0) (i 1)) j (i 2) := by
  have h0 : (i 0).val < 4 := (i 0).isLt
  have h1 : (i 1).val < 4096 := (i 1).isLt
  have h2 : (i 2).val < 2048 := (i 2).isLt
  have hj := j.isLt
  have ha : a = ValueIdx.ix2 j (i 2) := funext fun z => Fin.ext (by
    match z with
    | ⟨0, _⟩ => exact a0
    | ⟨1, _⟩ => exact a1)
  have hm : (token (i 0) (i 1)).val % 4096 = (i 1).val := by show ((i 0).val * 4096 + (i 1).val) % 4096 = (i 1).val; omega
  show w a * val_main_v1 (F := Ideal) x b = _
  rw [ha]
  refine congrArg (w (ValueIdx.ix2 j (i 2)) * ·) ?_
  unfold val_main_v1 shifted
  by_cases h : 30 ≤ (token (i 0) (i 1)).val % 4096 + j.val
  · rw [dif_pos h]
    rw [hm] at h
    refine (pad_apply_of_inside _ _ _ _ _ _ _ b (ValueIdx.ix3 (i 0 : Fin 4) (⟨(i 1).val + j.val - 30, by omega⟩ : Fin 4096) (i 2 : Fin 2048)) (fun z => ?_)).trans ?_
    · match z with
      | ⟨0, _⟩ => show (b 0).val = 0 + (i 0).val * (0 + 1); omega
      | ⟨1, _⟩ => show (b 1).val = 30 + ((i 1).val + j.val - 30) * (0 + 1); omega
      | ⟨2, _⟩ => show (b 2).val = 0 + (i 2).val * (0 + 1); omega
    · refine (val_main_v0_apply _ _).trans ?_
      refine congrArg x (funext fun z => Fin.ext ?_)
      match z with
      | ⟨0, _⟩ => show (((i 0).val * 4096 + ((i 1).val + j.val - 30)) * 2048 + (i 2).val) / 2048 = (i 0).val * 4096 + (i 1).val + j.val - 30; omega
      | ⟨1, _⟩ => show (((i 0).val * 4096 + ((i 1).val + j.val - 30)) * 2048 + (i 2).val) % 2048 = (i 2).val; omega
  · rw [dif_neg h]
    rw [hm] at h
    refine (pad_apply_of_not_inside _ _ _ _ _ _ _ b (1 : Fin 3) (fun hin => ?_)).trans ?_
    · have e : 30 ≤ (b 1).val := hin.1
      omega
    · exact sitofp_zero

theorem tap0 (x : Rows) (w : Weights) (i : S4x4096x2048.Idx) :
    val_main_v7 (F := Ideal) x w i = w (ValueIdx.ix2 (0 : Fin 31) (i 2)) * shifted x (token (i 0) (i 1)) 0 (i 2) := by
  rw [val_main_v7_apply, val_main_v6_apply, val_main_v5_apply, val_main_v3_apply, val_main_v2_apply, val_main_v4_apply]
  exact tap x w 0 i _ _ rfl (Nat.mod_eq_of_lt (i 2).isLt) rfl (Nat.zero_add _).symm rfl

theorem tap1 (x : Rows) (w : Weights) (i : S4x4096x2048.Idx) :
    val_main_v13 (F := Ideal) x w i = w (ValueIdx.ix2 (1 : Fin 31) (i 2)) * shifted x (token (i 0) (i 1)) 1 (i 2) := by
  rw [val_main_v13_apply, val_main_v12_apply, val_main_v11_apply, val_main_v9_apply, val_main_v8_apply, val_main_v10_apply]
  exact tap x w 1 i _ _ rfl (Nat.mod_eq_of_lt (i 2).isLt) rfl rfl rfl

theorem tap2 (x : Rows) (w : Weights) (i : S4x4096x2048.Idx) :
    val_main_v19 (F := Ideal) x w i = w (ValueIdx.ix2 (2 : Fin 31) (i 2)) * shifted x (token (i 0) (i 1)) 2 (i 2) := by
  rw [val_main_v19_apply, val_main_v18_apply, val_main_v17_apply, val_main_v15_apply, val_main_v14_apply, val_main_v16_apply]
  exact tap x w 2 i _ _ rfl (Nat.mod_eq_of_lt (i 2).isLt) rfl rfl rfl

theorem tap3 (x : Rows) (w : Weights) (i : S4x4096x2048.Idx) :
    val_main_v25 (F := Ideal) x w i = w (ValueIdx.ix2 (3 : Fin 31) (i 2)) * shifted x (token (i 0) (i 1)) 3 (i 2) := by
  rw [val_main_v25_apply, val_main_v24_apply, val_main_v23_apply, val_main_v21_apply, val_main_v20_apply, val_main_v22_apply]
  exact tap x w 3 i _ _ rfl (Nat.mod_eq_of_lt (i 2).isLt) rfl rfl rfl

theorem tap4 (x : Rows) (w : Weights) (i : S4x4096x2048.Idx) :
    val_main_v31 (F := Ideal) x w i = w (ValueIdx.ix2 (4 : Fin 31) (i 2)) * shifted x (token (i 0) (i 1)) 4 (i 2) := by
  rw [val_main_v31_apply, val_main_v30_apply, val_main_v29_apply, val_main_v27_apply, val_main_v26_apply, val_main_v28_apply]
  exact tap x w 4 i _ _ rfl (Nat.mod_eq_of_lt (i 2).isLt) rfl rfl rfl

theorem tap5 (x : Rows) (w : Weights) (i : S4x4096x2048.Idx) :
    val_main_v37 (F := Ideal) x w i = w (ValueIdx.ix2 (5 : Fin 31) (i 2)) * shifted x (token (i 0) (i 1)) 5 (i 2) := by
  rw [val_main_v37_apply, val_main_v36_apply, val_main_v35_apply, val_main_v33_apply, val_main_v32_apply, val_main_v34_apply]
  exact tap x w 5 i _ _ rfl (Nat.mod_eq_of_lt (i 2).isLt) rfl rfl rfl

theorem tap6 (x : Rows) (w : Weights) (i : S4x4096x2048.Idx) :
    val_main_v43 (F := Ideal) x w i = w (ValueIdx.ix2 (6 : Fin 31) (i 2)) * shifted x (token (i 0) (i 1)) 6 (i 2) := by
  rw [val_main_v43_apply, val_main_v42_apply, val_main_v41_apply, val_main_v39_apply, val_main_v38_apply, val_main_v40_apply]
  exact tap x w 6 i _ _ rfl (Nat.mod_eq_of_lt (i 2).isLt) rfl rfl rfl

theorem tap7 (x : Rows) (w : Weights) (i : S4x4096x2048.Idx) :
    val_main_v49 (F := Ideal) x w i = w (ValueIdx.ix2 (7 : Fin 31) (i 2)) * shifted x (token (i 0) (i 1)) 7 (i 2) := by
  rw [val_main_v49_apply, val_main_v48_apply, val_main_v47_apply, val_main_v45_apply, val_main_v44_apply, val_main_v46_apply]
  exact tap x w 7 i _ _ rfl (Nat.mod_eq_of_lt (i 2).isLt) rfl rfl rfl

theorem tap8 (x : Rows) (w : Weights) (i : S4x4096x2048.Idx) :
    val_main_v55 (F := Ideal) x w i = w (ValueIdx.ix2 (8 : Fin 31) (i 2)) * shifted x (token (i 0) (i 1)) 8 (i 2) := by
  rw [val_main_v55_apply, val_main_v54_apply, val_main_v53_apply, val_main_v51_apply, val_main_v50_apply, val_main_v52_apply]
  exact tap x w 8 i _ _ rfl (Nat.mod_eq_of_lt (i 2).isLt) rfl rfl rfl

theorem tap9 (x : Rows) (w : Weights) (i : S4x4096x2048.Idx) :
    val_main_v61 (F := Ideal) x w i = w (ValueIdx.ix2 (9 : Fin 31) (i 2)) * shifted x (token (i 0) (i 1)) 9 (i 2) := by
  rw [val_main_v61_apply, val_main_v60_apply, val_main_v59_apply, val_main_v57_apply, val_main_v56_apply, val_main_v58_apply]
  exact tap x w 9 i _ _ rfl (Nat.mod_eq_of_lt (i 2).isLt) rfl rfl rfl

theorem tap10 (x : Rows) (w : Weights) (i : S4x4096x2048.Idx) :
    val_main_v67 (F := Ideal) x w i = w (ValueIdx.ix2 (10 : Fin 31) (i 2)) * shifted x (token (i 0) (i 1)) 10 (i 2) := by
  rw [val_main_v67_apply, val_main_v66_apply, val_main_v65_apply, val_main_v63_apply, val_main_v62_apply, val_main_v64_apply]
  exact tap x w 10 i _ _ rfl (Nat.mod_eq_of_lt (i 2).isLt) rfl rfl rfl

theorem tap11 (x : Rows) (w : Weights) (i : S4x4096x2048.Idx) :
    val_main_v73 (F := Ideal) x w i = w (ValueIdx.ix2 (11 : Fin 31) (i 2)) * shifted x (token (i 0) (i 1)) 11 (i 2) := by
  rw [val_main_v73_apply, val_main_v72_apply, val_main_v71_apply, val_main_v69_apply, val_main_v68_apply, val_main_v70_apply]
  exact tap x w 11 i _ _ rfl (Nat.mod_eq_of_lt (i 2).isLt) rfl rfl rfl

theorem tap12 (x : Rows) (w : Weights) (i : S4x4096x2048.Idx) :
    val_main_v79 (F := Ideal) x w i = w (ValueIdx.ix2 (12 : Fin 31) (i 2)) * shifted x (token (i 0) (i 1)) 12 (i 2) := by
  rw [val_main_v79_apply, val_main_v78_apply, val_main_v77_apply, val_main_v75_apply, val_main_v74_apply, val_main_v76_apply]
  exact tap x w 12 i _ _ rfl (Nat.mod_eq_of_lt (i 2).isLt) rfl rfl rfl

theorem tap13 (x : Rows) (w : Weights) (i : S4x4096x2048.Idx) :
    val_main_v85 (F := Ideal) x w i = w (ValueIdx.ix2 (13 : Fin 31) (i 2)) * shifted x (token (i 0) (i 1)) 13 (i 2) := by
  rw [val_main_v85_apply, val_main_v84_apply, val_main_v83_apply, val_main_v81_apply, val_main_v80_apply, val_main_v82_apply]
  exact tap x w 13 i _ _ rfl (Nat.mod_eq_of_lt (i 2).isLt) rfl rfl rfl

theorem tap14 (x : Rows) (w : Weights) (i : S4x4096x2048.Idx) :
    val_main_v91 (F := Ideal) x w i = w (ValueIdx.ix2 (14 : Fin 31) (i 2)) * shifted x (token (i 0) (i 1)) 14 (i 2) := by
  rw [val_main_v91_apply, val_main_v90_apply, val_main_v89_apply, val_main_v87_apply, val_main_v86_apply, val_main_v88_apply]
  exact tap x w 14 i _ _ rfl (Nat.mod_eq_of_lt (i 2).isLt) rfl rfl rfl

theorem tap15 (x : Rows) (w : Weights) (i : S4x4096x2048.Idx) :
    val_main_v97 (F := Ideal) x w i = w (ValueIdx.ix2 (15 : Fin 31) (i 2)) * shifted x (token (i 0) (i 1)) 15 (i 2) := by
  rw [val_main_v97_apply, val_main_v96_apply, val_main_v95_apply, val_main_v93_apply, val_main_v92_apply, val_main_v94_apply]
  exact tap x w 15 i _ _ rfl (Nat.mod_eq_of_lt (i 2).isLt) rfl rfl rfl

theorem tap16 (x : Rows) (w : Weights) (i : S4x4096x2048.Idx) :
    val_main_v103 (F := Ideal) x w i = w (ValueIdx.ix2 (16 : Fin 31) (i 2)) * shifted x (token (i 0) (i 1)) 16 (i 2) := by
  rw [val_main_v103_apply, val_main_v102_apply, val_main_v101_apply, val_main_v99_apply, val_main_v98_apply, val_main_v100_apply]
  exact tap x w 16 i _ _ rfl (Nat.mod_eq_of_lt (i 2).isLt) rfl rfl rfl

theorem tap17 (x : Rows) (w : Weights) (i : S4x4096x2048.Idx) :
    val_main_v109 (F := Ideal) x w i = w (ValueIdx.ix2 (17 : Fin 31) (i 2)) * shifted x (token (i 0) (i 1)) 17 (i 2) := by
  rw [val_main_v109_apply, val_main_v108_apply, val_main_v107_apply, val_main_v105_apply, val_main_v104_apply, val_main_v106_apply]
  exact tap x w 17 i _ _ rfl (Nat.mod_eq_of_lt (i 2).isLt) rfl rfl rfl

theorem tap18 (x : Rows) (w : Weights) (i : S4x4096x2048.Idx) :
    val_main_v115 (F := Ideal) x w i = w (ValueIdx.ix2 (18 : Fin 31) (i 2)) * shifted x (token (i 0) (i 1)) 18 (i 2) := by
  rw [val_main_v115_apply, val_main_v114_apply, val_main_v113_apply, val_main_v111_apply, val_main_v110_apply, val_main_v112_apply]
  exact tap x w 18 i _ _ rfl (Nat.mod_eq_of_lt (i 2).isLt) rfl rfl rfl

theorem tap19 (x : Rows) (w : Weights) (i : S4x4096x2048.Idx) :
    val_main_v121 (F := Ideal) x w i = w (ValueIdx.ix2 (19 : Fin 31) (i 2)) * shifted x (token (i 0) (i 1)) 19 (i 2) := by
  rw [val_main_v121_apply, val_main_v120_apply, val_main_v119_apply, val_main_v117_apply, val_main_v116_apply, val_main_v118_apply]
  exact tap x w 19 i _ _ rfl (Nat.mod_eq_of_lt (i 2).isLt) rfl rfl rfl

theorem tap20 (x : Rows) (w : Weights) (i : S4x4096x2048.Idx) :
    val_main_v127 (F := Ideal) x w i = w (ValueIdx.ix2 (20 : Fin 31) (i 2)) * shifted x (token (i 0) (i 1)) 20 (i 2) := by
  rw [val_main_v127_apply, val_main_v126_apply, val_main_v125_apply, val_main_v123_apply, val_main_v122_apply, val_main_v124_apply]
  exact tap x w 20 i _ _ rfl (Nat.mod_eq_of_lt (i 2).isLt) rfl rfl rfl

theorem tap21 (x : Rows) (w : Weights) (i : S4x4096x2048.Idx) :
    val_main_v133 (F := Ideal) x w i = w (ValueIdx.ix2 (21 : Fin 31) (i 2)) * shifted x (token (i 0) (i 1)) 21 (i 2) := by
  rw [val_main_v133_apply, val_main_v132_apply, val_main_v131_apply, val_main_v129_apply, val_main_v128_apply, val_main_v130_apply]
  exact tap x w 21 i _ _ rfl (Nat.mod_eq_of_lt (i 2).isLt) rfl rfl rfl

theorem tap22 (x : Rows) (w : Weights) (i : S4x4096x2048.Idx) :
    val_main_v139 (F := Ideal) x w i = w (ValueIdx.ix2 (22 : Fin 31) (i 2)) * shifted x (token (i 0) (i 1)) 22 (i 2) := by
  rw [val_main_v139_apply, val_main_v138_apply, val_main_v137_apply, val_main_v135_apply, val_main_v134_apply, val_main_v136_apply]
  exact tap x w 22 i _ _ rfl (Nat.mod_eq_of_lt (i 2).isLt) rfl rfl rfl

theorem tap23 (x : Rows) (w : Weights) (i : S4x4096x2048.Idx) :
    val_main_v145 (F := Ideal) x w i = w (ValueIdx.ix2 (23 : Fin 31) (i 2)) * shifted x (token (i 0) (i 1)) 23 (i 2) := by
  rw [val_main_v145_apply, val_main_v144_apply, val_main_v143_apply, val_main_v141_apply, val_main_v140_apply, val_main_v142_apply]
  exact tap x w 23 i _ _ rfl (Nat.mod_eq_of_lt (i 2).isLt) rfl rfl rfl

theorem tap24 (x : Rows) (w : Weights) (i : S4x4096x2048.Idx) :
    val_main_v151 (F := Ideal) x w i = w (ValueIdx.ix2 (24 : Fin 31) (i 2)) * shifted x (token (i 0) (i 1)) 24 (i 2) := by
  rw [val_main_v151_apply, val_main_v150_apply, val_main_v149_apply, val_main_v147_apply, val_main_v146_apply, val_main_v148_apply]
  exact tap x w 24 i _ _ rfl (Nat.mod_eq_of_lt (i 2).isLt) rfl rfl rfl

theorem tap25 (x : Rows) (w : Weights) (i : S4x4096x2048.Idx) :
    val_main_v157 (F := Ideal) x w i = w (ValueIdx.ix2 (25 : Fin 31) (i 2)) * shifted x (token (i 0) (i 1)) 25 (i 2) := by
  rw [val_main_v157_apply, val_main_v156_apply, val_main_v155_apply, val_main_v153_apply, val_main_v152_apply, val_main_v154_apply]
  exact tap x w 25 i _ _ rfl (Nat.mod_eq_of_lt (i 2).isLt) rfl rfl rfl

theorem tap26 (x : Rows) (w : Weights) (i : S4x4096x2048.Idx) :
    val_main_v163 (F := Ideal) x w i = w (ValueIdx.ix2 (26 : Fin 31) (i 2)) * shifted x (token (i 0) (i 1)) 26 (i 2) := by
  rw [val_main_v163_apply, val_main_v162_apply, val_main_v161_apply, val_main_v159_apply, val_main_v158_apply, val_main_v160_apply]
  exact tap x w 26 i _ _ rfl (Nat.mod_eq_of_lt (i 2).isLt) rfl rfl rfl

theorem tap27 (x : Rows) (w : Weights) (i : S4x4096x2048.Idx) :
    val_main_v169 (F := Ideal) x w i = w (ValueIdx.ix2 (27 : Fin 31) (i 2)) * shifted x (token (i 0) (i 1)) 27 (i 2) := by
  rw [val_main_v169_apply, val_main_v168_apply, val_main_v167_apply, val_main_v165_apply, val_main_v164_apply, val_main_v166_apply]
  exact tap x w 27 i _ _ rfl (Nat.mod_eq_of_lt (i 2).isLt) rfl rfl rfl

theorem tap28 (x : Rows) (w : Weights) (i : S4x4096x2048.Idx) :
    val_main_v175 (F := Ideal) x w i = w (ValueIdx.ix2 (28 : Fin 31) (i 2)) * shifted x (token (i 0) (i 1)) 28 (i 2) := by
  rw [val_main_v175_apply, val_main_v174_apply, val_main_v173_apply, val_main_v171_apply, val_main_v170_apply, val_main_v172_apply]
  exact tap x w 28 i _ _ rfl (Nat.mod_eq_of_lt (i 2).isLt) rfl rfl rfl

theorem tap29 (x : Rows) (w : Weights) (i : S4x4096x2048.Idx) :
    val_main_v181 (F := Ideal) x w i = w (ValueIdx.ix2 (29 : Fin 31) (i 2)) * shifted x (token (i 0) (i 1)) 29 (i 2) := by
  rw [val_main_v181_apply, val_main_v180_apply, val_main_v179_apply, val_main_v177_apply, val_main_v176_apply, val_main_v178_apply]
  exact tap x w 29 i _ _ rfl (Nat.mod_eq_of_lt (i 2).isLt) rfl rfl rfl

theorem tap30 (x : Rows) (w : Weights) (i : S4x4096x2048.Idx) :
    val_main_v187 (F := Ideal) x w i = w (ValueIdx.ix2 (30 : Fin 31) (i 2)) * shifted x (token (i 0) (i 1)) 30 (i 2) := by
  rw [val_main_v187_apply, val_main_v186_apply, val_main_v185_apply, val_main_v183_apply, val_main_v182_apply, val_main_v184_apply]
  exact tap x w 30 i _ _ rfl (Nat.mod_eq_of_lt (i 2).isLt) rfl rfl rfl

theorem ref_conv (x : Rows) (w : Weights) (b : Row) (i : S4x4096x2048.Idx) :
    val_main_v220 (F := Ideal) x w b i = conv x w b (token (i 0) (i 1)) (i 2) := by
  rw [val_main_v220_apply, val_main_v217_apply, val_main_v216_apply, val_main_v215_apply, val_main_v214_apply, val_main_v213_apply, val_main_v212_apply, val_main_v211_apply, val_main_v210_apply, val_main_v209_apply, val_main_v208_apply, val_main_v207_apply, val_main_v206_apply, val_main_v205_apply, val_main_v204_apply, val_main_v203_apply, val_main_v202_apply, val_main_v201_apply, val_main_v200_apply, val_main_v199_apply, val_main_v198_apply, val_main_v197_apply, val_main_v196_apply, val_main_v195_apply, val_main_v194_apply, val_main_v193_apply, val_main_v192_apply, val_main_v191_apply, val_main_v190_apply, val_main_v189_apply, val_main_v188_apply, tap0, tap1, tap2, tap3, tap4, tap5, tap6, tap7, tap8, tap9, tap10, tap11, tap12, tap13, tap14, tap15, tap16, tap17, tap18, tap19, tap20, tap21, tap22, tap23, tap24, tap25, tap26, tap27, tap28, tap29, tap30, val_main_v219_apply, val_main_v218_apply]
  unfold conv taps
  exact add_eq rfl (congrArg b (funext fun a => match a with | ⟨0, _⟩ => rfl))
theorem ref_mean (x : Rows) (w : Weights) (b : Row) (i : S4x4096x1.Idx) : val_main_v224 (F := Ideal) x w b i = mean (conv x w b (token (i 0) (i 1))) := by
  rw [val_main_v224_apply, val_main_v222_apply, val_main_v221_apply, val_main_v223_apply, val_main_cst_0_apply, val_main_cst_apply]
  show Ideal.div (Ideal.ofBits .f32 0x00000000#32 + _) _ = _
  rw [Ideal.ofBits_zero_f32, zero_add]
  exact congrArg (fun z => Ideal.div z (Ideal.ofBits .f32 0x45000000#32)) (Finset.sum_congr rfl fun k _ => ref_conv x w b _)
theorem ref_centred (x : Rows) (w : Weights) (b : Row) (i : S4x4096x2048.Idx) :
    val_main_v226 (F := Ideal) x w b i = conv x w b (token (i 0) (i 1)) (i 2) - mean (conv x w b (token (i 0) (i 1))) := by
  rw [val_main_v226_apply, val_main_v225_apply, ref_mean, ref_conv]
  rfl
theorem ref_scale (x : Rows) (w : Weights) (b : Row) (i : S4x4096x1.Idx) : val_main_v234 (F := Ideal) x w b i = scale (conv x w b (token (i 0) (i 1))) := by
  rw [val_main_v234_apply, val_main_v233_apply, val_main_v231_apply, val_main_v229_apply, val_main_v228_apply, val_main_v230_apply,
    val_main_cst_2_apply, val_main_cst_1_apply, val_main_v232_apply, val_main_cst_3_apply]
  show Ideal.rsqrt (Ideal.div (Ideal.ofBits .f32 0x00000000#32 + _) _ + _) = _
  rw [Ideal.ofBits_zero_f32, zero_add]
  refine congrArg (fun z => Ideal.rsqrt (Ideal.div z (Ideal.ofBits .f32 0x45000000#32) + Ideal.ofBits .f32 0x3727C5AC#32)) (Finset.sum_congr rfl fun k _ => ?_)
  rw [val_main_v227_apply, ref_centred]
  rfl
theorem ref_normed (x : Rows) (w : Weights) (b g s : Row) (i : S4x4096x2048.Idx) :
    val_main_v242 (F := Ideal) x w b g s i = normed (conv x w b (token (i 0) (i 1))) (g (ValueIdx.ix1 (i 2))) (s (ValueIdx.ix1 (i 2))) (i 2) := by
  rw [val_main_v242_apply, val_main_v239_apply, val_main_v236_apply, val_main_v235_apply, val_main_v238_apply, val_main_v237_apply,
    val_main_v241_apply, val_main_v240_apply, ref_centred, ref_scale]
  unfold normed
  refine congrArg₂ (fun y z => (conv x w b (token (i 0) (i 1)) (i 2) - mean (conv x w b (token (i 0) (i 1)))) * scale (conv x w b (token (i 0) (i 1))) * g y + s z)
    (funext fun a => ?_) (funext fun a => ?_)
  · match a with
    | ⟨0, _⟩ => rfl
  · match a with
    | ⟨0, _⟩ => rfl
/-- The reference's result. -/
theorem ref_value (x : Rows) (w : Weights) (b g s : Row) : val_main_v245 (F := Ideal) x w b g s = answers x w b g s := by
  refine funext fun (r : S16384x2048.Idx) => ?_
  obtain ⟨n, k, rfl⟩ : ∃ (n : Fin 16384) (k : Fin 2048), r = ValueIdx.ix2 n k := ⟨r 0, r 1, funext fun a => match a with | ⟨0, _⟩ => rfl | ⟨1, _⟩ => rfl⟩
  have hn := n.isLt
  have hk := k.isLt
  have e1 : idx_main_v244 (ValueIdx.ix2 n k) = ValueIdx.ix3 (⟨n.val / 4096, by omega⟩ : Fin 4) (⟨n.val % 4096, by omega⟩ : Fin 4096) k := funext fun a => Fin.ext (by
    match a with
    | ⟨0, _⟩ => show (n.val * 2048 + k.val) / 8388608 = n.val / 4096; omega
    | ⟨1, _⟩ => show (n.val * 2048 + k.val) / 2048 % 4096 = n.val % 4096; omega
    | ⟨2, _⟩ => show (n.val * 2048 + k.val) % 2048 = k.val; omega)
  have e3 : token (⟨n.val / 4096, by omega⟩ : Fin 4) (⟨n.val % 4096, by omega⟩ : Fin 4096) = n := Fin.ext (by show n.val / 4096 * 4096 + n.val % 4096 = n.val; omega)
  have ef : val_main_v242 (F := Ideal) x w b g s (ValueIdx.ix3 (⟨n.val / 4096, by omega⟩ : Fin 4) (⟨n.val % 4096, by omega⟩ : Fin 4096) k)
      = normed (conv x w b n) (g (ValueIdx.ix1 k)) (s (ValueIdx.ix1 k)) k :=
    (ref_normed x w b g s _).trans (congrArg (fun z => normed (conv x w b z) (g (ValueIdx.ix1 k)) (s (ValueIdx.ix1 k)) k) e3)
  rw [val_main_v245_apply, val_main_v244_apply, e1, val_main_v243_apply, val_main_call1_v5_apply, val_main_call1_v4_apply, val_main_call1_cst_0_apply,
    val_main_call1_v3_apply, val_main_call1_v2_apply, val_main_call1_cst_apply, val_main_call1_v1_apply, val_main_call1_v0_apply, ef]
  show normed _ _ _ k * Ideal.div (Ideal.ofBits .f32 0x3F800000#32) (Ideal.ofBits .f32 0x3F800000#32 + Ideal.exp (-(normed _ _ _ k))) = silu (normed _ _ _ k)
  rw [one_f32]
  rfl
end Reference

end Cert.Conv

namespace Cert.Kernel12Ideal.Conv

open Cert.Kernel12Ideal Cert.Kernel12Ideal.Gen
open Idealize.ShloMosaic Idealize.ShloMosaic.TcCoe
open Cert.Conv (Rows Weights Row Out add_eq taps shifted mean scale normed normed_congr silu convolved answers)

theorem hz : (![0, 0] : Fin 2 → Nat) = fun _ => 0 := funext fun a => by fin_cases a <;> rfl

/-! ## The normalisation of a block -/

theorem sums_apply (v : FVec Ideal S128x2048 .f32) (r : Fin 128) :
    shapeCast S128x1 (multiReduction (F := Ideal) .add [1] S128 v 0x00000000#32 reduces_S128x2048_S128 (.inl rfl) rfl) shapeCasts_S128_S128x1 (ValueIdx.ix2 r (0 : Fin 1))
      = ∑ k : Fin 2048, v (ValueIdx.ix2 r k) := by
  refine (shapeCast_apply _ _ (ValueIdx.ix2 r (0 : Fin 1)) (fun a => match a with | ⟨0, _⟩ => r) ?_).trans ?_
  · rw [Shape.rowMajor_val_one, Shape.rowMajor_val_two]; show r.val = r.val * 1 + 0; omega
  · refine (Ideal.multiReduction_add_single _ _ _ _ _ _).trans (Finset.sum_congr rfl fun k _ => ?_)
    have e : reduces_S128x2048_S128.lift (fun a => match a with | ⟨0, _⟩ => r) k = ValueIdx.ix2 r k := funext fun a => match a with
      | ⟨0, _⟩ => rfl
      | ⟨1, _⟩ => rfl
    exact congrArg v e
theorem along_apply (u : FVec Ideal S128x1 .f32) (r : Fin 128) (j : Fin 2048) :
    broadcastTo S128x2048 u broadcasts_S128x1_S128x2048 (ValueIdx.ix2 r j) = u (ValueIdx.ix2 r (0 : Fin 1)) :=
  broadcastTo_apply _ _ _ (ValueIdx.ix2 r (0 : Fin 1)) (fun a => match a with
    | ⟨0, _⟩ => rfl
    | ⟨1, _⟩ => rfl)
theorem down_apply (u : FVec Ideal S1x2048 .f32) (r : Fin 128) (j : Fin 2048) :
    broadcastTo S128x2048 u broadcasts_S1x2048_S128x2048 (ValueIdx.ix2 r j) = u (ValueIdx.ix2 (0 : Fin 1) j) :=
  broadcastTo_apply _ _ _ (ValueIdx.ix2 (0 : Fin 1) j) (fun a => match a with
    | ⟨0, _⟩ => rfl
    | ⟨1, _⟩ => rfl)

/-- A block less its rows' means. -/
def centred (v : FVec Ideal S128x2048 .f32) : FVec Ideal S128x2048 .f32 :=
  subf v (broadcastTo S128x2048 (divf (shapeCast S128x1 (multiReduction (F := Ideal) .add [1] S128 v 0x00000000#32 reduces_S128x2048_S128 (.inl rfl) rfl) shapeCasts_S128_S128x1)
    (broadcast S128x1 (Scalar.ofBits .f32 0x45000000#32))) broadcasts_S128x1_S128x2048)
theorem centred_apply (v : FVec Ideal S128x2048 .f32) (r : Fin 128) (j : Fin 2048) :
    centred v (ValueIdx.ix2 r j) = v (ValueIdx.ix2 r j) - mean (fun k => v (ValueIdx.ix2 r k)) := by
  unfold centred
  show v (ValueIdx.ix2 r j) - broadcastTo S128x2048 _ broadcasts_S128x1_S128x2048 (ValueIdx.ix2 r j) = _
  rw [along_apply]
  show v (ValueIdx.ix2 r j) - Ideal.div (shapeCast S128x1 _ shapeCasts_S128_S128x1 (ValueIdx.ix2 r (0 : Fin 1))) _ = _
  rw [sums_apply]
  rfl
theorem norm_apply (v : Vec Ideal S128x2048 .f32) (g b : Vec Ideal S1x2048 .f32) (r : Fin 128) (j : Fin 2048) :
    k0_pay1 (F := Ideal) (k0_pay68 v) (k0_pay69 v) g b (ValueIdx.ix2 r j)
      = silu (normed (fun k => v (ValueIdx.ix2 r k)) (g (ValueIdx.ix2 (0 : Fin 1) j)) (b (ValueIdx.ix2 (0 : Fin 1) j)) j) := by
  have hs : shapeCast S128x1 (multiReduction (F := Ideal) .add [1] S128 (mulf (centred v) (centred v)) 0x00000000#32 reduces_S128x2048_S128 (.inl rfl) rfl) shapeCasts_S128_S128x1 (ValueIdx.ix2 r (0 : Fin 1))
      = ∑ k : Fin 2048, (v (ValueIdx.ix2 r k) - mean (fun k => v (ValueIdx.ix2 r k))) * (v (ValueIdx.ix2 r k) - mean (fun k => v (ValueIdx.ix2 r k))) := by
    rw [sums_apply]
    refine Finset.sum_congr rfl fun k _ => ?_
    show centred v (ValueIdx.ix2 r k) * centred v (ValueIdx.ix2 r k) = _
    rw [centred_apply]
  have hn : addf (mulf (mulf (centred v) (broadcastTo S128x2048 (rsqrt (addf (k0_pay69 (F := Ideal) v) (broadcast S128x1 (Scalar.ofBits .f32 0x3727C5AC#32)))) broadcasts_S128x1_S128x2048))
      (broadcastTo S128x2048 g broadcasts_S1x2048_S128x2048)) (broadcastTo S128x2048 b broadcasts_S1x2048_S128x2048) (ValueIdx.ix2 r j)
      = normed (fun k => v (ValueIdx.ix2 r k)) (g (ValueIdx.ix2 (0 : Fin 1) j)) (b (ValueIdx.ix2 (0 : Fin 1) j)) j := by
    show centred v (ValueIdx.ix2 r j) * broadcastTo S128x2048 _ broadcasts_S128x1_S128x2048 (ValueIdx.ix2 r j) * broadcastTo S128x2048 g broadcasts_S1x2048_S128x2048 (ValueIdx.ix2 r j)
      + broadcastTo S128x2048 b broadcasts_S1x2048_S128x2048 (ValueIdx.ix2 r j) = _
    rw [along_apply, down_apply, down_apply, centred_apply]
    unfold normed scale
    rw [← hs]
    rfl
  unfold k0_pay1
  rw [shapeCast_self, shapeCast_self]
  exact congrArg silu hn

/-! ## The taps of a group of columns -/

theorem part (w : Vec Ideal S31x256 .f32) (x : Vec Ideal S128x256 .f32) (j : Fin 31) (hs : S31x256.Slices ![j.val, 0] S1x256) (r : Fin 128) (k : Fin 256) :
    mulf (F := Ideal) (φ := .f32) (broadcastTo S128x256 (extractStridedSlice S1x256 ![j.val, 0] w hs) broadcasts_S1x256_S128x256) x (ValueIdx.ix2 r k)
      = w (ValueIdx.ix2 j k) * x (ValueIdx.ix2 r k) := by
  show broadcastTo S128x256 (extractStridedSlice S1x256 ![j.val, 0] w hs) broadcasts_S1x256_S128x256 (ValueIdx.ix2 r k) * x (ValueIdx.ix2 r k) = _
  refine congrArg (· * x (ValueIdx.ix2 r k)) ((broadcastTo_apply _ _ _ (ValueIdx.ix2 (0 : Fin 1) k) (fun a => match a with
    | ⟨0, _⟩ => rfl
    | ⟨1, _⟩ => rfl)).trans ?_)
  exact extractStridedSlice_apply _ w hs _ (ValueIdx.ix2 j k) (fun a => match a with
    | ⟨0, _⟩ => rfl
    | ⟨1, _⟩ => by show k.val = 0 + k.val; omega)

/-- The group's taps added, in order: each tap's weights by the rows it reads. -/
def sums (w : Vec Ideal S31x256 .f32) (c : Fin 31 → Vec Ideal S128x256 .f32) : FVec Ideal S128x256 .f32 :=
  addf (addf (addf (addf (addf (addf (addf (addf (addf (addf (addf (addf (addf (addf (addf (addf (addf (addf (addf (addf (addf (addf (addf (addf (addf (addf (addf (addf (addf (addf (mulf (broadcastTo S128x256 (extractStridedSlice S1x256 ![0, 0] w slices_S31x256_o0_0_S1x256) broadcasts_S1x256_S128x256) (c 0))
    (mulf (broadcastTo S128x256 (extractStridedSlice S1x256 ![1, 0] w slices_S31x256_o1_0_S1x256) broadcasts_S1x256_S128x256) (c 1)))
    (mulf (broadcastTo S128x256 (extractStridedSlice S1x256 ![2, 0] w slices_S31x256_o2_0_S1x256) broadcasts_S1x256_S128x256) (c 2)))
    (mulf (broadcastTo S128x256 (extractStridedSlice S1x256 ![3, 0] w slices_S31x256_o3_0_S1x256) broadcasts_S1x256_S128x256) (c 3)))
    (mulf (broadcastTo S128x256 (extractStridedSlice S1x256 ![4, 0] w slices_S31x256_o4_0_S1x256) broadcasts_S1x256_S128x256) (c 4)))
    (mulf (broadcastTo S128x256 (extractStridedSlice S1x256 ![5, 0] w slices_S31x256_o5_0_S1x256) broadcasts_S1x256_S128x256) (c 5)))
    (mulf (broadcastTo S128x256 (extractStridedSlice S1x256 ![6, 0] w slices_S31x256_o6_0_S1x256) broadcasts_S1x256_S128x256) (c 6)))
    (mulf (broadcastTo S128x256 (extractStridedSlice S1x256 ![7, 0] w slices_S31x256_o7_0_S1x256) broadcasts_S1x256_S128x256) (c 7)))
    (mulf (broadcastTo S128x256 (extractStridedSlice S1x256 ![8, 0] w slices_S31x256_o8_0_S1x256) broadcasts_S1x256_S128x256) (c 8)))
    (mulf (broadcastTo S128x256 (extractStridedSlice S1x256 ![9, 0] w slices_S31x256_o9_0_S1x256) broadcasts_S1x256_S128x256) (c 9)))
    (mulf (broadcastTo S128x256 (extractStridedSlice S1x256 ![10, 0] w slices_S31x256_o10_0_S1x256) broadcasts_S1x256_S128x256) (c 10)))
    (mulf (broadcastTo S128x256 (extractStridedSlice S1x256 ![11, 0] w slices_S31x256_o11_0_S1x256) broadcasts_S1x256_S128x256) (c 11)))
    (mulf (broadcastTo S128x256 (extractStridedSlice S1x256 ![12, 0] w slices_S31x256_o12_0_S1x256) broadcasts_S1x256_S128x256) (c 12)))
    (mulf (broadcastTo S128x256 (extractStridedSlice S1x256 ![13, 0] w slices_S31x256_o13_0_S1x256) broadcasts_S1x256_S128x256) (c 13)))
    (mulf (broadcastTo S128x256 (extractStridedSlice S1x256 ![14, 0] w slices_S31x256_o14_0_S1x256) broadcasts_S1x256_S128x256) (c 14)))
    (mulf (broadcastTo S128x256 (extractStridedSlice S1x256 ![15, 0] w slices_S31x256_o15_0_S1x256) broadcasts_S1x256_S128x256) (c 15)))
    (mulf (broadcastTo S128x256 (extractStridedSlice S1x256 ![16, 0] w slices_S31x256_o16_0_S1x256) broadcasts_S1x256_S128x256) (c 16)))
    (mulf (broadcastTo S128x256 (extractStridedSlice S1x256 ![17, 0] w slices_S31x256_o17_0_S1x256) broadcasts_S1x256_S128x256) (c 17)))
    (mulf (broadcastTo S128x256 (extractStridedSlice S1x256 ![18, 0] w slices_S31x256_o18_0_S1x256) broadcasts_S1x256_S128x256) (c 18)))
    (mulf (broadcastTo S128x256 (extractStridedSlice S1x256 ![19, 0] w slices_S31x256_o19_0_S1x256) broadcasts_S1x256_S128x256) (c 19)))
    (mulf (broadcastTo S128x256 (extractStridedSlice S1x256 ![20, 0] w slices_S31x256_o20_0_S1x256) broadcasts_S1x256_S128x256) (c 20)))
    (mulf (broadcastTo S128x256 (extractStridedSlice S1x256 ![21, 0] w slices_S31x256_o21_0_S1x256) broadcasts_S1x256_S128x256) (c 21)))
    (mulf (broadcastTo S128x256 (extractStridedSlice S1x256 ![22, 0] w slices_S31x256_o22_0_S1x256) broadcasts_S1x256_S128x256) (c 22)))
    (mulf (broadcastTo S128x256 (extractStridedSlice S1x256 ![23, 0] w slices_S31x256_o23_0_S1x256) broadcasts_S1x256_S128x256) (c 23)))
    (mulf (broadcastTo S128x256 (extractStridedSlice S1x256 ![24, 0] w slices_S31x256_o24_0_S1x256) broadcasts_S1x256_S128x256) (c 24)))
    (mulf (broadcastTo S128x256 (extractStridedSlice S1x256 ![25, 0] w slices_S31x256_o25_0_S1x256) broadcasts_S1x256_S128x256) (c 25)))
    (mulf (broadcastTo S128x256 (extractStridedSlice S1x256 ![26, 0] w slices_S31x256_o26_0_S1x256) broadcasts_S1x256_S128x256) (c 26)))
    (mulf (broadcastTo S128x256 (extractStridedSlice S1x256 ![27, 0] w slices_S31x256_o27_0_S1x256) broadcasts_S1x256_S128x256) (c 27)))
    (mulf (broadcastTo S128x256 (extractStridedSlice S1x256 ![28, 0] w slices_S31x256_o28_0_S1x256) broadcasts_S1x256_S128x256) (c 28)))
    (mulf (broadcastTo S128x256 (extractStridedSlice S1x256 ![29, 0] w slices_S31x256_o29_0_S1x256) broadcasts_S1x256_S128x256) (c 29)))
    (mulf (broadcastTo S128x256 (extractStridedSlice S1x256 ![30, 0] w slices_S31x256_o30_0_S1x256) broadcasts_S1x256_S128x256) (c 30))
/-- The group's block: the taps and the bias. -/
def block (w : Vec Ideal S31x256 .f32) (b : Vec Ideal S1x256 .f32) (c : Fin 31 → Vec Ideal S128x256 .f32) : FVec Ideal S128x256 .f32 :=
  shapeCast S128x256 (addf (sums w c) (broadcastTo S128x256 (shapeCast S1x256 b shapeCasts_S1x256_S1x256) broadcasts_S1x256_S128x256)) shapeCasts_S128x256_S128x256

theorem sums_at (w : Vec Ideal S31x256 .f32) (c : Fin 31 → Vec Ideal S128x256 .f32) (r : Fin 128) (k : Fin 256) :
    sums w c (ValueIdx.ix2 r k) = taps (fun j => w (ValueIdx.ix2 j k) * c j (ValueIdx.ix2 r k)) := by
  unfold sums taps
  exact add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (part w (c 0) 0 slices_S31x256_o0_0_S1x256 r k)
    (part w (c 1) 1 slices_S31x256_o1_0_S1x256 r k))
    (part w (c 2) 2 slices_S31x256_o2_0_S1x256 r k))
    (part w (c 3) 3 slices_S31x256_o3_0_S1x256 r k))
    (part w (c 4) 4 slices_S31x256_o4_0_S1x256 r k))
    (part w (c 5) 5 slices_S31x256_o5_0_S1x256 r k))
    (part w (c 6) 6 slices_S31x256_o6_0_S1x256 r k))
    (part w (c 7) 7 slices_S31x256_o7_0_S1x256 r k))
    (part w (c 8) 8 slices_S31x256_o8_0_S1x256 r k))
    (part w (c 9) 9 slices_S31x256_o9_0_S1x256 r k))
    (part w (c 10) 10 slices_S31x256_o10_0_S1x256 r k))
    (part w (c 11) 11 slices_S31x256_o11_0_S1x256 r k))
    (part w (c 12) 12 slices_S31x256_o12_0_S1x256 r k))
    (part w (c 13) 13 slices_S31x256_o13_0_S1x256 r k))
    (part w (c 14) 14 slices_S31x256_o14_0_S1x256 r k))
    (part w (c 15) 15 slices_S31x256_o15_0_S1x256 r k))
    (part w (c 16) 16 slices_S31x256_o16_0_S1x256 r k))
    (part w (c 17) 17 slices_S31x256_o17_0_S1x256 r k))
    (part w (c 18) 18 slices_S31x256_o18_0_S1x256 r k))
    (part w (c 19) 19 slices_S31x256_o19_0_S1x256 r k))
    (part w (c 20) 20 slices_S31x256_o20_0_S1x256 r k))
    (part w (c 21) 21 slices_S31x256_o21_0_S1x256 r k))
    (part w (c 22) 22 slices_S31x256_o22_0_S1x256 r k))
    (part w (c 23) 23 slices_S31x256_o23_0_S1x256 r k))
    (part w (c 24) 24 slices_S31x256_o24_0_S1x256 r k))
    (part w (c 25) 25 slices_S31x256_o25_0_S1x256 r k))
    (part w (c 26) 26 slices_S31x256_o26_0_S1x256 r k))
    (part w (c 27) 27 slices_S31x256_o27_0_S1x256 r k))
    (part w (c 28) 28 slices_S31x256_o28_0_S1x256 r k))
    (part w (c 29) 29 slices_S31x256_o29_0_S1x256 r k))
    (part w (c 30) 30 slices_S31x256_o30_0_S1x256 r k)
theorem block_apply (w : Vec Ideal S31x256 .f32) (b : Vec Ideal S1x256 .f32) (c : Fin 31 → Vec Ideal S128x256 .f32) (r : Fin 128) (k : Fin 256) :
    block w b c (ValueIdx.ix2 r k) = taps (fun j => w (ValueIdx.ix2 j k) * c j (ValueIdx.ix2 r k)) + b (ValueIdx.ix2 (0 : Fin 1) k) := by
  unfold block
  rw [shapeCast_self, shapeCast_self]
  exact add_eq (sums_at w c r k) (broadcastTo_apply _ _ _ (ValueIdx.ix2 (0 : Fin 1) k) (fun a => match a with
    | ⟨0, _⟩ => rfl
    | ⟨1, _⟩ => rfl))

/-- An entry of the block's convolution, from the 160 rows it reads. -/
def entry (w : Vec Ideal S31x2048 .f32) (b : Vec Ideal S1x2048 .f32) (x : Vec Ideal S160x2048 .f32) (r : Fin 128) (k : Fin 2048) : EReal :=
  taps (fun j => w (ValueIdx.ix2 j k) * x (ValueIdx.ix2 (⟨2 + j.val + r.val, by omega⟩ : Fin 160) k)) + b (ValueIdx.ix2 (0 : Fin 1) k)

theorem inside (o : ℕ) (ho : o + 256 ≤ 2048) (j : Fin 31) : ∀ a, (![2 + j.val, o] : Fin 2 → Nat) a + S128x256.size a ≤ S160x2048.size a := fun a => by
  have hj := j.isLt
  match a with
  | ⟨0, _⟩ => show 2 + j.val + 128 ≤ 160; omega
  | ⟨1, _⟩ => exact ho

/-- A group's block is those entries. -/
theorem agree (w : Vec Ideal S31x2048 .f32) (b : Vec Ideal S1x2048 .f32) (x : Vec Ideal S160x2048 .f32) (o : ℕ) (ho : o + 256 ≤ 2048) (h1 h2 h3) (z : S128x256.Idx) :
    block (View.ld w (Rect.unit (s := S31x2048) ![0, o] S31x256.size h1)) (View.ld b (Rect.unit (s := S1x2048) ![0, o] S1x256.size h2))
        (fun j => View.ld x (Rect.unit (s := S160x2048) ![2 + j.val, o] S128x256.size (inside o ho j))) z
      = entry w b x ((Rect.unit (s := S128x2048) ![0, o] S128x256.size h3).emb z 0) ((Rect.unit (s := S128x2048) ![0, o] S128x256.size h3).emb z 1) := by
  obtain ⟨r, k, rfl⟩ : ∃ (r : Fin 128) (k : Fin 256), z = ValueIdx.ix2 r k := ⟨z 0, z 1, funext fun a => match a with | ⟨0, _⟩ => rfl | ⟨1, _⟩ => rfl⟩
  have hr := r.isLt
  have hk := k.isLt
  have e0 : (Rect.unit (s := S128x2048) ![0, o] S128x256.size h3).emb (ValueIdx.ix2 r k) 0 = r := Fin.ext ((Rect.idx_unit_val _ _ h3 _ (0 : Fin 2)).trans (by show 0 + r.val = r.val; omega))
  have e1 : (Rect.unit (s := S128x2048) ![0, o] S128x256.size h3).emb (ValueIdx.ix2 r k) 1 = (⟨o + k.val, by omega⟩ : Fin 2048) := Fin.ext ((Rect.idx_unit_val _ _ h3 _ (1 : Fin 2)).trans rfl)
  refine (block_apply _ _ _ r k).trans ?_
  refine Eq.trans ?_ (congrArg₂ (entry w b x) e0 e1).symm
  unfold entry
  refine add_eq (congrArg taps (funext fun j => ?_)) ?_
  · refine congrArg₂ (fun a b : EReal => a * b) ?_ ?_
    · exact View.ld_unit_apply_of w _ _ h1 _ _ (fun a => match a with
        | ⟨0, _⟩ => by show j.val = 0 + j.val; omega
        | ⟨1, _⟩ => rfl)
    · exact View.ld_unit_apply_of x _ _ (inside o ho j) _ _ (fun a => match a with
        | ⟨0, _⟩ => rfl
        | ⟨1, _⟩ => rfl)
  · exact View.ld_unit_apply_of b _ _ h2 _ _ (fun a => match a with
      | ⟨0, _⟩ => rfl
      | ⟨1, _⟩ => rfl)

/-- The 160 rows a block reads: the 32 before it, and its own. -/
def stacked (q : Vec Ideal S32x2048 .f32) (x : Vec Ideal S128x2048 .f32) : Vec Ideal S160x2048 .f32 := fun y =>
  if h : (y 0).val < 32 then q (ValueIdx.ix2 (⟨(y 0).val, h⟩ : Fin 32) (y 1)) else x (ValueIdx.ix2 (⟨(y 0).val - 32, by have h0 : (y 0).val < 160 := (y 0).isLt; omega⟩ : Fin 128) (y 1))
theorem stack (q : Vec Ideal S32x2048 .f32) (x : Vec Ideal S128x2048 .f32) (h1 h2) :
    View.canon (Val := Elt Ideal) (s := S160x2048) (e := .f32) [⟨Rect.unit (s := S160x2048) ![32, 0] S128x2048.size h1, x⟩, ⟨Rect.unit (s := S160x2048) ![0, 0] S32x2048.size h2, q⟩]
      = stacked q x := by
  refine funext fun y => ?_
  have h0 : (y 0).val < 160 := (y 0).isLt
  unfold stacked
  by_cases h : (y 0).val < 32
  · rw [dif_pos h, View.canon_cons_of_not_mem _ _ (fun hm => by
      have hm' : y ∈ (Rect.unit (s := S160x2048) ![32, 0] S128x2048.size h1).set := hm
      have e : 32 ≤ (y 0).val := (Rect.mem_set_unit.mp hm' (0 : Fin 2)).1
      omega)]
    have e : y = (Rect.unit (s := S160x2048) ![0, 0] S32x2048.size h2).emb (ValueIdx.ix2 (⟨(y 0).val, h⟩ : Fin 32) (y 1 : Fin 2048)) := funext fun a => Fin.ext (by
      refine Eq.trans ?_ (Rect.idx_unit_val _ _ h2 _ a).symm
      match a with
      | ⟨0, _⟩ => show (y 0).val = 0 + (y 0).val; omega
      | ⟨1, _⟩ => show (y 1).val = 0 + (y 1).val; omega)
    exact (congrArg _ e).trans (View.canon_cons_emb _ _ _ _)
  · rw [dif_neg h]
    have e : y = (Rect.unit (s := S160x2048) ![32, 0] S128x2048.size h1).emb (ValueIdx.ix2 (⟨(y 0).val - 32, by omega⟩ : Fin 128) (y 1 : Fin 2048)) := funext fun a => Fin.ext (by
      refine Eq.trans ?_ (Rect.idx_unit_val _ _ h1 _ a).symm
      match a with
      | ⟨0, _⟩ => show (y 0).val = 32 + ((y 0).val - 32); omega
      | ⟨1, _⟩ => show (y 1).val = 0 + (y 1).val; omega)
    exact (congrArg _ e).trans (View.canon_cons_emb _ _ _ _)

/-! ## What the body leaves -/

section Body
variable (c : Dev nD) (i : grid0.Coords) (a2 : Memref sig .tc .vmem S32x2048 .f32) (g2 : a2.IsWhole) (a3 : Memref sig .tc .vmem S128x2048 .f32) (g3 : a3.IsWhole)
  (a4 : Memref sig .tc .vmem S31x2048 .f32) (g4 : a4.IsWhole) (a5 : Memref sig .tc .vmem S1x2048 .f32) (g5 : a5.IsWhole) (a6 : Memref sig .tc .vmem S1x2048 .f32) (g6 : a6.IsWhole)
  (a7 : Memref sig .tc .vmem S1x2048 .f32) (g7 : a7.IsWhole) (a8 : Memref sig .tc .vmem S128x2048 .bf16) (g8 : a8.IsWhole) (a9 : Memref sig .tc .vmem S160x2048 .f32) (g9 : a9.IsWhole)
  (a10 : Memref sig .tc .vmem S128x2048 .f32) (g10 : a10.IsWhole)
  (q : Vec Ideal S32x2048 .f32) (x : Vec Ideal S128x2048 .f32) (w : Vec Ideal S31x2048 .f32) (b g s : Vec Ideal S1x2048 .f32)

/-- An entry of the block of the result, from the rows before the block and its own. -/
def left (q : Vec Ideal S32x2048 .f32) (r : Fin 128) (k : Fin 2048) : EReal :=
  silu (normed (entry w b (stacked q x) r) (g (ValueIdx.ix2 (0 : Fin 1) k)) (s (ValueIdx.ix2 (0 : Fin 1) k)) k)
/-- The rows before a sequence: zeros. -/
def zeros : Vec Ideal S32x2048 .f32 := fun _ => 0

/-- At the first block of a sequence: the rows read, the convolution of the block, and the block of the result. -/
theorem rows_A : a9.view.read (Elt Ideal) (a9.view.writes (Elt Ideal) a9.view.junk (kernelRun0_A.sl.HS0_2 (F := Ideal) c a3 g3 x)) = stacked zeros x := by
  rw [View.read_writes_junk_eq_canon]
  unfold kernelRun0_A.sl.HS0_2
  refine (stack _ _ _ _).trans (congrArg₂ stacked ?_ ?_)
  · have eq : k0_pay2 (F := Ideal) = zeros := by
      unfold k0_pay2
      dsimp only
      rw [shapeCast_self]
      exact funext fun _ => Ideal.ofBits_zero_f32
    rw [eq]
  · unfold k0_pay4
    dsimp only
    rw [shapeCast_self, View.readAt_eq_ld, g3.read_unread, View.ld_unit_zero (S := S128x2048) hz]
theorem pieces_A : kernelRun0_A.sl.HS1_8 (F := Ideal) c a3 g3 a4 g4 a5 g5 a9 x w b = [⟨Rect.unit (s := S128x2048) ![0, 1792] S128x256.size inb_S128x2048_S128x256_0_1792, block (View.readAt (Elt Ideal) a4.view (Rect.unit (s := S31x2048) ![0, 1792] S31x256.size inb_S31x2048_S31x256_0_1792).toLoadRect (g4.unread w)) (View.readAt (Elt Ideal) a5.view (Rect.unit (s := S1x2048) ![0, 1792] S1x256.size inb_S1x2048_S1x256_0_1792).toLoadRect (g5.unread b))
      (fun j => a9.view.readCov (kernelRun0_A.sl.HS0_2 (F := Ideal) c a3 g3 x) (Rect.unit (s := S160x2048) ![2 + j.val, 1792] S128x256.size (inside 1792 (by decide) j)).toLoadRect)⟩,
    ⟨Rect.unit (s := S128x2048) ![0, 1536] S128x256.size inb_S128x2048_S128x256_0_1536, block (View.readAt (Elt Ideal) a4.view (Rect.unit (s := S31x2048) ![0, 1536] S31x256.size inb_S31x2048_S31x256_0_1536).toLoadRect (g4.unread w)) (View.readAt (Elt Ideal) a5.view (Rect.unit (s := S1x2048) ![0, 1536] S1x256.size inb_S1x2048_S1x256_0_1536).toLoadRect (g5.unread b))
      (fun j => a9.view.readCov (kernelRun0_A.sl.HS0_2 (F := Ideal) c a3 g3 x) (Rect.unit (s := S160x2048) ![2 + j.val, 1536] S128x256.size (inside 1536 (by decide) j)).toLoadRect)⟩,
    ⟨Rect.unit (s := S128x2048) ![0, 1280] S128x256.size inb_S128x2048_S128x256_0_1280, block (View.readAt (Elt Ideal) a4.view (Rect.unit (s := S31x2048) ![0, 1280] S31x256.size inb_S31x2048_S31x256_0_1280).toLoadRect (g4.unread w)) (View.readAt (Elt Ideal) a5.view (Rect.unit (s := S1x2048) ![0, 1280] S1x256.size inb_S1x2048_S1x256_0_1280).toLoadRect (g5.unread b))
      (fun j => a9.view.readCov (kernelRun0_A.sl.HS0_2 (F := Ideal) c a3 g3 x) (Rect.unit (s := S160x2048) ![2 + j.val, 1280] S128x256.size (inside 1280 (by decide) j)).toLoadRect)⟩,
    ⟨Rect.unit (s := S128x2048) ![0, 1024] S128x256.size inb_S128x2048_S128x256_0_1024, block (View.readAt (Elt Ideal) a4.view (Rect.unit (s := S31x2048) ![0, 1024] S31x256.size inb_S31x2048_S31x256_0_1024).toLoadRect (g4.unread w)) (View.readAt (Elt Ideal) a5.view (Rect.unit (s := S1x2048) ![0, 1024] S1x256.size inb_S1x2048_S1x256_0_1024).toLoadRect (g5.unread b))
      (fun j => a9.view.readCov (kernelRun0_A.sl.HS0_2 (F := Ideal) c a3 g3 x) (Rect.unit (s := S160x2048) ![2 + j.val, 1024] S128x256.size (inside 1024 (by decide) j)).toLoadRect)⟩,
    ⟨Rect.unit (s := S128x2048) ![0, 768] S128x256.size inb_S128x2048_S128x256_0_768, block (View.readAt (Elt Ideal) a4.view (Rect.unit (s := S31x2048) ![0, 768] S31x256.size inb_S31x2048_S31x256_0_768).toLoadRect (g4.unread w)) (View.readAt (Elt Ideal) a5.view (Rect.unit (s := S1x2048) ![0, 768] S1x256.size inb_S1x2048_S1x256_0_768).toLoadRect (g5.unread b))
      (fun j => a9.view.readCov (kernelRun0_A.sl.HS0_2 (F := Ideal) c a3 g3 x) (Rect.unit (s := S160x2048) ![2 + j.val, 768] S128x256.size (inside 768 (by decide) j)).toLoadRect)⟩,
    ⟨Rect.unit (s := S128x2048) ![0, 512] S128x256.size inb_S128x2048_S128x256_0_512, block (View.readAt (Elt Ideal) a4.view (Rect.unit (s := S31x2048) ![0, 512] S31x256.size inb_S31x2048_S31x256_0_512).toLoadRect (g4.unread w)) (View.readAt (Elt Ideal) a5.view (Rect.unit (s := S1x2048) ![0, 512] S1x256.size inb_S1x2048_S1x256_0_512).toLoadRect (g5.unread b))
      (fun j => a9.view.readCov (kernelRun0_A.sl.HS0_2 (F := Ideal) c a3 g3 x) (Rect.unit (s := S160x2048) ![2 + j.val, 512] S128x256.size (inside 512 (by decide) j)).toLoadRect)⟩,
    ⟨Rect.unit (s := S128x2048) ![0, 256] S128x256.size inb_S128x2048_S128x256_0_256, block (View.readAt (Elt Ideal) a4.view (Rect.unit (s := S31x2048) ![0, 256] S31x256.size inb_S31x2048_S31x256_0_256).toLoadRect (g4.unread w)) (View.readAt (Elt Ideal) a5.view (Rect.unit (s := S1x2048) ![0, 256] S1x256.size inb_S1x2048_S1x256_0_256).toLoadRect (g5.unread b))
      (fun j => a9.view.readCov (kernelRun0_A.sl.HS0_2 (F := Ideal) c a3 g3 x) (Rect.unit (s := S160x2048) ![2 + j.val, 256] S128x256.size (inside 256 (by decide) j)).toLoadRect)⟩,
    ⟨Rect.unit (s := S128x2048) ![0, 0] S128x256.size inb_S128x2048_S128x256_0_0, block (View.readAt (Elt Ideal) a4.view (Rect.unit (s := S31x2048) ![0, 0] S31x256.size inb_S31x2048_S31x256_0_0).toLoadRect (g4.unread w)) (View.readAt (Elt Ideal) a5.view (Rect.unit (s := S1x2048) ![0, 0] S1x256.size inb_S1x2048_S1x256_0_0).toLoadRect (g5.unread b))
      (fun j => a9.view.readCov (kernelRun0_A.sl.HS0_2 (F := Ideal) c a3 g3 x) (Rect.unit (s := S160x2048) ![2 + j.val, 0] S128x256.size (inside 0 (by decide) j)).toLoadRect)⟩] := by
  sl_kernel_rfl
theorem conv_A (r : Fin 128) (k : Fin 2048) : kernelRun0_A.sl.v1306 (F := Ideal) c a3 g3 a4 g4 a5 g5 a9 a10 x w b (ValueIdx.ix2 r k) = entry w b (stacked zeros x) r k := by
  unfold kernelRun0_A.sl.v1306
  rw [View.readCov_eq_canon']
  show View.ld (View.canon (kernelRun0_A.sl.HS1_8 (F := Ideal) c a3 g3 a4 g4 a5 g5 a9 x w b)) (Rect.unit (s := S128x2048) ![0, 0] S128x2048.size inb_S128x2048_S128x2048_0_0) (ValueIdx.ix2 r k) = _
  rw [View.ld_unit_zero (S := S128x2048) hz]
  refine (View.canon_apply_of_pieces (Val := Elt Ideal) (e := .f32) (fun y => entry (a4.view.read (Elt Ideal) (g4.unread w)) (a5.view.read (Elt Ideal) (g5.unread b))
    (a9.view.read (Elt Ideal) (a9.view.writes (Elt Ideal) a9.view.junk (kernelRun0_A.sl.HS0_2 (F := Ideal) c a3 g3 x))) (y 0) (y 1)) _ ?_ (ValueIdx.ix2 r k)
    (View.cover_of_tiledL (kernelRun0_A.sl.HS1_8 (F := Ideal) c a3 g3 a4 g4 a5 g5 a9 x w b) S128x256.size (by sl_kernel_rfl) _)).trans ?_
  · rw [pieces_A]
    refine List.forall_mem_cons.mpr ⟨fun z => agree _ _ _ 1792 (by decide) _ _ inb_S128x2048_S128x256_0_1792 z, ?_⟩
    refine List.forall_mem_cons.mpr ⟨fun z => agree _ _ _ 1536 (by decide) _ _ inb_S128x2048_S128x256_0_1536 z, ?_⟩
    refine List.forall_mem_cons.mpr ⟨fun z => agree _ _ _ 1280 (by decide) _ _ inb_S128x2048_S128x256_0_1280 z, ?_⟩
    refine List.forall_mem_cons.mpr ⟨fun z => agree _ _ _ 1024 (by decide) _ _ inb_S128x2048_S128x256_0_1024 z, ?_⟩
    refine List.forall_mem_cons.mpr ⟨fun z => agree _ _ _ 768 (by decide) _ _ inb_S128x2048_S128x256_0_768 z, ?_⟩
    refine List.forall_mem_cons.mpr ⟨fun z => agree _ _ _ 512 (by decide) _ _ inb_S128x2048_S128x256_0_512 z, ?_⟩
    refine List.forall_mem_cons.mpr ⟨fun z => agree _ _ _ 256 (by decide) _ _ inb_S128x2048_S128x256_0_256 z, ?_⟩
    refine List.forall_mem_cons.mpr ⟨fun z => agree _ _ _ 0 (by decide) _ _ inb_S128x2048_S128x256_0_0 z, ?_⟩
    exact fun p hp => absurd hp List.not_mem_nil
  · rw [g4.read_unread, g5.read_unread, rows_A]
theorem out_A (hc0 : cond0_0 i) (hc1 : ¬cond0_1 i) (r : Fin 128) (k : Fin 2048) :
    out0_A_6 (F := Ideal) c i a2 g2 a3 g3 a4 g4 a5 g5 a6 g6 a7 g7 a8 g8 a9 g9 a10 g10 hc0 hc1 q x w b g s (ValueIdx.ix2 r k) = left x w b g s zeros r k := by
  unfold out0_A_6
  rw [View.read_writes_junk_eq_canon]
  unfold kernelRun0_A
  dsimp only
  rw [View.canon_unit_zero (S := S128x2048) hz]
  unfold kernelRun0_A.sl.r_63 kernelRun0_A.sl.r_64
  refine (norm_apply _ _ _ r k).trans (congrArg silu (normed_congr (conv_A c a3 g3 a4 g4 a5 g5 a9 a10 x w b r) ?_ ?_ k))
  · rw [View.readAt_eq_ld, g6.read_unread, View.ld_unit_zero (S := S1x2048) hz]
  · rw [View.readAt_eq_ld, g7.read_unread, View.ld_unit_zero (S := S1x2048) hz]

/-- At any other block: the rows read, the convolution of the block, and the block of the result. -/
theorem rows_B : a9.view.read (Elt Ideal) (a9.view.writes (Elt Ideal) a9.view.junk (kernelRun0_B.sl.HS0_2 (F := Ideal) c a2 g2 a3 g3 q x)) = stacked q x := by
  rw [View.read_writes_junk_eq_canon]
  unfold kernelRun0_B.sl.HS0_2
  refine (stack _ _ _ _).trans (congrArg₂ stacked ?_ ?_)
  · unfold k0_pay3
    dsimp only
    rw [shapeCast_self, View.readAt_eq_ld, g2.read_unread, View.ld_unit_zero (S := S32x2048) hz]
  · unfold k0_pay4
    dsimp only
    rw [shapeCast_self, View.readAt_eq_ld, g3.read_unread, View.ld_unit_zero (S := S128x2048) hz]
theorem pieces_B : kernelRun0_B.sl.HS1_8 (F := Ideal) c a2 g2 a3 g3 a4 g4 a5 g5 a9 q x w b = [⟨Rect.unit (s := S128x2048) ![0, 1792] S128x256.size inb_S128x2048_S128x256_0_1792, block (View.readAt (Elt Ideal) a4.view (Rect.unit (s := S31x2048) ![0, 1792] S31x256.size inb_S31x2048_S31x256_0_1792).toLoadRect (g4.unread w)) (View.readAt (Elt Ideal) a5.view (Rect.unit (s := S1x2048) ![0, 1792] S1x256.size inb_S1x2048_S1x256_0_1792).toLoadRect (g5.unread b))
      (fun j => a9.view.readCov (kernelRun0_B.sl.HS0_2 (F := Ideal) c a2 g2 a3 g3 q x) (Rect.unit (s := S160x2048) ![2 + j.val, 1792] S128x256.size (inside 1792 (by decide) j)).toLoadRect)⟩,
    ⟨Rect.unit (s := S128x2048) ![0, 1536] S128x256.size inb_S128x2048_S128x256_0_1536, block (View.readAt (Elt Ideal) a4.view (Rect.unit (s := S31x2048) ![0, 1536] S31x256.size inb_S31x2048_S31x256_0_1536).toLoadRect (g4.unread w)) (View.readAt (Elt Ideal) a5.view (Rect.unit (s := S1x2048) ![0, 1536] S1x256.size inb_S1x2048_S1x256_0_1536).toLoadRect (g5.unread b))
      (fun j => a9.view.readCov (kernelRun0_B.sl.HS0_2 (F := Ideal) c a2 g2 a3 g3 q x) (Rect.unit (s := S160x2048) ![2 + j.val, 1536] S128x256.size (inside 1536 (by decide) j)).toLoadRect)⟩,
    ⟨Rect.unit (s := S128x2048) ![0, 1280] S128x256.size inb_S128x2048_S128x256_0_1280, block (View.readAt (Elt Ideal) a4.view (Rect.unit (s := S31x2048) ![0, 1280] S31x256.size inb_S31x2048_S31x256_0_1280).toLoadRect (g4.unread w)) (View.readAt (Elt Ideal) a5.view (Rect.unit (s := S1x2048) ![0, 1280] S1x256.size inb_S1x2048_S1x256_0_1280).toLoadRect (g5.unread b))
      (fun j => a9.view.readCov (kernelRun0_B.sl.HS0_2 (F := Ideal) c a2 g2 a3 g3 q x) (Rect.unit (s := S160x2048) ![2 + j.val, 1280] S128x256.size (inside 1280 (by decide) j)).toLoadRect)⟩,
    ⟨Rect.unit (s := S128x2048) ![0, 1024] S128x256.size inb_S128x2048_S128x256_0_1024, block (View.readAt (Elt Ideal) a4.view (Rect.unit (s := S31x2048) ![0, 1024] S31x256.size inb_S31x2048_S31x256_0_1024).toLoadRect (g4.unread w)) (View.readAt (Elt Ideal) a5.view (Rect.unit (s := S1x2048) ![0, 1024] S1x256.size inb_S1x2048_S1x256_0_1024).toLoadRect (g5.unread b))
      (fun j => a9.view.readCov (kernelRun0_B.sl.HS0_2 (F := Ideal) c a2 g2 a3 g3 q x) (Rect.unit (s := S160x2048) ![2 + j.val, 1024] S128x256.size (inside 1024 (by decide) j)).toLoadRect)⟩,
    ⟨Rect.unit (s := S128x2048) ![0, 768] S128x256.size inb_S128x2048_S128x256_0_768, block (View.readAt (Elt Ideal) a4.view (Rect.unit (s := S31x2048) ![0, 768] S31x256.size inb_S31x2048_S31x256_0_768).toLoadRect (g4.unread w)) (View.readAt (Elt Ideal) a5.view (Rect.unit (s := S1x2048) ![0, 768] S1x256.size inb_S1x2048_S1x256_0_768).toLoadRect (g5.unread b))
      (fun j => a9.view.readCov (kernelRun0_B.sl.HS0_2 (F := Ideal) c a2 g2 a3 g3 q x) (Rect.unit (s := S160x2048) ![2 + j.val, 768] S128x256.size (inside 768 (by decide) j)).toLoadRect)⟩,
    ⟨Rect.unit (s := S128x2048) ![0, 512] S128x256.size inb_S128x2048_S128x256_0_512, block (View.readAt (Elt Ideal) a4.view (Rect.unit (s := S31x2048) ![0, 512] S31x256.size inb_S31x2048_S31x256_0_512).toLoadRect (g4.unread w)) (View.readAt (Elt Ideal) a5.view (Rect.unit (s := S1x2048) ![0, 512] S1x256.size inb_S1x2048_S1x256_0_512).toLoadRect (g5.unread b))
      (fun j => a9.view.readCov (kernelRun0_B.sl.HS0_2 (F := Ideal) c a2 g2 a3 g3 q x) (Rect.unit (s := S160x2048) ![2 + j.val, 512] S128x256.size (inside 512 (by decide) j)).toLoadRect)⟩,
    ⟨Rect.unit (s := S128x2048) ![0, 256] S128x256.size inb_S128x2048_S128x256_0_256, block (View.readAt (Elt Ideal) a4.view (Rect.unit (s := S31x2048) ![0, 256] S31x256.size inb_S31x2048_S31x256_0_256).toLoadRect (g4.unread w)) (View.readAt (Elt Ideal) a5.view (Rect.unit (s := S1x2048) ![0, 256] S1x256.size inb_S1x2048_S1x256_0_256).toLoadRect (g5.unread b))
      (fun j => a9.view.readCov (kernelRun0_B.sl.HS0_2 (F := Ideal) c a2 g2 a3 g3 q x) (Rect.unit (s := S160x2048) ![2 + j.val, 256] S128x256.size (inside 256 (by decide) j)).toLoadRect)⟩,
    ⟨Rect.unit (s := S128x2048) ![0, 0] S128x256.size inb_S128x2048_S128x256_0_0, block (View.readAt (Elt Ideal) a4.view (Rect.unit (s := S31x2048) ![0, 0] S31x256.size inb_S31x2048_S31x256_0_0).toLoadRect (g4.unread w)) (View.readAt (Elt Ideal) a5.view (Rect.unit (s := S1x2048) ![0, 0] S1x256.size inb_S1x2048_S1x256_0_0).toLoadRect (g5.unread b))
      (fun j => a9.view.readCov (kernelRun0_B.sl.HS0_2 (F := Ideal) c a2 g2 a3 g3 q x) (Rect.unit (s := S160x2048) ![2 + j.val, 0] S128x256.size (inside 0 (by decide) j)).toLoadRect)⟩] := by
  sl_kernel_rfl
theorem conv_B (r : Fin 128) (k : Fin 2048) : kernelRun0_B.sl.v1306 (F := Ideal) c a2 g2 a3 g3 a4 g4 a5 g5 a9 a10 q x w b (ValueIdx.ix2 r k) = entry w b (stacked q x) r k := by
  unfold kernelRun0_B.sl.v1306
  rw [View.readCov_eq_canon']
  show View.ld (View.canon (kernelRun0_B.sl.HS1_8 (F := Ideal) c a2 g2 a3 g3 a4 g4 a5 g5 a9 q x w b)) (Rect.unit (s := S128x2048) ![0, 0] S128x2048.size inb_S128x2048_S128x2048_0_0) (ValueIdx.ix2 r k) = _
  rw [View.ld_unit_zero (S := S128x2048) hz]
  refine (View.canon_apply_of_pieces (Val := Elt Ideal) (e := .f32) (fun y => entry (a4.view.read (Elt Ideal) (g4.unread w)) (a5.view.read (Elt Ideal) (g5.unread b))
    (a9.view.read (Elt Ideal) (a9.view.writes (Elt Ideal) a9.view.junk (kernelRun0_B.sl.HS0_2 (F := Ideal) c a2 g2 a3 g3 q x))) (y 0) (y 1)) _ ?_ (ValueIdx.ix2 r k)
    (View.cover_of_tiledL (kernelRun0_B.sl.HS1_8 (F := Ideal) c a2 g2 a3 g3 a4 g4 a5 g5 a9 q x w b) S128x256.size (by sl_kernel_rfl) _)).trans ?_
  · rw [pieces_B]
    refine List.forall_mem_cons.mpr ⟨fun z => agree _ _ _ 1792 (by decide) _ _ inb_S128x2048_S128x256_0_1792 z, ?_⟩
    refine List.forall_mem_cons.mpr ⟨fun z => agree _ _ _ 1536 (by decide) _ _ inb_S128x2048_S128x256_0_1536 z, ?_⟩
    refine List.forall_mem_cons.mpr ⟨fun z => agree _ _ _ 1280 (by decide) _ _ inb_S128x2048_S128x256_0_1280 z, ?_⟩
    refine List.forall_mem_cons.mpr ⟨fun z => agree _ _ _ 1024 (by decide) _ _ inb_S128x2048_S128x256_0_1024 z, ?_⟩
    refine List.forall_mem_cons.mpr ⟨fun z => agree _ _ _ 768 (by decide) _ _ inb_S128x2048_S128x256_0_768 z, ?_⟩
    refine List.forall_mem_cons.mpr ⟨fun z => agree _ _ _ 512 (by decide) _ _ inb_S128x2048_S128x256_0_512 z, ?_⟩
    refine List.forall_mem_cons.mpr ⟨fun z => agree _ _ _ 256 (by decide) _ _ inb_S128x2048_S128x256_0_256 z, ?_⟩
    refine List.forall_mem_cons.mpr ⟨fun z => agree _ _ _ 0 (by decide) _ _ inb_S128x2048_S128x256_0_0 z, ?_⟩
    exact fun p hp => absurd hp List.not_mem_nil
  · rw [g4.read_unread, g5.read_unread, rows_B]
theorem out_B (hc0 : ¬cond0_0 i) (hc1 : cond0_1 i) (r : Fin 128) (k : Fin 2048) :
    out0_B_6 (F := Ideal) c i a2 g2 a3 g3 a4 g4 a5 g5 a6 g6 a7 g7 a8 g8 a9 g9 a10 g10 hc0 hc1 q x w b g s (ValueIdx.ix2 r k) = left x w b g s q r k := by
  unfold out0_B_6
  rw [View.read_writes_junk_eq_canon]
  unfold kernelRun0_B
  dsimp only
  rw [View.canon_unit_zero (S := S128x2048) hz]
  unfold kernelRun0_B.sl.r_63 kernelRun0_B.sl.r_64
  refine (norm_apply _ _ _ r k).trans (congrArg silu (normed_congr (conv_B c a2 g2 a3 g3 a4 g4 a5 g5 a9 a10 q x w b r) ?_ ?_ k))
  · rw [View.readAt_eq_ld, g6.read_unread, View.ld_unit_zero (S := S1x2048) hz]
  · rw [View.readAt_eq_ld, g7.read_unread, View.ld_unit_zero (S := S1x2048) hz]

end Body

variable (m : (ℓ : Loc nD τ sig) → Buf (Elt Ideal) ℓ)

/-! ## The arrays as launched, by their types -/

def aX (c : Dev nD) : Rows := m ((c : Thread nD τ).loc main_arg0)
def aW (c : Dev nD) : Weights := m ((c : Thread nD τ).loc main_arg1)
def aB (c : Dev nD) : Row := m ((c : Thread nD τ).loc main_arg2)
def aG (c : Dev nD) : Row := m ((c : Thread nD τ).loc main_arg3)
def aS (c : Dev nD) : Row := m ((c : Thread nD τ).loc main_arg4)

theorem V_v0 (c : Dev nD) : V m c main_v0 = (shapeCast S1x2048 (aB m c) shapeCasts_S2048_S1x2048 : FVec Ideal S1x2048 .f32) := by
  show StableHlo.after hostOps0 _ (Proc.devRef .tc main_v0) = _
  after_results
  rfl
theorem V_v1 (c : Dev nD) : V m c main_v1 = (shapeCast S1x2048 (aG m c) shapeCasts_S2048_S1x2048 : FVec Ideal S1x2048 .f32) := by
  show StableHlo.after hostOps0 _ (Proc.devRef .tc main_v1) = _
  after_results
  rfl
theorem V_v2 (c : Dev nD) : V m c main_v2 = (shapeCast S1x2048 (aS m c) shapeCasts_S2048_S1x2048 : FVec Ideal S1x2048 .f32) := by
  show StableHlo.after hostOps0 _ (Proc.devRef .tc main_v2) = _
  after_results
  rfl
theorem row_apply (b : Row) (i : S1x2048.Idx) (k : Fin 2048) (h : (i 1).val = k.val) :
    (shapeCast S1x2048 b shapeCasts_S2048_S1x2048 : FVec Ideal S1x2048 .f32) i = b (ValueIdx.ix1 k) :=
  shapeCast_apply _ _ i (ValueIdx.ix1 k) (by
    have h0 : (i 0).val < 1 := (i 0).isLt
    rw [Shape.rowMajor_val_one, Shape.rowMajor_val_two]
    show k.val = (i 0).val * 2048 + (i 1).val
    omega)

/-! ## The blocks -/

variable (c : Dev nD) (t : Fin cfg0.N)

theorem lt_N : t.val < 128 := t.isLt
theorem index0 : (cfg0.win 0).index t = ![4 * t.val - 1, 0] :=
  (by decide +kernel : ∀ t : Fin grid0.N, cc0_transform_0 (grid0.coords t) = ![4 * t.val - 1, 0]) t
theorem index1 : (cfg0.win 1).index t = ![t.val, 0] :=
  (by decide +kernel : ∀ t : Fin grid0.N, cc0_transform_1 (grid0.coords t) = ![t.val, 0]) t
theorem index2 : (cfg0.win 2).index t = ![0, 0] := rfl
theorem index3 : (cfg0.win 3).index t = ![0, 0] := rfl
theorem index4 : (cfg0.win 4).index t = ![0, 0] := rfl
theorem index5 : (cfg0.win 5).index t = ![0, 0] := rfl
theorem index6 : (cfg0.win 6).index t = ![t.val, 0] :=
  (by decide +kernel : ∀ t : Fin grid0.N, cc0_transform_6 (grid0.coords t) = ![t.val, 0]) t

/-- Row `r` of point `t`'s block, among the tokens; and row `r` of the 32 staged for the rows before it. -/
def tok (r : Fin 128) : Fin 16384 := ⟨t.val * 128 + r.val, by have := lt_N t; omega⟩
def pre (r : Fin 32) : Fin 16384 := ⟨(4 * t.val - 1) * 32 + r.val, by have := lt_N t; omega⟩

def blk0 : Vec Ideal S32x2048 .f32 := iblk m c 0 t
def blk1 : Vec Ideal S128x2048 .f32 := iblk m c 1 t
def blk2 : Vec Ideal S31x2048 .f32 := iblk m c 2 t
def blk3 : Vec Ideal S1x2048 .f32 := iblk m c 3 t
def blk4 : Vec Ideal S1x2048 .f32 := iblk m c 4 t
def blk5 : Vec Ideal S1x2048 .f32 := iblk m c 5 t
theorem blk0_apply (r : Fin 32) (k : Fin 2048) : blk0 m c t (ValueIdx.ix2 r k) = aX m c (ValueIdx.ix2 (pre t r) k) := by
  show V m c main_arg0 (((cfg0.win 0).blk t).view.emb _) = _
  rw [V_main_arg0]
  refine congrArg (aX m c) (funext fun a => Fin.ext ((Pipeline.Window.rect_emb_val (cfg0.win 0) t _ a).trans ?_))
  rw [index0]
  match a with
  | ⟨0, _⟩ => rfl
  | ⟨1, _⟩ => show 0 * 2048 + k.val = k.val; omega
theorem blk1_apply (r : Fin 128) (k : Fin 2048) : blk1 m c t (ValueIdx.ix2 r k) = aX m c (ValueIdx.ix2 (tok t r) k) := by
  show V m c main_arg0 (((cfg0.win 1).blk t).view.emb _) = _
  rw [V_main_arg0]
  refine congrArg (aX m c) (funext fun a => Fin.ext ((Pipeline.Window.rect_emb_val (cfg0.win 1) t _ a).trans ?_))
  rw [index1]
  match a with
  | ⟨0, _⟩ => rfl
  | ⟨1, _⟩ => show 0 * 2048 + k.val = k.val; omega
theorem blk2_apply (r : Fin 31) (k : Fin 2048) : blk2 m c t (ValueIdx.ix2 r k) = aW m c (ValueIdx.ix2 r k) := by
  show V m c main_arg1 (((cfg0.win 2).blk t).view.emb _) = _
  rw [V_main_arg1]
  refine congrArg (aW m c) (funext fun a => Fin.ext ((Pipeline.Window.rect_emb_val (cfg0.win 2) t _ a).trans ?_))
  rw [index2]
  match a with
  | ⟨0, _⟩ => show 0 * 31 + r.val = r.val; omega
  | ⟨1, _⟩ => show 0 * 2048 + k.val = k.val; omega
theorem blk3_apply (k : Fin 2048) : blk3 m c t (ValueIdx.ix2 (0 : Fin 1) k) = aB m c (ValueIdx.ix1 k) := by
  show V m c main_v0 (((cfg0.win 3).blk t).view.emb _) = _
  rw [V_v0]
  refine row_apply (aB m c) _ _ ((Pipeline.Window.rect_emb_val (cfg0.win 3) t _ (1 : Fin 2)).trans ?_)
  rw [index3]; show 0 * 2048 + k.val = k.val; omega
theorem blk4_apply (k : Fin 2048) : blk4 m c t (ValueIdx.ix2 (0 : Fin 1) k) = aG m c (ValueIdx.ix1 k) := by
  show V m c main_v1 (((cfg0.win 4).blk t).view.emb _) = _
  rw [V_v1]
  refine row_apply (aG m c) _ _ ((Pipeline.Window.rect_emb_val (cfg0.win 4) t _ (1 : Fin 2)).trans ?_)
  rw [index4]; show 0 * 2048 + k.val = k.val; omega
theorem blk5_apply (k : Fin 2048) : blk5 m c t (ValueIdx.ix2 (0 : Fin 1) k) = aS m c (ValueIdx.ix1 k) := by
  show V m c main_v2 (((cfg0.win 5).blk t).view.emb _) = _
  rw [V_v2]
  refine row_apply (aS m c) _ _ ((Pipeline.Window.rect_emb_val (cfg0.win 5) t _ (1 : Fin 2)).trans ?_)
  rw [index5]; show 0 * 2048 + k.val = k.val; omega

/-- The rows before point `t`'s block, as its body takes them. -/
def before : Vec Ideal S32x2048 .f32 := if t.val % 32 = 0 then zeros else blk0 m c t
/-- What point `t` leaves in its block. -/
def outAt : Vec Ideal S128x2048 .bf16 := outsAt0 m c t.val t.isLt
theorem after_eq : (dats m 0 c).after 6 t = outAt m c t := after0_6 m c t
theorem outAt_left (r : Fin 128) (k : Fin 2048) :
    outAt m c t (ValueIdx.ix2 r k) = left (blk1 m c t) (blk2 m c t) (blk3 m c t) (blk4 m c t) (blk5 m c t) (before m c t) r k := by
  unfold outAt before
  by_cases h0 : t.val % 32 = 0
  · rw [if_pos h0, outsAt0_A m c t h0 (by omega)]
    exact out_A _ _ _ _ _ _ _ _ _ _ _ _ _ _ _ _ _ _ _ _ (blk0 m c t) (blk1 m c t) (blk2 m c t) (blk3 m c t) (blk4 m c t) (blk5 m c t) _ _ r k
  · rw [if_neg h0, outsAt0_B m c t h0 (by omega)]
    exact out_B _ _ _ _ _ _ _ _ _ _ _ _ _ _ _ _ _ _ _ _ (blk0 m c t) (blk1 m c t) (blk2 m c t) (blk3 m c t) (blk4 m c t) (blk5 m c t) _ _ r k

/-- What a tap reads. -/
theorem reads (r : Fin 128) (j : Fin 31) (k : Fin 2048) :
    stacked (before m c t) (blk1 m c t) (ValueIdx.ix2 (⟨2 + j.val + r.val, by omega⟩ : Fin 160) k) = shifted (aX m c) (tok t r) j k := by
  have ht := lt_N t
  have hr := r.isLt
  have hj := j.isLt
  have hn : (tok t r).val = t.val * 128 + r.val := rfl
  unfold stacked
  by_cases h : 2 + j.val + r.val < 32
  · refine (dif_pos h).trans ?_
    unfold before
    by_cases h0 : t.val % 32 = 0
    · rw [if_pos h0]
      unfold shifted
      rw [dif_neg (by rw [hn]; omega)]
      rfl
    · rw [if_neg h0]
      refine (blk0_apply m c t _ k).trans ?_
      unfold shifted
      rw [dif_pos (by rw [hn]; omega)]
      refine congrArg (fun a => aX m c (ValueIdx.ix2 a k)) (Fin.ext ?_)
      show (4 * t.val - 1) * 32 + (2 + j.val + r.val) = t.val * 128 + r.val + j.val - 30
      omega
  · refine (dif_neg h).trans ?_
    refine (blk1_apply m c t _ k).trans ?_
    unfold shifted
    rw [dif_pos (by rw [hn]; omega)]
    refine congrArg (fun a => aX m c (ValueIdx.ix2 a k)) (Fin.ext ?_)
    show t.val * 128 + (2 + j.val + r.val - 32) = t.val * 128 + r.val + j.val - 30
    omega
theorem outAt_apply (y : S128x2048.Idx) : outAt m c t y = convolved (aX m c) (aW m c) (aB m c) (aG m c) (aS m c) (tok t (y 0)) (y 1) := by
  obtain ⟨r, k, rfl⟩ : ∃ (r : Fin 128) (k : Fin 2048), y = ValueIdx.ix2 r k := ⟨y 0, y 1, funext fun a => match a with | ⟨0, _⟩ => rfl | ⟨1, _⟩ => rfl⟩
  refine (outAt_left m c t r k).trans ?_
  unfold left convolved
  refine congrArg silu (normed_congr (fun k' => ?_) (blk4_apply m c t k) (blk5_apply m c t k) k)
  exact add_eq (congrArg taps (funext fun j => congrArg₂ (fun a b : EReal => a * b) (blk2_apply m c t j k') (reads m c t r j k'))) (blk3_apply m c t k')

/-! ## The result array -/

theorem result_eq : (dats m 0 c).arrAt 6 cfg0.N = answers (aX m c) (aW m c) (aB m c) (aG m c) (aS m c) := by
  refine Pipeline.Dat.arrAt_eq_of_emb (dats m 0 c) 6 _ (fun t _ y => ?_) fun i => ?_
  · rw [after_eq]
    have hf : ∀ z : S128x2048.Idx, outAt m c t z = convolved (aX m c) (aW m c) (aB m c) (aG m c) (aS m c) (tok t (z 0)) (z 1) := outAt_apply m c t
    generalize outAt m c t = f at hf ⊢
    refine (hf y).trans ?_
    have e0 : (((cfg0.win 6).blk t).view.emb y (0 : Fin 2)).val = t.val * 128 + (y (0 : Fin 2)).val := by
      refine (Pipeline.Window.rect_emb_val (cfg0.win 6) t y (0 : Fin 2)).trans ?_
      rw [index6]; rfl
    have e1 : (((cfg0.win 6).blk t).view.emb y (1 : Fin 2)).val = (y (1 : Fin 2)).val := by
      refine (Pipeline.Window.rect_emb_val (cfg0.win 6) t y (1 : Fin 2)).trans ?_
      rw [index6]
      show 0 * 2048 + (y (1 : Fin 2)).val = _
      omega
    unfold answers
    exact congrArg₂ (convolved (aX m c) (aW m c) (aB m c) (aG m c) (aS m c)) (Fin.ext e0.symm) (Fin.ext e1.symm)
  · have i0 : (i (0 : Fin 2)).val < 16384 := (i (0 : Fin 2)).isLt
    have i1 : (i (1 : Fin 2)).val < 2048 := (i (1 : Fin 2)).isLt
    have hN : (i (0 : Fin 2)).val / 128 < cfg0.N := by show _ < 128; omega
    refine ⟨⟨(i (0 : Fin 2)).val / 128, hN⟩, flush0_6 _, ?_⟩
    refine (Pipeline.Window.emb_mem_blk_iff (cfg0.win 6) _ i).mpr fun a => ?_
    rw [index6]
    match a with
    | ⟨0, _⟩ =>
      show (i (0 : Fin 2)).val / 128 * 128 ≤ (i (0 : Fin 2)).val ∧ (i (0 : Fin 2)).val < (i (0 : Fin 2)).val / 128 * 128 + 128
      omega
    | ⟨1, _⟩ =>
      show 0 * 2048 ≤ (i (1 : Fin 2)).val ∧ (i (1 : Fin 2)).val < 0 * 2048 + 2048
      omega

/-- The run: the result is the normalised convolution, and the operands are as they began. -/
theorem run (ρ : Dev nD → PrngReg) : θ_run defs (onTc (τ := τ) (main (F := Ideal))) ⟨m, fun _ => 0, ρ⟩ (fun r => ∀ c : Dev nD,
      r.2.mem ((c.tc : Thread nD τ).loc main_v3) = answers (aX m c) (aW m c) (aB m c) (aG m c) (aS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 6).trans (result_eq m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel12Ideal.Conv

end
-- ==== Proof.lean ====
/-
  The proof of `Cert.Claim`: each kernel's run read at its result, its arguments and its semaphores, beside its reference's.
-/
module

public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Launch
public import proofs.«01_k».proof.Proof.Gen.Kernel7Ideal.Skeleton
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Launch
public import proofs.«01_k».proof.Proof.Gen.Kernel8Ideal.Skeleton
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Launch
public import proofs.«01_k».proof.Proof.Gen.Kernel9Ideal.Skeleton
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Launch
public import proofs.«01_k».proof.Proof.Gen.Kernel10Ideal.Skeleton
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Launch
public import proofs.«01_k».proof.Proof.Gen.Kernel11Ideal.Skeleton
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Row.Bits
public import proofs.«01_k».proof.Proof.Row.Ref
public import proofs.«01_k».proof.Proof.Ffn.Bits
public import proofs.«01_k».proof.Proof.Ffn.Ref
public import proofs.«01_k».proof.Proof.Ffn.Value
public import proofs.«01_k».proof.Proof.Last.Blocks
public import proofs.«01_k».proof.Proof.Last.Ref
public import proofs.«01_k».proof.Proof.Dense.Bits
public import proofs.«01_k».proof.Proof.Dense.Ref
public import proofs.«01_k».proof.Proof.Dense.Value
public import proofs.«01_k».proof.Proof.Proj.Value
public import proofs.«01_k».proof.Proof.Glu.Value
public import proofs.«01_k».proof.Proof.Back.Value
public import proofs.«01_k».proof.Proof.Gelu.Value
public import proofs.«01_k».proof.Proof.Close.Value
public import proofs.«01_k».proof.Proof.Point.Value
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Launch
public import proofs.«01_k».proof.Proof.Gen.Kernel12Ideal.Skeleton
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Spatial.Value
public import proofs.«01_k».proof.Proof.Conv.Value
public import Idealize.ShloMosaic.Adequacy
public import Idealize.ShloMosaic.Init

@[expose] public section

noncomputable section

namespace Cert.Proof

open Idealize.ShloMosaic Idealize.SL.Sem
open Cert.KernelIdeal.Row (gath)

local instance : Cert.Pre_positions_in_range.Facts := Cert.Row.pre_facts
local instance : Cert.Pre_experts_in_range.Facts := Cert.Ffn.pre_facts

/-! ## The row copy -/

theorem range_kernel {m : (ℓ : Loc Cert.Kernel.nD Cert.Kernel.τ Cert.Kernel.sig) → Buf (Elt Bits) ℓ} (h : Cert.Pre_Kernel m) :
    Cert.KernelIdeal.Row.InRange (F := Bits) m := fun c x => Cert.Row.in_range (F := Bits) _ _ (h c) x
theorem range_ideal {m : (ℓ : Loc Cert.KernelIdeal.nD Cert.KernelIdeal.τ Cert.KernelIdeal.sig) → Buf (Elt Ideal) ℓ} (h : Cert.Pre_KernelIdeal m) :
    Cert.KernelIdeal.Row.InRange (F := Ideal) m := fun c x => Cert.Row.in_range (F := Ideal) _ _ (h c) x

theorem frame_kernel : Cert.quiescent_Kernel := fun m ρ h => Cert.Row.run_iff m ρ _ <|
  (θ_run Cert.KernelIdeal.defs _ _).mono (fun _ h => ⟨fun c => (h.1 c).2, h.2⟩)
    (Cert.KernelIdeal.Row.run_main (F := Bits) ρ (range_kernel h))
theorem frame_ideal : Cert.quiescent_KernelIdeal := fun m ρ h =>
  (θ_run Cert.KernelIdeal.defs _ _).mono (fun _ h => ⟨fun c => (h.1 c).2, h.2⟩)
    (Cert.KernelIdeal.Row.run_main (F := Ideal) ρ (range_ideal h))
theorem frame_refIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ref : Cert.quiescent_Reference := fun m ρ _ =>
  (θ_run Cert.Reference.defs _ _).mono (fun r h => ⟨fun c => (h c).2, sem_eq_zero_of_no_sems (by decide) r.2⟩)
    (Cert.Reference.Value.run (F := Bits) m ρ)

theorem algebraic : Cert.algebraic_KernelIdeal_ReferenceIdeal := by
  intro m ρ m' ρ' hpre hag
  have hm := range_ideal hpre
  refine ⟨fun c => gath (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (hm c),
    (θ_run Cert.KernelIdeal.defs _ _).mono (fun _ h => h.1) (Cert.KernelIdeal.Row.run_main (F := Ideal) ρ hm),
    (θ_run Cert.ReferenceIdeal.defs _ _).mono (fun _ h c => ⟨(h c).1.trans ?_, (h c).2⟩) (Cert.ReferenceIdeal.Value.run (F := Ideal) m' ρ')⟩
  rw [(hag c).1, (hag c).2]
  exact Cert.Row.refIdeal_value _ _ (hm c)

theorem bitexact : Cert.bitexact_Kernel_Reference := by
  intro m ρ m' ρ' hpre hag
  have hm := range_kernel hpre
  refine ⟨fun c => gath (F := Bits) (m ((c.tc : Thread Cert.Kernel.nD Cert.Kernel.τ).loc Cert.Kernel.main_arg0))
      (m ((c.tc : Thread Cert.Kernel.nD Cert.Kernel.τ).loc Cert.Kernel.main_arg1)) (hm c),
    Cert.Row.run_iff m ρ _ ((θ_run Cert.KernelIdeal.defs _ _).mono (fun _ h => h.1) (Cert.KernelIdeal.Row.run_main (F := Bits) ρ hm)),
    (θ_run Cert.Reference.defs _ _).mono (fun _ h c => ⟨(h c).1.trans ?_, (h c).2⟩) (Cert.Reference.Value.run (F := Bits) m' ρ')⟩
  rw [(hag c).1, (hag c).2]
  exact Cert.Row.ref_value _ _ (hm c)

/-! ## The expert feed-forward -/

theorem experts_kernel {m : (ℓ : Loc Cert.Kernel2.nD Cert.Kernel2.τ Cert.Kernel2.sig) → Buf (Elt Bits) ℓ} (h : Cert.Pre_Kernel2 m) :
    Cert.Kernel2Ideal.Ffn.Ok (F := Bits) m := Cert.Kernel2Ideal.Ffn.ok_launched m fun c n => Cert.Ffn.expert_lt (F := Bits) _ _ _ _ _ _ (h c) n
theorem experts_lt {m : (ℓ : Loc Cert.Kernel2Ideal.nD Cert.Kernel2Ideal.τ Cert.Kernel2Ideal.sig) → Buf (Elt Ideal) ℓ} (h : Cert.Pre_Kernel2Ideal m)
    (c : Dev Cert.Kernel2Ideal.nD) (n : Cert.Kernel2Ideal.S72.Idx) :
    (m ((c.tc : Thread Cert.Kernel2Ideal.nD Cert.Kernel2Ideal.τ).loc Cert.Kernel2Ideal.main_arg4) n : BitVec 32).toNat < 8 :=
  Cert.Ffn.expert_lt (F := Ideal) _ _ _ _ _ _ (h c) n
theorem experts_ideal {m : (ℓ : Loc Cert.Kernel2Ideal.nD Cert.Kernel2Ideal.τ Cert.Kernel2Ideal.sig) → Buf (Elt Ideal) ℓ} (h : Cert.Pre_Kernel2Ideal m) :
    Cert.Kernel2Ideal.Ffn.Ok (F := Ideal) m := Cert.Kernel2Ideal.Ffn.ok_launched m (experts_lt h)

theorem frame_kernel2 : Cert.quiescent_Kernel2 := fun m ρ h => Cert.Ffn.run_iff m ρ _ <|
  (θ_run Cert.Kernel2Ideal.defs _ _).mono (fun _ h => ⟨fun c => (h.1 c).2, h.2⟩)
    (Cert.Kernel2Ideal.Ffn.run_main (F := Bits) m ρ (experts_kernel h))
theorem frame_ideal2 : Cert.quiescent_Kernel2Ideal := fun m ρ h =>
  (θ_run Cert.Kernel2Ideal.defs _ _).mono (fun _ h => ⟨fun c => (h.1 c).2, h.2⟩)
    (Cert.Kernel2Ideal.Ffn.run_main (F := Ideal) m ρ (experts_ideal h))
theorem frame_refIdeal2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal := by
  intro m ρ m' ρ' hpre hag
  have hO := experts_ideal hpre
  refine ⟨fun c => Cert.Kernel2Ideal.Ffn.result (F := Ideal) m hO c,
    (θ_run Cert.Kernel2Ideal.defs _ _).mono (fun _ h => h.1) (Cert.Kernel2Ideal.Ffn.run_main (F := Ideal) m ρ hO),
    (θ_run Cert.Reference2Ideal.defs _ _).mono (fun _ h c => ⟨((h c).1.trans
      (Cert.Reference2Ideal.Read.val_main_v120_eq (F := Ideal) (StableHlo.launchContents m' c))).trans ?_, (h c).2⟩)
      (Cert.Reference2Ideal.Value.run (F := Ideal) m' ρ')⟩
  refine Eq.trans ?_ (Cert.Kernel2Ideal.Ffn.result_eq m hO c (experts_lt hpre c)).symm
  show Cert.Reference2Ideal.Read.val_main_v120 (F := Ideal)
    (m' ((c.tc : Thread Cert.Reference2Ideal.nD Cert.Reference2Ideal.τ).loc Cert.Reference2Ideal.main_arg0))
    (m' ((c.tc : Thread Cert.Reference2Ideal.nD Cert.Reference2Ideal.τ).loc Cert.Reference2Ideal.main_arg1))
    (m' ((c.tc : Thread Cert.Reference2Ideal.nD Cert.Reference2Ideal.τ).loc Cert.Reference2Ideal.main_arg2))
    (m' ((c.tc : Thread Cert.Reference2Ideal.nD Cert.Reference2Ideal.τ).loc Cert.Reference2Ideal.main_arg3))
    (m' ((c.tc : Thread Cert.Reference2Ideal.nD Cert.Reference2Ideal.τ).loc Cert.Reference2Ideal.main_arg4))
    (m' ((c.tc : Thread Cert.Reference2Ideal.nD Cert.Reference2Ideal.τ).loc Cert.Reference2Ideal.main_arg5)) = _
  rw [(hag c).1, (hag c).2.1, (hag c).2.2.1, (hag c).2.2.2.1, (hag c).2.2.2.2.1, (hag c).2.2.2.2.2]
  exact Cert.Ffn.ref_value _ _ _ _ _ _ (experts_lt hpre c)

/-! ## The final combine and its norm -/

theorem frame_kernel3 : Cert.quiescent_Kernel3 := fun m ρ _ => Cert.Kernel3.Gen.frame (F := Bits) m ρ
theorem frame_ideal3 : Cert.quiescent_Kernel3Ideal := fun m ρ _ => Cert.Kernel3Ideal.Gen.frame (F := Ideal) m ρ
theorem frame_refIdeal3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : Cert.algebraic_Kernel3Ideal_Reference3Ideal := by
  intro m ρ m' ρ' _ hag
  refine ⟨fun c => Cert.Last.answers (Cert.Kernel3Ideal.Last.aX m c) (Cert.Kernel3Ideal.Last.aO m c) (Cert.Kernel3Ideal.Last.aW m c) (Cert.Kernel3Ideal.Last.aG m c),
    Cert.Kernel3Ideal.Last.run m ρ,
    (θ_run Cert.Reference3Ideal.defs _ _).mono (fun _ h c => ⟨((h c).1.trans
      (Cert.Reference3Ideal.Read.val_main_v26_eq (F := Ideal) _ _ _ _)).trans ?_, (h c).2⟩)
      (Cert.Reference3Ideal.Value.run (F := Ideal) m' ρ')⟩
  show Cert.Reference3Ideal.Read.val_main_v26 (F := Ideal)
    (m' ((c.tc : Thread Cert.Reference3Ideal.nD Cert.Reference3Ideal.τ).loc Cert.Reference3Ideal.main_arg0))
    (m' ((c.tc : Thread Cert.Reference3Ideal.nD Cert.Reference3Ideal.τ).loc Cert.Reference3Ideal.main_arg1))
    (m' ((c.tc : Thread Cert.Reference3Ideal.nD Cert.Reference3Ideal.τ).loc Cert.Reference3Ideal.main_arg2))
    (m' ((c.tc : Thread Cert.Reference3Ideal.nD Cert.Reference3Ideal.τ).loc Cert.Reference3Ideal.main_arg3)) = _
  rw [(hag c).1, (hag c).2.1, (hag c).2.2.1, (hag c).2.2.2]
  exact Cert.Last.ref_value _ _ _ _

/-! ## The dense feed-forward -/

theorem frame_kernel4 : Cert.quiescent_Kernel4 := fun m ρ _ => Cert.Dense.run_iff m ρ _ <|
  (θ_run Cert.Kernel4Ideal.defs _ _).mono (fun _ h => ⟨fun c => (h.1 c).2, h.2⟩)
    (Cert.Kernel4Ideal.Dense.run_main (F := Bits) m ρ)
theorem frame_ideal4 : Cert.quiescent_Kernel4Ideal := fun m ρ _ =>
  (θ_run Cert.Kernel4Ideal.defs _ _).mono (fun _ h => ⟨fun c => (h.1 c).2, h.2⟩)
    (Cert.Kernel4Ideal.Dense.run_main (F := Ideal) m ρ)
theorem frame_refIdeal4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : Cert.algebraic_Kernel4Ideal_Reference4Ideal := by
  intro m ρ m' ρ' _ hag
  refine ⟨fun c => Cert.Kernel4Ideal.Dense.result (F := Ideal) m c,
    (θ_run Cert.Kernel4Ideal.defs _ _).mono (fun _ h => h.1) (Cert.Kernel4Ideal.Dense.run_main (F := Ideal) m ρ),
    (θ_run Cert.Reference4Ideal.defs _ _).mono (fun _ h c => ⟨((h c).1.trans
      (Cert.Reference4Ideal.Read.val_main_v4_eq (F := Ideal) _ _ _ _)).trans ?_, (h c).2⟩)
      (Cert.Reference4Ideal.Value.run (F := Ideal) m' ρ')⟩
  refine Eq.trans ?_ (Cert.Kernel4Ideal.Dense.result_eq m c).symm
  show Cert.Reference4Ideal.Read.val_main_v4 (F := Ideal)
    (m' ((c.tc : Thread Cert.Reference4Ideal.nD Cert.Reference4Ideal.τ).loc Cert.Reference4Ideal.main_arg0))
    (m' ((c.tc : Thread Cert.Reference4Ideal.nD Cert.Reference4Ideal.τ).loc Cert.Reference4Ideal.main_arg1))
    (m' ((c.tc : Thread Cert.Reference4Ideal.nD Cert.Reference4Ideal.τ).loc Cert.Reference4Ideal.main_arg2))
    (m' ((c.tc : Thread Cert.Reference4Ideal.nD Cert.Reference4Ideal.τ).loc Cert.Reference4Ideal.main_arg3)) = _
  rw [(hag c).1, (hag c).2.1, (hag c).2.2.1, (hag c).2.2.2]
  exact Cert.Dense.ref_value _ _ _ _

/-! ## The delta rule's input projection -/

theorem frame_kernel5 : Cert.quiescent_Kernel5 := fun m ρ _ => Cert.Kernel5.Gen.frame (F := Bits) m ρ
theorem frame_ideal5 : Cert.quiescent_Kernel5Ideal := fun m ρ _ => Cert.Kernel5Ideal.Gen.frame (F := Ideal) m ρ
theorem frame_refIdeal5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic5 : Cert.algebraic_Kernel5Ideal_Reference5Ideal := by
  intro m ρ m' ρ' _ hag
  refine ⟨fun c => Cert.Proj.answers (Cert.Kernel5Ideal.Proj.aX m c) (Cert.Kernel5Ideal.Proj.aW m c),
    Cert.Kernel5Ideal.Proj.run m ρ,
    (θ_run Cert.Reference5Ideal.defs _ _).mono (fun _ h c => ⟨((h c).1.trans
      (Cert.Reference5Ideal.Read.val_main_v1_eq (F := Ideal) _ _)).trans ?_, (h c).2⟩)
      (Cert.Reference5Ideal.Value.run (F := Ideal) m' ρ')⟩
  rw [(hag c).1, (hag c).2]
  exact Cert.Proj.ref_value _ _

/-! ## The convolution's gated projection -/

theorem frame_kernel6 : Cert.quiescent_Kernel6 := fun m ρ _ => Cert.Kernel6.Gen.frame (F := Bits) m ρ
theorem frame_ideal6 : Cert.quiescent_Kernel6Ideal := fun m ρ _ => Cert.Kernel6Ideal.Gen.frame (F := Ideal) m ρ
theorem frame_refIdeal6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic6 : Cert.algebraic_Kernel6Ideal_Reference6Ideal := by
  intro m ρ m' ρ' _ hag
  refine ⟨fun c => Cert.Glu.answers (Cert.Kernel6Ideal.Glu.aX m c) (Cert.Kernel6Ideal.Glu.aW m c) (Cert.Kernel6Ideal.Glu.aB m c),
    Cert.Kernel6Ideal.Glu.run m ρ,
    (θ_run Cert.Reference6Ideal.defs _ _).mono (fun _ h c => ⟨((h c).1.trans
      (Cert.Reference6Ideal.Read.val_main_v12_eq (F := Ideal) _ _ _)).trans ?_, (h c).2⟩)
      (Cert.Reference6Ideal.Value.run (F := Ideal) m' ρ')⟩
  rw [(hag c).1, (hag c).2.1, (hag c).2.2]
  exact Cert.Glu.ref_value _ _ _

/-! ## The delta rule's output projection -/

theorem frame_kernel7 : Cert.quiescent_Kernel7 := fun m ρ _ => Cert.Kernel7.Gen.frame (F := Bits) m ρ
theorem frame_ideal7 : Cert.quiescent_Kernel7Ideal := fun m ρ _ => Cert.Kernel7Ideal.Gen.frame (F := Ideal) m ρ
theorem frame_refIdeal7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic7 : Cert.algebraic_Kernel7Ideal_Reference7Ideal := by
  intro m ρ m' ρ' _ hag
  refine ⟨fun c => Cert.Back.answers (Cert.Kernel7Ideal.Back.aX m c) (Cert.Kernel7Ideal.Back.aY m c) (Cert.Kernel7Ideal.Back.aW m c),
    Cert.Kernel7Ideal.Back.run m ρ,
    (θ_run Cert.Reference7Ideal.defs _ _).mono (fun _ h c => ⟨((h c).1.trans
      (Cert.Reference7Ideal.Read.val_main_v1_eq (F := Ideal) _ _ _)).trans ?_, (h c).2⟩)
      (Cert.Reference7Ideal.Value.run (F := Ideal) m' ρ')⟩
  rw [(hag c).1, (hag c).2.1, (hag c).2.2]
  exact Cert.Back.ref_value _ _ _

/-! ## The gating unit's input projection -/

theorem frame_kernel8 : Cert.quiescent_Kernel8 := fun m ρ _ => Cert.Kernel8.Gen.frame (F := Bits) m ρ
theorem frame_ideal8 : Cert.quiescent_Kernel8Ideal := fun m ρ _ => Cert.Kernel8Ideal.Gen.frame (F := Ideal) m ρ
theorem frame_refIdeal8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic8 : Cert.algebraic_Kernel8Ideal_Reference8Ideal := by
  intro m ρ m' ρ' _ hag
  refine ⟨fun c => Cert.Gelu.answers (Cert.Kernel8Ideal.Gelu.aX m c) (Cert.Kernel8Ideal.Gelu.aW m c) (Cert.Kernel8Ideal.Gelu.aB m c),
    Cert.Kernel8Ideal.Gelu.run m ρ,
    (θ_run Cert.Reference8Ideal.defs _ _).mono (fun _ h c => ⟨((h c).1.trans
      (Cert.Reference8Ideal.Read.val_main_v10_eq (F := Ideal) _ _ _)).trans ?_, (h c).2⟩)
      (Cert.Reference8Ideal.Value.run (F := Ideal) m' ρ')⟩
  rw [(hag c).1, (hag c).2.1, (hag c).2.2]
  exact Cert.Gelu.ref_value _ _ _

/-! ## The gating unit's output projection -/

theorem frame_kernel9 : Cert.quiescent_Kernel9 := fun m ρ _ => Cert.Kernel9.Gen.frame (F := Bits) m ρ
theorem frame_ideal9 : Cert.quiescent_Kernel9Ideal := fun m ρ _ => Cert.Kernel9Ideal.Gen.frame (F := Ideal) m ρ
theorem frame_refIdeal9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic9 : Cert.algebraic_Kernel9Ideal_Reference9Ideal := by
  intro m ρ m' ρ' _ hag
  refine ⟨fun c => Cert.Close.answers (Cert.Kernel9Ideal.Close.aX m c) (Cert.Kernel9Ideal.Close.aY m c) (Cert.Kernel9Ideal.Close.aW m c) (Cert.Kernel9Ideal.Close.aB m c),
    Cert.Kernel9Ideal.Close.run m ρ,
    (θ_run Cert.Reference9Ideal.defs _ _).mono (fun _ h c => ⟨((h c).1.trans
      (Cert.Reference9Ideal.Read.val_main_v4_eq (F := Ideal) _ _ _ _)).trans ?_, (h c).2⟩)
      (Cert.Reference9Ideal.Value.run (F := Ideal) m' ρ')⟩
  rw [(hag c).1, (hag c).2.1, (hag c).2.2.1, (hag c).2.2.2]
  exact Cert.Close.ref_value _ _ _ _

/-! ## The convolution's second pointwise projection -/

theorem frame_kernel10 : Cert.quiescent_Kernel10 := fun m ρ _ => Cert.Kernel10.Gen.frame (F := Bits) m ρ
theorem frame_ideal10 : Cert.quiescent_Kernel10Ideal := fun m ρ _ => Cert.Kernel10Ideal.Gen.frame (F := Ideal) m ρ
theorem frame_refIdeal10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic10 : Cert.algebraic_Kernel10Ideal_Reference10Ideal := by
  intro m ρ m' ρ' _ hag
  refine ⟨fun c => Cert.Point.answers (Cert.Kernel10Ideal.Point.aX m c) (Cert.Kernel10Ideal.Point.aY m c) (Cert.Kernel10Ideal.Point.aW m c) (Cert.Kernel10Ideal.Point.aB m c),
    Cert.Kernel10Ideal.Point.run m ρ,
    (θ_run Cert.Reference10Ideal.defs _ _).mono (fun _ h c => ⟨((h c).1.trans
      (Cert.Reference10Ideal.Read.val_main_v4_eq (F := Ideal) _ _ _ _)).trans ?_, (h c).2⟩)
      (Cert.Reference10Ideal.Value.run (F := Ideal) m' ρ')⟩
  rw [(hag c).1, (hag c).2.1, (hag c).2.2.1, (hag c).2.2.2]
  exact Cert.Point.ref_value _ _ _ _

/-! ## The gating unit's spatial mix -/

theorem frame_kernel11 : Cert.quiescent_Kernel11 := fun m ρ _ => Cert.Kernel11.Gen.frame (F := Bits) m ρ
theorem frame_ideal11 : Cert.quiescent_Kernel11Ideal := fun m ρ _ => Cert.Kernel11Ideal.Gen.frame (F := Ideal) m ρ
theorem frame_refIdeal11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic11 : Cert.algebraic_Kernel11Ideal_Reference11Ideal := by
  intro m ρ m' ρ' _ hag
  refine ⟨fun c => Cert.Spatial.answers (Cert.Kernel11Ideal.Spatial.aP m c) (Cert.Kernel11Ideal.Spatial.aG m c) (Cert.Kernel11Ideal.Spatial.aS m c) (Cert.Kernel11Ideal.Spatial.aW m c) (Cert.Kernel11Ideal.Spatial.aB m c),
    Cert.Kernel11Ideal.Spatial.run m ρ,
    (θ_run Cert.Reference11Ideal.defs _ _).mono (fun _ h c => ⟨((h c).1.trans
      (Cert.Reference11Ideal.Read.val_main_v38_eq (F := Ideal) _ _)).trans ?_, (h c).2⟩)
      (Cert.Reference11Ideal.Value.run (F := Ideal) m' ρ')⟩
  rw [(hag c).1, (hag c).2.1, (hag c).2.2.1, (hag c).2.2.2.1, (hag c).2.2.2.2]
  exact Cert.Spatial.ref_value _ _ _ _ _

/-! ## The convolution -/

theorem frame_kernel12 : Cert.quiescent_Kernel12 := fun m ρ _ => Cert.Kernel12.Gen.frame (F := Bits) m ρ
theorem frame_ideal12 : Cert.quiescent_Kernel12Ideal := fun m ρ _ => Cert.Kernel12Ideal.Gen.frame (F := Ideal) m ρ
theorem frame_refIdeal12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic12 : Cert.algebraic_Kernel12Ideal_Reference12Ideal := by
  intro m ρ m' ρ' _ hag
  refine ⟨fun c => Cert.Conv.answers (Cert.Kernel12Ideal.Conv.aX m c) (Cert.Kernel12Ideal.Conv.aW m c) (Cert.Kernel12Ideal.Conv.aB m c) (Cert.Kernel12Ideal.Conv.aG m c) (Cert.Kernel12Ideal.Conv.aS m c),
    Cert.Kernel12Ideal.Conv.run m ρ,
    (θ_run Cert.Reference12Ideal.defs _ _).mono (fun _ h c => ⟨((h c).1.trans
      (Cert.Reference12Ideal.Read.val_main_v245_eq (F := Ideal) _)).trans ?_, (h c).2⟩)
      (Cert.Reference12Ideal.Value.run (F := Ideal) m' ρ')⟩
  exact (Cert.Conv.ref_value _ _ _ _ _).trans
    (Cert.Conv.answers_congr (hag c).1 (hag c).2.1 (hag c).2.2.1 (hag c).2.2.2.1 (hag c).2.2.2.2)

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Row.pre_facts, Cert.Ffn.pre_facts,
    frame_kernel, frame_ideal, frame_refIdeal, frame_ref, frame_kernel2, frame_ideal2, frame_refIdeal2,
    frame_kernel3, frame_ideal3, frame_refIdeal3,
    frame_kernel4, frame_ideal4, frame_refIdeal4,
    frame_kernel5, frame_ideal5, frame_refIdeal5,
    frame_kernel6, frame_ideal6, frame_refIdeal6,
    frame_kernel7, frame_ideal7, frame_refIdeal7,
    frame_kernel8, frame_ideal8, frame_refIdeal8,
    frame_kernel9, frame_ideal9, frame_refIdeal9,
    frame_kernel10, frame_ideal10, frame_refIdeal10,
    frame_kernel11, frame_ideal11, frame_refIdeal11,
    frame_kernel12, frame_ideal12, frame_refIdeal12,
    trivial, algebraic, bitexact, trivial, algebraic2, trivial, algebraic3, trivial, algebraic4, trivial, algebraic5,
    trivial, algebraic6, trivial, algebraic7, trivial, algebraic8,
    trivial, algebraic9, trivial, algebraic10, trivial, algebraic11, trivial, algebraic12⟩

end Cert.Proof

end
